-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 [hPre_up_in_range : Cert.Pre_up_in_range.Facts] (m : (ℓ : Loc Cert.Kernel2.nD Cert.Kernel2.τ Cert.Kernel2.sig) → Buf (Elt Bits) ℓ) : Prop :=
  ∀ c : Dev Cert.Kernel2.nD,
    (Cert.Pre_up_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4))) = (fun _ => 1#1)

def Pre_Kernel2Ideal [hPre_up_in_range : Cert.Pre_up_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_up_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_up_in_range [hPre_up_in_range : Cert.Pre_up_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_up_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 [hPre_down_in_range : Cert.Pre_down_in_range.Facts] (m : (ℓ : Loc Cert.Kernel3.nD Cert.Kernel3.τ Cert.Kernel3.sig) → Buf (Elt Bits) ℓ) : Prop :=
  ∀ c : Dev Cert.Kernel3.nD,
    (Cert.Pre_down_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3))) = (fun _ => 1#1)

def Pre_Kernel3Ideal [hPre_down_in_range : Cert.Pre_down_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_down_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_down_in_range [hPre_down_in_range : Cert.Pre_down_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_down_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] [hPre_up_in_range : Cert.Pre_up_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] [hPre_up_in_range : Cert.Pre_up_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_up_in_range [hReference2Ideal : Cert.Reference2Ideal.Facts] [hPre_up_in_range : Cert.Pre_up_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_up_in_range m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] [hPre_down_in_range : Cert.Pre_down_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] [hPre_down_in_range : Cert.Pre_down_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_down_in_range [hReference3Ideal : Cert.Reference3Ideal.Facts] [hPre_down_in_range : Cert.Pre_down_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_down_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_up_in_range : Cert.Pre_up_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v11) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] [hPre_down_in_range : Cert.Pre_down_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v22) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v1_0)) (v1 : (c : Dev Cert.Kernel4Ideal.nD) → Buf (Elt Ideal) ((c.tc : Thread Cert.Kernel4Ideal.nD Cert.Kernel4Ideal.τ).loc Cert.Kernel4Ideal.main_v1_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1_0) = v0 c
          ∧ r.2.mem ((c.tc : Thread Cert.Kernel4Ideal.nD Cert.Kernel4Ideal.τ).loc Cert.Kernel4Ideal.main_v1_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v23) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v58_2)) (v1 : (c : Dev Cert.Kernel5Ideal.nD) → Buf (Elt Ideal) ((c.tc : Thread Cert.Kernel5Ideal.nD Cert.Kernel5Ideal.τ).loc Cert.Kernel5Ideal.main_v58_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v58_2) = v0 c
          ∧ r.2.mem ((c.tc : Thread Cert.Kernel5Ideal.nD Cert.Kernel5Ideal.τ).loc Cert.Kernel5Ideal.main_v58_3) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v19) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v9_0)) (v1 : (c : Dev Cert.Kernel6Ideal.nD) → Buf (Elt Ideal) ((c.tc : Thread Cert.Kernel6Ideal.nD Cert.Kernel6Ideal.τ).loc Cert.Kernel6Ideal.main_v9_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v9_0) = v0 c
          ∧ r.2.mem ((c.tc : Thread Cert.Kernel6Ideal.nD Cert.Kernel6Ideal.τ).loc Cert.Kernel6Ideal.main_v9_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v24) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_up_in_range : Cert.Pre_up_in_range.Facts) (hPre_down_in_range : Cert.Pre_down_in_range.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2) (hPre_up_in_range := hPre_up_in_range)
    ∧ quiescent_Kernel2Ideal (hKernel2Ideal := hKernel2Ideal) (hPre_up_in_range := hPre_up_in_range)
    ∧ quiescent_Reference2Ideal (hReference2Ideal := hReference2Ideal)
    ∧ quiescent_Reference2Ideal_pre_up_in_range (hReference2Ideal := hReference2Ideal) (hPre_up_in_range := hPre_up_in_range)
    ∧ quiescent_Kernel3 (hKernel3 := hKernel3) (hPre_down_in_range := hPre_down_in_range)
    ∧ quiescent_Kernel3Ideal (hKernel3Ideal := hKernel3Ideal) (hPre_down_in_range := hPre_down_in_range)
    ∧ quiescent_Reference3Ideal (hReference3Ideal := hReference3Ideal)
    ∧ quiescent_Reference3Ideal_pre_down_in_range (hReference3Ideal := hReference3Ideal) (hPre_down_in_range := hPre_down_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal) (hPre_up_in_range := hPre_up_in_range)
    ∧ preserves_Kernel3_Kernel3Ideal
    ∧ algebraic_Kernel3Ideal_Reference3Ideal (hKernel3Ideal := hKernel3Ideal) (hReference3Ideal := hReference3Ideal) (hPre_down_in_range := hPre_down_in_range)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_down_in_range.lean ====
abbrev S128 : Shape := ⟨1, ![128]⟩
abbrev S1 : Shape := ⟨1, ![1]⟩
abbrev S36864x3584 : Shape := ⟨2, ![36864, 3584]⟩
abbrev S2x8x3584x1024 : Shape := ⟨4, ![2, 8, 3584, 1024]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S128 32) (main_arg1 : IVec S1 32) (main_arg2 : FVec F S36864x3584 .bf16) (main_arg3 : FVec F S2x8x3584x1024 .f32) : IVec S_ 1 :=
  let main_c : IVec S_ 32 := constantI S_ 32 0#32
  let main_v0 : IVec S128 32 := broadcastInDim S128 ![] bcast_S_S128 main_c
  let main_v1 : IVec S128 1 := cmpi .sge main_arg0 main_v0
  let main_c_0 : IVec S_ 32 := constantI S_ 32 8#32
  let main_v2 : IVec S128 32 := broadcastInDim S128 ![] bcast_S_S128 main_c_0
  let main_v3 : IVec S128 1 := cmpi .slt main_arg0 main_v2
  let main_v4 : IVec S128 1 := andi main_v1 main_v3
  let main_c_1 : IVec S_ 1 := constantI S_ 1 1#1
  let main_v5 : IVec S_ 1 := (fun x v => Host.reduce IntOp.andi x v reducesTo_S128_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 72#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Pre_finite.lean ====
abbrev S4x4096x512 : Shape := ⟨3, ![4, 4096, 512]⟩
abbrev S4x4096x128 : Shape := ⟨3, ![4, 4096, 128]⟩
abbrev S4x8 : Shape := ⟨2, ![4, 8]⟩
abbrev S4x512 : Shape := ⟨2, ![4, 512]⟩
abbrev S_ : Shape := ⟨0, ![]⟩

class Facts : Prop where
  bcast_S_S4x4096x512 : S_.BroadcastsInDim S4x4096x512 (![] : Fin 0 → Fin S4x4096x512.rank)
  reducesTo_S4x4096x512_S_d0_1_2 : S4x4096x512.ReducesTo [0, 1, 2] S_
  h_S_ : 0 < S_.numel
  bcast_S_S4x4096x128 : S_.BroadcastsInDim S4x4096x128 (![] : Fin 0 → Fin S4x4096x128.rank)
  reducesTo_S4x4096x128_S_d0_1_2 : S4x4096x128.ReducesTo [0, 1, 2] S_
  bcast_S_S4x8 : S_.BroadcastsInDim S4x8 (![] : Fin 0 → Fin S4x8.rank)
  reducesTo_S4x8_S_d0_1 : S4x8.ReducesTo [0, 1] S_

variable [Facts]

def fn {F : FTy → Type} [FloatOps F] (main_arg0 : FVec F S4x4096x512 .bf16) (main_arg1 : FVec F S4x4096x128 .bf16) (main_arg2 : FVec F S4x4096x128 .bf16) (main_arg3 : FVec F S4x8 .f32) (main_arg4 : FVec F S4x512 .f32) : IVec S_ 1 :=
  let main_v0 : FVec F S4x4096x512 .bf16 := Host.absf main_arg0
  let main_cst : FVec F S_ .bf16 := constant S_ .bf16 0x7F80#16
  let main_v1 : FVec F S4x4096x512 .bf16 := broadcastInDim S4x4096x512 ![] bcast_S_S4x4096x512 main_cst
  let main_v2 : IVec S4x4096x512 1 := cmpf .olt main_v0 main_v1
  let main_c : IVec S_ 1 := constantI S_ 1 1#1
  let main_v3 : IVec S_ 1 := (fun x v => Host.reduce IntOp.andi x v reducesTo_S4x4096x512_S_d0_1_2 h_S_) main_v2 main_c
  let main_v4 : FVec F S4x4096x128 .bf16 := Host.absf main_arg1
  let main_cst_0 : FVec F S_ .bf16 := constant S_ .bf16 0x7F80#16
  let main_v5 : FVec F S4x4096x128 .bf16 := broadcastInDim S4x4096x128 ![] bcast_S_S4x4096x128 main_cst_0
  let main_v6 : IVec S4x4096x128 1 := cmpf .olt main_v4 main_v5
  let main_c_1 : IVec S_ 1 := constantI S_ 1 1#1
  let main_v7 : IVec S_ 1 := (fun x v => Host.reduce IntOp.andi x v reducesTo_S4x4096x128_S_d0_1_2 h_S_) main_v6 main_c_1
  let main_v8 : IVec S_ 1 := andi main_v3 main_v7
  let main_v9 : FVec F S4x8 .f32 := Host.absf main_arg3
  let main_cst_2 : FVec F S_ .f32 := constant S_ .f32 0x7F800000#32
  let main_v10 : FVec F S4x8 .f32 := broadcastInDim S4x8 ![] bcast_S_S4x8 main_cst_2
  let main_v11 : IVec S4x8 1 := cmpf .olt main_v9 main_v10
  let main_c_3 : IVec S_ 1 := constantI S_ 1 1#1
  let main_v12 : IVec S_ 1 := (fun x v => Host.reduce IntOp.andi x v reducesTo_S4x8_S_d0_1 h_S_) main_v11 main_c_3
  let main_v13 : IVec S_ 1 := andi main_v8 main_v12
  main_v13
-- ==== Pre_up_in_range.lean ====
abbrev S128 : Shape := ⟨1, ![128]⟩
abbrev S1 : Shape := ⟨1, ![1]⟩
abbrev S294912x128 : Shape := ⟨2, ![294912, 128]⟩
abbrev S2x8x1024x3584 : Shape := ⟨4, ![2, 8, 1024, 3584]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S128 32) (main_arg1 : IVec S1 32) (main_arg2 : FVec F S294912x128 .bf16) (main_arg3 : FVec F S2x8x1024x3584 .f32) (main_arg4 : FVec F S2x8x1024x3584 .f32) : IVec S_ 1 :=
  let main_c : IVec S_ 32 := constantI S_ 32 0#32
  let main_v0 : IVec S128 32 := broadcastInDim S128 ![] bcast_S_S128 main_c
  let main_v1 : IVec S128 1 := cmpi .sge main_arg0 main_v0
  let main_c_0 : IVec S_ 32 := constantI S_ 32 8#32
  let main_v2 : IVec S128 32 := broadcastInDim S128 ![] bcast_S_S128 main_c_0
  let main_v3 : IVec S128 1 := cmpi .slt main_arg0 main_v2
  let main_v4 : IVec S128 1 := andi main_v1 main_v3
  let main_c_1 : IVec S_ 1 := constantI S_ 1 1#1
  let main_v5 : IVec S_ 1 := (fun x v => Host.reduce IntOp.andi x v reducesTo_S128_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 72#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S4x4096x512 : Shape := ⟨3, ![4, 4096, 512]⟩
abbrev S4x4096x128 : Shape := ⟨3, ![4, 4096, 128]⟩
abbrev S4x8 : Shape := ⟨2, ![4, 8]⟩
abbrev S4x512 : Shape := ⟨2, ![4, 512]⟩
abbrev S_ : Shape := ⟨0, ![]⟩
abbrev S4x1x512 : Shape := ⟨3, ![4, 1, 512]⟩
abbrev S1x1024x512 : Shape := ⟨3, ![1, 1024, 512]⟩
abbrev S1x4096x128 : Shape := ⟨3, ![1, 4096, 128]⟩
abbrev S1x1x512 : Shape := ⟨3, ![1, 1, 512]⟩
abbrev S1x8x128x384 : Shape := ⟨4, ![1, 8, 128, 384]⟩
abbrev S1x512 : Shape := ⟨2, ![1, 512]⟩
abbrev S1x384x128 : Shape := ⟨3, ![1, 384, 128]⟩
abbrev S384x128 : Shape := ⟨2, ![384, 128]⟩
abbrev S128x384 : Shape := ⟨2, ![128, 384]⟩
abbrev S1x128x512 : Shape := ⟨3, ![1, 128, 512]⟩
abbrev S128x512 : Shape := ⟨2, ![128, 512]⟩
abbrev S128x64 : Shape := ⟨2, ![128, 64]⟩
abbrev S384x64 : Shape := ⟨2, ![384, 64]⟩
abbrev S1x1x128x384 : Shape := ⟨4, ![1, 1, 128, 384]⟩
abbrev S128 : Shape := ⟨1, ![128]⟩
abbrev S128x1 : Shape := ⟨2, ![128, 1]⟩
abbrev S1x1 : Shape := ⟨2, ![1, 1]⟩

abbrev nBuf : Space → Nat
  | .hbm => 12
  | .vmem => 11
  | .smem => 1
  | _ => 0

abbrev bufTy : (tb : Table) → Fin (tcTables nBuf tb) → BufTy
  | .hbm, ⟨0, _⟩ => ⟨S4x4096x512, .bf16⟩
  | .hbm, ⟨1, _⟩ => ⟨S4x4096x128, .bf16⟩
  | .hbm, ⟨2, _⟩ => ⟨S4x4096x128, .bf16⟩
  | .hbm, ⟨3, _⟩ => ⟨S4x8, .f32⟩
  | .hbm, ⟨4, _⟩ => ⟨S4x512, .f32⟩
  | .hbm, ⟨5, _⟩ => ⟨S4x4096x512, .f32⟩
  | .hbm, ⟨6, _⟩ => ⟨S_, .f32⟩
  | .hbm, ⟨7, _⟩ => ⟨S4x4096x512, .f32⟩
  | .hbm, ⟨8, _⟩ => ⟨S4x4096x512, .f32⟩
  | .hbm, ⟨9, _⟩ => ⟨S4x4096x512, .bf16⟩
  | .hbm, ⟨10, _⟩ => ⟨S4x1x512, .f32⟩
  | .hbm, ⟨11, _⟩ => ⟨S4x4096x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1x512, .f32⟩
  | .local _ .vmem, ⟨7, _⟩ => ⟨S1x1024x512, .bf16⟩
  | .local _ .vmem, ⟨8, _⟩ => ⟨S1x1024x512, .bf16⟩
  | .local _ .vmem, ⟨9, _⟩ => ⟨S1x8x128x384, .f32⟩
  | .local _ .vmem, ⟨10, _⟩ => ⟨S1x8x128x384, .bf16⟩
  | .local _ .smem, ⟨0, _⟩ => ⟨S4x8, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 4], ![false, false]⟩

@[reducible] def k0_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c1_i32_3 : BitVec 32 := 1#32
  let v4 : BitVec 32 := Scalar.muli arg10 c1_i32_3
  let c0_i32_4 : BitVec 32 := 0#32
  let v5 : BitVec 32 := Scalar.addi v4 c0_i32_4
  let c128_i32 : BitVec 32 := 128#32
  let v6 : BitVec 32 := Scalar.muli v5 c128_i32
  v6
def k0_mult2 (i : grid0.Coords) (k0_t1 : Fin k0_t1_loop.trips) : BitVec 32 :=
  let c3712_i32 : BitVec 32 := 3712#32
  let c0_i32_6 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let c1_i32 : BitVec 32 := 1#32
  let arg10 : BitVec 32 := Scf.iv c0_i32 c1_i32 k0_t1
  let c1_i32_3 : BitVec 32 := 1#32
  let v4 : BitVec 32 := Scalar.muli arg10 c1_i32_3
  let c0_i32_4 : BitVec 32 := 0#32
  let v5 : BitVec 32 := Scalar.addi v4 c0_i32_4
  let c128_i32 : BitVec 32 := 128#32
  let v6 : BitVec 32 := Scalar.muli v5 c128_i32
  let v7 : BitVec 32 := v6
  let v8 : BitVec 32 := Scalar.addi v0 v7
  let c128_i32_5 : BitVec 32 := 128#32
  let v9 : BitVec 32 := Scalar.subi v8 c128_i32_5
  let v10 : BitVec 32 := Scalar.maxsi c0_i32_6 v9
  let v11 : BitVec 32 := Scalar.minsi c3712_i32 v10
  v11
def k0_off1 (i : grid0.Coords) (k0_t1 : Fin k0_t1_loop.trips) : Fin 3 → Nat :=
  let c0_7 : Index := 0#32
  let c3712_i32 : BitVec 32 := 3712#32
  let c0_i32_6 : BitVec 32 := 0#32
  let arg1 : BitVec 32 := BitVec.ofNat 32 (i 1).val
  let c1024_i32 : BitVec 32 := 1024#32
  let v0 : BitVec 32 := Scalar.muli arg1 c1024_i32
  let c0_i32 : BitVec 32 := 0#32
  let c1_i32 : BitVec 32 := 1#32
  let arg10 : BitVec 32 := Scf.iv c0_i32 c1_i32 k0_t1
  let c1_i32_3 : BitVec 32 := 1#32
  let v4 : BitVec 32 := Scalar.muli arg10 c1_i32_3
  let c0_i32_4 : BitVec 32 := 0#32
  let v5 : BitVec 32 := Scalar.addi v4 c0_i32_4
  let c128_i32 : BitVec 32 := 128#32
  let v6 : BitVec 32 := Scalar.muli v5 c128_i32
  let v7 : BitVec 32 := v6
  let v8 : BitVec 32 := Scalar.addi v0 v7
  let c128_i32_5 : BitVec 32 := 128#32
  let v9 : BitVec 32 := Scalar.subi v8 c128_i32_5
  let v10 : BitVec 32 := Scalar.maxsi c0_i32_6 v9
  let v11 : BitVec 32 := Scalar.minsi c3712_i32 v10
  let v12 : BitVec 32 := v11
  let v13 : Index := Scalar.indexCast v12
  let c0_8 : Index := 0#32
  ![0, v13.toNat, 0]
def k0_off2 (k0_t1 : Fin k0_t1_loop.trips) : Fin 3 → Nat :=
  let c0_12 : Index := 0#32
  let c0_i32 : BitVec 32 := 0#32
  let c1_i32 : BitVec 32 := 1#32
  let arg10 : BitVec 32 := Scf.iv c0_i32 c1_i32 k0_t1
  let c1_i32_3 : BitVec 32 := 1#32
  let v4 : BitVec 32 := Scalar.muli arg10 c1_i32_3
  let c0_i32_4 : BitVec 32 := 0#32
  let v5 : BitVec 32 := Scalar.addi v4 c0_i32_4
  let c128_i32 : BitVec 32 := 128#32
  let v6 : BitVec 32 := Scalar.muli v5 c128_i32
  let v7 : BitVec 32 := v6
  let v29 : Index := Scalar.indexCast v7
  let c0_13 : Index := 0#32
  ![0, v29.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S4x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x4096x512 : Shape := ⟨3, ![4, 4096, 512]⟩
abbrev S4x4096x128 : Shape := ⟨3, ![4, 4096, 128]⟩
abbrev S4x8 : Shape := ⟨2, ![4, 8]⟩
abbrev S4x512 : Shape := ⟨2, ![4, 512]⟩
abbrev S4x4096x8x64 : Shape := ⟨4, ![4, 4096, 8, 64]⟩
abbrev S4x4096x2x64 : Shape := ⟨4, ![4, 4096, 2, 64]⟩
abbrev S1x8 : Shape := ⟨2, ![1, 8]⟩
abbrev S8 : Shape := ⟨1, ![8]⟩
abbrev S4x32x128x2x4x64 : Shape := ⟨6, ![4, 32, 128, 2, 4, 64]⟩
abbrev S_ : Shape := ⟨0, ![]⟩
abbrev S4x4352x2x64 : Shape := ⟨4, ![4, 4352, 2, 64]⟩
abbrev S4x34x128x2x64 : Shape := ⟨5, ![4, 34, 128, 2, 64]⟩
abbrev S4x32x128x2x64 : Shape := ⟨5, ![4, 32, 128, 2, 64]⟩
abbrev S4x32x384x2x64 : Shape := ⟨5, ![4, 32, 384, 2, 64]⟩
abbrev S4x32x2x384x128x4 : Shape := ⟨6, ![4, 32, 2, 384, 128, 4]⟩
abbrev S4x32x2x4x128x384 : Shape := ⟨6, ![4, 32, 2, 4, 128, 384]⟩
abbrev S128 : Shape := ⟨1, ![128]⟩
abbrev S128x1 : Shape := ⟨2, ![128, 1]⟩
abbrev S384 : Shape := ⟨1, ![384]⟩
abbrev S1x384 : Shape := ⟨2, ![1, 384]⟩
abbrev S32 : Shape := ⟨1, ![32]⟩
abbrev S32x1x1 : Shape := ⟨3, ![32, 1, 1]⟩
abbrev S1x1x384 : Shape := ⟨3, ![1, 1, 384]⟩
abbrev S32x1x384 : Shape := ⟨3, ![32, 1, 384]⟩
abbrev S128x384 : Shape := ⟨2, ![128, 384]⟩
abbrev S1x128x384 : Shape := ⟨3, ![1, 128, 384]⟩
abbrev S32x128x384 : Shape := ⟨3, ![32, 128, 384]⟩
abbrev S1x32x1x1x128x384 : Shape := ⟨6, ![1, 32, 1, 1, 128, 384]⟩
abbrev S2x4 : Shape := ⟨2, ![2, 4]⟩
abbrev S1x1x2x4x1x1 : Shape := ⟨6, ![1, 1, 2, 4, 1, 1]⟩
abbrev S4x32x2x4x128 : Shape := ⟨5, ![4, 32, 2, 4, 128]⟩
abbrev S4x32x2x4x128x1 : Shape := ⟨6, ![4, 32, 2, 4, 128, 1]⟩
abbrev S4x32x2x64x4x128 : Shape := ⟨6, ![4, 32, 2, 64, 4, 128]⟩
abbrev S1x512 : Shape := ⟨2, ![1, 512]⟩
abbrev S512 : Shape := ⟨1, ![512]⟩
abbrev S4x4096 : Shape := ⟨2, ![4, 4096]⟩
abbrev S4x4096x1 : Shape := ⟨3, ![4, 4096, 1]⟩
abbrev S1x1x512 : Shape := ⟨3, ![1, 1, 512]⟩

abbrev nBuf : Space → Nat
  | .hbm => 120
  | .vmem => 0
  | .smem => 0
  | _ => 0

abbrev bufTy : (tb : Table) → Fin (tcTables nBuf tb) → BufTy
  | .hbm, ⟨0, _⟩ => ⟨S4x4096x512, .bf16⟩
  | .hbm, ⟨1, _⟩ => ⟨S4x4096x128, .bf16⟩
  | .hbm, ⟨2, _⟩ => ⟨S4x4096x128, .bf16⟩
  | .hbm, ⟨3, _⟩ => ⟨S4x8, .f32⟩
  | .hbm, ⟨4, _⟩ => ⟨S4x512, .f32⟩
  | .hbm, ⟨5, _⟩ => ⟨S4x4096x512, .f32⟩
  | .hbm, ⟨6, _⟩ => ⟨S4x4096x8x64, .f32⟩
  | .hbm, ⟨7, _⟩ => ⟨S4x4096x128, .f32⟩
  | .hbm, ⟨8, _⟩ => ⟨S4x4096x2x64, .f32⟩
  | .hbm, ⟨9, _⟩ => ⟨S4x4096x128, .f32⟩
  | .hbm, ⟨10, _⟩ => ⟨S4x4096x2x64, .f32⟩
  | .hbm, ⟨11, _⟩ => ⟨S1x8, .f32⟩
  | .hbm, ⟨12, _⟩ => ⟨S8, .f32⟩
  | .hbm, ⟨13, _⟩ => ⟨S4x32x128x2x4x64, .f32⟩
  | .hbm, ⟨14, _⟩ => ⟨S_, .i32⟩
  | .hbm, ⟨15, _⟩ => ⟨S_, .f32⟩
  | .hbm, ⟨16, _⟩ => ⟨S4x4352x2x64, .f32⟩
  | .hbm, ⟨17, _⟩ => ⟨S4x34x128x2x64, .f32⟩
  | .hbm, ⟨18, _⟩ => ⟨S4x32x128x2x64, .f32⟩
  | .hbm, ⟨19, _⟩ => ⟨S4x32x128x2x64, .f32⟩
  | .hbm, ⟨20, _⟩ => ⟨S4x32x128x2x64, .f32⟩
  | .hbm, ⟨21, _⟩ => ⟨S4x32x384x2x64, .f32⟩
  | .hbm, ⟨22, _⟩ => ⟨S_, .i32⟩
  | .hbm, ⟨23, _⟩ => ⟨S_, .f32⟩
  | .hbm, ⟨24, _⟩ => ⟨S4x4352x2x64, .f32⟩
  | .hbm, ⟨25, _⟩ => ⟨S4x34x128x2x64, .f32⟩
  | .hbm, ⟨26, _⟩ => ⟨S4x32x128x2x64, .f32⟩
  | .hbm, ⟨27, _⟩ => ⟨S4x32x128x2x64, .f32⟩
  | .hbm, ⟨28, _⟩ => ⟨S4x32x128x2x64, .f32⟩
  | .hbm, ⟨29, _⟩ => ⟨S4x32x384x2x64, .f32⟩
  | .hbm, ⟨30, _⟩ => ⟨S4x32x2x384x128x4, .f32⟩
  | .hbm, ⟨31, _⟩ => ⟨S4x32x2x4x128x384, .f32⟩
  | .hbm, ⟨32, _⟩ => ⟨S_, .f32⟩
  | .hbm, ⟨33, _⟩ => ⟨S4x32x2x4x128x384, .f32⟩
  | .hbm, ⟨34, _⟩ => ⟨S4x32x2x4x128x384, .f32⟩
  | .hbm, ⟨35, _⟩ => ⟨S128, .i32⟩
  | .hbm, ⟨36, _⟩ => ⟨S128x1, .i32⟩
  | .hbm, ⟨37, _⟩ => ⟨S384, .i32⟩
  | .hbm, ⟨38, _⟩ => ⟨S1x384, .i32⟩
  | .hbm, ⟨39, _⟩ => ⟨S32, .i32⟩
  | .hbm, ⟨40, _⟩ => ⟨S32x1x1, .i32⟩
  | .hbm, ⟨41, _⟩ => ⟨S_, .i32⟩
  | .hbm, ⟨42, _⟩ => ⟨S32x1x1, .i32⟩
  | .hbm, ⟨43, _⟩ => ⟨S32x1x1, .i32⟩
  | .hbm, ⟨44, _⟩ => ⟨S_, .i32⟩
  | .hbm, ⟨45, _⟩ => ⟨S32x1x1, .i32⟩
  | .hbm, ⟨46, _⟩ => ⟨S32x1x1, .i32⟩
  | .hbm, ⟨47, _⟩ => ⟨S1x1x384, .i32⟩
  | .hbm, ⟨48, _⟩ => ⟨S32x1x384, .i32⟩
  | .hbm, ⟨49, _⟩ => ⟨S32x1x384, .i32⟩
  | .hbm, ⟨50, _⟩ => ⟨S32x1x384, .i32⟩
  | .hbm, ⟨51, _⟩ => ⟨S_, .i32⟩
  | .hbm, ⟨52, _⟩ => ⟨S1x384, .i32⟩
  | .hbm, ⟨53, _⟩ => ⟨S1x384, .i32⟩
  | .hbm, ⟨54, _⟩ => ⟨S128x384, .i32⟩
  | .hbm, ⟨55, _⟩ => ⟨S128x384, .i32⟩
  | .hbm, ⟨56, _⟩ => ⟨S128x384, .i32⟩
  | .hbm, ⟨57, _⟩ => ⟨S128x384, .i32⟩
  | .hbm, ⟨58, _⟩ => ⟨S_, .i32⟩
  | .hbm, ⟨59, _⟩ => ⟨S128x384, .i32⟩
  | .hbm, ⟨60, _⟩ => ⟨S128x384, .i1⟩
  | .hbm, ⟨61, _⟩ => ⟨S_, .i32⟩
  | .hbm, ⟨62, _⟩ => ⟨S32x1x384, .i32⟩
  | .hbm, ⟨63, _⟩ => ⟨S32x1x384, .i1⟩
  | .hbm, ⟨64, _⟩ => ⟨S1x128x384, .i1⟩
  | .hbm, ⟨65, _⟩ => ⟨S32x128x384, .i1⟩
  | .hbm, ⟨66, _⟩ => ⟨S32x128x384, .i1⟩
  | .hbm, ⟨67, _⟩ => ⟨S32x128x384, .i1⟩
  | .hbm, ⟨68, _⟩ => ⟨S_, .i32⟩
  | .hbm, ⟨69, _⟩ => ⟨S32x1x384, .i32⟩
  | .hbm, ⟨70, _⟩ => ⟨S32x1x384, .i1⟩
  | .hbm, ⟨71, _⟩ => ⟨S32x128x384, .i1⟩
  | .hbm, ⟨72, _⟩ => ⟨S32x128x384, .i1⟩
  | .hbm, ⟨73, _⟩ => ⟨S1x32x1x1x128x384, .i1⟩
  | .hbm, ⟨74, _⟩ => ⟨S_, .f32⟩
  | .hbm, ⟨75, _⟩ => ⟨S_, .f32⟩
  | .hbm, ⟨76, _⟩ => ⟨S4x32x2x4x128x384, .i1⟩
  | .hbm, ⟨77, _⟩ => ⟨S4x32x2x4x128x384, .f32⟩
  | .hbm, ⟨78, _⟩ => ⟨S4x32x2x4x128x384, .f32⟩
  | .hbm, ⟨79, _⟩ => ⟨S2x4, .f32⟩
  | .hbm, ⟨80, _⟩ => ⟨S1x1x2x4x1x1, .f32⟩
  | .hbm, ⟨81, _⟩ => ⟨S_, .f32⟩
  | .hbm, ⟨82, _⟩ => ⟨S4x32x2x4x128, .f32⟩
  | .hbm, ⟨83, _⟩ => ⟨S4x32x2x4x128x1, .f32⟩
  | .hbm, ⟨84, _⟩ => ⟨S4x32x2x4x128x1, .f32⟩
  | .hbm, ⟨85, _⟩ => ⟨S4x32x2x4x128x1, .f32⟩
  | .hbm, ⟨86, _⟩ => ⟨S4x32x2x4x128x384, .f32⟩
  | .hbm, ⟨87, _⟩ => ⟨S4x32x2x4x128x384, .f32⟩
  | .hbm, ⟨88, _⟩ => ⟨S4x32x2x4x128x384, .f32⟩
  | .hbm, ⟨89, _⟩ => ⟨S_, .f32⟩
  | .hbm, ⟨90, _⟩ => ⟨S4x32x2x4x128, .f32⟩
  | .hbm, ⟨91, _⟩ => ⟨S4x32x2x4x128x1, .f32⟩
  | .hbm, ⟨92, _⟩ => ⟨S4x32x2x4x128x1, .f32⟩
  | .hbm, ⟨93, _⟩ => ⟨S4x32x2x4x128x1, .f32⟩
  | .hbm, ⟨94, _⟩ => ⟨S4x32x2x4x128x1, .f32⟩
  | .hbm, ⟨95, _⟩ => ⟨S4x32x2x4x128x1, .f32⟩
  | .hbm, ⟨96, _⟩ => ⟨S4x32x2x4x128x384, .f32⟩
  | .hbm, ⟨97, _⟩ => ⟨S4x32x2x4x128x384, .f32⟩
  | .hbm, ⟨98, _⟩ => ⟨S4x32x2x64x4x128, .f32⟩
  | .hbm, ⟨99, _⟩ => ⟨S4x32x128x2x4x64, .f32⟩
  | .hbm, ⟨100, _⟩ => ⟨S4x4096x512, .f32⟩
  | .hbm, ⟨101, _⟩ => ⟨S1x512, .f32⟩
  | .hbm, ⟨102, _⟩ => ⟨S512, .f32⟩
  | .hbm, ⟨103, _⟩ => ⟨S4x4096x512, .f32⟩
  | .hbm, ⟨104, _⟩ => ⟨S_, .f32⟩
  | .hbm, ⟨105, _⟩ => ⟨S4x4096, .f32⟩
  | .hbm, ⟨106, _⟩ => ⟨S4x4096x1, .f32⟩
  | .hbm, ⟨107, _⟩ => ⟨S_, .f32⟩
  | .hbm, ⟨108, _⟩ => ⟨S4x4096x1, .f32⟩
  | .hbm, ⟨109, _⟩ => ⟨S4x4096x1, .f32⟩
  | .hbm, ⟨110, _⟩ => ⟨S_, .f32⟩
  | .hbm, ⟨111, _⟩ => ⟨S4x4096x1, .f32⟩
  | .hbm, ⟨112, _⟩ => ⟨S4x4096x1, .f32⟩
  | .hbm, ⟨113, _⟩ => ⟨S4x4096x1, .f32⟩
  | .hbm, ⟨114, _⟩ => ⟨S4x4096x512, .f32⟩
  | .hbm, ⟨115, _⟩ => ⟨S4x4096x512, .f32⟩
  | .hbm, ⟨116, _⟩ => ⟨S1x1x512, .f32⟩
  | .hbm, ⟨117, _⟩ => ⟨S4x4096x512, .f32⟩
  | .hbm, ⟨118, _⟩ => ⟨S4x4096x512, .f32⟩
  | .hbm, ⟨119, _⟩ => ⟨S4x4096x512, .bf16⟩
  | _, _ => ⟨S4x4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_call1_v0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_c_1 : Ref sig .tc := ⟨.hbm, 41, rfl⟩
abbrev main_v31 : Ref sig .tc := ⟨.hbm, 42, rfl⟩
abbrev main_v32 : Ref sig .tc := ⟨.hbm, 43, rfl⟩
abbrev main_c_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_c_3 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_4 : Ref sig .tc := ⟨.hbm, 58, rfl⟩
abbrev main_v45 : Ref sig .tc := ⟨.hbm, 59, rfl⟩
abbrev main_v46 : Ref sig .tc := ⟨.hbm, 60, rfl⟩
abbrev main_c_5 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_cst_7 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_8 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_9 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_10 : Ref sig .tc := ⟨.hbm, 104, rfl⟩
abbrev main_v82 : Ref sig .tc := ⟨.hbm, 105, rfl⟩
abbrev main_v83 : Ref sig .tc := ⟨.hbm, 106, rfl⟩
abbrev main_cst_11 : Ref sig .tc := ⟨.hbm, 107, rfl⟩
abbrev main_v84 : Ref sig .tc := ⟨.hbm, 108, rfl⟩
abbrev main_v85 : Ref sig .tc := ⟨.hbm, 109, rfl⟩
abbrev main_cst_12 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩

abbrev nD : Nat := 1
abbrev τ : Topo := Topo.v7x

variable {F : FTy → Type} [FloatOps F]
-- ==== Kernel2.lean ====
abbrev S128 : Shape := ⟨1, ![128]⟩
abbrev S1 : Shape := ⟨1, ![1]⟩
abbrev S294912x128 : Shape := ⟨2, ![294912, 128]⟩
abbrev S2x8x1024x3584 : Shape := ⟨4, ![2, 8, 1024, 3584]⟩
abbrev S_ : Shape := ⟨0, ![]⟩
abbrev S36864x3584 : Shape := ⟨2, ![36864, 3584]⟩
abbrev S4096x128 : Shape := ⟨2, ![4096, 128]⟩
abbrev S1x1x1024x1792 : Shape := ⟨4, ![1, 1, 1024, 1792]⟩
abbrev S512x1792 : Shape := ⟨2, ![512, 1792]⟩
abbrev S512x128 : Shape := ⟨2, ![512, 128]⟩
abbrev S512x1024 : Shape := ⟨2, ![512, 1024]⟩
abbrev S1x1x1024x256 : Shape := ⟨4, ![1, 1, 1024, 256]⟩
abbrev S1024x256 : Shape := ⟨2, ![1024, 256]⟩
abbrev S512x256 : Shape := ⟨2, ![512, 256]⟩

abbrev nBuf : Space → Nat
  | .hbm => 18
  | .vmem => 9
  | .smem => 2
  | _ => 0

abbrev bufTy : (tb : Table) → Fin (tcTables nBuf tb) → BufTy
  | .hbm, ⟨0, _⟩ => ⟨S128, .i32⟩
  | .hbm, ⟨1, _⟩ => ⟨S294912x128, .bf16⟩
  | .hbm, ⟨2, _⟩ => ⟨S2x8x1024x3584, .f32⟩
  | .hbm, ⟨3, _⟩ => ⟨S2x8x1024x3584, .f32⟩
  | .hbm, ⟨4, _⟩ => ⟨S128, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i1⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S1, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S36864x3584, .bf16⟩
  | .local _ .vmem, ⟨0, _⟩ => ⟨S4096x128, .bf16⟩
  | .local _ .vmem, ⟨1, _⟩ => ⟨S4096x128, .bf16⟩
  | .local _ .vmem, ⟨2, _⟩ => ⟨S1x1x1024x1792, .f32⟩
  | .local _ .vmem, ⟨3, _⟩ => ⟨S1x1x1024x1792, .f32⟩
  | .local _ .vmem, ⟨4, _⟩ => ⟨S1x1x1024x1792, .f32⟩
  | .local _ .vmem, ⟨5, _⟩ => ⟨S1x1x1024x1792, .f32⟩
  | .local _ .vmem, ⟨6, _⟩ => ⟨S512x1792, .bf16⟩
  | .local _ .vmem, ⟨7, _⟩ => ⟨S512x1792, .bf16⟩
  | .local _ .vmem, ⟨8, _⟩ => ⟨S4096x128, .f32⟩
  | .local _ .smem, ⟨0, _⟩ => ⟨S128, .i32⟩
  | .local _ .smem, ⟨1, _⟩ => ⟨S1, .i32⟩
  | _, _ => ⟨S128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v11 : Ref sig .tc := ⟨.hbm, 17, rfl⟩
abbrev main_v10 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 72], ![false, false]⟩

abbrev pre0 : Pipeline.Prefetch sig := ⟨2, ![main_v10.idx, main_arg1.idx], fun | 0 => main_v10.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg1 : BitVec 32 := BitVec.ofNat 32 (i 1).val
  let v5 : BitVec 1 := Scalar.cmpi .sge arg1 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S128.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_2 (k0_off1_inb : ∀ i : grid0.Coords, ∀ a, (k0_off1 i) a + S1.size a ≤ S128.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  ![c0_i32.toNat, v1.toNat, c0_i32_0.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S128 : Shape := ⟨1, ![128]⟩
abbrev S1 : Shape := ⟨1, ![1]⟩
abbrev S294912x128 : Shape := ⟨2, ![294912, 128]⟩
abbrev S2x8x1024x3584 : Shape := ⟨4, ![2, 8, 1024, 3584]⟩
abbrev S36864x1024 : Shape := ⟨2, ![36864, 1024]⟩
abbrev S1x8x1024x3584 : Shape := ⟨4, ![1, 8, 1024, 3584]⟩
abbrev S8x1024x3584 : Shape := ⟨3, ![8, 1024, 3584]⟩
abbrev S36864x8x3584 : Shape := ⟨3, ![36864, 8, 3584]⟩
abbrev S_ : Shape := ⟨0, ![]⟩
abbrev S72 : Shape := ⟨1, ![72]⟩
abbrev S72x1 : Shape := ⟨2, ![72, 1]⟩
abbrev S8 : Shape := ⟨1, ![8]⟩
abbrev S1x8 : Shape := ⟨2, ![1, 8]⟩
abbrev S72x8 : Shape := ⟨2, ![72, 8]⟩
abbrev S72x512x8 : Shape := ⟨3, ![72, 512, 8]⟩
abbrev S36864x8 : Shape := ⟨2, ![36864, 8]⟩
abbrev S36864x8x1 : Shape := ⟨3, ![36864, 8, 1]⟩
abbrev S36864x3584 : Shape := ⟨2, ![36864, 3584]⟩

abbrev nBuf : Space → Nat
  | .hbm => 47
  | .vmem => 0
  | .smem => 0
  | _ => 0

abbrev bufTy : (tb : Table) → Fin (tcTables nBuf tb) → BufTy
  | .hbm, ⟨0, _⟩ => ⟨S128, .i32⟩
  | .hbm, ⟨1, _⟩ => ⟨S1, .i32⟩
  | .hbm, ⟨2, _⟩ => ⟨S294912x128, .bf16⟩
  | .hbm, ⟨3, _⟩ => ⟨S2x8x1024x3584, .f32⟩
  | .hbm, ⟨4, _⟩ => ⟨S2x8x1024x3584, .f32⟩
  | .hbm, ⟨5, _⟩ => ⟨S294912x128, .f32⟩
  | .hbm, ⟨6, _⟩ => ⟨S36864x1024, .f32⟩
  | .hbm, ⟨7, _⟩ => ⟨S1x8x1024x3584, .f32⟩
  | .hbm, ⟨8, _⟩ => ⟨S8x1024x3584, .f32⟩
  | .hbm, ⟨9, _⟩ => ⟨S36864x8x3584, .f32⟩
  | .hbm, ⟨10, _⟩ => ⟨S36864x8x3584, .f32⟩
  | .hbm, ⟨11, _⟩ => ⟨S36864x8x3584, .f32⟩
  | .hbm, ⟨12, _⟩ => ⟨S_, .f32⟩
  | .hbm, ⟨13, _⟩ => ⟨S36864x8x3584, .f32⟩
  | .hbm, ⟨14, _⟩ => ⟨S36864x8x3584, .f32⟩
  | .hbm, ⟨15, _⟩ => ⟨S_, .f32⟩
  | .hbm, ⟨16, _⟩ => ⟨S36864x8x3584, .f32⟩
  | .hbm, ⟨17, _⟩ => ⟨S36864x8x3584, .f32⟩
  | .hbm, ⟨18, _⟩ => ⟨S36864x8x3584, .f32⟩
  | .hbm, ⟨19, _⟩ => ⟨S1x8x1024x3584, .f32⟩
  | .hbm, ⟨20, _⟩ => ⟨S8x1024x3584, .f32⟩
  | .hbm, ⟨21, _⟩ => ⟨S36864x8x3584, .f32⟩
  | .hbm, ⟨22, _⟩ => ⟨S36864x8x3584, .f32⟩
  | .hbm, ⟨23, _⟩ => ⟨S72, .i32⟩
  | .hbm, ⟨24, _⟩ => ⟨S72, .i32⟩
  | .hbm, ⟨25, _⟩ => ⟨S72x1, .i32⟩
  | .hbm, ⟨26, _⟩ => ⟨S8, .i32⟩
  | .hbm, ⟨27, _⟩ => ⟨S1x8, .i32⟩
  | .hbm, ⟨28, _⟩ => ⟨S72x8, .i32⟩
  | .hbm, ⟨29, _⟩ => ⟨S72x8, .i32⟩
  | .hbm, ⟨30, _⟩ => ⟨S72x8, .i1⟩
  | .hbm, ⟨31, _⟩ => ⟨S72, .i32⟩
  | .hbm, ⟨32, _⟩ => ⟨S72, .i1⟩
  | .hbm, ⟨33, _⟩ => ⟨S72x1, .i1⟩
  | .hbm, ⟨34, _⟩ => ⟨S72x8, .i1⟩
  | .hbm, ⟨35, _⟩ => ⟨S72x8, .i1⟩
  | .hbm, ⟨36, _⟩ => ⟨S72x512x8, .i1⟩
  | .hbm, ⟨37, _⟩ => ⟨S36864x8, .i1⟩
  | .hbm, ⟨38, _⟩ => ⟨S36864x8x1, .i1⟩
  | .hbm, ⟨39, _⟩ => ⟨S_, .f32⟩
  | .hbm, ⟨40, _⟩ => ⟨S_, .f32⟩
  | .hbm, ⟨41, _⟩ => ⟨S36864x8x3584, .i1⟩
  | .hbm, ⟨42, _⟩ => ⟨S36864x8x3584, .f32⟩
  | .hbm, ⟨43, _⟩ => ⟨S36864x8x3584, .f32⟩
  | .hbm, ⟨44, _⟩ => ⟨S_, .f32⟩
  | .hbm, ⟨45, _⟩ => ⟨S36864x3584, .f32⟩
  | .hbm, ⟨46, _⟩ => ⟨S36864x3584, .bf16⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v26 : Ref sig .tc := ⟨.hbm, 43, rfl⟩
abbrev main_cst_0 : Ref sig .tc := ⟨.hbm, 44, rfl⟩
abbrev main_v27 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Kernel3.lean ====
abbrev S128 : Shape := ⟨1, ![128]⟩
abbrev S1 : Shape := ⟨1, ![1]⟩
abbrev S36864x3584 : Shape := ⟨2, ![36864, 3584]⟩
abbrev S2x8x3584x1024 : Shape := ⟨4, ![2, 8, 3584, 1024]⟩
abbrev S_ : Shape := ⟨0, ![]⟩
abbrev S294912x128 : Shape := ⟨2, ![294912, 128]⟩
abbrev S512x3584 : Shape := ⟨2, ![512, 3584]⟩
abbrev S1x1x3584x1024 : Shape := ⟨4, ![1, 1, 3584, 1024]⟩
abbrev S4096x128 : Shape := ⟨2, ![4096, 128]⟩
abbrev S1x1x3584x256 : Shape := ⟨4, ![1, 1, 3584, 256]⟩
abbrev S3584x256 : Shape := ⟨2, ![3584, 256]⟩
abbrev S512x256 : Shape := ⟨2, ![512, 256]⟩
abbrev S512x128 : Shape := ⟨2, ![512, 128]⟩

abbrev nBuf : Space → Nat
  | .hbm => 17
  | .vmem => 6
  | .smem => 2
  | _ => 0

abbrev bufTy : (tb : Table) → Fin (tcTables nBuf tb) → BufTy
  | .hbm, ⟨0, _⟩ => ⟨S128, .i32⟩
  | .hbm, ⟨1, _⟩ => ⟨S36864x3584, .bf16⟩
  | .hbm, ⟨2, _⟩ => ⟨S2x8x3584x1024, .f32⟩
  | .hbm, ⟨3, _⟩ => ⟨S128, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S1, .i32⟩
  | .hbm, ⟨13, _⟩ => ⟨S128, .i32⟩
  | .hbm, ⟨14, _⟩ => ⟨S128, .i1⟩
  | .hbm, ⟨15, _⟩ => ⟨S128, .i32⟩
  | .hbm, ⟨16, _⟩ => ⟨S294912x128, .f32⟩
  | .local _ .vmem, ⟨0, _⟩ => ⟨S512x3584, .bf16⟩
  | .local _ .vmem, ⟨1, _⟩ => ⟨S512x3584, .bf16⟩
  | .local _ .vmem, ⟨2, _⟩ => ⟨S1x1x3584x1024, .f32⟩
  | .local _ .vmem, ⟨3, _⟩ => ⟨S1x1x3584x1024, .f32⟩
  | .local _ .vmem, ⟨4, _⟩ => ⟨S4096x128, .f32⟩
  | .local _ .vmem, ⟨5, _⟩ => ⟨S4096x128, .f32⟩
  | .local _ .smem, ⟨0, _⟩ => ⟨S128, .i32⟩
  | .local _ .smem, ⟨1, _⟩ => ⟨S1, .i32⟩
  | _, _ => ⟨S128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_c_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v11 : Ref sig .tc := ⟨.hbm, 16, rfl⟩
abbrev main_v10 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![72], ![false]⟩

abbrev pre0 : Pipeline.Prefetch sig := ⟨2, ![main_v10.idx, main_arg1.idx], fun | 0 => main_v10.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S128.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S128) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x3584x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference3Ideal.lean ====
abbrev S128 : Shape := ⟨1, ![128]⟩
abbrev S1 : Shape := ⟨1, ![1]⟩
abbrev S36864x3584 : Shape := ⟨2, ![36864, 3584]⟩
abbrev S2x8x3584x1024 : Shape := ⟨4, ![2, 8, 3584, 1024]⟩
abbrev S1x8x3584x1024 : Shape := ⟨4, ![1, 8, 3584, 1024]⟩
abbrev S8x3584x1024 : Shape := ⟨3, ![8, 3584, 1024]⟩
abbrev S36864x8x1024 : Shape := ⟨3, ![36864, 8, 1024]⟩
abbrev S72 : Shape := ⟨1, ![72]⟩
abbrev S72x1 : Shape := ⟨2, ![72, 1]⟩
abbrev S8 : Shape := ⟨1, ![8]⟩
abbrev S1x8 : Shape := ⟨2, ![1, 8]⟩
abbrev S72x8 : Shape := ⟨2, ![72, 8]⟩
abbrev S72x512x8 : Shape := ⟨3, ![72, 512, 8]⟩
abbrev S36864x8 : Shape := ⟨2, ![36864, 8]⟩
abbrev S36864x8x1 : Shape := ⟨3, ![36864, 8, 1]⟩
abbrev S_ : Shape := ⟨0, ![]⟩
abbrev S36864x1024 : Shape := ⟨2, ![36864, 1024]⟩
abbrev S294912x128 : Shape := ⟨2, ![294912, 128]⟩

abbrev nBuf : Space → Nat
  | .hbm => 32
  | .vmem => 0
  | .smem => 0
  | _ => 0

abbrev bufTy : (tb : Table) → Fin (tcTables nBuf tb) → BufTy
  | .hbm, ⟨0, _⟩ => ⟨S128, .i32⟩
  | .hbm, ⟨1, _⟩ => ⟨S1, .i32⟩
  | .hbm, ⟨2, _⟩ => ⟨S36864x3584, .bf16⟩
  | .hbm, ⟨3, _⟩ => ⟨S2x8x3584x1024, .f32⟩
  | .hbm, ⟨4, _⟩ => ⟨S36864x3584, .f32⟩
  | .hbm, ⟨5, _⟩ => ⟨S1x8x3584x1024, .f32⟩
  | .hbm, ⟨6, _⟩ => ⟨S8x3584x1024, .f32⟩
  | .hbm, ⟨7, _⟩ => ⟨S36864x8x1024, .f32⟩
  | .hbm, ⟨8, _⟩ => ⟨S72, .i32⟩
  | .hbm, ⟨9, _⟩ => ⟨S72, .i32⟩
  | .hbm, ⟨10, _⟩ => ⟨S72x1, .i32⟩
  | .hbm, ⟨11, _⟩ => ⟨S8, .i32⟩
  | .hbm, ⟨12, _⟩ => ⟨S1x8, .i32⟩
  | .hbm, ⟨13, _⟩ => ⟨S72x8, .i32⟩
  | .hbm, ⟨14, _⟩ => ⟨S72x8, .i32⟩
  | .hbm, ⟨15, _⟩ => ⟨S72x8, .i1⟩
  | .hbm, ⟨16, _⟩ => ⟨S72, .i32⟩
  | .hbm, ⟨17, _⟩ => ⟨S72, .i1⟩
  | .hbm, ⟨18, _⟩ => ⟨S72x1, .i1⟩
  | .hbm, ⟨19, _⟩ => ⟨S72x8, .i1⟩
  | .hbm, ⟨20, _⟩ => ⟨S72x8, .i1⟩
  | .hbm, ⟨21, _⟩ => ⟨S72x512x8, .i1⟩
  | .hbm, ⟨22, _⟩ => ⟨S36864x8, .i1⟩
  | .hbm, ⟨23, _⟩ => ⟨S36864x8x1, .i1⟩
  | .hbm, ⟨24, _⟩ => ⟨S_, .f32⟩
  | .hbm, ⟨25, _⟩ => ⟨S_, .f32⟩
  | .hbm, ⟨26, _⟩ => ⟨S36864x8x1024, .i1⟩
  | .hbm, ⟨27, _⟩ => ⟨S36864x8x1024, .f32⟩
  | .hbm, ⟨28, _⟩ => ⟨S36864x8x1024, .f32⟩
  | .hbm, ⟨29, _⟩ => ⟨S_, .f32⟩
  | .hbm, ⟨30, _⟩ => ⟨S36864x1024, .f32⟩
  | .hbm, ⟨31, _⟩ => ⟨S294912x128, .f32⟩
  | _, _ => ⟨S128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v20 : Ref sig .tc := ⟨.hbm, 28, rfl⟩
abbrev main_cst_0 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel4.lean ====
abbrev S16384x512 : Shape := ⟨2, ![16384, 512]⟩
abbrev S4096x2048 : Shape := ⟨2, ![4096, 2048]⟩
abbrev S16384x1024 : Shape := ⟨2, ![16384, 1024]⟩
abbrev S4x1024x1024 : Shape := ⟨3, ![4, 1024, 1024]⟩
abbrev S4x1024 : Shape := ⟨2, ![4, 1024]⟩
abbrev S4x1x1024 : Shape := ⟨3, ![4, 1, 1024]⟩
abbrev S1024x512 : Shape := ⟨2, ![1024, 512]⟩
abbrev S256x2048 : Shape := ⟨2, ![256, 2048]⟩
abbrev S1024x1024 : Shape := ⟨2, ![1024, 1024]⟩
abbrev S1x1024x1024 : Shape := ⟨3, ![1, 1024, 1024]⟩
abbrev S1x1x1024 : Shape := ⟨3, ![1, 1, 1024]⟩
abbrev S4x1024x128 : Shape := ⟨3, ![4, 1024, 128]⟩
abbrev S256x128 : Shape := ⟨2, ![256, 128]⟩
abbrev S1x256x128 : Shape := ⟨3, ![1, 256, 128]⟩
abbrev S1x1024x128 : Shape := ⟨3, ![1, 1024, 128]⟩
abbrev S1024x128 : Shape := ⟨2, ![1024, 128]⟩
abbrev S512x1024 : Shape := ⟨2, ![512, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 8
  | .vmem => 14
  | .smem => 0
  | _ => 0

abbrev bufTy : (tb : Table) → Fin (tcTables nBuf tb) → BufTy
  | .hbm, ⟨0, _⟩ => ⟨S16384x512, .bf16⟩
  | .hbm, ⟨1, _⟩ => ⟨S4096x2048, .bf16⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S4x1x1024, .f32⟩
  | .hbm, ⟨6, _⟩ => ⟨S16384x1024, .f32⟩
  | .hbm, ⟨7, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S256x2048, .bf16⟩
  | .local _ .vmem, ⟨3, _⟩ => ⟨S256x2048, .bf16⟩
  | .local _ .vmem, ⟨4, _⟩ => ⟨S1024x1024, .f32⟩
  | .local _ .vmem, ⟨5, _⟩ => ⟨S1024x1024, .f32⟩
  | .local _ .vmem, ⟨6, _⟩ => ⟨S1x1024x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S4x1024x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S16384x512 : Shape := ⟨2, ![16384, 512]⟩
abbrev S4096x2048 : Shape := ⟨2, ![4096, 2048]⟩
abbrev S16384x1024 : Shape := ⟨2, ![16384, 1024]⟩
abbrev S4x1024x1024 : Shape := ⟨3, ![4, 1024, 1024]⟩
abbrev S4x1024 : Shape := ⟨2, ![4, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩

abbrev nBuf : Space → Nat
  | .hbm => 32
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S4096x2048, .bf16⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S16384x512, .f32⟩
  | .hbm, ⟨6, _⟩ => ⟨S4096x2048, .f32⟩
  | .hbm, ⟨7, _⟩ => ⟨S16384x512, .f32⟩
  | .hbm, ⟨8, _⟩ => ⟨S16384x1024, .f32⟩
  | .hbm, ⟨9, _⟩ => ⟨S1x1024x1024, .f32⟩
  | .hbm, ⟨10, _⟩ => ⟨S1024x1024, .f32⟩
  | .hbm, ⟨11, _⟩ => ⟨S16384x1024, .f32⟩
  | .hbm, ⟨12, _⟩ => ⟨S16384x1024, .f32⟩
  | .hbm, ⟨13, _⟩ => ⟨S1x1024, .f32⟩
  | .hbm, ⟨14, _⟩ => ⟨S1024, .f32⟩
  | .hbm, ⟨15, _⟩ => ⟨S16384x1024, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x1024, .f32⟩
  | .hbm, ⟨27, _⟩ => ⟨S16384x1024, .f32⟩
  | .hbm, ⟨28, _⟩ => ⟨S1x1024, .f32⟩
  | .hbm, ⟨29, _⟩ => ⟨S16384x1024, .f32⟩
  | .hbm, ⟨30, _⟩ => ⟨S16384x1024, .f32⟩
  | .hbm, ⟨31, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel5.lean ====
abbrev S16384x1024 : Shape := ⟨2, ![16384, 1024]⟩
abbrev S4x4096 : Shape := ⟨2, ![4, 4096]⟩
abbrev S4x1024 : Shape := ⟨2, ![4, 1024]⟩
abbrev S4x1024x1280 : Shape := ⟨3, ![4, 1024, 1280]⟩
abbrev S4x64 : Shape := ⟨2, ![4, 64]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S16384x48 : Shape := ⟨2, ![16384, 48]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S640 : Shape := ⟨1, ![640]⟩
abbrev S640x1 : Shape := ⟨2, ![640, 1]⟩
abbrev S128 : Shape := ⟨1, ![128]⟩
abbrev S1x128 : Shape := ⟨2, ![1, 128]⟩
abbrev S640x128 : Shape := ⟨2, ![640, 128]⟩
abbrev S128x640 : Shape := ⟨2, ![128, 640]⟩
abbrev S1x4x1x64 : Shape := ⟨4, ![1, 4, 1, 64]⟩
abbrev S1x4x8x64 : Shape := ⟨4, ![1, 4, 8, 64]⟩
abbrev S4x512 : Shape := ⟨2, ![4, 512]⟩
abbrev S1x4x2x64 : Shape := ⟨4, ![1, 4, 2, 64]⟩
abbrev S4x128 : Shape := ⟨2, ![4, 128]⟩
abbrev S4x640 : Shape := ⟨2, ![4, 640]⟩
abbrev S4x1x640 : Shape := ⟨3, ![4, 1, 640]⟩
abbrev S4x1x1024 : Shape := ⟨3, ![4, 1, 1024]⟩
abbrev S16384x512 : Shape := ⟨2, ![16384, 512]⟩
abbrev S1024x1024 : Shape := ⟨2, ![1024, 1024]⟩
abbrev S1x1x1024 : Shape := ⟨3, ![1, 1, 1024]⟩
abbrev S1x1024x1280 : Shape := ⟨3, ![1, 1024, 1280]⟩
abbrev S1x1x640 : Shape := ⟨3, ![1, 1, 640]⟩
abbrev S1024x128 : Shape := ⟨2, ![1024, 128]⟩
abbrev S1024x512 : Shape := ⟨2, ![1024, 512]⟩
abbrev S1024x1280 : Shape := ⟨2, ![1024, 1280]⟩
abbrev S1x1024 : Shape := ⟨2, ![1, 1024]⟩
abbrev S1024 : Shape := ⟨1, ![1024]⟩
abbrev S1024x1 : Shape := ⟨2, ![1024, 1]⟩
abbrev S1024x640 : Shape := ⟨2, ![1024, 640]⟩
abbrev S1x640 : Shape := ⟨2, ![1, 640]⟩

abbrev nBuf : Space → Nat
  | .hbm => 94
  | .vmem => 22
  | .smem => 0
  | _ => 0

abbrev bufTy : (tb : Table) → Fin (tcTables nBuf tb) → BufTy
  | .hbm, ⟨0, _⟩ => ⟨S16384x1024, .f32⟩
  | .hbm, ⟨1, _⟩ => ⟨S4x4096, .i32⟩
  | .hbm, ⟨2, _⟩ => ⟨S4x1024, .f32⟩
  | .hbm, ⟨3, _⟩ => ⟨S4x1024x1280, .f32⟩
  | .hbm, ⟨4, _⟩ => ⟨S4x64, .f32⟩
  | .hbm, ⟨5, _⟩ => ⟨S4x64, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S4x4096, .f32⟩
  | .hbm, ⟨21, _⟩ => ⟨S16384x1, .f32⟩
  | .hbm, ⟨22, _⟩ => ⟨S1x8, .f32⟩
  | .hbm, ⟨23, _⟩ => ⟨S16384x8, .f32⟩
  | .hbm, ⟨24, _⟩ => ⟨S16384x8, .f32⟩
  | .hbm, ⟨25, _⟩ => ⟨S16384x8, .f32⟩
  | .hbm, ⟨26, _⟩ => ⟨S16384x8, .f32⟩
  | .hbm, ⟨27, _⟩ => ⟨S16384x8, .f32⟩
  | .hbm, ⟨28, _⟩ => ⟨S_, .f32⟩
  | .hbm, ⟨29, _⟩ => ⟨S16384x48, .f32⟩
  | .hbm, ⟨30, _⟩ => ⟨S_, .f32⟩
  | .hbm, ⟨31, _⟩ => ⟨S16384x48, .f32⟩
  | .hbm, ⟨32, _⟩ => ⟨S_, .f32⟩
  | .hbm, ⟨33, _⟩ => ⟨S16384x8, .f32⟩
  | .hbm, ⟨34, _⟩ => ⟨S16384x64, .f32⟩
  | .hbm, ⟨35, _⟩ => ⟨S1x16384x1x64, .f32⟩
  | .hbm, ⟨36, _⟩ => ⟨S1x16384x2x64, .f32⟩
  | .hbm, ⟨37, _⟩ => ⟨S16384x128, .f32⟩
  | .hbm, ⟨38, _⟩ => ⟨S16384x64, .f32⟩
  | .hbm, ⟨39, _⟩ => ⟨S1x16384x1x64, .f32⟩
  | .hbm, ⟨40, _⟩ => ⟨S1x16384x2x64, .f32⟩
  | .hbm, ⟨41, _⟩ => ⟨S16384x128, .f32⟩
  | .hbm, ⟨42, _⟩ => ⟨S16384x8, .f32⟩
  | .hbm, ⟨43, _⟩ => ⟨S16384x64, .f32⟩
  | .hbm, ⟨44, _⟩ => ⟨S1x16384x1x64, .f32⟩
  | .hbm, ⟨45, _⟩ => ⟨S1x16384x2x64, .f32⟩
  | .hbm, ⟨46, _⟩ => ⟨S16384x128, .f32⟩
  | .hbm, ⟨47, _⟩ => ⟨S640, .i32⟩
  | .hbm, ⟨48, _⟩ => ⟨S_, .i32⟩
  | .hbm, ⟨49, _⟩ => ⟨S_, .i32⟩
  | .hbm, ⟨50, _⟩ => ⟨S640, .i32⟩
  | .hbm, ⟨51, _⟩ => ⟨S640, .i32⟩
  | .hbm, ⟨52, _⟩ => ⟨S640, .i32⟩
  | .hbm, ⟨53, _⟩ => ⟨S_, .i32⟩
  | .hbm, ⟨54, _⟩ => ⟨S640, .i32⟩
  | .hbm, ⟨55, _⟩ => ⟨S640, .i1⟩
  | .hbm, ⟨56, _⟩ => ⟨S640, .i32⟩
  | .hbm, ⟨57, _⟩ => ⟨S640, .i32⟩
  | .hbm, ⟨58, _⟩ => ⟨S_, .i32⟩
  | .hbm, ⟨59, _⟩ => ⟨S640, .i32⟩
  | .hbm, ⟨60, _⟩ => ⟨S640, .i1⟩
  | .hbm, ⟨61, _⟩ => ⟨S640, .i1⟩
  | .hbm, ⟨62, _⟩ => ⟨S_, .i32⟩
  | .hbm, ⟨63, _⟩ => ⟨S640, .i32⟩
  | .hbm, ⟨64, _⟩ => ⟨S640, .i32⟩
  | .hbm, ⟨65, _⟩ => ⟨S640, .i32⟩
  | .hbm, ⟨66, _⟩ => ⟨S640x1, .i32⟩
  | .hbm, ⟨67, _⟩ => ⟨S128, .i32⟩
  | .hbm, ⟨68, _⟩ => ⟨S1x128, .i32⟩
  | .hbm, ⟨69, _⟩ => ⟨S640x128, .i32⟩
  | .hbm, ⟨70, _⟩ => ⟨S640x128, .i32⟩
  | .hbm, ⟨71, _⟩ => ⟨S640x128, .i1⟩
  | .hbm, ⟨72, _⟩ => ⟨S640x128, .bf16⟩
  | .hbm, ⟨73, _⟩ => ⟨S_, .bf16⟩
  | .hbm, ⟨74, _⟩ => ⟨S640x128, .bf16⟩
  | .hbm, ⟨75, _⟩ => ⟨S640x128, .bf16⟩
  | .hbm, ⟨76, _⟩ => ⟨S128x640, .i1⟩
  | .hbm, ⟨77, _⟩ => ⟨S128x640, .bf16⟩
  | .hbm, ⟨78, _⟩ => ⟨S1x4x1x64, .f32⟩
  | .hbm, ⟨79, _⟩ => ⟨S1x4x8x64, .f32⟩
  | .hbm, ⟨80, _⟩ => ⟨S4x512, .f32⟩
  | .hbm, ⟨81, _⟩ => ⟨S_, .f32⟩
  | .hbm, ⟨82, _⟩ => ⟨S4x512, .f32⟩
  | .hbm, ⟨83, _⟩ => ⟨S4x512, .f32⟩
  | .hbm, ⟨84, _⟩ => ⟨S1x4x1x64, .f32⟩
  | .hbm, ⟨85, _⟩ => ⟨S1x4x2x64, .f32⟩
  | .hbm, ⟨86, _⟩ => ⟨S4x128, .f32⟩
  | .hbm, ⟨87, _⟩ => ⟨S4x640, .f32⟩
  | .hbm, ⟨88, _⟩ => ⟨S4x1x640, .f32⟩
  | .hbm, ⟨89, _⟩ => ⟨S4x1x1024, .f32⟩
  | .hbm, ⟨90, _⟩ => ⟨S16384x512, .bf16⟩
  | .hbm, ⟨91, _⟩ => ⟨S16384x128, .bf16⟩
  | .hbm, ⟨92, _⟩ => ⟨S16384x128, .bf16⟩
  | .hbm, ⟨93, _⟩ => ⟨S16384x512, .bf16⟩
  | .local _ .vmem, ⟨0, _⟩ => ⟨S1024x1024, .f32⟩
  | .local _ .vmem, ⟨1, _⟩ => ⟨S1024x1024, .f32⟩
  | .local _ .vmem, ⟨2, _⟩ => ⟨S1x1x1024, .f32⟩
  | .local _ .vmem, ⟨3, _⟩ => ⟨S1x1024x1280, .f32⟩
  | .local _ .vmem, ⟨4, _⟩ => ⟨S640x128, .bf16⟩
  | .local _ .vmem, ⟨5, _⟩ => ⟨S128x640, .bf16⟩
  | .local _ .vmem, ⟨6, _⟩ => ⟨S1x1x640, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x512, .bf16⟩
  | .local _ .vmem, ⟨14, _⟩ => ⟨S1024x512, .bf16⟩
  | .local _ .vmem, ⟨15, _⟩ => ⟨S1024x128, .bf16⟩
  | .local _ .vmem, ⟨16, _⟩ => ⟨S1024x128, .bf16⟩
  | .local _ .vmem, ⟨17, _⟩ => ⟨S1024x128, .bf16⟩
  | .local _ .vmem, ⟨18, _⟩ => ⟨S1024x128, .bf16⟩
  | .local _ .vmem, ⟨19, _⟩ => ⟨S1024x512, .bf16⟩
  | .local _ .vmem, ⟨20, _⟩ => ⟨S1024x512, .bf16⟩
  | .local _ .vmem, ⟨21, _⟩ => ⟨S1024x1280, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_c : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_c : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_0 : Ref sig .tc := ⟨.hbm, 62, rfl⟩
abbrev main_call0_v12 : Ref sig .tc := ⟨.hbm, 63, rfl⟩
abbrev main_call0_v13 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_6 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_7 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58_0 : Ref sig .tc := ⟨.hbm, 90, rfl⟩
abbrev main_v58_1 : Ref sig .tc := ⟨.hbm, 91, rfl⟩
abbrev main_v58_2 : Ref sig .tc := ⟨.hbm, 92, rfl⟩
abbrev main_v58_3 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024x1280 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S640x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x640 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1024x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1024x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference5Ideal.lean ====
abbrev S16384x1024 : Shape := ⟨2, ![16384, 1024]⟩
abbrev S4x4096 : Shape := ⟨2, ![4, 4096]⟩
abbrev S4x1024 : Shape := ⟨2, ![4, 1024]⟩
abbrev S4x1024x1280 : Shape := ⟨3, ![4, 1024, 1280]⟩
abbrev S4x64 : Shape := ⟨2, ![4, 64]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024x1280 : Shape := ⟨3, ![1, 1024, 1280]⟩
abbrev S1024x1280 : Shape := ⟨2, ![1024, 1280]⟩
abbrev S16384x1280 : Shape := ⟨2, ![16384, 1280]⟩
abbrev S16384x128 : Shape := ⟨2, ![16384, 128]⟩
abbrev S16384x512 : Shape := ⟨2, ![16384, 512]⟩

abbrev nBuf : Space → Nat
  | .hbm => 31
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x4096, .i32⟩
  | .hbm, ⟨2, _⟩ => ⟨S4x1024, .f32⟩
  | .hbm, ⟨3, _⟩ => ⟨S4x1024x1280, .f32⟩
  | .hbm, ⟨4, _⟩ => ⟨S4x64, .f32⟩
  | .hbm, ⟨5, _⟩ => ⟨S4x64, .f32⟩
  | .hbm, ⟨6, _⟩ => ⟨S1x1024, .f32⟩
  | .hbm, ⟨7, _⟩ => ⟨S1024, .f32⟩
  | .hbm, ⟨8, _⟩ => ⟨S16384x1024, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S1x1024, .f32⟩
  | .hbm, ⟨22, _⟩ => ⟨S16384x1024, .f32⟩
  | .hbm, ⟨23, _⟩ => ⟨S16384x1024, .f32⟩
  | .hbm, ⟨24, _⟩ => ⟨S1x1024x1280, .f32⟩
  | .hbm, ⟨25, _⟩ => ⟨S1024x1280, .f32⟩
  | .hbm, ⟨26, _⟩ => ⟨S16384x1280, .f32⟩
  | .hbm, ⟨27, _⟩ => ⟨S16384x128, .f32⟩
  | .hbm, ⟨28, _⟩ => ⟨S16384x128, .bf16⟩
  | .hbm, ⟨29, _⟩ => ⟨S16384x512, .f32⟩
  | .hbm, ⟨30, _⟩ => ⟨S16384x512, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel6.lean ====
abbrev S16384x512 : Shape := ⟨2, ![16384, 512]⟩
abbrev S4096x2048 : Shape := ⟨2, ![4096, 2048]⟩
abbrev S16384x1024 : Shape := ⟨2, ![16384, 1024]⟩
abbrev S4x1024x1024 : Shape := ⟨3, ![4, 1024, 1024]⟩
abbrev S4x1024 : Shape := ⟨2, ![4, 1024]⟩
abbrev S2x1024x8 : Shape := ⟨3, ![2, 1024, 8]⟩
abbrev S1024 : Shape := ⟨1, ![1024]⟩
abbrev S1x1024 : Shape := ⟨2, ![1, 1024]⟩
abbrev S1024x1 : Shape := ⟨2, ![1024, 1]⟩
abbrev S1024x1024 : Shape := ⟨2, ![1024, 1024]⟩
abbrev S_ : Shape := ⟨0, ![]⟩
abbrev S2x1024x128 : Shape := ⟨3, ![2, 1024, 128]⟩
abbrev S4x1x1024 : Shape := ⟨3, ![4, 1, 1024]⟩
abbrev S131072x128 : Shape := ⟨2, ![131072, 128]⟩
abbrev S16384x128 : Shape := ⟨2, ![16384, 128]⟩
abbrev S1x128 : Shape := ⟨2, ![1, 128]⟩
abbrev S1024x512 : Shape := ⟨2, ![1024, 512]⟩
abbrev S256x2048 : Shape := ⟨2, ![256, 2048]⟩
abbrev S1x1024x1024 : Shape := ⟨3, ![1, 1024, 1024]⟩
abbrev S1x1x1024 : Shape := ⟨3, ![1, 1, 1024]⟩
abbrev S1x1024x128 : Shape := ⟨3, ![1, 1024, 128]⟩
abbrev S8192x128 : Shape := ⟨2, ![8192, 128]⟩
abbrev S1024x128 : Shape := ⟨2, ![1024, 128]⟩
abbrev S4x1024x128 : Shape := ⟨3, ![4, 1024, 128]⟩
abbrev S1024x256 : Shape := ⟨2, ![1024, 256]⟩
abbrev S256x128 : Shape := ⟨2, ![256, 128]⟩
abbrev S1x256x128 : Shape := ⟨3, ![1, 256, 128]⟩
abbrev S512x1024 : Shape := ⟨2, ![512, 1024]⟩
abbrev S128 : Shape := ⟨1, ![128]⟩

abbrev nBuf : Space → Nat
  | .hbm => 22
  | .vmem => 24
  | .smem => 0
  | _ => 0

abbrev bufTy : (tb : Table) → Fin (tcTables nBuf tb) → BufTy
  | .hbm, ⟨0, _⟩ => ⟨S16384x512, .bf16⟩
  | .hbm, ⟨1, _⟩ => ⟨S4096x2048, .bf16⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S2x1024x8, .f32⟩
  | .hbm, ⟨6, _⟩ => ⟨S1024, .i32⟩
  | .hbm, ⟨7, _⟩ => ⟨S1x1024, .i32⟩
  | .hbm, ⟨8, _⟩ => ⟨S1024x1, .i32⟩
  | .hbm, ⟨9, _⟩ => ⟨S1024x1024, .i32⟩
  | .hbm, ⟨10, _⟩ => ⟨S1024x1024, .i32⟩
  | .hbm, ⟨11, _⟩ => ⟨S1024x1024, .i1⟩
  | .hbm, ⟨12, _⟩ => ⟨S1024x1024, .bf16⟩
  | .hbm, ⟨13, _⟩ => ⟨S_, .i32⟩
  | .hbm, ⟨14, _⟩ => ⟨S_, .f32⟩
  | .hbm, ⟨15, _⟩ => ⟨S2x1024x128, .f32⟩
  | .hbm, ⟨16, _⟩ => ⟨S4x1x1024, .f32⟩
  | .hbm, ⟨17, _⟩ => ⟨S16384x1024, .f32⟩
  | .hbm, ⟨18, _⟩ => ⟨S131072x128, .bf16⟩
  | .hbm, ⟨19, _⟩ => ⟨S16384x128, .f32⟩
  | .hbm, ⟨20, _⟩ => ⟨S16384x128, .f32⟩
  | .hbm, ⟨21, _⟩ => ⟨S1x128, .f32⟩
  | .local _ .vmem, ⟨0, _⟩ => ⟨S1024x512, .bf16⟩
  | .local _ .vmem, ⟨1, _⟩ => ⟨S1024x512, .bf16⟩
  | .local _ .vmem, ⟨2, _⟩ => ⟨S256x2048, .bf16⟩
  | .local _ .vmem, ⟨3, _⟩ => ⟨S256x2048, .bf16⟩
  | .local _ .vmem, ⟨4, _⟩ => ⟨S1024x1024, .f32⟩
  | .local _ .vmem, ⟨5, _⟩ => ⟨S1024x1024, .f32⟩
  | .local _ .vmem, ⟨6, _⟩ => ⟨S1x1024x1024, .f32⟩
  | .local _ .vmem, ⟨7, _⟩ => ⟨S1x1x1024, .f32⟩
  | .local _ .vmem, ⟨8, _⟩ => ⟨S1x1024x128, .f32⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S8192x128, .bf16⟩
  | .local _ .vmem, ⟨13, _⟩ => ⟨S8192x128, .bf16⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S1x128, .f32⟩
  | .local _ .vmem, ⟨19, _⟩ => ⟨S1024x1024, .bf16⟩
  | .local _ .vmem, ⟨20, _⟩ => ⟨S4x1024x128, .f32⟩
  | .local _ .vmem, ⟨21, _⟩ => ⟨S1024x256, .bf16⟩
  | .local _ .vmem, ⟨22, _⟩ => ⟨S8192x128, .f32⟩
  | .local _ .vmem, ⟨23, _⟩ => ⟨S1x128, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8192x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference6Ideal.lean ====
abbrev S16384x512 : Shape := ⟨2, ![16384, 512]⟩
abbrev S4096x2048 : Shape := ⟨2, ![4096, 2048]⟩
abbrev S16384x1024 : Shape := ⟨2, ![16384, 1024]⟩
abbrev S4x1024x1024 : Shape := ⟨3, ![4, 1024, 1024]⟩
abbrev S4x1024 : Shape := ⟨2, ![4, 1024]⟩
abbrev S2x1024x8 : Shape := ⟨3, ![2, 1024, 8]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S131072x128 : Shape := ⟨2, ![131072, 128]⟩

abbrev nBuf : Space → Nat
  | .hbm => 34
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S4096x2048, .bf16⟩
  | .hbm, ⟨2, _⟩ => ⟨S16384x1024, .f32⟩
  | .hbm, ⟨3, _⟩ => ⟨S4x1024x1024, .f32⟩
  | .hbm, ⟨4, _⟩ => ⟨S4x1024, .f32⟩
  | .hbm, ⟨5, _⟩ => ⟨S2x1024x8, .f32⟩
  | .hbm, ⟨6, _⟩ => ⟨S16384x512, .f32⟩
  | .hbm, ⟨7, _⟩ => ⟨S4096x2048, .f32⟩
  | .hbm, ⟨8, _⟩ => ⟨S16384x512, .f32⟩
  | .hbm, ⟨9, _⟩ => ⟨S16384x1024, .f32⟩
  | .hbm, ⟨10, _⟩ => ⟨S1x1024x1024, .f32⟩
  | .hbm, ⟨11, _⟩ => ⟨S1024x1024, .f32⟩
  | .hbm, ⟨12, _⟩ => ⟨S16384x1024, .f32⟩
  | .hbm, ⟨13, _⟩ => ⟨S16384x1024, .f32⟩
  | .hbm, ⟨14, _⟩ => ⟨S1x1024, .f32⟩
  | .hbm, ⟨15, _⟩ => ⟨S1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S16384x1024, .bf16⟩
  | .hbm, ⟨33, _⟩ => ⟨S131072x128, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== Proof.Tile.lean ====
module

public import proofs.«01_k».proof.Proof.Gen.KernelIdeal.Frame.Runs
public import Idealize.ShloMosaic.Lib.Pipeline.ReadBack

@[expose] public section

noncomputable section

/-! # One trip of the attention kernel's loop, as one function of its loads

`headOut` is one head's attention over the window of 384 keys, `tile` the 128 rows a trip stores:
the eight heads side by side, then the norm. `trip_eq_tile` says that the pieces the trip's run found
for the result's block are the one rectangle of the trip's rows, holding `tile` of the trip's loads. -/

namespace Cert.KernelIdeal.Gen

open Idealize.ShloMosaic Idealize.ShloMosaic.TcCoe Idealize.ShloMosaic.Tactic
open Idealize.SL Idealize.SL.Sem

variable {F : FTy → Type} [FloatOps F]

/-- One head's masked scores, as they go through the scratch. -/
def headScores (mask : IVec S128x384 1) (qh : FVec F S128x64 .bf16) (kh : FVec F S384x64 .bf16) : FVec F S128x384 .f32 :=
  shapeCast S128x384 (shapeCast S1x1x128x384
    (select mask (matmul dot_S128x64_S384x64_S128x384_1_1_0_0_n_n none qh kh (constant S128x384 .f32 0x00000000#32))
      (broadcast S128x384 (Scalar.ofBits .f32 0xFF800000#32 : F .f32))) shapeCasts_S128x384_S1x1x128x384) shapeCasts_S1x1x128x384_S128x384

/-- One head's row maximum, the sink included. -/
def headMax (sc : FVec F S128x384 .f32) (s : F .f32) : FVec F S128x1 .f32 :=
  maximumf (shapeCast S128x1 (multiReduction .maximumf [1] S128 sc 0xFF800000#32 reduces_S128x384_S128 (.inl rfl) rfl) shapeCasts_S128_S128x1)
    (broadcast S128x1 s)

/-- One head's exponentials. -/
def headExp (sc : FVec F S128x384 .f32) (m : FVec F S128x1 .f32) : FVec F S128x384 .f32 :=
  exp (subf sc (broadcastTo S128x384 m broadcasts_S128x1_S128x384))

/-- One head's reciprocal denominator. -/
def headInv (p : FVec F S128x384 .f32) (m : FVec F S128x1 .f32) (s : F .f32) : FVec F S128x1 .f32 :=
  divf (broadcast S128x1 (Scalar.ofBits .f32 0x3F800000#32 : F .f32))
    (addf (shapeCast S128x1 (multiReduction .add [1] S128 p 0x00000000#32 reduces_S128x384_S128 (.inl rfl) rfl) shapeCasts_S128_S128x1)
      (exp (subf (broadcast S128x1 s) m)))

/-- One head's output from its exponentials. -/
def headMix (p : FVec F S128x384 .f32) (inv : FVec F S128x1 .f32) (vh : FVec F S384x64 .bf16) : FVec F S128x64 .f32 :=
  mulf (matmul dot_S128x384_S384x64_S128x64_1_0_0_1_n_n none
      (shapeCast S128x384 (shapeCast S1x1x128x384 (truncf .bf16 p bitsLt_bf16_f32) shapeCasts_S128x384_S1x1x128x384) shapeCasts_S1x1x128x384_S128x384)
      vh (constant S128x64 .f32 0x00000000#32))
    (broadcastTo S128x64 inv broadcasts_S128x1_S128x64)

/-- One head. -/
def headOut (mask : IVec S128x384 1) (qh : FVec F S128x64 .bf16) (kh vh : FVec F S384x64 .bf16) (s : F .f32) : FVec F S128x64 .f32 :=
  headMix (headExp (headScores mask qh kh) (headMax (headScores mask qh kh) s))
    (headInv (headExp (headScores mask qh kh) (headMax (headScores mask qh kh) s)) (headMax (headScores mask qh kh) s) s) vh

/-- The heads side by side. -/
def heads (mask : IVec S128x384 1) (q : FVec F S128x512 .bf16) (k v : FVec F S384x128 .bf16) (s : Fin 8 → F .f32) : FVec F S128x512 .f32 :=
  concatenate S128x512 1 [
    ⟨S128x64, headOut mask (extractStridedSlice S128x64 ![0, 0] q slices_S128x512_o0_0_S128x64) (extractStridedSlice S384x64 ![0, 0] k slices_S384x128_o0_0_S384x64) (extractStridedSlice S384x64 ![0, 0] v slices_S384x128_o0_0_S384x64) (s 0)⟩,
    ⟨S128x64, headOut mask (extractStridedSlice S128x64 ![0, 64] q slices_S128x512_o0_64_S128x64) (extractStridedSlice S384x64 ![0, 0] k slices_S384x128_o0_0_S384x64) (extractStridedSlice S384x64 ![0, 0] v slices_S384x128_o0_0_S384x64) (s 1)⟩,
    ⟨S128x64, headOut mask (extractStridedSlice S128x64 ![0, 128] q slices_S128x512_o0_128_S128x64) (extractStridedSlice S384x64 ![0, 0] k slices_S384x128_o0_0_S384x64) (extractStridedSlice S384x64 ![0, 0] v slices_S384x128_o0_0_S384x64) (s 2)⟩,
    ⟨S128x64, headOut mask (extractStridedSlice S128x64 ![0, 192] q slices_S128x512_o0_192_S128x64) (extractStridedSlice S384x64 ![0, 0] k slices_S384x128_o0_0_S384x64) (extractStridedSlice S384x64 ![0, 0] v slices_S384x128_o0_0_S384x64) (s 3)⟩,
    ⟨S128x64, headOut mask (extractStridedSlice S128x64 ![0, 256] q slices_S128x512_o0_256_S128x64) (extractStridedSlice S384x64 ![0, 64] k slices_S384x128_o0_64_S384x64) (extractStridedSlice S384x64 ![0, 64] v slices_S384x128_o0_64_S384x64) (s 4)⟩,
    ⟨S128x64, headOut mask (extractStridedSlice S128x64 ![0, 320] q slices_S128x512_o0_320_S128x64) (extractStridedSlice S384x64 ![0, 64] k slices_S384x128_o0_64_S384x64) (extractStridedSlice S384x64 ![0, 64] v slices_S384x128_o0_64_S384x64) (s 5)⟩,
    ⟨S128x64, headOut mask (extractStridedSlice S128x64 ![0, 384] q slices_S128x512_o0_384_S128x64) (extractStridedSlice S384x64 ![0, 64] k slices_S384x128_o0_64_S384x64) (extractStridedSlice S384x64 ![0, 64] v slices_S384x128_o0_64_S384x64) (s 6)⟩,
    ⟨S128x64, headOut mask (extractStridedSlice S128x64 ![0, 448] q slices_S128x512_o0_448_S128x64) (extractStridedSlice S384x64 ![0, 64] k slices_S384x128_o0_64_S384x64) (extractStridedSlice S384x64 ![0, 64] v slices_S384x128_o0_64_S384x64) (s 7)⟩]
    concatenates_S128x64_S128x64_S128x64_S128x64_S128x64_S128x64_S128x64_S128x64_S128x512_d1

/-- The norm of the rows, by the gain. -/
def normed (a : FVec F S128x512 .f32) (g : FVec F S1x512 .f32) : FVec F S128x512 .f32 :=
  mulf (mulf a (broadcastTo S128x512 (rsqrt (addf (divf
      (shapeCast S128x1 (multiReduction .add [1] S128 (mulf a a) 0x00000000#32 reduces_S128x512_S128 (.inl rfl) rfl) shapeCasts_S128_S128x1)
      (broadcast S128x1 (Scalar.ofBits .f32 0x44000000#32 : F .f32))) (broadcast S128x1 (Scalar.ofBits .f32 0x358637BD#32 : F .f32))))
      broadcasts_S128x1_S128x512)) (broadcastTo S128x512 g broadcasts_S1x512_S128x512)

/-- The rows a trip stores, from what it loads. -/
def tile (mask : IVec S128x384 1) (g : Vec F S1x1x512 .f32) (q : Vec F S1x128x512 .bf16) (k v : Vec F S1x384x128 .bf16) (s : Fin 8 → F .f32) :
    Vec F S1x128x512 .bf16 :=
  shapeCast S1x128x512 (truncf .bf16 (normed
    (heads mask (shapeCast S128x512 q shapeCasts_S1x128x512_S128x512) (shapeCast S384x128 k shapeCasts_S1x384x128_S384x128)
      (shapeCast S384x128 v shapeCasts_S1x384x128_S384x128) s)
    (shapeCast S1x512 g shapeCasts_S1x1x512_S1x512)) bitsLt_bf16_f32) shapeCasts_S128x512_S1x128x512

/-- The sinks of layer 0, as the kernel reads them from the table. -/
def sinkAt (arg2 : Memref sig .tc .smem S4x8 .f32) (X2 : BufTy.Contents (Elt F) arg2.view.ty) : Fin 8 → F .f32 :=
  ![
    View.readAt (Elt F) arg2.view (Rect.unit (s := S4x8) ![0, 0] S1x1.size inb_S4x8_S1x1_0_0).toLoadRect X2 (Shape.Idx.first (numel1_S1x1.symm ▸ Nat.one_pos)),
    View.readAt (Elt F) arg2.view (Rect.unit (s := S4x8) ![0, 1] S1x1.size inb_S4x8_S1x1_0_1).toLoadRect X2 (Shape.Idx.first (numel1_S1x1.symm ▸ Nat.one_pos)),
    View.readAt (Elt F) arg2.view (Rect.unit (s := S4x8) ![0, 2] S1x1.size inb_S4x8_S1x1_0_2).toLoadRect X2 (Shape.Idx.first (numel1_S1x1.symm ▸ Nat.one_pos)),
    View.readAt (Elt F) arg2.view (Rect.unit (s := S4x8) ![0, 3] S1x1.size inb_S4x8_S1x1_0_3).toLoadRect X2 (Shape.Idx.first (numel1_S1x1.symm ▸ Nat.one_pos)),
    View.readAt (Elt F) arg2.view (Rect.unit (s := S4x8) ![0, 4] S1x1.size inb_S4x8_S1x1_0_4).toLoadRect X2 (Shape.Idx.first (numel1_S1x1.symm ▸ Nat.one_pos)),
    View.readAt (Elt F) arg2.view (Rect.unit (s := S4x8) ![0, 5] S1x1.size inb_S4x8_S1x1_0_5).toLoadRect X2 (Shape.Idx.first (numel1_S1x1.symm ▸ Nat.one_pos)),
    View.readAt (Elt F) arg2.view (Rect.unit (s := S4x8) ![0, 6] S1x1.size inb_S4x8_S1x1_0_6).toLoadRect X2 (Shape.Idx.first (numel1_S1x1.symm ▸ Nat.one_pos)),
    View.readAt (Elt F) arg2.view (Rect.unit (s := S4x8) ![0, 7] S1x1.size inb_S4x8_S1x1_0_7).toLoadRect X2 (Shape.Idx.first (numel1_S1x1.symm ▸ Nat.one_pos))]

/-- What trip `k` stores. -/
def tripTile (i : grid0.Coords) (arg2 : Memref sig .tc .smem S4x8 .f32) (arg3 : Memref sig .tc .vmem S1x1024x512 .bf16) (arg4 arg5 : Memref sig .tc .vmem S1x4096x128 .bf16)
    (v0 : BitVec 32) (v1 : Vec F S1x1x512 .f32)
    (X2 : BufTy.Contents (Elt F) arg2.view.ty) (X3 : BufTy.Contents (Elt F) arg3.view.ty) (X4 : BufTy.Contents (Elt F) arg4.view.ty) (X5 : BufTy.Contents (Elt F) arg5.view.ty)
    (k : Fin k0_t1_loop.trips) : Vec F S1x128x512 .bf16 :=
  tile (k0_pay4 v0 0#32 1#32 k) v1
    (View.readAt (Elt F) arg3.view (Rect.unit (s := S1x1024x512) (k0_off2 k) S1x128x512.size (k0_off2_inb k)).toLoadRect X3)
    (View.readAt (Elt F) arg4.view (Rect.unit (s := S1x4096x128) (k0_off1 i k) S1x384x128.size (k0_off1_inb i k)).toLoadRect X4)
    (View.readAt (Elt F) arg5.view (Rect.unit (s := S1x4096x128) (k0_off1 i k) S1x384x128.size (k0_off1_inb i k)).toLoadRect X5)
    (sinkAt arg2 X2)

set_option maxRecDepth 8192 in
set_option maxHeartbeats 4000000 in
/-- THE TRIP's pieces for the result's block. -/
theorem trip_eq_tile (𝒱 : Variants) (c : Dev nD) (bd : Option 𝒱.V) (i : grid0.Coords) (arg2 : Memref sig .tc .smem S4x8 .f32) (harg2 : arg2.IsWhole) (arg3 : Memref sig .tc .vmem S1x1024x512 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1x8x128x384 .f32) (harg8 : arg8.IsWhole) (arg9 : Memref sig .tc .vmem S1x8x128x384 .bf16) (harg9 : arg9.IsWhole) (v0 : BitVec 32) (v1 : Vec F S1x1x512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (k : Fin k0_t1_loop.trips)
  (f7 : BufTy.Contents (Elt F) arg7.view.ty) (f8 : BufTy.Contents (Elt F) arg8.view.ty) (f9 : BufTy.Contents (Elt F) arg9.view.ty) :
  (trip_k0_t1 (F := F) 𝒱 c bd i arg2 harg2 arg3 harg3 arg4 harg4 arg5 harg5 arg6 harg6 arg7 harg7 arg8 harg8 arg9 harg9 v0 v1 X_arg2 X_arg3 X_arg4 X_arg5 k).1 f7 f8 f9 = [⟨Rect.unit (s := S1x1024x512) (k0_off2 k) S1x128x512.size (k0_off2_inb k), tripTile i arg2 arg3 arg4 arg5 v0 v1 X_arg2 X_arg3 X_arg4 X_arg5 k⟩] := by
  unfold trip_k0_t1
  dsimp only
  sl_unfold_run_names
  simp (disch := decide) only [↓ View.readCov_skip, ↓ View.readCov_cons_toLoadRect, ↓ View.readCov_fill]
  rfl

/-- The pieces of the trips before `n`, last first. -/
def pieces (i : grid0.Coords) (arg2 : Memref sig .tc .smem S4x8 .f32) (arg3 : Memref sig .tc .vmem S1x1024x512 .bf16) (arg4 arg5 : Memref sig .tc .vmem S1x4096x128 .bf16)
    (v0 : BitVec 32) (v1 : Vec F S1x1x512 .f32)
    (X2 : BufTy.Contents (Elt F) arg2.view.ty) (X3 : BufTy.Contents (Elt F) arg3.view.ty) (X4 : BufTy.Contents (Elt F) arg4.view.ty) (X5 : BufTy.Contents (Elt F) arg5.view.ty) :
    ℕ → List (View.Piece (Elt F) S1x1024x512 .bf16)
  | 0 => []
  | n + 1 => if h : n < k0_t1_loop.trips then
      ⟨Rect.unit (s := S1x1024x512) (k0_off2 ⟨n, h⟩) S1x128x512.size (k0_off2_inb ⟨n, h⟩), tripTile i arg2 arg3 arg4 arg5 v0 v1 X2 X3 X4 X5 ⟨n, h⟩⟩
        :: pieces i arg2 arg3 arg4 arg5 v0 v1 X2 X3 X4 X5 n
    else pieces i arg2 arg3 arg4 arg5 v0 v1 X2 X3 X4 X5 n

/-- The loop's pieces for the result's block are those of its trips, whatever the scratch held. -/
theorem pb_fst (𝒱 : Variants) (c : Dev nD) (bd : Option 𝒱.V) (i : grid0.Coords) (arg2 : Memref sig .tc .smem S4x8 .f32) (harg2 : arg2.IsWhole) (arg3 : Memref sig .tc .vmem S1x1024x512 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1x8x128x384 .f32) (harg8 : arg8.IsWhole) (arg9 : Memref sig .tc .vmem S1x8x128x384 .bf16) (harg9 : arg9.IsWhole) (v0 : BitVec 32) (v1 : Vec F S1x1x512 .f32) (X_arg2 : BufTy.Contents (Elt F) arg2.view.ty) (X_arg3 : BufTy.Contents (Elt F) arg3.view.ty) (X_arg4 : BufTy.Contents (Elt F) arg4.view.ty) (X_arg5 : BufTy.Contents (Elt F) arg5.view.ty)
    (G7 : BufTy.Contents (Elt F) arg7.view.ty) (G8 : BufTy.Contents (Elt F) arg8.view.ty) (G9 : BufTy.Contents (Elt F) arg9.view.ty) (n : ℕ) :
    (pb_k0_t1 (F := F) 𝒱 c bd i arg2 harg2 arg3 harg3 arg4 harg4 arg5 harg5 arg6 harg6 arg7 harg7 arg8 harg8 arg9 harg9 v0 v1 X_arg2 X_arg3 X_arg4 X_arg5 G7 G8 G9 n).1 = pieces i arg2 arg3 arg4 arg5 v0 v1 X_arg2 X_arg3 X_arg4 X_arg5 n := by
  induction n with
  | zero => rfl
  | succ n ih =>
    by_cases h : n < k0_t1_loop.trips
    · have e := congrArg Prod.fst (pb_k0_t1_succ (F := F) 𝒱 c bd i arg2 harg2 arg3 harg3 arg4 harg4 arg5 harg5 arg6 harg6 arg7 harg7 arg8 harg8 arg9 harg9 v0 v1 X_arg2 X_arg3 X_arg4 X_arg5 G7 G8 G9 ⟨n, h⟩)
      refine e.trans ?_
      dsimp only
      rw [trip_eq_tile, ih, pieces, dif_pos h]
      rfl
    · rw [pb_k0_t1.eq_2, pieces, dif_neg h]
      unfold pb_k0_t1Step
      rw [dif_neg h, ih]

end Cert.KernelIdeal.Gen

end
-- ==== Proof.RunA.lean ====
module

public import proofs.«01_k».proof.Proof.Gen.KernelIdeal.Frame.Runs
public import proofs.«01_k».proof.Proof.Tile

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg2 : Memref sig .tc .smem S4x8 .f32) (harg2 : arg2.IsWhole) (arg3 : Memref sig .tc .vmem S1x1024x512 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1x8x128x384 .f32) (harg8 : arg8.IsWhole) (arg9 : Memref sig .tc .vmem S1x8x128x384 .bf16) (harg9 : arg9.IsWhole)
    (x0 : Vec F S4x8 .f32) (x1 : Vec F S1x1024x512 .bf16) (x2 : Vec F S1x4096x128 .bf16) (x3 : Vec F S1x4096x128 .bf16) (x4 : Vec F S1x1x512 .f32) :
    { L5 : List (View.Piece (Elt F) S1x1024x512 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ d, owns (c : Thread nD τ) arg8 fullShare d) ∗ (∃ d, owns (c : Thread nD τ) arg9 fullShare d)) -∗ K ⟨⟩))
          ⊢ wp frame (wpE (defs₀ (F := F)) Variants.none c none) E (cc0_band_attn i arg2 harg2 arg3 harg3 arg4 harg4 arg5 harg5 arg6 harg6 arg7 harg7 arg8 harg8 arg9 harg9) K } := by
  refine ⟨?_, fun E K => ?run⟩
  case run =>
    simp only [cc0_band_attn_eq_skeleton]; unfold cc0_band_attn_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4
    sl_exec
    sl_step
    simp only [pb_fst]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [HS0]
    · iexists _, _; isplitr; swap; · iexact HS0
      ipureintro; rfl
    iexists _, _; isplitr; swap; · iexact HS1
    ipureintro; rfl

end Cert.KernelIdeal.Gen

end
-- ==== Proof.KFrame.lean ====
module

public import proofs.«01_k».proof.Proof.RunA
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 5 tile its block (8 stores of `S1x128x512`, checked by the kernel's evaluation: Lib/Ring.lean `Piece.tiledL`, linear in the pieces, through a loop's `@[irreducible]` trip theorem too), so they cover it. -/
theorem cover0_A_5 (c : Dev nD) (i : grid0.Coords) (arg2 : Memref sig .tc .smem S4x8 .f32) (harg2 : arg2.IsWhole) (arg3 : Memref sig .tc .vmem S1x1024x512 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1x8x128x384 .f32) (harg8 : arg8.IsWhole) (arg9 : Memref sig .tc .vmem S1x8x128x384 .bf16) (harg9 : arg9.IsWhole)
    (x0 : Vec F S4x8 .f32) (x1 : Vec F S1x1024x512 .bf16) (x2 : Vec F S1x4096x128 .bf16) (x3 : Vec F S1x4096x128 .bf16) (x4 : Vec F S1x1x512 .f32) (y : S1x1024x512.Idx) :
    ∃ pc ∈ (kernelRun0_A c i arg2 harg2 arg3 harg3 arg4 harg4 arg5 harg5 arg6 harg6 arg7 harg7 arg8 harg8 arg9 harg9 x0 x1 x2 x3 x4).1, y ∈ pc.1.set :=
  View.cover_of_tiledL (kernelRun0_A c i arg2 harg2 arg3 harg3 arg4 harg4 arg5 harg5 arg6 harg6 arg7 harg7 arg8 harg8 arg9 harg9 x0 x1 x2 x3 x4).1 S1x128x512.size (by sl_kernel_rfl) y

/-- What the run leaves in output 5's staging buffer: its pieces read back over junk. -/
def out0_A_5 (c : Dev nD) (i : grid0.Coords) (arg2 : Memref sig .tc .smem S4x8 .f32) (harg2 : arg2.IsWhole) (arg3 : Memref sig .tc .vmem S1x1024x512 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x512 .f32) (harg6 : arg6.IsWhole) (arg7 : Memref sig .tc .vmem S1x1024x512 .bf16) (harg7 : arg7.IsWhole) (arg8 : Memref sig .tc .vmem S1x8x128x384 .f32) (harg8 : arg8.IsWhole) (arg9 : Memref sig .tc .vmem S1x8x128x384 .bf16) (harg9 : arg9.IsWhole)
    (x0 : Vec F S4x8 .f32) (x1 : Vec F S1x1024x512 .bf16) (x2 : Vec F S1x4096x128 .bf16) (x3 : Vec F S1x4096x128 .bf16) (x4 : Vec F S1x1x512 .f32) : Vec F S1x1024x512 .bf16 :=
  VO0_5.read (Elt F) (VO0_5.writes (Elt F) VO0_5.junk (kernelRun0_A c i arg2 harg2 arg3 harg3 arg4 harg4 arg5 harg5 arg6 harg6 arg7 harg7 arg8 harg8 arg9 harg9 x0 x1 x2 x3 x4).1)

/-! ## What the outputs hold after each point -/

/-- What the outputs' staging buffers hold after the body at point `t`: the run's contents at
    the point's memrefs and input blocks. -/
def outsAt0 (c : Dev nD) (t : Fin cfg0.N) : Vec F S1x1024x512 .bf16 :=
  out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  unfold outsAt0
  unfold out0_A_5
  iintro ⟨⟨⟨HS0, HS1⟩, Hg⟩, Ho, ⟨%d0, H0⟩, ⟨%d1, H1⟩, ⟨%d2, H2⟩, ⟨%d3, H3⟩, ⟨%d4, H4⟩, ⟨%d5, H5⟩⟩
  iapply ((kernelRun0_A c (grid0.coords t) _ _ _ _ _ _ _ _ _ _ _ _ _ _ _ _ (iblk m c 0 t) (iblk m c 1 t) (iblk m c 2 t) (iblk m c 3 t) (iblk m c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  iintro ⟨H0, H1, H2, H3, H4, ⟨%e5, H5⟩, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0_A_5 c _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.KValue.lean ====
module

public import proofs.«01_k».proof.Proof.KFrame
public import Idealize.ShloMosaic.Lib.Pipeline.Value

@[expose] public section

noncomputable section

namespace Cert.KernelIdeal.Value

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`), read through the window's block. -/
theorem flushed5 (c : Dev nD) (t : Fin cfg0.N) :
    (dats m 0 c).flushed 5 t = (cfg0.win 5).cut (grid0.coords t) (outsAt0 m c t) := by
  show (cfg0.win 5).cut (grid0.coords t) ((dats m 0 c).after 5 t) = _
  rw [after0_5]

/-- … so at a point where case A runs, what its write-back would write is that case's NAMED TERM for the window (`Gen.out0_A_5`: the pieces
    its run found, read back) at the point's memrefs and input blocks, and for an output the case reads back what the point before left (`Gen.outsAt0` at `t - 1`) — the kernel's one case, `Gen.outsAt0` by definition. -/
theorem flushed5_A (c : Dev nD) (t : Fin cfg0.N) :
    (dats m 0 c).flushed 5 t = (cfg0.win 5).cut (grid0.coords t) (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) (iblk m c 0 t) (iblk m c 1 t) (iblk m c 2 t) (iblk m c 3 t) (iblk m c 4 t)) := by
  simp only [flushed5, outsAt0]

/-- The index map sends distinct grid points to distinct block indices (decided over the 16 points). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S4x4096x512.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v5) = (dats m 0 c).arrAt 5 cfg0.N :=
  (h c).1 5

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 2 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 2).trans (((dats m 0 c).arrAt_in 2 rfl _).trans ((A_eq m c 2).trans (V_main_arg1 m c)))

/-- After the frame run, argument `main_arg2` is as launched: input window 3 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 3).trans (((dats m 0 c).arrAt_in 3 rfl _).trans ((A_eq m c 3).trans (V_main_arg2 m c)))

/-- After the frame run, argument `main_arg3` is as launched: input window 0 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 0).trans (((dats m 0 c).arrAt_in 0 rfl _).trans ((A_eq m c 0).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v5) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      kept_main_arg0 m r h c,
      kept_main_arg1 m r h c,
      kept_main_arg2 m r h c,
      kept_main_arg3 m r h c,
      kept_main_arg4 m r h c⟩)
    (run_main m ρ)

end Cert.KernelIdeal.Value

end
-- ==== Proof.Math.lean ====
module

public import Idealize.ShloMosaic.PureOps
public import Idealize.ShloMosaic.PureOps.Ideal

@[expose] public section

noncomputable section

/-! # The softmax with a sink, over the extended reals

`mixFirst` is the kernel's form: the exponentials are summed against the values first, and the sum is
multiplied by the reciprocal of the denominator. `mixProbs` is the plain form: the probabilities are
formed first. `mixFirst_eq` says that they agree, also when the keys stand in another order, and when
the values at masked keys differ. -/

namespace Cert.Attn

open Idealize.ShloMosaic

variable {n : ℕ}

/-- The row's maximum, the sink included. -/
def top (S : Fin n → EReal) (s : EReal) : EReal := max (⨆ t, S t) s

/-- The denominator. -/
def den (S : Fin n → EReal) (s : EReal) : EReal := (∑ t, Ideal.exp (S t - top S s)) + Ideal.exp (s - top S s)

/-- The exponentials times the values, summed, times the reciprocal denominator. -/
def mixFirst (S V : Fin n → EReal) (s : EReal) : EReal :=
  (∑ t, Ideal.exp (S t - top S s) * V t) * Ideal.div 1 (den S s)

/-- The values times the probabilities, summed. -/
def mixProbs (S V : Fin n → EReal) (s : EReal) : EReal :=
  ∑ t, V t * Ideal.div (Ideal.exp (S t - top S s)) (den S s)

/-- A finite sum of extended reals times a real that is not negative, term by term. -/
theorem sum_mul_coe {ι : Type} (A : Finset ι) (f : ι → EReal) (c : ℝ) (hc : 0 ≤ c) : (∑ t ∈ A, f t) * (c : EReal) = ∑ t ∈ A, f t * (c : EReal) := by
  classical
  induction A using Finset.induction_on with
  | empty => simp
  | insert a A ha ih =>
    rw [Finset.sum_insert ha, Finset.sum_insert ha, EReal.right_distrib_of_nonneg_of_ne_top (by exact_mod_cast hc) (EReal.coe_ne_top c), ih]

/-- A finite sum of reals is a real. -/
theorem sum_real {ι : Type} (A : Finset ι) (f : ι → EReal) (x : ι → ℝ) (h : ∀ t ∈ A, f t = (x t : EReal)) : ∑ t ∈ A, f t = ((∑ t ∈ A, x t : ℝ) : EReal) := by
  classical
  induction A using Finset.induction_on with
  | empty => simp
  | insert a A ha ih =>
    rw [Finset.sum_insert ha, Finset.sum_insert ha, EReal.coe_add, h a (Finset.mem_insert_self ..),
      ih fun t ht => h t (Finset.mem_insert_of_mem ht)]

theorem div_real (x d : ℝ) (hd : d ≠ 0) : Ideal.div (x : EReal) (d : EReal) = ((x * d⁻¹ : ℝ) : EReal) := by
  unfold Ideal.div
  rw [if_neg (by exact_mod_cast hd), EReal.coe_mul, EReal.coe_inv]

/-- The row maximum is real as soon as one score is and none is infinite upwards. -/
theorem top_real (S : Fin n → EReal) (s : EReal) (hS : ∀ t, S t ≠ ⊤) (t₀ : Fin n) (h₀ : S t₀ ≠ ⊥) (hs : s ≠ ⊤) :
    ∃ r : ℝ, top S s = (r : EReal) := by
  have hlt : top S s < ⊤ := by
    unfold top
    refine max_lt ?_ (lt_top_iff_ne_top.2 hs)
    rw [← Finset.sup_univ_eq_iSup]
    exact (Finset.sup_lt_iff (bot_lt_top)).2 fun t _ => lt_top_iff_ne_top.2 (hS t)
  have hgt : ⊥ < top S s := lt_of_lt_of_le (bot_lt_iff_ne_bot.2 h₀) ((le_iSup S t₀).trans (le_max_left _ _))
  exact ⟨(top S s).toReal, (EReal.coe_toReal hlt.ne hgt.ne').symm⟩

/-- An exponential below the row maximum is a real that is not negative; it is 0 at a masked key and positive elsewhere. -/
theorem exp_real (x : EReal) (r : ℝ) (hx : x ≠ ⊤) :
    ∃ y : ℝ, Ideal.exp (x - (r : EReal)) = (y : EReal) ∧ 0 ≤ y ∧ (x = ⊥ → y = 0) ∧ (x ≠ ⊥ → 0 < y) := by
  induction x with
  | bot => exact ⟨0, by rw [EReal.bot_sub]; rfl, le_rfl, fun _ => rfl, fun h => (h rfl).elim⟩
  | top => exact (hx rfl).elim
  | coe x =>
    refine ⟨Real.exp (x - r), by rw [← EReal.coe_sub]; rfl, (Real.exp_pos _).le, fun h => (EReal.coe_ne_bot x h).elim, fun _ => Real.exp_pos _⟩

theorem mixFirst_eq (S V S' V' : Fin n → EReal) (s : EReal) (e : Fin n ≃ Fin n) (hSe : ∀ t, S' (e t) = S t)
    (hVe : ∀ t, S t ≠ ⊥ → V' (e t) = V t) (hS : ∀ t, S t ≠ ⊤) (t₀ : Fin n) (h₀ : S t₀ ≠ ⊥) (hs : s ≠ ⊤) :
    mixFirst S' V' s = mixProbs S V s := by
  have htop : top S' s = top S s := by
    unfold top
    rw [← e.iSup_comp]; simp only [hSe]
  have hden : den S' s = den S s := by
    unfold den
    rw [htop, ← Equiv.sum_comp e]; simp only [hSe]
  unfold mixFirst mixProbs
  rw [hden, htop, ← Equiv.sum_comp e]
  simp only [hSe]
  obtain ⟨r, hr⟩ := top_real S s hS t₀ h₀ hs
  unfold den
  rw [hr]
  choose x hx x0 xb xp using fun t => exp_real (S t) r (hS t)
  obtain ⟨y, hy, y0, -, -⟩ := exp_real s r hs
  have hD : (∑ t, Ideal.exp (S t - (r : EReal))) + Ideal.exp (s - (r : EReal)) = ((∑ t, x t + y : ℝ) : EReal) := by
    rw [sum_real Finset.univ _ x fun t _ => hx t, hy, EReal.coe_add]
  have hpos : 0 < ∑ t, x t + y :=
    add_pos_of_pos_of_nonneg (Finset.sum_pos' (fun t _ => x0 t) ⟨t₀, Finset.mem_univ _, xp t₀ h₀⟩) y0
  rw [hD, show (1 : EReal) = ((1 : ℝ) : EReal) from rfl, div_real _ _ hpos.ne', one_mul, sum_mul_coe _ _ _ (inv_nonneg.2 hpos.le)]
  refine Finset.sum_congr rfl fun t _ => ?_
  rw [hx t, div_real _ _ hpos.ne']
  by_cases hb : S t = ⊥
  · rw [xb t hb]; simp
  · rw [hVe t hb, EReal.coe_mul, mul_comm (x t : EReal), mul_assoc]

/-- The row's root mean square norm of `a`, by the gain. -/
def normRow {k : ℕ} (d eps : EReal) (a g : Fin k → EReal) (c : Fin k) : EReal :=
  a c * Ideal.rsqrt (Ideal.div (∑ j, a j * a j) d + eps) * g c

end Cert.Attn

end
-- ==== Proof.Band.lean ====
module

public import proofs.«01_k».proof.Proof.Math

@[expose] public section

noncomputable section

/-! # The band of keys of a block of queries

Block `n` of 128 queries looks at 384 keys. The reference takes those of the blocks `n - 1`, `n` and `n + 1` from keys
padded by a block of zeros at each end, and masks what is outside; the kernel takes a window of 384 keys that lies
inside, which at the first and at the last block is another one. `head_eq` says that a head's output is the same. -/

namespace Cert.Attn

open Idealize.ShloMosaic

/-- Row `κ` of an array padded by 128 rows of zeros at each end. -/
def padded (K : Fin 4096 → Fin 128 → EReal) (κ : ℕ) (c : Fin 128) : EReal :=
  if h : 128 ≤ κ ∧ κ < 4224 then K ⟨κ - 128, by omega⟩ c else 0

/-- The column of component `d` of query head `h`. -/
def qcol (h : Fin 8) (d : Fin 64) : Fin 512 := ⟨h.val * 64 + d.val, by omega⟩

/-- The column of component `d` of the key head that query head `h` uses. -/
def kcol (h : Fin 8) (d : Fin 64) : Fin 128 := ⟨h.val / 4 * 64 + d.val, by omega⟩

/-- The block of a row, and the row's place in it. -/
def blk (p : Fin 4096) : Fin 32 := ⟨p.val / 128, by omega⟩
def off (p : Fin 4096) : Fin 128 := ⟨p.val % 128, by omega⟩

/-- The head of a column, and the column's place in it. -/
def hd (c : Fin 512) : Fin 8 := ⟨c.val / 64, by omega⟩
def dm (c : Fin 512) : Fin 64 := ⟨c.val % 64, by omega⟩

/-- Query `qi` of block `n`. -/
def qrow (n : Fin 32) (qi : Fin 128) : Fin 4096 := ⟨n.val * 128 + qi.val, by omega⟩

/-- Where the kernel's window of block `n` begins. -/
def winStart (n : Fin 32) : ℕ := min 3712 (n.val * 128 - 128)

/-- Key `t` of the kernel's window of block `n`. -/
def krow (n : Fin 32) (t : Fin 384) : Fin 4096 := ⟨winStart n + t.val, by unfold winStart; omega⟩

/-- The reference's masked score. -/
def refScore (c : EReal) (Q : Fin 4096 → Fin 512 → EReal) (K : Fin 4096 → Fin 128 → EReal) (n : Fin 32) (qi : Fin 128) (h : Fin 8) (t : Fin 384) : EReal :=
  if (qi.val ≤ t.val ∧ t.val ≤ qi.val + 256) ∧ 128 ≤ n.val * 128 + t.val ∧ n.val * 128 + t.val < 4224 then
    (∑ d : Fin 64, padded K (n.val * 128 + t.val) (kcol h d) * Q (qrow n qi) (qcol h d)) * c
  else ⊥

/-- The reference's value. -/
def refVal (V : Fin 4096 → Fin 128 → EReal) (n : Fin 32) (h : Fin 8) (d : Fin 64) (t : Fin 384) : EReal :=
  padded V (n.val * 128 + t.val) (kcol h d)

/-- The kernel's masked score, of queries scaled beforehand. -/
def winScore (Q : Fin 4096 → Fin 512 → EReal) (K : Fin 4096 → Fin 128 → EReal) (n : Fin 32) (qi : Fin 128) (h : Fin 8) (t : Fin 384) : EReal :=
  if (qrow n qi).val ≤ (krow n t).val + 128 ∧ (krow n t).val ≤ (qrow n qi).val + 128 then
    ∑ d : Fin 64, Q (qrow n qi) (qcol h d) * K (krow n t) (kcol h d)
  else ⊥

/-- The kernel's value. -/
def winVal (V : Fin 4096 → Fin 128 → EReal) (n : Fin 32) (h : Fin 8) (d : Fin 64) (t : Fin 384) : EReal := V (krow n t) (kcol h d)

/-- By how much the kernel's window of block `n` is turned against the reference's. -/
def shift (n : Fin 32) : Fin 384 := if n.val = 0 then 256 else if n.val = 31 then 128 else 0

/-- The reference's key at the kernel's place. -/
def turn (n : Fin 32) : Fin 384 ≃ Fin 384 := Equiv.addRight (shift n)

theorem turn_val (n : Fin 32) (t : Fin 384) : (turn n t).val = (t.val + (if n.val = 0 then 256 else if n.val = 31 then 128 else 0)) % 384 := by
  show (t + shift n).val = _
  rw [Fin.val_add]; unfold shift
  split_ifs <;> rfl

/-- The key is in the band on one side exactly when it is on the other, and it is then the same key. -/
theorem turn_band (n : Fin 32) (qi : Fin 128) (t : Fin 384) :
    ((qrow n qi).val ≤ (krow n (turn n t)).val + 128 ∧ (krow n (turn n t)).val ≤ (qrow n qi).val + 128)
      ↔ ((qi.val ≤ t.val ∧ t.val ≤ qi.val + 256) ∧ 128 ≤ n.val * 128 + t.val ∧ n.val * 128 + t.val < 4224) := by
  have ht := turn_val n t
  have h1 := t.isLt; have h2 := n.isLt; have h3 := qi.isLt
  unfold krow qrow winStart
  dsimp only
  rw [ht]
  split_ifs <;> omega

theorem turn_row (n : Fin 32) (t : Fin 384) (h : 128 ≤ n.val * 128 + t.val ∧ n.val * 128 + t.val < 4224) :
    (krow n (turn n t)).val = n.val * 128 + t.val - 128 := by
  have ht := turn_val n t
  have h1 := t.isLt; have h2 := n.isLt
  unfold krow winStart
  dsimp only
  rw [ht]
  split_ifs <;> omega

theorem padded_in (K : Fin 4096 → Fin 128 → EReal) (n : Fin 32) (t : Fin 384) (c : Fin 128) (h : 128 ≤ n.val * 128 + t.val ∧ n.val * 128 + t.val < 4224) :
    padded K (n.val * 128 + t.val) c = K (krow n (turn n t)) c := by
  unfold padded
  rw [dif_pos h]
  exact congrArg (fun r => K r c) (Fin.ext (turn_row n t h).symm)

/-- A HEAD'S OUTPUT is the same on both sides, of real queries and keys and a sink that is not infinite upwards. -/
theorem head_eq (r : ℝ) (hr : 0 ≤ r) (Q : Fin 4096 → Fin 512 → EReal) (K V : Fin 4096 → Fin 128 → EReal) (s : EReal) (n : Fin 32) (qi : Fin 128) (h : Fin 8) (d : Fin 64)
    (hQ : ∀ p c, ∃ x : ℝ, Q p c = (x : EReal)) (hK : ∀ p c, ∃ x : ℝ, K p c = (x : EReal)) (hs : s ≠ ⊤) :
    mixFirst (winScore (fun p c => Q p c * (r : EReal)) K n qi h) (winVal V n h d) s
      = mixProbs (refScore (r : EReal) Q K n qi h) (refVal V n h d) s := by
  choose xq hq using hQ
  choose xk hk using hK
  have key : ∀ t, (128 ≤ n.val * 128 + t.val ∧ n.val * 128 + t.val < 4224) →
      (∑ e : Fin 64, padded K (n.val * 128 + t.val) (kcol h e) * Q (qrow n qi) (qcol h e)) * (r : EReal)
        = ((∑ e : Fin 64, xk (krow n (turn n t)) (kcol h e) * xq (qrow n qi) (qcol h e) * r : ℝ) : EReal) := fun t ht => by
    rw [sum_mul_coe _ _ _ hr]
    exact sum_real _ _ _ fun e _ => by rw [padded_in K n t _ ht, hk, hq, EReal.coe_mul, EReal.coe_mul]
  refine mixFirst_eq _ _ _ _ s (turn n) (fun t => ?_) (fun t ht => ?_) (fun t => ?_) ⟨qi.val + 128, by omega⟩ ?_ hs
  · unfold winScore refScore
    by_cases hb : (qi.val ≤ t.val ∧ t.val ≤ qi.val + 256) ∧ 128 ≤ n.val * 128 + t.val ∧ n.val * 128 + t.val < 4224
    · rw [if_pos ((turn_band n qi t).2 hb), if_pos hb, key t hb.2]
      refine sum_real _ _ _ fun e _ => ?_
      show Q _ _ * (r : EReal) * K _ _ = _
      rw [hq, hk, EReal.coe_mul, EReal.coe_mul, mul_right_comm, mul_comm (xq _ _ : EReal)]
    · rw [if_neg (fun hh => hb ((turn_band n qi t).1 hh)), if_neg hb]
  · unfold refScore at ht
    by_cases hb : (qi.val ≤ t.val ∧ t.val ≤ qi.val + 256) ∧ 128 ≤ n.val * 128 + t.val ∧ n.val * 128 + t.val < 4224
    · unfold winVal refVal; rw [padded_in V n t _ hb.2]
    · rw [if_neg hb] at ht; exact (ht rfl).elim
  · unfold refScore
    split_ifs with hb
    · rw [key t hb.2]; exact EReal.coe_ne_top _
    · exact bot_ne_top
  · unfold refScore
    have h2 := n.isLt; have h3 := qi.isLt
    have hb : (qi.val ≤ (⟨qi.val + 128, by omega⟩ : Fin 384).val ∧ (⟨qi.val + 128, by omega⟩ : Fin 384).val ≤ qi.val + 256)
      ∧ 128 ≤ n.val * 128 + (⟨qi.val + 128, by omega⟩ : Fin 384).val ∧ n.val * 128 + (⟨qi.val + 128, by omega⟩ : Fin 384).val < 4224 := by
      dsimp only; omega
    rw [if_pos hb, key _ hb.2]; exact EReal.coe_ne_bot _

end Cert.Attn

end
-- ==== Proof.Words.lean ====
module

public import Idealize.ShloMosaic.PureOps
public import Idealize.ShloMosaic.Lib.WordCmp

@[expose] public section

/-! # The band's comparison on words -/

namespace Cert.Attn

open Idealize.ShloMosaic

/-- A word that stands for a small integer has absolute value at most 128 exactly when the integer has. -/
theorem absi_le (x : BitVec 32) (z : ℤ) (hx : x.toInt = z) (h : -1000000 < z) (h' : z < 1000000) :
    IntOp.cmpi .sle (IntOp.absi x) 128#32 = BitVec.ofBool (decide (-128 ≤ z ∧ z ≤ 128)) := by
  rw [WordCmp.cmpi_sle_eq]
  congr 1
  rw [decide_eq_decide]
  unfold IntOp.absi
  rw [BitVec.msb_eq_toInt]
  have h128 : (128#32 : BitVec 32).toInt = 128 := by decide
  rw [h128]
  split_ifs with hneg
  · rw [BitVec.toInt_neg, hx, Int.bmod_def]
    simp only [decide_eq_true_eq, hx] at hneg
    omega
  · simp only [decide_eq_true_eq, hx] at hneg
    rw [hx]; omega

/-- A difference of two words of small naturals, as an integer. -/
theorem toInt_sub_small (a b : ℕ) (ha : a < 1000000) (hb : b < 1000000) (x y : BitVec 32) (hx : x.toInt = a) (hy : y.toInt = b) : (IntOp.subi x y).toInt = (a : ℤ) - b := by
  show (x - y).toInt = _
  rw [BitVec.toInt_sub, hx, hy, Int.bmod_def]; omega

theorem toInt_ofNat_small (a : ℕ) (ha : a < 1000000) : (BitVec.ofNat 32 a).toInt = a := by
  rw [BitVec.toInt_ofNat', Int.bmod_def]; omega

theorem toInt_sub_int (x y : BitVec 32) (a b : ℤ) (hx : x.toInt = a) (hy : y.toInt = b) (h1 : -1000000 < a - b) (h2 : a - b < 1000000) : (IntOp.subi x y).toInt = a - b := by
  show (x - y).toInt = _
  rw [BitVec.toInt_sub, hx, hy, Int.bmod_def]; omega

theorem toInt_add_int (x y : BitVec 32) (a b : ℤ) (hx : x.toInt = a) (hy : y.toInt = b) (h1 : -1000000 < a + b) (h2 : a + b < 1000000) : (IntOp.addi x y).toInt = a + b := by
  show (x + y).toInt = _
  rw [BitVec.toInt_add, hx, hy, Int.bmod_def]; omega

theorem toInt_mul_int (x y : BitVec 32) (a b : ℤ) (hx : x.toInt = a) (hy : y.toInt = b) (h1 : -1000000 < a * b) (h2 : a * b < 1000000) : (IntOp.muli x y).toInt = a * b := by
  show (x * y).toInt = _
  rw [BitVec.toInt_mul, hx, hy, Int.bmod_def]; omega

end Cert.Attn
-- ==== Proof.KTile.lean ====
module

public import proofs.«01_k».proof.Proof.Tile
public import proofs.«01_k».proof.Proof.Band
public import proofs.«01_k».proof.Proof.Words
public import Idealize.ShloMosaic.Lib.ValueIdx
public import Idealize.ShloMosaic.Lib.MatmulPlain
public import Idealize.ShloMosaic.Lib.Pipeline.Value

@[expose] public section

noncomputable section

/-! # One trip's rows, read at an index -/

namespace Cert.KernelIdeal.Gen

open Cert.Attn Idealize.ShloMosaic Idealize.ShloMosaic.TcCoe Idealize.ShloMosaic.ValueIdx
open Idealize.SL Idealize.SL.Sem

theorem lit_zero : Ideal.ofBits .f32 0x00000000#32 = 0 := by simp [Ideal.ofBits, Ideal.ieee]
theorem lit_bot : Ideal.ofBits .f32 0xFF800000#32 = ⊥ := by simp [Ideal.ofBits, Ideal.ieee]
theorem lit_one : Ideal.ofBits .f32 0x3F800000#32 = 1 := by simp [Ideal.ofBits, Ideal.ieee, -EReal.coe_mul]; norm_num

/-- A row and a column through the scratch's two leading axes. -/
theorem scratch_at {α : Type} (x : S128x384.Idx → α) (r : Fin 128) (t : Fin 384) :
    shapeCast S128x384 (shapeCast S1x1x128x384 x shapeCasts_S128x384_S1x1x128x384) shapeCasts_S1x1x128x384_S128x384 (ix2 r t) = x (ix2 r t) := by
  rw [shapeCast_apply _ _ (ix2 r t) (ix4 (0 : Fin 1) (0 : Fin 1) r t), shapeCast_apply _ _ (ix4 (0 : Fin 1) (0 : Fin 1) r t) (ix2 r t)]
  · rw [Shape.rowMajor_val_two, Shape.rowMajor_val_four]
    show r.val * 384 + t.val = ((0 * 1 + 0) * 128 + r.val) * 384 + t.val
    omega
  · rw [Shape.rowMajor_val_two, Shape.rowMajor_val_four]
    show ((0 * 1 + 0) * 128 + r.val) * 384 + t.val = r.val * 384 + t.val
    omega

/-- One head's masked scores from its rows. -/
abbrev rowScore (mask : IVec S128x384 1) (qh : FVec Ideal S128x64 .bf16) (kh : FVec Ideal S384x64 .bf16) (r : Fin 128) (t : Fin 384) : EReal :=
  if mask (ix2 r t) = 1#1 then ∑ d : Fin 64, qh (ix2 r d) * kh (ix2 t d) else ⊥

theorem headScores_at (mask : IVec S128x384 1) (qh : FVec Ideal S128x64 .bf16) (kh : FVec Ideal S384x64 .bf16) (r : Fin 128) (t : Fin 384) :
    headScores mask qh kh (ix2 r t) = rowScore mask qh kh r t := by
  unfold headScores
  rw [scratch_at]
  show (if mask (ix2 r t) = 1#1 then (_ : EReal) else Ideal.ofBits .f32 0xFF800000#32) = _
  rw [lit_bot]
  refine if_congr Iff.rfl ?_ rfl
  refine (Ideal.matmul_transposedRhs_apply (M := 128) (K := 64) (N := 384) none qh kh (constant S128x384 .f32 0x00000000#32) r t).trans ?_
  show Ideal.ofBits .f32 0x00000000#32 + _ = _
  rw [lit_zero, zero_add]

theorem column_at {α : Type} (x : S128.Idx → α) (r : Fin 128) (z : Fin 1) : shapeCast S128x1 x shapeCasts_S128_S128x1 (ix2 r z) = x (ix1 r) := by
  rw [shapeCast_apply _ _ (ix2 r z) (ix1 r)]
  rw [Shape.rowMajor_val_two, Shape.rowMajor_val_one]
  show r.val = r.val * 1 + z.val
  have := z.isLt; omega

theorem headMax_at (sc : FVec Ideal S128x384 .f32) (s : Ideal .f32) (r : Fin 128) (z : Fin 1) :
    headMax sc s (ix2 r z) = top (fun t => sc (ix2 r t)) s := by
  unfold headMax top
  refine congrArg (max · s) ?_
  rw [column_at, Ideal.multiReduction_maximumf_single sc 0xFF800000#32 reduces_S128x384_S128 (.inl rfl) rfl (ix1 r)]
  rw [show (FloatOps.ofBits .f32 0xFF800000#32 : Ideal .f32) = (⊥ : EReal) from lit_bot]
  have hg : (sc ∘ reduces_S128x384_S128.lift (ix1 r)) = fun t : Fin 384 => sc (ix2 r t) := by
    funext t
    exact congrArg sc (funext fun a => Fin.ext (by match a with | ⟨0, _⟩ => rfl | ⟨1, _⟩ => rfl))
  rw [hg]
  exact Finset.sup_univ_eq_iSup _

theorem bcol_at {n : ℕ} {α : Type} (x : S128x1.Idx → α) (h : S128x1.Broadcasts ⟨2, ![128, n]⟩) (r : Fin 128) (c : Fin n) :
    broadcastTo (⟨2, ![128, n]⟩ : Shape) x h (ix2 r c) = x (ix2 r (0 : Fin 1)) :=
  broadcastTo_apply x h (ix2 r c) (ix2 r (0 : Fin 1)) fun a => by match a with | ⟨0, _⟩ => rfl | ⟨1, _⟩ => rfl

theorem headExp_at (sc : FVec Ideal S128x384 .f32) (m : FVec Ideal S128x1 .f32) (r : Fin 128) (t : Fin 384) :
    headExp sc m (ix2 r t) = Ideal.exp (sc (ix2 r t) - m (ix2 r (0 : Fin 1))) := by
  unfold headExp
  refine congrArg (fun y => Ideal.exp (sc (ix2 r t) - y)) ?_
  exact bcol_at m _ r t

theorem headInv_at (p : FVec Ideal S128x384 .f32) (m : FVec Ideal S128x1 .f32) (s : Ideal .f32) (r : Fin 128) :
    headInv p m s (ix2 r (0 : Fin 1)) = Ideal.div 1 ((∑ t : Fin 384, p (ix2 r t)) + Ideal.exp (s - m (ix2 r (0 : Fin 1)))) := by
  unfold headInv
  rw [divf_apply, addf_apply, column_at, Ideal.multiReduction_add_single p 0x00000000#32 reduces_S128x384_S128 (.inl rfl) rfl (ix1 r)]
  rw [show broadcast S128x1 (Scalar.ofBits .f32 0x3F800000#32 : Ideal .f32) (ix2 r (0 : Fin 1)) = (1 : EReal) from lit_one]
  refine congrArg (fun y => Ideal.div 1 (y + Ideal.exp (s - m (ix2 r (0 : Fin 1))))) (Finset.sum_congr rfl fun t _ => ?_)
  exact congrArg p (funext fun a => Fin.ext (by match a with | ⟨0, _⟩ => rfl | ⟨1, _⟩ => rfl))

theorem headMix_at (p : FVec Ideal S128x384 .f32) (inv : FVec Ideal S128x1 .f32) (vh : FVec Ideal S384x64 .bf16) (r : Fin 128) (d : Fin 64) :
    headMix p inv vh (ix2 r d) = (∑ t : Fin 384, p (ix2 r t) * vh (ix2 t d)) * inv (ix2 r (0 : Fin 1)) := by
  unfold headMix
  rw [mulf_apply, show broadcastTo S128x64 inv broadcasts_S128x1_S128x64 (ix2 r d) = inv (ix2 r (0 : Fin 1)) from bcol_at inv _ r d]
  refine congrArg (· * inv (ix2 r (0 : Fin 1))) ?_
  refine (Ideal.matmul_plain_apply (M := 128) (K := 384) (N := 64) (φ₁ := .bf16) (φ₂ := .bf16) none _ vh (constant S128x64 .f32 0x00000000#32) r d).trans ?_
  show Ideal.ofBits .f32 0x00000000#32 + _ = _
  rw [lit_zero, zero_add]
  refine Finset.sum_congr rfl fun t _ => congrArg (· * vh (ix2 t d)) ?_
  exact scratch_at _ r t

/-- ONE HEAD. -/
theorem headOut_at (mask : IVec S128x384 1) (qh : FVec Ideal S128x64 .bf16) (kh vh : FVec Ideal S384x64 .bf16) (s : Ideal .f32) (r : Fin 128) (d : Fin 64) :
    headOut mask qh kh vh s (ix2 r d) = mixFirst (rowScore mask qh kh r) (fun t => vh (ix2 t d)) s := by
  unfold headOut mixFirst den
  rw [headMix_at, headInv_at]
  simp only [headExp_at, headMax_at, headScores_at]

/-- Head `h`'s columns of the queries, and its key head's of the keys or values. -/
abbrev qPart (q : FVec Ideal S128x512 .bf16) (h : Fin 8) : FVec Ideal S128x64 .bf16 := fun i => q (ix2 (i 0) (qcol h (i 1)))
abbrev kPart (k : FVec Ideal S384x128 .bf16) (h : Fin 8) : FVec Ideal S384x64 .bf16 := fun i => k (ix2 (i 0) (kcol h (i 1)))

theorem qPart_eq (q : FVec Ideal S128x512 .bf16) (h : Fin 8) (o : ℕ) (ho : o = h.val * 64) (hs : S128x512.Slices ![0, o] S128x64) :
    extractStridedSlice S128x64 ![0, o] q hs = qPart q h := by
  subst ho
  funext i
  refine extractStridedSlice_apply _ q hs i _ fun a => ?_
  match a with
  | ⟨0, _⟩ => show (i 0).val = 0 + (i 0).val; omega
  | ⟨1, _⟩ => rfl

theorem kPart_eq (k : FVec Ideal S384x128 .bf16) (h : Fin 8) (o : ℕ) (ho : o = h.val / 4 * 64) (hs : S384x128.Slices ![0, o] S384x64) :
    extractStridedSlice S384x64 ![0, o] k hs = kPart k h := by
  subst ho
  funext i
  refine extractStridedSlice_apply _ k hs i _ fun a => ?_
  match a with
  | ⟨0, _⟩ => show (i 0).val = 0 + (i 0).val; omega
  | ⟨1, _⟩ => rfl

/-- THE HEADS SIDE BY SIDE. -/
theorem heads_at (mask : IVec S128x384 1) (q : FVec Ideal S128x512 .bf16) (k v : FVec Ideal S384x128 .bf16) (s : Fin 8 → Ideal .f32) (r : Fin 128) (h : Fin 8) (d : Fin 64) :
    heads mask q k v s (ix2 r (qcol h d)) = mixFirst (rowScore mask (qPart q h) (kPart k h) r) (fun t => v (ix2 t (kcol h d))) (s h) := by
  rw [← headOut_at mask (qPart q h) (kPart k h) (kPart v h) (s h) r d]
  unfold heads
  match h with
  | ⟨0, hn⟩ =>
    rw [qPart_eq q ⟨0, hn⟩ 0 rfl, kPart_eq k ⟨0, hn⟩ 0 (by show 0 = 0 / 4 * 64; norm_num), kPart_eq v ⟨0, hn⟩ 0 (by show 0 = 0 / 4 * 64; norm_num)]
    exact concatenate_apply_piece (t := S128x512) 1 _ _ _ 0 (by show 0 < 8; omega) S128x64 _ rfl rfl 0 rfl (ix2 r d)
      (fun a ha => by match a with | ⟨0, _⟩ => rfl | ⟨1, _⟩ => exact (ha rfl).elim) rfl
  | ⟨1, hn⟩ =>
    rw [qPart_eq q ⟨1, hn⟩ 64 rfl, kPart_eq k ⟨1, hn⟩ 0 (by show 0 = 1 / 4 * 64; norm_num), kPart_eq v ⟨1, hn⟩ 0 (by show 0 = 1 / 4 * 64; norm_num)]
    exact concatenate_apply_piece (t := S128x512) 1 _ _ _ 1 (by show 1 < 8; omega) S128x64 _ rfl rfl 64 rfl (ix2 r d)
      (fun a ha => by match a with | ⟨0, _⟩ => rfl | ⟨1, _⟩ => exact (ha rfl).elim) rfl
  | ⟨2, hn⟩ =>
    rw [qPart_eq q ⟨2, hn⟩ 128 rfl, kPart_eq k ⟨2, hn⟩ 0 (by show 0 = 2 / 4 * 64; norm_num), kPart_eq v ⟨2, hn⟩ 0 (by show 0 = 2 / 4 * 64; norm_num)]
    exact concatenate_apply_piece (t := S128x512) 1 _ _ _ 2 (by show 2 < 8; omega) S128x64 _ rfl rfl 128 rfl (ix2 r d)
      (fun a ha => by match a with | ⟨0, _⟩ => rfl | ⟨1, _⟩ => exact (ha rfl).elim) rfl
  | ⟨3, hn⟩ =>
    rw [qPart_eq q ⟨3, hn⟩ 192 rfl, kPart_eq k ⟨3, hn⟩ 0 (by show 0 = 3 / 4 * 64; norm_num), kPart_eq v ⟨3, hn⟩ 0 (by show 0 = 3 / 4 * 64; norm_num)]
    exact concatenate_apply_piece (t := S128x512) 1 _ _ _ 3 (by show 3 < 8; omega) S128x64 _ rfl rfl 192 rfl (ix2 r d)
      (fun a ha => by match a with | ⟨0, _⟩ => rfl | ⟨1, _⟩ => exact (ha rfl).elim) rfl
  | ⟨4, hn⟩ =>
    rw [qPart_eq q ⟨4, hn⟩ 256 rfl, kPart_eq k ⟨4, hn⟩ 64 (by show 64 = 4 / 4 * 64; norm_num), kPart_eq v ⟨4, hn⟩ 64 (by show 64 = 4 / 4 * 64; norm_num)]
    exact concatenate_apply_piece (t := S128x512) 1 _ _ _ 4 (by show 4 < 8; omega) S128x64 _ rfl rfl 256 rfl (ix2 r d)
      (fun a ha => by match a with | ⟨0, _⟩ => rfl | ⟨1, _⟩ => exact (ha rfl).elim) rfl
  | ⟨5, hn⟩ =>
    rw [qPart_eq q ⟨5, hn⟩ 320 rfl, kPart_eq k ⟨5, hn⟩ 64 (by show 64 = 5 / 4 * 64; norm_num), kPart_eq v ⟨5, hn⟩ 64 (by show 64 = 5 / 4 * 64; norm_num)]
    exact concatenate_apply_piece (t := S128x512) 1 _ _ _ 5 (by show 5 < 8; omega) S128x64 _ rfl rfl 320 rfl (ix2 r d)
      (fun a ha => by match a with | ⟨0, _⟩ => rfl | ⟨1, _⟩ => exact (ha rfl).elim) rfl
  | ⟨6, hn⟩ =>
    rw [qPart_eq q ⟨6, hn⟩ 384 rfl, kPart_eq k ⟨6, hn⟩ 64 (by show 64 = 6 / 4 * 64; norm_num), kPart_eq v ⟨6, hn⟩ 64 (by show 64 = 6 / 4 * 64; norm_num)]
    exact concatenate_apply_piece (t := S128x512) 1 _ _ _ 6 (by show 6 < 8; omega) S128x64 _ rfl rfl 384 rfl (ix2 r d)
      (fun a ha => by match a with | ⟨0, _⟩ => rfl | ⟨1, _⟩ => exact (ha rfl).elim) rfl
  | ⟨7, hn⟩ =>
    rw [qPart_eq q ⟨7, hn⟩ 448 rfl, kPart_eq k ⟨7, hn⟩ 64 (by show 64 = 7 / 4 * 64; norm_num), kPart_eq v ⟨7, hn⟩ 64 (by show 64 = 7 / 4 * 64; norm_num)]
    exact concatenate_apply_piece (t := S128x512) 1 _ _ _ 7 (by show 7 < 8; omega) S128x64 _ rfl rfl 448 rfl (ix2 r d)
      (fun a ha => by match a with | ⟨0, _⟩ => rfl | ⟨1, _⟩ => exact (ha rfl).elim) rfl

theorem normed_at (a : FVec Ideal S128x512 .f32) (g : FVec Ideal S1x512 .f32) (r : Fin 128) (c : Fin 512) :
    normed a g (ix2 r c) = normRow (Ideal.ofBits .f32 0x44000000#32) (Ideal.ofBits .f32 0x358637BD#32) (fun j => a (ix2 r j)) (fun j => g (ix2 (0 : Fin 1) j)) c := by
  unfold normed normRow
  rw [mulf_apply, mulf_apply, show ∀ x : FVec Ideal S128x1 .f32, broadcastTo S128x512 x broadcasts_S128x1_S128x512 (ix2 r c) = x (ix2 r (0 : Fin 1)) from fun x => bcol_at x _ r c,
    broadcastTo_apply g broadcasts_S1x512_S128x512 (ix2 r c) (ix2 (0 : Fin 1) c) fun b => by match b with | ⟨0, _⟩ => rfl | ⟨1, _⟩ => rfl]
  refine congrArg (fun y => a (ix2 r c) * Ideal.rsqrt (Ideal.div y (Ideal.ofBits .f32 0x44000000#32) + Ideal.ofBits .f32 0x358637BD#32) * g (ix2 (0 : Fin 1) c)) ?_
  rw [column_at, Ideal.multiReduction_add_single (mulf a a) 0x00000000#32 reduces_S128x512_S128 (.inl rfl) rfl (ix1 r)]
  refine Finset.sum_congr rfl fun j _ => ?_
  refine congrArg (fun i => a i * a i) (funext fun b => Fin.ext (by match b with | ⟨0, _⟩ => rfl | ⟨1, _⟩ => rfl))

/-- THE TRIP'S ROWS. -/
theorem tile_at (mask : IVec S128x384 1) (g : Vec Ideal S1x1x512 .f32) (q : Vec Ideal S1x128x512 .bf16) (k v : Vec Ideal S1x384x128 .bf16) (s : Fin 8 → Ideal .f32)
    (r : Fin 128) (c : Fin 512) :
    tile mask g q k v s (ix3 (0 : Fin 1) r c)
      = normRow (Ideal.ofBits .f32 0x44000000#32) (Ideal.ofBits .f32 0x358637BD#32)
        (fun j => mixFirst (fun t => if mask (ix2 r t) = 1#1 then ∑ d : Fin 64, q (ix3 (0 : Fin 1) r (qcol (hd j) d)) * k (ix3 (0 : Fin 1) t (kcol (hd j) d)) else ⊥)
          (fun t => v (ix3 (0 : Fin 1) t (kcol (hd j) (dm j)))) (s (hd j)))
        (fun j => g (ix3 (0 : Fin 1) (0 : Fin 1) j)) c := by
  unfold tile
  rw [shapeCast_apply _ shapeCasts_S128x512_S1x128x512 (ix3 (0 : Fin 1) r c) (ix2 r c)
    (by rw [Shape.rowMajor_val_two, Shape.rowMajor_val_three]; show r.val * 512 + c.val = (0 * 128 + r.val) * 512 + c.val; omega), truncf_apply, normed_at]
  have hqc : ∀ j : Fin 512, j = qcol (hd j) (dm j) := fun j => Fin.ext (by show j.val = j.val / 64 * 64 + j.val % 64; omega)
  have hq : ∀ (i : Fin 128) (j : Fin 512), shapeCast S128x512 q shapeCasts_S1x128x512_S128x512 (ix2 i j) = q (ix3 (0 : Fin 1) i j) := fun i j =>
    shapeCast_apply _ _ _ _ (by rw [Shape.rowMajor_val_two, Shape.rowMajor_val_three]; show (0 * 128 + i.val) * 512 + j.val = i.val * 512 + j.val; omega)
  have hk : ∀ (x : Vec Ideal S1x384x128 .bf16) (i : Fin 384) (j : Fin 128), shapeCast S384x128 x shapeCasts_S1x384x128_S384x128 (ix2 i j) = x (ix3 (0 : Fin 1) i j) := fun x i j =>
    shapeCast_apply _ _ _ _ (by rw [Shape.rowMajor_val_two, Shape.rowMajor_val_three]; show (0 * 384 + i.val) * 128 + j.val = i.val * 128 + j.val; omega)
  have hg : ∀ j : Fin 512, shapeCast S1x512 g shapeCasts_S1x1x512_S1x512 (ix2 (0 : Fin 1) j) = g (ix3 (0 : Fin 1) (0 : Fin 1) j) := fun j =>
    shapeCast_apply _ _ _ _ (by rw [Shape.rowMajor_val_two, Shape.rowMajor_val_three]; show (0 * 1 + 0) * 512 + j.val = 0 * 512 + j.val; omega)
  have ha : ∀ j : Fin 512, heads mask (shapeCast S128x512 q shapeCasts_S1x128x512_S128x512) (shapeCast S384x128 k shapeCasts_S1x384x128_S384x128)
      (shapeCast S384x128 v shapeCasts_S1x384x128_S384x128) s (ix2 r j)
        = mixFirst (fun t => if mask (ix2 r t) = 1#1 then ∑ d : Fin 64, q (ix3 (0 : Fin 1) r (qcol (hd j) d)) * k (ix3 (0 : Fin 1) t (kcol (hd j) d)) else ⊥)
          (fun t => v (ix3 (0 : Fin 1) t (kcol (hd j) (dm j)))) (s (hd j)) := fun j => by
    conv_lhs => rw [hqc j]
    rw [heads_at]
    refine congr (congr (congrArg mixFirst ?_) ?_) rfl
    · funext t
      refine if_congr Iff.rfl (Finset.sum_congr rfl fun d _ => ?_) rfl
      exact congr (congrArg HMul.hMul (hq r _)) (hk k t _)
    · funext t; exact hk v t _
  simp only [ha, hg]

end Cert.KernelIdeal.Gen

end
-- ==== Proof.KOut.lean ====
module

public import proofs.«01_k».proof.Proof.KValue
public import proofs.«01_k».proof.Proof.KTile
public import Idealize.ShloMosaic.Lib.Pipeline.Value
public import Idealize.ShloMosaic.Lib.Pipeline.ValueKit.Basic
public import Idealize.ShloMosaic.Lib.Pipeline.ValueKit.Tiles

@[expose] public section

set_option maxRecDepth 16384

noncomputable section

/-! # What a grid point leaves in the result's block -/

namespace Cert.KernelIdeal.Gen

open Cert.Attn Idealize.ShloMosaic Idealize.ShloMosaic.TcCoe Idealize.ShloMosaic.ValueIdx
open Idealize.SL Idealize.SL.Sem

variable {F : FTy → Type} [FloatOps F]

theorem mem_pieces (i : grid0.Coords) (arg2 : Memref sig .tc .smem S4x8 .f32) (arg3 : Memref sig .tc .vmem S1x1024x512 .bf16) (arg4 arg5 : Memref sig .tc .vmem S1x4096x128 .bf16)
    (v0 : BitVec 32) (v1 : Vec F S1x1x512 .f32)
    (X2 : BufTy.Contents (Elt F) arg2.view.ty) (X3 : BufTy.Contents (Elt F) arg3.view.ty) (X4 : BufTy.Contents (Elt F) arg4.view.ty) (X5 : BufTy.Contents (Elt F) arg5.view.ty) (n : ℕ)
    (p : View.Piece (Elt F) S1x1024x512 .bf16) (hp : p ∈ pieces i arg2 arg3 arg4 arg5 v0 v1 X2 X3 X4 X5 n) :
    ∃ k : Fin k0_t1_loop.trips, p = ⟨Rect.unit (s := S1x1024x512) (k0_off2 k) S1x128x512.size (k0_off2_inb k), tripTile i arg2 arg3 arg4 arg5 v0 v1 X2 X3 X4 X5 k⟩ := by
  induction n with
  | zero => simp [pieces] at hp
  | succ n ih =>
    unfold pieces at hp
    split_ifs at hp with h
    · rcases List.mem_cons.mp hp with rfl | hp
      · exact ⟨⟨n, h⟩, rfl⟩
      · exact ih hp
    · exact ih hp

theorem out_at (c : Dev nD) (i : grid0.Coords) (arg2 : Memref sig .tc .smem S4x8 .f32) (harg2 : arg2.IsWhole) (arg3 : Memref sig .tc .vmem S1x1024x512 .bf16) (harg3 : arg3.IsWhole) (arg4 : Memref sig .tc .vmem S1x4096x128 .bf16) (harg4 : arg4.IsWhole) (arg5 : Memref sig .tc .vmem S1x4096x128 .bf16) (harg5 : arg5.IsWhole) (arg6) (harg6) (arg7) (harg7) (arg8) (harg8) (arg9) (harg9)
    (x0 : Vec F S4x8 .f32) (x1 : Vec F S1x1024x512 .bf16) (x2 : Vec F S1x4096x128 .bf16) (x3 : Vec F S1x4096x128 .bf16) (x4 : Vec F S1x1x512 .f32)
    (G : S1x1024x512.Idx → F .bf16)
    (hG : ∀ (k : Fin k0_t1_loop.trips) (x : S1x128x512.Idx),
      tripTile i arg2 arg3 arg4 arg5 (Scalar.muli (BitVec.ofNat 32 (i 1).val) 1024#32) x4 (harg2.unread x0) (harg3.unread x1) (harg4.unread x2) (harg5.unread x3) k x
        = G ((Rect.unit (s := S1x1024x512) (k0_off2 k) S1x128x512.size (k0_off2_inb k)).emb x)) (y : S1x1024x512.Idx) :
    out0_A_5 c i arg2 harg2 arg3 harg3 arg4 harg4 arg5 harg5 arg6 harg6 arg7 harg7 arg8 harg8 arg9 harg9 x0 x1 x2 x3 x4 y = G y := by
  unfold out0_A_5
  rw [View.read_writes_eq_canon _ _ _ (cover0_A_5 c i arg2 harg2 arg3 harg3 arg4 harg4 arg5 harg5 arg6 harg6 arg7 harg7 arg8 harg8 arg9 harg9 x0 x1 x2 x3 x4)]
  refine View.canon_apply_of_pieces G _ ?_ y (cover0_A_5 c i arg2 harg2 arg3 harg3 arg4 harg4 arg5 harg5 arg6 harg6 arg7 harg7 arg8 harg8 arg9 harg9 x0 x1 x2 x3 x4 y)
  intro p hp
  unfold kernelRun0_A at hp
  dsimp only at hp
  rw [show View.readAt (Elt F) arg6.view (Rect.unit (s := S1x1x512) ![0, 0, 0] ![1, 1, 512] inb_S1x1x512_S1x1x512_0_0_0).toLoadRect (harg6.unread x4) = x4 from by
    rw [View.readAt_eq_ld, harg6.read_unread]
    exact View.ld_unit_lit (S := S1x1x512) _ x4 (by decide)] at hp
  obtain ⟨k, rfl⟩ := mem_pieces i arg2 arg3 arg4 arg5 _ _ _ _ _ _ _ p hp
  exact hG k

/-! ## The trip's loads -/

theorem trip_lt (k : Fin k0_t1_loop.trips) : k.val < 8 := k.isLt

/-- The block of trip `k` at a grid point. -/
def bn (i : grid0.Coords) (k : Fin k0_t1_loop.trips) : Fin 32 :=
  ⟨(i 1).val * 8 + k.val, by have h1 : (i 1).val < 4 := (i 1).isLt; have h2 := trip_lt k; omega⟩

/-- The point's second coordinate. -/
abbrev i1 (i : grid0.Coords) : Fin 4 := ⟨(i 1).val, (i 1).isLt⟩

/-- The first row of the trip's block, as a word. -/
abbrev startWord (j : Fin 4) (k : Fin k0_t1_loop.trips) : BitVec 32 :=
  Scalar.addi (Scalar.muli (BitVec.ofNat 32 j.val) 1024#32) (Scalar.muli (Scalar.addi (Scalar.muli (Scf.iv 0#32 1#32 k) 1#32) 0#32) 128#32)

abbrev windowWord (j : Fin 4) (k : Fin k0_t1_loop.trips) : BitVec 32 :=
  Scalar.minsi 3712#32 (Scalar.maxsi 0#32 (Scalar.subi (startWord j k) 128#32))

theorem startWord_eq : ∀ (j : Fin 4) (k : Fin k0_t1_loop.trips), startWord j k = BitVec.ofNat 32 ((j.val * 8 + k.val) * 128) := by decide +kernel

theorem windowWord_eq : ∀ (j : Fin 4) (k : Fin k0_t1_loop.trips), windowWord j k = BitVec.ofNat 32 (min 3712 ((j.val * 8 + k.val) * 128 - 128)) := by decide +kernel

theorem windowNat_eq : ∀ (j : Fin 4) (k : Fin k0_t1_loop.trips), (Scalar.indexCast (windowWord j k)).toNat = min 3712 ((j.val * 8 + k.val) * 128 - 128) := by decide +kernel

theorem off1_eq (i : grid0.Coords) (k : Fin k0_t1_loop.trips) : k0_off1 i k = ![0, winStart (bn i k), 0] := by
  have h : k0_off1 i k = ![0, (Scalar.indexCast (windowWord (i1 i) k)).toNat, 0] := rfl
  rw [h, windowNat_eq]; rfl

theorem off2_eq : ∀ k : Fin k0_t1_loop.trips, k0_off2 k = ![0, k.val * 128, 0] := by decide +kernel

/-- THE MASK: a key is seen exactly when it is within 128 rows of the query. -/
theorem pay4_at (i : grid0.Coords) (k : Fin k0_t1_loop.trips) (r : Fin 128) (t : Fin 384) :
    k0_pay4 (Scalar.muli (BitVec.ofNat 32 (i 1).val) 1024#32) 0#32 1#32 k (ix2 r t)
      = BitVec.ofBool (decide ((qrow (bn i k) r).val ≤ (krow (bn i k) t).val + 128 ∧ (krow (bn i k) t).val ≤ (qrow (bn i k) r).val + 128)) := by
  have h1 : (i 1).val < 4 := (i 1).isLt
  have h2 := trip_lt k
  have h : k0_pay4 (Scalar.muli (BitVec.ofNat 32 (i 1).val) 1024#32) 0#32 1#32 k (ix2 r t)
      = IntOp.cmpi .sle (IntOp.absi (IntOp.subi (IntOp.addi (startWord (i1 i) k) (BitVec.ofNat 32 r.val)) (IntOp.addi (windowWord (i1 i) k) (BitVec.ofNat 32 t.val)))) 128#32 := by
    unfold k0_pay4
    show IntOp.cmpi .sle (IntOp.absi (IntOp.subi (IntOp.addi (startWord (i1 i) k) (iota .tc S128x384 32 [0] iota_S128x384_d0_w32 (ix2 r t))) (IntOp.addi (windowWord (i1 i) k) (iota .tc S128x384 32 [1] iota_S128x384_d1_w32 (ix2 r t))))) 128#32 = _
    rw [iota_single_apply, iota_single_apply]
  have hq : (qrow (bn i k) r).val = ((i 1).val * 8 + k.val) * 128 + r.val := rfl
  have hk : (krow (bn i k) t).val = min 3712 (((i 1).val * 8 + k.val) * 128 - 128) + t.val := rfl
  rw [h, startWord_eq, windowWord_eq, absi_le _ (((qrow (bn i k) r).val : ℤ) - (krow (bn i k) t).val) ?_ (by omega) (by omega)]
  · congr 1
    rw [decide_eq_decide]
    omega
  · refine toInt_sub_int _ _ _ _ (toInt_add_int _ _ (((i 1).val * 8 + k.val) * 128 : ℕ) r.val (toInt_ofNat_small _ (by omega)) (toInt_ofNat_small _ (by omega)) (by omega) (by omega) |>.trans (by omega))
      (toInt_add_int _ _ (min 3712 (((i 1).val * 8 + k.val) * 128 - 128) : ℕ) t.val (toInt_ofNat_small _ (by omega)) (toInt_ofNat_small _ (by omega)) (by omega) (by omega) |>.trans (by omega)) (by omega) (by omega)

theorem sinkAt_at (arg2 : Memref sig .tc .smem S4x8 .f32) (harg2 : arg2.IsWhole) (x0 : Vec F S4x8 .f32) (h : Fin 8) :
    sinkAt arg2 (harg2.unread x0) h = x0 (ix2 (0 : Fin 4) h) := by
  unfold sinkAt
  simp only [View.readAt_eq_ld, harg2.read_unread]
  match h with
  | ⟨0, _⟩ => exact congrArg x0 (funext fun a => Fin.ext (by match a with | ⟨0, _⟩ => rfl | ⟨1, _⟩ => rfl))
  | ⟨1, _⟩ => exact congrArg x0 (funext fun a => Fin.ext (by match a with | ⟨0, _⟩ => rfl | ⟨1, _⟩ => rfl))
  | ⟨2, _⟩ => exact congrArg x0 (funext fun a => Fin.ext (by match a with | ⟨0, _⟩ => rfl | ⟨1, _⟩ => rfl))
  | ⟨3, _⟩ => exact congrArg x0 (funext fun a => Fin.ext (by match a with | ⟨0, _⟩ => rfl | ⟨1, _⟩ => rfl))
  | ⟨4, _⟩ => exact congrArg x0 (funext fun a => Fin.ext (by match a with | ⟨0, _⟩ => rfl | ⟨1, _⟩ => rfl))
  | ⟨5, _⟩ => exact congrArg x0 (funext fun a => Fin.ext (by match a with | ⟨0, _⟩ => rfl | ⟨1, _⟩ => rfl))
  | ⟨6, _⟩ => exact congrArg x0 (funext fun a => Fin.ext (by match a with | ⟨0, _⟩ => rfl | ⟨1, _⟩ => rfl))
  | ⟨7, _⟩ => exact congrArg x0 (funext fun a => Fin.ext (by match a with | ⟨0, _⟩ => rfl | ⟨1, _⟩ => rfl))

/-- A row of the kernel's result, from the arrays. -/
def rowOut (Q : Fin 4096 → Fin 512 → EReal) (K V : Fin 4096 → Fin 128 → EReal) (S : Fin 8 → EReal) (g : Fin 512 → EReal) (p : Fin 4096) (c : Fin 512) : EReal :=
  normRow (Ideal.ofBits .f32 0x44000000#32) (Ideal.ofBits .f32 0x358637BD#32)
    (fun j => mixFirst (winScore Q K (blk p) (off p) (hd j)) (winVal V (blk p) (hd j) (dm j)) (S (hd j))) g c

/-- The place in the array of row `p` of the point's block. -/
def prow (i : grid0.Coords) (p : Fin 1024) : Fin 4096 := ⟨(i 1).val * 1024 + p.val, by have h1 : (i 1).val < 4 := (i 1).isLt; omega⟩

theorem trip_at (i : grid0.Coords) (arg2 : Memref sig .tc .smem S4x8 .f32) (harg2 : arg2.IsWhole) (arg3 : Memref sig .tc .vmem S1x1024x512 .bf16) (harg3 : arg3.IsWhole) (arg4 : Memref sig .tc .vmem S1x4096x128 .bf16) (harg4 : arg4.IsWhole) (arg5 : Memref sig .tc .vmem S1x4096x128 .bf16) (harg5 : arg5.IsWhole)
    (x0 : Vec Ideal S4x8 .f32) (x1 : Vec Ideal S1x1024x512 .bf16) (x2 : Vec Ideal S1x4096x128 .bf16) (x3 : Vec Ideal S1x4096x128 .bf16) (x4 : Vec Ideal S1x1x512 .f32)
    (Q : Fin 4096 → Fin 512 → EReal) (K V : Fin 4096 → Fin 128 → EReal)
    (hq : ∀ (p : Fin 1024) (c : Fin 512), x1 (ix3 (0 : Fin 1) p c) = Q (prow i p) c)
    (hk : ∀ (p : Fin 4096) (c : Fin 128), x2 (ix3 (0 : Fin 1) p c) = K p c)
    (hv : ∀ (p : Fin 4096) (c : Fin 128), x3 (ix3 (0 : Fin 1) p c) = V p c)
    (k : Fin k0_t1_loop.trips) (r : Fin 128) (c : Fin 512) :
    tripTile i arg2 arg3 arg4 arg5 (Scalar.muli (BitVec.ofNat 32 (i 1).val) 1024#32) x4 (harg2.unread x0) (harg3.unread x1) (harg4.unread x2) (harg5.unread x3) k (ix3 (0 : Fin 1) r c)
      = rowOut Q K V (fun h => x0 (ix2 (0 : Fin 4) h)) (fun j => x4 (ix3 (0 : Fin 1) (0 : Fin 1) j)) (qrow (bn i k) r) c := by
  have h1 : (i 1).val < 4 := (i 1).isLt
  have h2 := trip_lt k
  have hb : blk (qrow (bn i k) r) = bn i k := Fin.ext (by show (((i 1).val * 8 + k.val) * 128 + r.val) / 128 = (i 1).val * 8 + k.val; omega)
  have ho : off (qrow (bn i k) r) = r := Fin.ext (by show (((i 1).val * 8 + k.val) * 128 + r.val) % 128 = r.val; omega)
  unfold tripTile rowOut
  rw [tile_at, hb, ho]
  have lq : ∀ (j : Fin 512), View.readAt (Elt Ideal) arg3.view (Rect.unit (s := S1x1024x512) (k0_off2 k) S1x128x512.size (k0_off2_inb k)).toLoadRect (harg3.unread x1) (ix3 (0 : Fin 1) r j)
      = Q (qrow (bn i k) r) j := fun j => by
    rw [View.readAt_eq_ld, harg3.read_unread]
    refine (View.ld_unit_apply_of x1 _ _ _ _ (ix3 (0 : Fin 1) (⟨k.val * 128 + r.val, by omega⟩ : Fin 1024) j) fun a => ?_).trans ((hq _ j).trans ?_)
    · refine Eq.trans ?_ (congrArg (· + ((ix3 (0 : Fin 1) r j : S1x128x512.Idx) a).val) (congrFun (off2_eq k) a).symm)
      match a with | ⟨0, _⟩ => rfl | ⟨1, _⟩ => rfl | ⟨2, _⟩ => show j.val = 0 + j.val; omega
    · exact congrArg (Q · j) (Fin.ext (by show (i 1).val * 1024 + (k.val * 128 + r.val) = ((i 1).val * 8 + k.val) * 128 + r.val; omega))
  have lk : ∀ (arg : Memref sig .tc .vmem S1x4096x128 .bf16) (harg : arg.IsWhole) (x : Vec Ideal S1x4096x128 .bf16) (W : Fin 4096 → Fin 128 → EReal)
      (_ : ∀ (p : Fin 4096) (c : Fin 128), x (ix3 (0 : Fin 1) p c) = W p c) (t : Fin 384) (j : Fin 128),
      View.readAt (Elt Ideal) arg.view (Rect.unit (s := S1x4096x128) (k0_off1 i k) S1x384x128.size (k0_off1_inb i k)).toLoadRect (harg.unread x) (ix3 (0 : Fin 1) t j)
      = W (krow (bn i k) t) j := fun arg harg x W hW t j => by
    rw [View.readAt_eq_ld, harg.read_unread]
    refine (View.ld_unit_apply_of x _ _ _ _ (ix3 (0 : Fin 1) (krow (bn i k) t) j) fun a => ?_).trans (hW _ j)
    refine Eq.trans ?_ (congrArg (· + ((ix3 (0 : Fin 1) t j : S1x384x128.Idx) a).val) (congrFun (off1_eq i k) a).symm)
    match a with | ⟨0, _⟩ => rfl | ⟨1, _⟩ => rfl | ⟨2, _⟩ => show j.val = 0 + j.val; omega
  refine congrArg (fun a => normRow (Ideal.ofBits .f32 0x44000000#32) (Ideal.ofBits .f32 0x358637BD#32) a (fun j => x4 (ix3 (0 : Fin 1) (0 : Fin 1) j)) c) (funext fun j => ?_)
  refine congr (congr (congrArg mixFirst (funext fun t => ?_)) (funext fun t => lk arg5 harg5 x3 V hv t _)) (sinkAt_at arg2 harg2 x0 _)
  unfold winScore
  rw [pay4_at]
  refine if_congr ?_ (Finset.sum_congr rfl fun d _ => congr (congrArg HMul.hMul (lq _)) (lk arg4 harg4 x2 K hk t _)) rfl
  by_cases h : (qrow (bn i k) r).val ≤ (krow (bn i k) t).val + 128 ∧ (krow (bn i k) t).val ≤ (qrow (bn i k) r).val + 128
  · simp [h]
  · simp [h]

/-- WHAT A POINT LEAVES, at row `p` of its block. -/
theorem point_at (c : Dev nD) (i : grid0.Coords) (arg2 : Memref sig .tc .smem S4x8 .f32) (harg2 : arg2.IsWhole) (arg3 : Memref sig .tc .vmem S1x1024x512 .bf16) (harg3 : arg3.IsWhole) (arg4 : Memref sig .tc .vmem S1x4096x128 .bf16) (harg4 : arg4.IsWhole) (arg5 : Memref sig .tc .vmem S1x4096x128 .bf16) (harg5 : arg5.IsWhole) (arg6) (harg6) (arg7) (harg7) (arg8) (harg8) (arg9) (harg9)
    (x0 : Vec Ideal S4x8 .f32) (x1 : Vec Ideal S1x1024x512 .bf16) (x2 : Vec Ideal S1x4096x128 .bf16) (x3 : Vec Ideal S1x4096x128 .bf16) (x4 : Vec Ideal S1x1x512 .f32)
    (Q : Fin 4096 → Fin 512 → EReal) (K V : Fin 4096 → Fin 128 → EReal)
    (hq : ∀ (p : Fin 1024) (c : Fin 512), x1 (ix3 (0 : Fin 1) p c) = Q (prow i p) c)
    (hk : ∀ (p : Fin 4096) (c : Fin 128), x2 (ix3 (0 : Fin 1) p c) = K p c)
    (hv : ∀ (p : Fin 4096) (c : Fin 128), x3 (ix3 (0 : Fin 1) p c) = V p c) (p : Fin 1024) (e : Fin 512) :
    out0_A_5 c i arg2 harg2 arg3 harg3 arg4 harg4 arg5 harg5 arg6 harg6 arg7 harg7 arg8 harg8 arg9 harg9 x0 x1 x2 x3 x4 (ix3 (0 : Fin 1) p e)
      = rowOut Q K V (fun h => x0 (ix2 (0 : Fin 4) h)) (fun j => x4 (ix3 (0 : Fin 1) (0 : Fin 1) j)) (prow i p) e := by
  refine out_at c i arg2 harg2 arg3 harg3 arg4 harg4 arg5 harg5 arg6 harg6 arg7 harg7 arg8 harg8 arg9 harg9 x0 x1 x2 x3 x4
    (fun y => rowOut Q K V (fun h => x0 (ix2 (0 : Fin 4) h)) (fun j => x4 (ix3 (0 : Fin 1) (0 : Fin 1) j)) (prow i (y 1)) (y 2)) ?_ (ix3 (0 : Fin 1) p e)
  intro k x
  have h1 : (i 1).val < 4 := (i 1).isLt
  have h2 := trip_lt k
  have hx : x = ix3 (0 : Fin 1) (x 1) (x 2) := funext fun a => by
    match a with
    | ⟨0, _⟩ => exact Fin.ext (by have h : (x 0).val < 1 := (x 0).isLt; show (x 0).val = 0; omega)
    | ⟨1, _⟩ => rfl
    | ⟨2, _⟩ => rfl
  conv_lhs => rw [hx]
  refine (trip_at i arg2 harg2 arg3 harg3 arg4 harg4 arg5 harg5 x0 x1 x2 x3 x4 Q K V hq hk hv k (x 1) (x 2)).trans ?_
  refine congr (congrArg (rowOut Q K V (fun h => x0 (ix2 (0 : Fin 4) h)) (fun j => x4 (ix3 (0 : Fin 1) (0 : Fin 1) j))) (Fin.ext ?_)) (Fin.ext ?_)
  · show ((i 1).val * 8 + k.val) * 128 + (x 1).val = (i 1).val * 1024 + (k0_off2 k 1 + 1 * (x 1).val)
    rw [off2_eq k]
    show ((i 1).val * 8 + k.val) * 128 + (x 1).val = (i 1).val * 1024 + (k.val * 128 + 1 * (x 1).val)
    omega
  · show (x 2).val = k0_off2 k 2 + 1 * (x 2).val
    rw [off2_eq k]
    show (x 2).val = 0 + 1 * (x 2).val
    omega

end Cert.KernelIdeal.Gen

end
-- ==== Proof.RefBand.lean ====
module

public import proofs.«01_k».proof.Proof.Band
public import proofs.«01_k».proof.Proof.Words
public import proofs.«01_k».proof.Proof.Gen.ReferenceIdeal.Read
public import Idealize.ShloMosaic.Lib.ValueIdxRank6
public import Idealize.ShloMosaic.Lib.KernelVsHost

@[expose] public section

noncomputable section

/-! # The reference's scores and values, read at an index -/

namespace Cert.ReferenceIdeal.Read

open Cert.Attn Cert.ReferenceIdeal Cert.ReferenceIdeal.Gen Idealize.ShloMosaic Idealize.ShloMosaic.TcCoe Idealize.SL.Sem Idealize.ShloMosaic.StableHlo Idealize.ShloMosaic.ValueIdx

/-- One batch row's queries, keys or values. -/
abbrev qOf (x0 : (⟨S4x4096x512, .bf16⟩ : BufTy).Contents (Elt Ideal)) (b : Fin 4) : Fin 4096 → Fin 512 → EReal := fun p c => x0 (ix3 b p c)
abbrev kOf (x1 : (⟨S4x4096x128, .bf16⟩ : BufTy).Contents (Elt Ideal)) (b : Fin 4) : Fin 4096 → Fin 128 → EReal := fun p c => x1 (ix3 b p c)

/-- The query head of key head `kv` and place `g`. -/
def hq (kv : Fin 2) (g : Fin 4) : Fin 8 := ⟨kv.val * 4 + g.val, by omega⟩

theorem v1_at (x0 : (⟨S4x4096x512, .bf16⟩ : BufTy).Contents (Elt Ideal)) (b : Fin 4) (p : Fin 4096) (h : Fin 8) (d : Fin 64) :
    val_main_v1 (F := Ideal) x0 (ix4 b p h d) = qOf x0 b p (qcol h d) := by
  rw [val_main_v1_apply, val_main_v0_apply]
  show x0 _ = x0 _
  refine congrArg x0 (funext fun a => Fin.ext ?_)
  have h0 := b.isLt; have h1 := p.isLt; have h2 := h.isLt; have h3 := d.isLt
  match a with
  | ⟨0, _⟩ => show (((b.val * 4096 + p.val) * 8 + h.val) * 64 + d.val) / 2097152 = b.val; omega
  | ⟨1, _⟩ => show (((b.val * 4096 + p.val) * 8 + h.val) * 64 + d.val) / 512 % 4096 = p.val; omega
  | ⟨2, _⟩ => show (((b.val * 4096 + p.val) * 8 + h.val) * 64 + d.val) % 512 = h.val * 64 + d.val; omega

theorem v8_at (x0 : (⟨S4x4096x512, .bf16⟩ : BufTy).Contents (Elt Ideal)) (b : Fin 4) (n : Fin 32) (qi : Fin 128) (kv : Fin 2) (g : Fin 4) (d : Fin 64) :
    val_main_v8 (F := Ideal) x0 (ix6 b n qi kv g d) = qOf x0 b (qrow n qi) (qcol (hq kv g) d) := by
  unfold val_main_v8
  rw [shapeCast_apply _ shapeCasts_S4x4096x8x64_S4x32x128x2x4x64 _ (ix4 b (qrow n qi) (hq kv g) d), v1_at]
  rw [Shape.rowMajor_val_four, Shape.rowMajor_val_six]
  show (((b.val * 4096 + (n.val * 128 + qi.val)) * 8 + (kv.val * 4 + g.val)) * 64 + d.val)
    = ((((b.val * 32 + n.val) * 128 + qi.val) * 2 + kv.val) * 4 + g.val) * 64 + d.val
  omega

/-- The column of component `d` of key head `kv`. -/
def kvcol (kv : Fin 2) (d : Fin 64) : Fin 128 := ⟨kv.val * 64 + d.val, by omega⟩

theorem kvcol_eq (kv : Fin 2) (g : Fin 4) (d : Fin 64) : kvcol kv d = kcol (hq kv g) d := by
  refine Fin.ext ?_
  show kv.val * 64 + d.val = (kv.val * 4 + g.val) / 4 * 64 + d.val
  have := g.isLt; omega

/-- Keys as heads. -/
theorem v3_at (x1 : (⟨S4x4096x128, .bf16⟩ : BufTy).Contents (Elt Ideal)) (b : Fin 4) (p : Fin 4096) (kv : Fin 2) (d : Fin 64) :
    val_main_v3 (F := Ideal) x1 (ix4 b p kv d) = kOf x1 b p (kvcol kv d) := by
  rw [val_main_v3_apply, val_main_v2_apply]
  show x1 _ = x1 _
  refine congrArg x1 (funext fun a => Fin.ext ?_)
  have h0 := b.isLt; have h1 := p.isLt; have h2 := kv.isLt; have h3 := d.isLt
  match a with
  | ⟨0, _⟩ => show (((b.val * 4096 + p.val) * 2 + kv.val) * 64 + d.val) / 524288 = b.val; omega
  | ⟨1, _⟩ => show (((b.val * 4096 + p.val) * 2 + kv.val) * 64 + d.val) / 128 % 4096 = p.val; omega
  | ⟨2, _⟩ => show (((b.val * 4096 + p.val) * 2 + kv.val) * 64 + d.val) % 128 = kv.val * 64 + d.val; omega

theorem v5_eq (x2 : (⟨S4x4096x128, .bf16⟩ : BufTy).Contents (Elt Ideal)) : val_main_v5 (F := Ideal) x2 = val_main_v3 (F := Ideal) x2 := rfl

/-- Keys padded by a block of zeros at each end. -/
theorem v9_at (x1 : (⟨S4x4096x128, .bf16⟩ : BufTy).Contents (Elt Ideal)) (b : Fin 4) (κ : Fin 4352) (kv : Fin 2) (d : Fin 64) :
    val_main_v9 (F := Ideal) x1 (ix4 b κ kv d) = padded (kOf x1 b) κ.val (kvcol kv d) := by
  unfold val_main_v9 padded
  have hκ := κ.isLt
  split_ifs with h
  · rw [pad_apply_of_inside _ _ _ _ _ _ _ _ (ix4 b ⟨κ.val - 128, by omega⟩ kv d), v3_at]
    intro a
    match a with
    | ⟨0, _⟩ => show b.val = 0 + b.val * (0 + 1); omega
    | ⟨1, _⟩ => show κ.val = 128 + (κ.val - 128) * (0 + 1); omega
    | ⟨2, _⟩ => show kv.val = 0 + kv.val * (0 + 1); omega
    | ⟨3, _⟩ => show d.val = 0 + d.val * (0 + 1); omega
  · rw [pad_apply_of_not_inside _ _ _ _ _ _ _ _ ⟨1, by decide⟩]
    · exact sitofp_zero (φ := .f32)
    · intro hh
      obtain ⟨h1, h2, h3⟩ := hh
      have h1 : 128 ≤ κ.val := h1
      have h3 : (κ.val - 128) / (0 + 1) < 4096 := h3
      omega

theorem v10_at (x1 : (⟨S4x4096x128, .bf16⟩ : BufTy).Contents (Elt Ideal)) (b : Fin 4) (n : Fin 34) (r : Fin 128) (kv : Fin 2) (d : Fin 64) :
    val_main_v10 (F := Ideal) x1 (ix5 b n r kv d) = padded (kOf x1 b) (n.val * 128 + r.val) (kvcol kv d) := by
  rw [val_main_v10_apply]
  have h0 := b.isLt; have h1 := n.isLt; have h2 := r.isLt; have h3 := kv.isLt; have h4 := d.isLt
  rw [show idx_main_v10 (ix5 b n r kv d) = ix4 b (⟨n.val * 128 + r.val, by omega⟩ : Fin 4352) kv d from funext fun a => Fin.ext (by
    match a with
    | ⟨0, _⟩ => show ((((b.val * 34 + n.val) * 128 + r.val) * 2 + kv.val) * 64 + d.val) / 557056 = b.val; omega
    | ⟨1, _⟩ => show ((((b.val * 34 + n.val) * 128 + r.val) * 2 + kv.val) * 64 + d.val) / 128 % 4352 = n.val * 128 + r.val; omega
    | ⟨2, _⟩ => show ((((b.val * 34 + n.val) * 128 + r.val) * 2 + kv.val) * 64 + d.val) / 64 % 2 = kv.val; omega
    | ⟨3, _⟩ => show ((((b.val * 34 + n.val) * 128 + r.val) * 2 + kv.val) * 64 + d.val) % 64 = d.val; omega), v9_at]

/-- The three blocks side by side. -/
theorem v14_at (x1 : (⟨S4x4096x128, .bf16⟩ : BufTy).Contents (Elt Ideal)) (b : Fin 4) (n : Fin 32) (t : Fin 384) (kv : Fin 2) (d : Fin 64) :
    val_main_v14 (F := Ideal) x1 (ix5 b n t kv d) = padded (kOf x1 b) (n.val * 128 + t.val) (kvcol kv d) := by
  unfold val_main_v14
  have h0 := b.isLt; have h1 := n.isLt; have h2 := t.isLt; have h3 := kv.isLt; have h4 := d.isLt
  by_cases ht : t.val < 128
  · refine Eq.trans (concatenate_apply_piece (t := S4x32x384x2x64) 2 _ _ _ 0 (by show 0 < 3; omega) S4x32x128x2x64 (val_main_v11 (F := Ideal) x1) rfl rfl 0 rfl (ix5 b n (⟨t.val, ht⟩ : Fin 128) kv d)
      (fun a ha => by match a with | ⟨0, _⟩ => rfl | ⟨1, _⟩ => rfl | ⟨2, _⟩ => exact (ha rfl).elim | ⟨3, _⟩ => rfl | ⟨4, _⟩ => rfl)
      (by show 0 + t.val = t.val; omega)) ?_
    rw [val_main_v11_apply, show idx_main_v11 (ix5 b n (⟨t.val, ht⟩ : Fin 128) kv d) = ix5 b (⟨n.val, by omega⟩ : Fin 34) (⟨t.val, ht⟩ : Fin 128) kv d from funext fun a => by
      match a with | ⟨0, _⟩ => rfl | ⟨1, _⟩ => rfl | ⟨2, _⟩ => rfl | ⟨3, _⟩ => rfl | ⟨4, _⟩ => rfl, v10_at]
  · by_cases ht' : t.val < 256
    · refine Eq.trans (concatenate_apply_piece (t := S4x32x384x2x64) 2 _ _ _ 1 (by show 1 < 3; omega) S4x32x128x2x64 (val_main_v12 (F := Ideal) x1) rfl rfl 128 rfl (ix5 b n (⟨t.val - 128, by omega⟩ : Fin 128) kv d)
        (fun a ha => by match a with | ⟨0, _⟩ => rfl | ⟨1, _⟩ => rfl | ⟨2, _⟩ => exact (ha rfl).elim | ⟨3, _⟩ => rfl | ⟨4, _⟩ => rfl)
        (by show 128 + (t.val - 128) = t.val; omega)) ?_
      rw [val_main_v12_apply, show idx_main_v12 (ix5 b n (⟨t.val - 128, by omega⟩ : Fin 128) kv d) = ix5 b (⟨1 + n.val, by omega⟩ : Fin 34) (⟨t.val - 128, by omega⟩ : Fin 128) kv d from funext fun a => by
        match a with | ⟨0, _⟩ => rfl | ⟨1, _⟩ => rfl | ⟨2, _⟩ => rfl | ⟨3, _⟩ => rfl | ⟨4, _⟩ => rfl, v10_at]
      refine congrArg (fun k => padded (kOf x1 b) k _) ?_
      show (1 + n.val) * 128 + (t.val - 128) = n.val * 128 + t.val
      omega
    · refine Eq.trans (concatenate_apply_piece (t := S4x32x384x2x64) 2 _ _ _ 2 (by show 2 < 3; omega) S4x32x128x2x64 (val_main_v13 (F := Ideal) x1) rfl rfl 256 rfl (ix5 b n (⟨t.val - 256, by omega⟩ : Fin 128) kv d)
        (fun a ha => by match a with | ⟨0, _⟩ => rfl | ⟨1, _⟩ => rfl | ⟨2, _⟩ => exact (ha rfl).elim | ⟨3, _⟩ => rfl | ⟨4, _⟩ => rfl)
        (by show 256 + (t.val - 256) = t.val; omega)) ?_
      rw [val_main_v13_apply, show idx_main_v13 (ix5 b n (⟨t.val - 256, by omega⟩ : Fin 128) kv d) = ix5 b (⟨2 + n.val, by omega⟩ : Fin 34) (⟨t.val - 256, by omega⟩ : Fin 128) kv d from funext fun a => by
        match a with | ⟨0, _⟩ => rfl | ⟨1, _⟩ => rfl | ⟨2, _⟩ => rfl | ⟨3, _⟩ => rfl | ⟨4, _⟩ => rfl, v10_at]
      refine congrArg (fun k => padded (kOf x1 b) k _) ?_
      show (2 + n.val) * 128 + (t.val - 256) = n.val * 128 + t.val
      omega

theorem v20_eq (x2 : (⟨S4x4096x128, .bf16⟩ : BufTy).Contents (Elt Ideal)) : val_main_v20 (F := Ideal) x2 = val_main_v14 (F := Ideal) x2 := rfl

/-- The band and the sequence's ends, as one bit. -/
theorem v56_at (n : Fin 32) (qi : Fin 128) (t : Fin 384) :
    val_main_v56 (F := Ideal) (ix3 n qi t) = BitVec.ofBool (decide ((qi.val ≤ t.val ∧ t.val ≤ qi.val + 256) ∧ 128 ≤ n.val * 128 + t.val ∧ n.val * 128 + t.val < 4224)) := by
  have h1 := n.isLt; have h2 := qi.isLt; have h3 := t.isLt
  have hband : val_main_v46 (F := Ideal) (ix2 qi t) = BitVec.ofBool (decide (-128 ≤ (t.val : ℤ) - 128 - qi.val ∧ (t.val : ℤ) - 128 - qi.val ≤ 128)) := by
    rw [val_main_v46_apply, val_main_v44_apply, val_main_v45_apply, val_main_c_4_apply, val_main_v43_apply, val_main_v41_apply, val_main_v42_apply, val_main_v40_apply,
      val_main_v28_apply, val_main_v27_apply, val_main_v39_apply, val_main_c_3_apply, val_main_v26_apply, val_main_v25_apply]
    exact absi_le _ _ (toInt_sub_int _ _ _ _ (toInt_sub_int _ _ _ _ (toInt_ofNat_small t.val (by omega)) (by decide : (128#32 : BitVec 32).toInt = 128) (by omega) (by omega))
      (toInt_ofNat_small qi.val (by omega)) (by omega) (by omega)) (by omega) (by omega)
  have hpos : (val_main_v38 (F := Ideal) (ix3 n (0 : Fin 1) t)).toInt = (n.val : ℤ) * 128 - 128 + t.val := by
    rw [val_main_v38_apply, val_main_v36_apply, val_main_v34_apply, val_main_v32_apply, val_main_v30_apply, val_main_v29_apply, val_main_v31_apply, val_main_c_1_apply,
      val_main_v33_apply, val_main_c_2_apply, val_main_v37_apply, val_main_v35_apply, val_main_v28_apply, val_main_v27_apply]
    exact toInt_add_int _ _ _ _ (toInt_sub_int _ _ _ _ (toInt_mul_int _ _ _ _ (toInt_ofNat_small n.val (by omega)) (by decide : (128#32 : BitVec 32).toInt = 128) (by omega) (by omega))
      (by decide : (128#32 : BitVec 32).toInt = 128) (by omega) (by omega)) (toInt_ofNat_small t.val (by omega)) (by omega) (by omega)
  rw [val_main_v56_apply, val_main_v52_apply, val_main_v50_apply, val_main_v49_apply, val_main_v51_apply, val_main_v48_apply, val_main_v55_apply, val_main_v54_apply,
    val_main_v47_apply, val_main_c_5_apply, val_main_v53_apply, val_main_c_6_apply]
  rw [show idx_main_v49 (idx_main_v50 (ix3 n qi t)) = ix2 qi t from funext fun a => by match a with | ⟨0, _⟩ => rfl | ⟨1, _⟩ => rfl, hband,
    show idx_main_v51 (ix3 n qi t) = ix3 n (0 : Fin 1) t from funext fun a => by match a with | ⟨0, _⟩ => rfl | ⟨1, _⟩ => rfl | ⟨2, _⟩ => rfl,
    show idx_main_v55 (ix3 n qi t) = ix3 n (0 : Fin 1) t from funext fun a => by match a with | ⟨0, _⟩ => rfl | ⟨1, _⟩ => rfl | ⟨2, _⟩ => rfl,
    WordCmp.cmpi_sge_eq, WordCmp.cmpi_slt_eq, hpos, show (0#32 : BitVec 32).toInt = 0 from by decide, show (4096#32 : BitVec 32).toInt = 4096 from by decide]
  have hand : ∀ a b : Bool, IntOp.andi (BitVec.ofBool a) (BitVec.ofBool b) = BitVec.ofBool (a && b) := by decide
  rw [hand, hand]
  congr 1
  rw [← Bool.decide_and, ← Bool.decide_and, decide_eq_decide]
  omega

/-- THE MASKED SCORE. -/
theorem v58_at (x0 : (⟨S4x4096x512, .bf16⟩ : BufTy).Contents (Elt Ideal)) (x1 : (⟨S4x4096x128, .bf16⟩ : BufTy).Contents (Elt Ideal))
    (b : Fin 4) (n : Fin 32) (kv : Fin 2) (g : Fin 4) (qi : Fin 128) (t : Fin 384) :
    val_main_v58 (F := Ideal) x0 x1 (ix6 b n kv g qi t) = refScore (Ideal.ofBits .f32 0x3E000000#32) (qOf x0 b) (kOf x1 b) n qi (hq kv g) t := by
  rw [val_main_v58_apply, val_main_call2_v1_apply, val_main_v57_apply,
    show idx_main_v57 (idx_main_call2_v1 (ix6 b n kv g qi t)) = ix3 n qi t from funext fun a => by match a with | ⟨0, _⟩ => rfl | ⟨1, _⟩ => rfl | ⟨2, _⟩ => rfl, v56_at]
  unfold refScore
  split_ifs with h
  · rw [decide_eq_true h]
    show val_main_v24 (F := Ideal) x0 x1 (ix6 b n kv g qi t) = _
    rw [val_main_v24_apply, val_main_v22_apply, val_main_v21_apply, val_main_v23_apply, val_main_cst_apply]
    refine congrArg (· * Ideal.ofBits .f32 0x3E000000#32) (Finset.sum_congr rfl fun e _ => ?_)
    rw [show lidx_main_v21 (idx_main_v22 (ix6 b n kv g qi t)) e = ix5 b n t kv e from funext fun a => by
        match a with | ⟨0, _⟩ => rfl | ⟨1, _⟩ => rfl | ⟨2, _⟩ => rfl | ⟨3, _⟩ => rfl | ⟨4, _⟩ => rfl,
      show ridx_main_v21 (idx_main_v22 (ix6 b n kv g qi t)) e = ix6 b n qi kv g e from funext fun a => by
        match a with | ⟨0, _⟩ => rfl | ⟨1, _⟩ => rfl | ⟨2, _⟩ => rfl | ⟨3, _⟩ => rfl | ⟨4, _⟩ => rfl | ⟨5, _⟩ => rfl, v14_at, v8_at, kvcol_eq kv g]
  · rw [decide_eq_false h]
    show val_main_call2_v2 (F := Ideal) (ix6 b n kv g qi t) = _
    rw [val_main_call2_v2_apply, val_main_call2_v0_apply, val_main_cst_7_apply]
    show Ideal.ofBits .f32 0xFF800000#32 = ⊥
    simp [Ideal.ofBits, Ideal.ieee]

end Cert.ReferenceIdeal.Read

end
-- ==== Proof.RefVal.lean ====
module

public import proofs.«01_k».proof.Proof.RefBand

@[expose] public section

noncomputable section

/-! # The reference's result, read at an index -/

namespace Cert.ReferenceIdeal.Read

open Cert.Attn Cert.ReferenceIdeal Cert.ReferenceIdeal.Gen Idealize.ShloMosaic Idealize.ShloMosaic.TcCoe Idealize.SL.Sem Idealize.ShloMosaic.StableHlo Idealize.ShloMosaic.ValueIdx

variable (x0 : (⟨S4x4096x512, .bf16⟩ : BufTy).Contents (Elt Ideal)) (x1 x2 : (⟨S4x4096x128, .bf16⟩ : BufTy).Contents (Elt Ideal))
  (x3 : (⟨S4x8, .f32⟩ : BufTy).Contents (Elt Ideal)) (x4 : (⟨S4x512, .f32⟩ : BufTy).Contents (Elt Ideal))

theorem ofBits_zero : Ideal.ofBits .f32 0x00000000#32 = 0 := by simp [Ideal.ofBits, Ideal.ieee]

/-- The sinks of layer 0. -/
abbrev sinkOf (h : Fin 8) : EReal := x3 (ix2 (0 : Fin 4) h)

/-- One row's masked scores. -/
abbrev scOf (b : Fin 4) (n : Fin 32) (qi : Fin 128) (h : Fin 8) : Fin 384 → EReal := refScore (Ideal.ofBits .f32 0x3E000000#32) (qOf x0 b) (kOf x1 b) n qi h

theorem v60_at (kv : Fin 2) (g : Fin 4) : val_main_v60 (F := Ideal) x3 (ix6 (0 : Fin 1) (0 : Fin 1) kv g (0 : Fin 1) (0 : Fin 1)) = sinkOf x3 (hq kv g) := by
  rw [val_main_v60_apply, val_main_v59_apply, val_main_v7_apply, val_main_v6_apply]
  refine congrArg x3 (funext fun a => Fin.ext ?_)
  match a with
  | ⟨0, _⟩ => rfl
  | ⟨1, _⟩ => show (kv.val * 4 + g.val) % 8 = kv.val * 4 + g.val; have := kv.isLt; have := g.isLt; omega

/-- A maximum over the last axis, read at an index. -/
theorem reduceMax_at (y : (⟨S4x32x2x4x128x384, .f32⟩ : BufTy).Contents (Elt Ideal)) (j : S4x32x2x4x128.Idx) (f : Fin 384 → S4x32x2x4x128x384.Idx)
    (hf : ∀ t (a : Fin 6), (f t a).val = if h : a.val < 5 then (j ⟨a.val, h⟩).val else t.val) :
    Host.reduce (FloatOps.maximumf (F := Ideal) (φ := .f32)) y (constant (F := Ideal) S_ .f32 0xFF800000#32) reducesTo_S4x32x2x4x128x384_S4x32x2x4x128_d5 h_S_ j = ⨆ t, (y (f t) : EReal) := by
  have hr : S4x32x2x4x128x384.Reduces [5] S4x32x2x4x128 := by decide
  rw [hostReduce_maximumf_eq_multiReduction (F := Ideal) y 0xFF800000#32 reducesTo_S4x32x2x4x128x384_S4x32x2x4x128_d5 h_S_ hr (.inl rfl) rfl,
    Ideal.multiReduction_maximumf_single y 0xFF800000#32 hr (.inl rfl) rfl j]
  have hbot : (FloatOps.ofBits .f32 0xFF800000#32 : Ideal .f32) = (⊥ : EReal) := by show Ideal.ofBits .f32 0xFF800000#32 = ⊥; simp [Ideal.ofBits, Ideal.ieee]
  rw [hbot]
  have hg : (y ∘ hr.lift j) = fun t : Fin 384 => y (f t) := by
    funext t
    refine congrArg y (funext fun a => Fin.ext ((Eq.trans ?_ (hf t a).symm)))
    match a with | ⟨0, _⟩ => rfl | ⟨1, _⟩ => rfl | ⟨2, _⟩ => rfl | ⟨3, _⟩ => rfl | ⟨4, _⟩ => rfl | ⟨5, _⟩ => rfl
  rw [hg]
  exact Finset.sup_univ_eq_iSup _

theorem v61_at (b : Fin 4) (n : Fin 32) (kv : Fin 2) (g : Fin 4) (qi : Fin 128) :
    val_main_v61 (F := Ideal) x0 x1 (ix5 b n kv g qi) = ⨆ t, scOf x0 x1 b n qi (hq kv g) t := by
  unfold val_main_v61 val_main_cst_8
  refine (reduceMax_at _ _ (fun t => ix6 b n kv g qi t) fun t a => ?_).trans (iSup_congr fun t => v58_at x0 x1 b n kv g qi t)
  match a with | ⟨0, _⟩ => rfl | ⟨1, _⟩ => rfl | ⟨2, _⟩ => rfl | ⟨3, _⟩ => rfl | ⟨4, _⟩ => rfl | ⟨5, _⟩ => rfl

theorem v64_at (b : Fin 4) (n : Fin 32) (kv : Fin 2) (g : Fin 4) (qi : Fin 128) :
    val_main_v64 (F := Ideal) x0 x1 x3 (ix6 b n kv g qi (0 : Fin 1)) = top (scOf x0 x1 b n qi (hq kv g)) (sinkOf x3 (hq kv g)) := by
  rw [val_main_v64_apply, val_main_v62_apply, val_main_v63_apply,
    show idx_main_v62 (ix6 b n kv g qi (0 : Fin 1)) = ix5 b n kv g qi from funext fun a => by match a with | ⟨0, _⟩ => rfl | ⟨1, _⟩ => rfl | ⟨2, _⟩ => rfl | ⟨3, _⟩ => rfl | ⟨4, _⟩ => rfl,
    show idx_main_v63 (ix6 b n kv g qi (0 : Fin 1)) = ix6 (0 : Fin 1) (0 : Fin 1) kv g (0 : Fin 1) (0 : Fin 1) from funext fun a => by
      match a with | ⟨0, _⟩ => rfl | ⟨1, _⟩ => rfl | ⟨2, _⟩ => rfl | ⟨3, _⟩ => rfl | ⟨4, _⟩ => rfl | ⟨5, _⟩ => rfl, v61_at, v60_at]
  rfl

theorem v67_at (b : Fin 4) (n : Fin 32) (kv : Fin 2) (g : Fin 4) (qi : Fin 128) (t : Fin 384) :
    val_main_v67 (F := Ideal) x0 x1 x3 (ix6 b n kv g qi t)
      = Ideal.exp (scOf x0 x1 b n qi (hq kv g) t - top (scOf x0 x1 b n qi (hq kv g)) (sinkOf x3 (hq kv g))) := by
  rw [val_main_v67_apply, val_main_v66_apply, val_main_v65_apply, v58_at,
    show idx_main_v65 (ix6 b n kv g qi t) = ix6 b n kv g qi (0 : Fin 1) from funext fun a => by
      match a with | ⟨0, _⟩ => rfl | ⟨1, _⟩ => rfl | ⟨2, _⟩ => rfl | ⟨3, _⟩ => rfl | ⟨4, _⟩ => rfl | ⟨5, _⟩ => rfl, v64_at]
  rfl

theorem v73_at (b : Fin 4) (n : Fin 32) (kv : Fin 2) (g : Fin 4) (qi : Fin 128) :
    val_main_v73 (F := Ideal) x0 x1 x3 (ix6 b n kv g qi (0 : Fin 1)) = den (scOf x0 x1 b n qi (hq kv g)) (sinkOf x3 (hq kv g)) := by
  rw [val_main_v73_apply, val_main_v69_apply, val_main_v72_apply, val_main_v71_apply, val_main_v70_apply,
    show idx_main_v69 (ix6 b n kv g qi (0 : Fin 1)) = ix5 b n kv g qi from funext fun a => by match a with | ⟨0, _⟩ => rfl | ⟨1, _⟩ => rfl | ⟨2, _⟩ => rfl | ⟨3, _⟩ => rfl | ⟨4, _⟩ => rfl,
    show idx_main_v70 (ix6 b n kv g qi (0 : Fin 1)) = ix6 (0 : Fin 1) (0 : Fin 1) kv g (0 : Fin 1) (0 : Fin 1) from funext fun a => by
      match a with | ⟨0, _⟩ => rfl | ⟨1, _⟩ => rfl | ⟨2, _⟩ => rfl | ⟨3, _⟩ => rfl | ⟨4, _⟩ => rfl | ⟨5, _⟩ => rfl, v64_at, v60_at, val_main_v68_apply]
  unfold den
  refine congrArg (· + Ideal.exp _) ?_
  show Ideal.ofBits .f32 0x00000000#32 + _ = _
  rw [ofBits_zero, zero_add]
  refine Finset.sum_congr rfl fun t _ => ?_
  rw [show idx_main_v68 (ix5 b n kv g qi) t = ix6 b n kv g qi t from funext fun a => by
      match a with | ⟨0, _⟩ => rfl | ⟨1, _⟩ => rfl | ⟨2, _⟩ => rfl | ⟨3, _⟩ => rfl | ⟨4, _⟩ => rfl | ⟨5, _⟩ => rfl, v67_at]

/-- One head's output. -/
theorem v76_at (b : Fin 4) (n : Fin 32) (kv : Fin 2) (d : Fin 64) (g : Fin 4) (qi : Fin 128) :
    val_main_v76 (F := Ideal) x0 x1 x2 x3 (ix6 b n kv d g qi)
      = mixProbs (scOf x0 x1 b n qi (hq kv g)) (refVal (kOf x2 b) n (hq kv g) d) (sinkOf x3 (hq kv g)) := by
  rw [val_main_v76_apply]
  unfold mixProbs
  refine Finset.sum_congr rfl fun t _ => ?_
  rw [show lidx_main_v76 (ix6 b n kv d g qi) t = ix5 b n t kv d from funext fun a => by
        match a with | ⟨0, _⟩ => rfl | ⟨1, _⟩ => rfl | ⟨2, _⟩ => rfl | ⟨3, _⟩ => rfl | ⟨4, _⟩ => rfl,
      show ridx_main_v76 (ix6 b n kv d g qi) t = ix6 b n kv g qi t from funext fun a => by
        match a with | ⟨0, _⟩ => rfl | ⟨1, _⟩ => rfl | ⟨2, _⟩ => rfl | ⟨3, _⟩ => rfl | ⟨4, _⟩ => rfl | ⟨5, _⟩ => rfl, v20_eq, v14_at, val_main_v75_apply, val_main_v74_apply,
      show idx_main_v74 (ix6 b n kv g qi t) = ix6 b n kv g qi (0 : Fin 1) from funext fun a => by
        match a with | ⟨0, _⟩ => rfl | ⟨1, _⟩ => rfl | ⟨2, _⟩ => rfl | ⟨3, _⟩ => rfl | ⟨4, _⟩ => rfl | ⟨5, _⟩ => rfl, v67_at, v73_at, kvcol_eq kv g]
  rfl

/-- The attention's output before the norm. -/
abbrev attnOf (b : Fin 4) (p : Fin 4096) : Fin 512 → EReal := fun c =>
  mixProbs (scOf x0 x1 b (blk p) (off p) (hd c)) (refVal (kOf x2 b) (blk p) (hd c) (dm c)) (sinkOf x3 (hd c))

theorem v78_at (b : Fin 4) (p : Fin 4096) (c : Fin 512) : val_main_v78 (F := Ideal) x0 x1 x2 x3 (ix3 b p c) = attnOf x0 x1 x2 x3 b p c := by
  have h0 := b.isLt; have h1 := p.isLt; have h2 := c.isLt
  unfold val_main_v78
  rw [shapeCast_apply _ shapeCasts_S4x32x128x2x4x64_S4x4096x512 _ (ix6 b (blk p) (off p) (⟨c.val / 256, by omega⟩ : Fin 2) (⟨c.val / 64 % 4, by omega⟩ : Fin 4) (dm c)), val_main_v77_apply]
  · rw [show idx_main_v77 (ix6 b (blk p) (off p) (⟨c.val / 256, by omega⟩ : Fin 2) (⟨c.val / 64 % 4, by omega⟩ : Fin 4) (dm c))
        = ix6 b (blk p) (⟨c.val / 256, by omega⟩ : Fin 2) (dm c) (⟨c.val / 64 % 4, by omega⟩ : Fin 4) (off p) from funext fun a => by
        match a with | ⟨0, _⟩ => rfl | ⟨1, _⟩ => rfl | ⟨2, _⟩ => rfl | ⟨3, _⟩ => rfl | ⟨4, _⟩ => rfl | ⟨5, _⟩ => rfl, v76_at,
      show hq (⟨c.val / 256, by omega⟩ : Fin 2) (⟨c.val / 64 % 4, by omega⟩ : Fin 4) = hd c from Fin.ext (by show c.val / 256 * 4 + c.val / 64 % 4 = c.val / 64; omega)]
  · rw [Shape.rowMajor_val_three, Shape.rowMajor_val_six]
    show ((((b.val * 32 + p.val / 128) * 128 + p.val % 128) * 2 + c.val / 256) * 4 + c.val / 64 % 4) * 64 + c.val % 64 = (b.val * 4096 + p.val) * 512 + c.val
    omega

theorem v82_at (b : Fin 4) (p : Fin 4096) : val_main_v82 (F := Ideal) x0 x1 x2 x3 (ix2 b p) = ∑ j, attnOf x0 x1 x2 x3 b p j * attnOf x0 x1 x2 x3 b p j := by
  rw [val_main_v82_apply]
  show Ideal.ofBits .f32 0x00000000#32 + _ = _
  rw [ofBits_zero, zero_add]
  refine Finset.sum_congr rfl fun j _ => ?_
  rw [show idx_main_v82 (ix2 b p) j = ix3 b p j from funext fun a => by match a with | ⟨0, _⟩ => rfl | ⟨1, _⟩ => rfl | ⟨2, _⟩ => rfl, val_main_v81_apply, v78_at]
  rfl

theorem v92_at (b : Fin 4) (p : Fin 4096) (c : Fin 512) : val_main_v92 (F := Ideal) x4 (ix3 b p c) = x4 (ix2 (0 : Fin 4) c) := by
  rw [val_main_v92_apply, val_main_v91_apply, val_main_v80_apply, val_main_v79_apply]
  refine congrArg x4 (funext fun a => Fin.ext ?_)
  match a with
  | ⟨0, _⟩ => rfl
  | ⟨1, _⟩ => show c.val % 512 = c.val; have := c.isLt; omega

/-- THE REFERENCE'S RESULT. -/
theorem v94_at (b : Fin 4) (p : Fin 4096) (c : Fin 512) :
    val_main_v94 (F := Ideal) x0 x1 x2 x3 x4 (ix3 b p c)
      = normRow (Ideal.ofBits .f32 0x44000000#32) (Ideal.ofBits .f32 0x358637BD#32) (attnOf x0 x1 x2 x3 b p) (fun j => x4 (ix2 (0 : Fin 4) j)) c := by
  rw [val_main_v94_apply, val_main_v93_apply, v92_at, val_main_v90_apply, v78_at, val_main_v89_apply, val_main_v88_apply, val_main_v87_apply, val_main_v85_apply, val_main_v83_apply,
    val_main_v84_apply, val_main_v86_apply,
    show idx_main_v83 (idx_main_v89 (ix3 b p c)) = ix2 b p from funext fun a => by match a with | ⟨0, _⟩ => rfl | ⟨1, _⟩ => rfl, v82_at]
  rfl

end Cert.ReferenceIdeal.Read

end
-- ==== Proof.KArray.lean ====
module

public import proofs.«01_k».proof.Proof.KOut
public import proofs.«01_k».proof.Proof.RefVal
public import Idealize.ShloMosaic.Lib.StableHlo.RunRead
public import Idealize.ShloMosaic.Lib.Pipeline.ValueKit.Geometry

@[expose] public section

set_option maxRecDepth 16384

noncomputable section

/-! # The kernel's result, read at an index -/

namespace Cert.KernelIdeal.Value

open Cert.KernelIdeal Cert.KernelIdeal.Gen Cert.Attn Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The arguments, and the arrays the host makes -/

abbrev A0 (c : Dev nD) : S4x4096x512.Idx → EReal := m ((c : Thread nD τ).loc main_arg0)
abbrev A1 (c : Dev nD) : S4x4096x128.Idx → EReal := m ((c : Thread nD τ).loc main_arg1)
abbrev A2 (c : Dev nD) : S4x4096x128.Idx → EReal := m ((c : Thread nD τ).loc main_arg2)
abbrev A3 (c : Dev nD) : S4x8.Idx → EReal := m ((c : Thread nD τ).loc main_arg3)
abbrev A4 (c : Dev nD) : S4x512.Idx → EReal := m ((c : Thread nD τ).loc main_arg4)

theorem V_main_v3 (c : Dev nD) (j : S4x4096x512.Idx) :
    V m c main_v3 j = A0 m c j * Ideal.ofBits .f32 0x3E000000#32 := by
  unfold V
  after_reads_simp
  rfl

theorem V_main_v4 (c : Dev nD) (j : Fin 512) :
    V m c main_v4 (ix3 (0 : Fin 4) (0 : Fin 1) j) = A4 m c (ix2 (0 : Fin 4) j) := by
  unfold V
  after_reads_simp
  refine shapeCast_apply (s := S4x512) (α := EReal) (A4 m c) shapeCasts_S4x512_S4x1x512 (ix3 (0 : Fin 4) (0 : Fin 1) j) (ix2 (0 : Fin 4) j) ?_
  show ((⟨2, ![4, 512]⟩ : Shape).rowMajor (ix2 (0 : Fin 4) j)).val = ((⟨3, ![4, 1, 512]⟩ : Shape).rowMajor (ix3 (0 : Fin 4) (0 : Fin 1) j)).val
  rw [Shape.rowMajor_val_two, Shape.rowMajor_val_three]
  show 0 * 512 + j.val = (0 * 1 + 0) * 512 + j.val
  omega

/-! ## The windows' blocks -/

theorem index1 : ∀ t : Fin cfg0.N, win0_1.index t = ![(grid0.coords t 0).val, (grid0.coords t 1).val, 0] :=
  (by decide +kernel : ∀ t : Fin grid0.N, win0_1.index t = ![(grid0.coords t 0).val, (grid0.coords t 1).val, 0])
theorem index2 : ∀ t : Fin cfg0.N, win0_2.index t = ![(grid0.coords t 0).val, 0, 0] :=
  (by decide +kernel : ∀ t : Fin grid0.N, win0_2.index t = ![(grid0.coords t 0).val, 0, 0])
theorem index3 : ∀ t : Fin cfg0.N, win0_3.index t = ![(grid0.coords t 0).val, 0, 0] :=
  (by decide +kernel : ∀ t : Fin grid0.N, win0_3.index t = ![(grid0.coords t 0).val, 0, 0])
theorem index0 : ∀ t : Fin cfg0.N, win0_0.index t = ![0, 0] :=
  (by decide +kernel : ∀ t : Fin grid0.N, win0_0.index t = ![0, 0])
theorem index4 : ∀ t : Fin cfg0.N, win0_4.index t = ![0, 0, 0] :=
  (by decide +kernel : ∀ t : Fin grid0.N, win0_4.index t = ![0, 0, 0])
theorem index5 : ∀ t : Fin cfg0.N, win0_5.index t = ![(grid0.coords t 0).val, (grid0.coords t 1).val, 0] :=
  (by decide +kernel : ∀ t : Fin grid0.N, win0_5.index t = ![(grid0.coords t 0).val, (grid0.coords t 1).val, 0])

/-- The point's batch. -/
abbrev bat (t : Fin cfg0.N) : Fin 4 := ⟨(grid0.coords t 0).val, (grid0.coords t 0).isLt⟩

theorem iblk1_at (c : Dev nD) (t : Fin cfg0.N) (p : Fin 1024) (e : Fin 512) :
    iblk m c 1 t (ix3 (0 : Fin 1) p e) = V m c main_v3 (ix3 (bat t) (prow (grid0.coords t) p) e) := by
  refine congrArg (V m c main_v3) (funext fun a => Fin.ext ((win0_1.rect_emb_val t (ix3 (0 : Fin 1) p e) a).trans ?_))
  refine (congrArg (fun f : Fin 3 → ℕ => f a * win0_1.size a + ((ix3 (0 : Fin 1) p e : S1x1024x512.Idx) a).val) (index1 t)).trans ?_
  match a with
  | ⟨0, _⟩ => show (grid0.coords t 0).val * 1 + 0 = (grid0.coords t 0).val; omega
  | ⟨1, _⟩ => rfl
  | ⟨2, _⟩ => show 0 * 512 + e.val = e.val; omega

theorem iblk2_at (c : Dev nD) (t : Fin cfg0.N) (p : Fin 4096) (e : Fin 128) :
    iblk m c 2 t (ix3 (0 : Fin 1) p e) = V m c main_arg1 (ix3 (bat t) p e) := by
  refine congrArg (V m c main_arg1) (funext fun a => Fin.ext ((win0_2.rect_emb_val t (ix3 (0 : Fin 1) p e) a).trans ?_))
  refine (congrArg (fun f : Fin 3 → ℕ => f a * win0_2.size a + ((ix3 (0 : Fin 1) p e : S1x4096x128.Idx) a).val) (index2 t)).trans ?_
  match a with
  | ⟨0, _⟩ => show (grid0.coords t 0).val * 1 + 0 = (grid0.coords t 0).val; omega
  | ⟨1, _⟩ => show 0 * 4096 + p.val = p.val; omega
  | ⟨2, _⟩ => show 0 * 128 + e.val = e.val; omega

theorem iblk3_at (c : Dev nD) (t : Fin cfg0.N) (p : Fin 4096) (e : Fin 128) :
    iblk m c 3 t (ix3 (0 : Fin 1) p e) = V m c main_arg2 (ix3 (bat t) p e) := by
  refine congrArg (V m c main_arg2) (funext fun a => Fin.ext ((win0_3.rect_emb_val t (ix3 (0 : Fin 1) p e) a).trans ?_))
  refine (congrArg (fun f : Fin 3 → ℕ => f a * win0_3.size a + ((ix3 (0 : Fin 1) p e : S1x4096x128.Idx) a).val) (index3 t)).trans ?_
  match a with
  | ⟨0, _⟩ => show (grid0.coords t 0).val * 1 + 0 = (grid0.coords t 0).val; omega
  | ⟨1, _⟩ => show 0 * 4096 + p.val = p.val; omega
  | ⟨2, _⟩ => show 0 * 128 + e.val = e.val; omega

theorem iblk0_at (c : Dev nD) (t : Fin cfg0.N) (h : Fin 8) :
    iblk m c 0 t (ix2 (0 : Fin 4) h) = V m c main_arg3 (ix2 (0 : Fin 4) h) := by
  refine congrArg (V m c main_arg3) (funext fun a => Fin.ext ((win0_0.rect_emb_val t (ix2 (0 : Fin 4) h) a).trans ?_))
  refine (congrArg (fun f : Fin 2 → ℕ => f a * win0_0.size a + ((ix2 (0 : Fin 4) h : S4x8.Idx) a).val) (index0 t)).trans ?_
  match a with
  | ⟨0, _⟩ => rfl
  | ⟨1, _⟩ => show 0 * 8 + h.val = h.val; omega

theorem iblk4_at (c : Dev nD) (t : Fin cfg0.N) (j : Fin 512) :
    iblk m c 4 t (ix3 (0 : Fin 1) (0 : Fin 1) j) = V m c main_v4 (ix3 (0 : Fin 4) (0 : Fin 1) j) := by
  refine congrArg (V m c main_v4) (funext fun a => Fin.ext ((win0_4.rect_emb_val t (ix3 (0 : Fin 1) (0 : Fin 1) j) a).trans ?_))
  refine (congrArg (fun f : Fin 3 → ℕ => f a * win0_4.size a + ((ix3 (0 : Fin 1) (0 : Fin 1) j : S1x1x512.Idx) a).val) (index4 t)).trans ?_
  match a with
  | ⟨0, _⟩ => rfl
  | ⟨1, _⟩ => rfl
  | ⟨2, _⟩ => show 0 * 512 + j.val = j.val; omega

/-- The kernel's result from the arguments. -/
def outOf (x0 : S4x4096x512.Idx → EReal) (x1 x2 : S4x4096x128.Idx → EReal) (x3 : S4x8.Idx → EReal) (x4 : S4x512.Idx → EReal) : S4x4096x512.Idx → EReal := fun y =>
  rowOut (fun p c => x0 (ix3 (y 0) p c) * Ideal.ofBits .f32 0x3E000000#32) (fun p c => x1 (ix3 (y 0) p c)) (fun p c => x2 (ix3 (y 0) p c))
    (fun h => x3 (ix2 (0 : Fin 4) h)) (fun j => x4 (ix2 (0 : Fin 4) j)) (y 1) (y 2)

theorem after_at (c : Dev nD) (t : Fin cfg0.N) (p : Fin 1024) (e : Fin 512) :
    ((dats m 0 c).after 5 t : S1x1024x512.Idx → EReal) (ix3 (0 : Fin 1) p e)
      = rowOut (fun p e => A0 m c (ix3 (bat t) p e) * Ideal.ofBits .f32 0x3E000000#32) (fun p e => A1 m c (ix3 (bat t) p e)) (fun p e => A2 m c (ix3 (bat t) p e))
        (fun h => A3 m c (ix2 (0 : Fin 4) h)) (fun j => A4 m c (ix2 (0 : Fin 4) j)) (prow (grid0.coords t) p) e := by
  rw [after0_5]
  unfold outsAt0
  have hs : (fun h => iblk m c 0 t (ix2 (0 : Fin 4) h)) = fun h => A3 m c (ix2 (0 : Fin 4) h) :=
    funext fun h => (iblk0_at m c t h).trans (congrFun (V_main_arg3 m c) _)
  have hg : (fun j => iblk m c 4 t (ix3 (0 : Fin 1) (0 : Fin 1) j)) = fun j => A4 m c (ix2 (0 : Fin 4) j) :=
    funext fun j => (iblk4_at m c t j).trans (V_main_v4 m c j)
  refine (point_at c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _)
    (iblk m c 0 t) (iblk m c 1 t) (iblk m c 2 t) (iblk m c 3 t) (iblk m c 4 t)
    (fun p e => A0 m c (ix3 (bat t) p e) * Ideal.ofBits .f32 0x3E000000#32)
    (fun p e => A1 m c (ix3 (bat t) p e))
    (fun p e => A2 m c (ix3 (bat t) p e))
    (fun p e => (iblk1_at m c t p e).trans (V_main_v3 m c _))
    (fun p e => (iblk2_at m c t p e).trans (congrFun (V_main_arg1 m c) _))
    (fun p e => (iblk3_at m c t p e).trans (congrFun (V_main_arg2 m c) _)) p e).trans ?_
  exact congrFun (congrFun (congr (congrArg (rowOut _ _ _) hs) hg) _) _

/-- THE RESULT ARRAY. -/
theorem arr_eq (c : Dev nD) : (dats m 0 c).arrAt 5 cfg0.N
    = outOf (A0 m c) (A1 m c) (A2 m c) (A3 m c) (A4 m c) := by
  refine (dats m 0 c).arrAt_eq_of_covers 5 _ (by decide +kernel) fun t hf y => ?_
  obtain ⟨p, e, rfl⟩ : ∃ (p : Fin 1024) (e : Fin 512), y = (ix3 (0 : Fin 1) p e : S1x1024x512.Idx) := ⟨y 1, y 2, funext fun a => by
    match a with
    | ⟨0, _⟩ => exact Fin.ext (by have h : (y 0).val < 1 := (y 0).isLt; show (y 0).val = 0; omega)
    | ⟨1, _⟩ => rfl
    | ⟨2, _⟩ => rfl⟩
  have hG : (((cfg0.win 5).blk t).view.emb (ix3 (0 : Fin 1) p e : S1x1024x512.Idx) : S4x4096x512.Idx) = ix3 (bat t) (prow (grid0.coords t) p) e := by
    refine funext fun a => Fin.ext ((win0_5.rect_emb_val t (ix3 (0 : Fin 1) p e) a).trans ?_)
    refine (congrArg (fun f : Fin 3 → ℕ => f a * win0_5.size a + ((ix3 (0 : Fin 1) p e : S1x1024x512.Idx) a).val) (index5 t)).trans ?_
    match a with
    | ⟨0, _⟩ => show (grid0.coords t 0).val * 1 + 0 = (grid0.coords t 0).val; omega
    | ⟨1, _⟩ => rfl
    | ⟨2, _⟩ => show 0 * 512 + e.val = e.val; omega
  refine Eq.trans ?_ (congrArg (outOf (A0 m c) (A1 m c) (A2 m c) (A3 m c) (A4 m c)) hG.symm)
  refine (after_at m c t p e).trans ?_
  rfl

/-- ON FINITE QUERIES, KEYS AND SINKS the result is the reference's. -/
theorem outOf_eq (x0 : S4x4096x512.Idx → EReal) (x1 x2 : S4x4096x128.Idx → EReal) (x3 : S4x8.Idx → EReal) (x4 : S4x512.Idx → EReal)
    (h0 : ∀ j, ∃ r : ℝ, x0 j = ↑r) (h1 : ∀ j, ∃ r : ℝ, x1 j = ↑r) (h3 : ∀ j, x3 j ≠ ⊤) :
    outOf x0 x1 x2 x3 x4 = Cert.ReferenceIdeal.Read.val_main_v94 (F := Ideal) x0 x1 x2 x3 x4 := by
  funext y
  have hy : y = (ix3 (y 0 : Fin 4) (y 1 : Fin 4096) (y 2 : Fin 512) : S4x4096x512.Idx) := funext fun a => by
    match a with | ⟨0, _⟩ => rfl | ⟨1, _⟩ => rfl | ⟨2, _⟩ => rfl
  rw [hy]
  refine Eq.trans ?_ (Cert.ReferenceIdeal.Read.v94_at x0 x1 x2 x3 x4 (y 0) (y 1) (y 2)).symm
  unfold outOf rowOut
  refine congrArg (fun a => normRow _ _ a _ _) (funext fun j => ?_)
  have hr : Ideal.ofBits .f32 0x3E000000#32 = (((1 : ℝ) / 8 : ℝ) : EReal) := by
    simp [Ideal.ofBits, Ideal.ieee, -EReal.coe_mul]; norm_num
  unfold Cert.ReferenceIdeal.Read.attnOf Cert.ReferenceIdeal.Read.scOf
  rw [hr]
  exact head_eq (1 / 8) (by norm_num) (fun p c => x0 (ix3 (y 0) p c)) (fun p c => x1 (ix3 (y 0) p c)) (fun p c => x2 (ix3 (y 0) p c)) (x3 (ix2 (0 : Fin 4) (hd j)))
    (blk (y 1)) (off (y 1)) (hd j) (dm j) (fun p c => h0 _) (fun p c => h1 _) (h3 _)

end Cert.KernelIdeal.Value

end
-- ==== Proof.PreRead.lean ====
module

public import proofs.«01_k».proof.Pre_finite
public import Idealize.ShloMosaic.Lib.ReduceAll
public import Idealize.ShloMosaic.Lib.ValueIdx
public import Idealize.ShloMosaic.PureOps.Ideal.Laws

@[expose] public section

noncomputable section

/-! # The precondition, read -/

namespace Cert.Pre_finite

open Idealize.ShloMosaic

theorem facts : Facts where
  bcast_S_S4x4096x512 := by decide
  reducesTo_S4x4096x512_S_d0_1_2 := by decide
  h_S_ := by decide
  bcast_S_S4x4096x128 := by decide
  reducesTo_S4x4096x128_S_d0_1_2 := by decide
  bcast_S_S4x8 := by decide
  reducesTo_S4x8_S_d0_1 := by decide

theorem real_of_abs_lt (x : EReal) (h : max x (-x) < ⊤) : ∃ r : ℝ, x = ↑r := by
  induction x with
  | bot => simp at h
  | coe r => exact ⟨r, rfl⟩
  | top => simp at h

theorem inf16 : Ideal.ofBits .bf16 0x7F80#16 = ⊤ := by simp [Ideal.ofBits, Ideal.ieee]
theorem inf32 : Ideal.ofBits .f32 0x7F800000#32 = ⊤ := by simp [Ideal.ofBits, Ideal.ieee]

theorem real_of_cmp (x y : EReal) (hy : y = ⊤) (h : Ideal.cmp .olt (max x (-x)) y = 1#1) : ∃ r : ℝ, x = ↑r := by
  subst hy
  refine real_of_abs_lt x ?_
  by_contra hn
  simp [Ideal.cmp, hn] at h

/-- What the precondition says: the queries, the keys and the sinks are real. -/
theorem read [hf : Facts] (x0 : FVec Ideal S4x4096x512 .bf16) (x1 x2 : FVec Ideal S4x4096x128 .bf16) (x3 : FVec Ideal S4x8 .f32) (x4 : FVec Ideal S4x512 .f32)
    (h : fn (F := Ideal) x0 x1 x2 x3 x4 = fun _ => 1#1) :
    (∀ j, ∃ r : ℝ, x0 j = ↑r) ∧ (∀ j, ∃ r : ℝ, x1 j = ↑r) ∧ (∀ j, ∃ r : ℝ, x3 j = ↑r) := by
  have hs : Subsingleton S_.Idx := ⟨fun a b => funext fun i => i.elim0⟩
  have h0 := congrFun h (fun i => i.elim0)
  unfold fn at h0
  dsimp only at h0
  obtain ⟨h01, h3⟩ := IntOp.andi_eq_one.mp h0
  obtain ⟨hq, hk⟩ := IntOp.andi_eq_one.mp h01
  exact ⟨fun j => real_of_cmp _ _ inf16 (Host.reduce_andi_all _ _ _ _ _ hq j), fun j => real_of_cmp _ _ inf16 (Host.reduce_andi_all _ _ _ _ _ hk j),
    fun j => real_of_cmp _ _ inf32 (Host.reduce_andi_all _ _ _ _ _ h3 j)⟩

end Cert.Pre_finite

end
-- ==== Proof.Flag.lean ====
module

public import Idealize.ShloMosaic.Lib.WordCmp

@[expose] public section

namespace Idealize.ShloMosaic

/-- A kernel's branch is taken exactly where the comparison it widens holds. -/
theorem branch_iff (b : Bool) : Scalar.cmpi .ne (Scalar.extui (BitVec.ofBool b)) 0#32 = 1#1 ↔ b = true := by
  cases b <;> decide

end Idealize.ShloMosaic

end
-- ==== Proof.Live.lean ====
module

public import Idealize.ShloMosaic.Lib.Pipeline.FrameBody

@[expose] public section

/-! A launch whose body stores into every one of its blocks at every point owes the plain obligation. -/

namespace Idealize.ShloMosaic

open Idealize.SL
open Idealize.SL.BI (sProp bigSep bigSep_sep')
open scoped Idealize.SL.BI
open Idealize.SL.BI.BIBase Idealize.SL.BI.Laws Idealize.SL.Sem Idealize.SL.ProofMode
open Idealize.SL.RA

namespace Pipeline

open TcCoe

variable {nD : Nat} {τ : Topo} {sig : RefSig} {Val : EltTy → Type} {Λ₀ : SL.Sem.Labels}
variable {Ix : Type} [DecidableEq Ix] {Name : Type} [DecidableEq Name] {U : Type} [URA U] {Lvl : Type}

local notation "𝕄" => MT nD τ sig Ix Val Name U Lvl

variable {cfg : Cfg sig Λ₀} {c : Dev nD} (dat : Dat τ Val Ix Name U Lvl cfg c)

/-- What the body hands back of a window that is not idle at a point. -/
theorem leaves_live (w : Fin cfg.W) (t : Fin cfg.N) (h : cfg.idle w (cfg.grid.coords t) = false) :
    (dat.leavesExact w t : sProp 𝕄) = owns c ((cfg.win w).stage (cfg.slots t w)) fullShare (dat.after w t) := by
  unfold Dat.leavesExact; rw [h]

/-- The obligation of a body with no idle point, from its triple. -/
theorem body_live [Preorder Lvl] {defs₀ : Defs nD τ sig Val Λ₀} {𝒱₀ : Variants} {ι : Ix} {E : Set Name}
    (h : ∀ i w, cfg.idle w i = false)
    (hb : ∀ t : Fin cfg.N, iprop(dat.Φ t.castSucc ∗ dat.owesAt ι t.castSucc
        ∗ bigSep Finset.univ fun w : Fin cfg.W => iprop(∃ d, owns c ((cfg.win w).stage (cfg.slots t w)) fullShare (dat.before w t d)))
      ⊢ wp frame (wpE defs₀ 𝒱₀ c none) E (defs₀ .tc cfg.body (cfg.bodyArgs t (cfg.slots t))) fun _ =>
          iprop(dat.Φ t.succ ∗ dat.owesAt ι t.succ
            ∗ bigSep Finset.univ fun w : Fin cfg.W => owns c ((cfg.win w).stage (cfg.slots t w)) fullShare (dat.after w t))) :
    BodyObligation dat defs₀ 𝒱₀ ι E := fun t =>
  (hb t).trans (wp_mono _ _ _ fun _ => sep_mono .rfl (sep_mono .rfl (Entails.of_eq
    (congrArg (bigSep Finset.univ) (funext fun w => (leaves_live dat w t (h _ w)).symm)))))

end Pipeline

end Idealize.ShloMosaic

end
-- ==== Proof.Up.Runs.lean ====
module

public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.FrameBody
public import Idealize.ShloMosaic.Lib.Ring
public import Idealize.ShloMosaic.Lib.Tactic
public import proofs.«01_k».proof.Proof.Flag
public import proofs.«01_k».proof.Proof.Live

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

abbrev bodyAt0 (a : (pcfg0 (F := F)).Adm) (t : Fin (cfg0 a).N) : Prog (TpuEff nD τ sig (Elt F) Λ₀ .tc) PUnit :=
  cc0_moe_up (grid0.coords t) (Memref.whole main_v10) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host stretch before the launch writes none of the arguments: each is as the launch memory has it. -/
theorem V_kept (c : Dev nD) (b : Ref sig .tc) (hb : b ∈ [main_arg0, main_arg1, main_arg2, main_arg3, main_arg4]) :
    V m c b = m ((c : Thread nD τ).loc b) := by
  refine StableHlo.after_of_forall_not_mem (b := Proc.devRef .tc b) _ _ (List.forall_iff_forall_mem.mp ?_)
  simp only [List.mem_cons, List.not_mem_nil, or_false] at hb
  rcases hb with rfl | rfl | rfl | rfl | rfl <;>
  · simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S128 .i32 := Memref.whole main_v10
abbrev htbM0_0 : tbM0_0.IsWhole := Memref.isWhole_whole _
abbrev tbM0_1 : Memref sig .tc .smem S1 .i32 := Memref.whole main_arg1
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_kept m c main_arg0 (by simp)),
      ((h c).2 main_arg1 (by decide : main_arg1 ∈ Pipeline.restRefs sig spec0)).trans (V_kept m c main_arg1 (by simp)),
      ((h c).1 0).trans (((dats 0 c).arrAt_in 0 rfl _).trans ((hA c 0).trans (V_kept m c main_arg2 (by simp)))),
      ((h c).1 1).trans (((dats 0 c).arrAt_in 1 rfl _).trans ((hA c 1).trans (V_kept m c main_arg3 (by simp)))),
      ((h c).1 2).trans (((dats 0 c).arrAt_in 2 rfl _).trans ((hA c 2).trans (V_kept m c main_arg4 (by simp))))⟩) h

/-- The tile's branch, a word of the count table decides it: the tile is in use, -/
abbrev cond0_0 (i : grid0.Coords) (v0 : BitVec 32) : Prop := k0_cond1 i v0 = 1#1

/-- which is a comparison of the tile's number with the word, -/
theorem cond_iff (i : grid0.Coords) (w : BitVec 32) : cond0_0 i w ↔ (BitVec.ofNat 32 (i 1).val).toInt < w.toInt :=
  (branch_iff ((BitVec.ofNat 32 (i 1).val).slt w)).trans (by simp [BitVec.slt])

/-- and the other branch is taken exactly where this one is not. -/
theorem cond_other (i : grid0.Coords) (w : BitVec 32) : k0_cond2 i w = 1#1 ↔ ¬cond0_0 i w := by
  rw [cond_iff]
  exact (branch_iff (w.sle (BitVec.ofNat 32 (i 1).val))).trans (by simp [BitVec.sle])

/-- So no point leaves a block untouched. -/
theorem never_idle (pf : pre0.Contents (Elt F)) (i : grid0.Coords) : ∀ w : Fin 4, idle0 pf w i = false
  | 0 => rfl
  | 1 => rfl
  | 2 => rfl
  | 3 => by
    show (!(k0_cond1 i (pf.atD 1 ![0]) == 1#1) && !(k0_cond2 i (pf.atD 1 ![0]) == 1#1)) = false
    have := cond_other i (pf.atD 1 ![0])
    by_cases h : k0_cond1 i (pf.atD 1 ![0]) = 1#1 <;> simp_all [cond0_0]

abbrev VO0_3 : View sig .tc .vmem S512x1792 .bf16 := (Memref.whole cc0_stg3_0 : Memref sig .tc .vmem S512x1792 .bf16).view
abbrev ms0_0 (hO : Ok m) (t : Fin (cfgM m hO).N) : Memref sig .tc .vmem S4096x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x1024x1792 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1x1024x1792 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x1792 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev scM0_0 : Memref sig .tc .vmem S4096x128 .f32 := Memref.whole cc0_scratch0

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel2Ideal.Gen

end
-- ==== Proof.Up.RunA.lean ====
module

public import proofs.«01_k».proof.Proof.Up.Runs

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_A (c : Dev nD) (i : grid0.Coords) (arg4 : Memref sig .tc .vmem S4096x128 .bf16) (harg4 : arg4.IsWhole) (arg5 : Memref sig .tc .vmem S1x1x1024x1792 .f32) (harg5 : arg5.IsWhole) (arg6 : Memref sig .tc .vmem S1x1x1024x1792 .f32) (harg6 : arg6.IsWhole) (arg7 : Memref sig .tc .vmem S512x1792 .bf16) (harg7 : arg7.IsWhole) (arg8 : Memref sig .tc .vmem S4096x128 .f32) (harg8 : arg8.IsWhole)
    (x0 : Vec F S4096x128 .bf16) (x1 : Vec F S1x1x1024x1792 .f32) (x2 : Vec F S1x1x1024x1792 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) :
    Σ' (L3 : List (View.Piece (Elt F) S512x1792 .bf16)), { LT0 : List (View.Piece (Elt F) S4096x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ (∃ f, arg8.view.loc (c : Thread nD τ) ↦[arg8.view.set]{fullShare} arg8.view.writes (Elt F) f LT0) ∗ tbPt0 c tbM0_0 xt0 ∗ tbPt0 c tbM0_1 xt1) -∗ K ⟨⟩))
          ⊢ wp frame (wpE (defs₀ (F := F)) Variants.none c none) E (cc0_moe_up i tbM0_0 htbM0_0 tbM0_1 htbM0_1 arg4 harg4 arg5 harg5 arg6 harg6 arg7 harg7 arg8 harg8) K } := by
  refine ⟨?_, ?_, fun E K => ?run⟩
  case run =>
    simp only [cc0_moe_up_eq_skeleton]; unfold cc0_moe_up_skel
    simp only [k0_part1_eq_skeleton, k0_part2_eq_skeleton, k0_part3_eq_skeleton]
    have hc1 := fun h => (cond_other i _).mp h hc0
    unfold owns
    iintro ⟨⟨%f0, %hf0, H0⟩, ⟨%f1, %hf1, H1⟩, ⟨%f2, %hf2, H2⟩, ⟨%d3, %f3, -, H3⟩, ⟨%ds0, %fs0, -, HS0⟩, HT0, HT1, Hk⟩
    obtain rfl := harg4.eq_unread hf0; obtain rfl := harg5.eq_unread hf1; obtain rfl := harg6.eq_unread hf2
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    isplitl [HT0]; · iexact HT0
    iexact HT1

end Cert.Kernel2Ideal.Gen

end
-- ==== Proof.Up.RunB.lean ====
module

public import proofs.«01_k».proof.Proof.Up.RunA

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRun0_B (c : Dev nD) (i : grid0.Coords) (arg4 : Memref sig .tc .vmem S4096x128 .bf16) (harg4 : arg4.IsWhole) (arg5 : Memref sig .tc .vmem S1x1x1024x1792 .f32) (harg5 : arg5.IsWhole) (arg6 : Memref sig .tc .vmem S1x1x1024x1792 .f32) (harg6 : arg6.IsWhole) (arg7 : Memref sig .tc .vmem S512x1792 .bf16) (harg7 : arg7.IsWhole) (arg8 : Memref sig .tc .vmem S4096x128 .f32) (harg8 : arg8.IsWhole)
    (x0 : Vec F S4096x128 .bf16) (x1 : Vec F S1x1x1024x1792 .f32) (x2 : Vec F S1x1x1024x1792 .f32) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) :
    Σ' (L3 : List (View.Piece (Elt F) S512x1792 .bf16)), { LT0 : List (View.Piece (Elt F) S4096x128 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ tbPt0 c tbM0_0 xt0 ∗ tbPt0 c tbM0_1 xt1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f L3) ∗ (∃ d, owns (c : Thread nD τ) arg8 fullShare d) ∗ tbPt0 c tbM0_0 xt0 ∗ tbPt0 c tbM0_1 xt1) -∗ K ⟨⟩))
          ⊢ wp frame (wpE (defs₀ (F := F)) Variants.none c none) E (cc0_moe_up i tbM0_0 htbM0_0 tbM0_1 htbM0_1 arg4 harg4 arg5 harg5 arg6 harg6 arg7 harg7 arg8 harg8) K } := by
  refine ⟨?_, [], fun E K => ?run⟩
  case run =>
    simp only [cc0_moe_up_eq_skeleton]; unfold cc0_moe_up_skel
    have hc1 := (cond_other i _).mpr hc0
    unfold owns
    iintro ⟨⟨%f0, %hf0, H0⟩, ⟨%f1, %hf1, H1⟩, ⟨%f2, %hf2, H2⟩, ⟨%d3, %f3, -, H3⟩, ⟨%ds0, %fs0, -, HS0⟩, HT0, HT1, Hk⟩
    obtain rfl := harg4.eq_unread hf0; obtain rfl := harg5.eq_unread hf1; obtain rfl := harg6.eq_unread hf2
    sl_exec (disch := first | sl_exact hc0 | sl_exact hc1)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]
    · iexists _, _; isplitr; swap; · iexact HS0
      ipureintro; rfl
    isplitl [HT0]; · iexact HT0
    iexact HT1

end Cert.Kernel2Ideal.Gen

end
-- ==== Proof.Up.Frame.lean ====
module

public import proofs.«01_k».proof.Proof.Up.RunB
public import Idealize.ShloMosaic.Lib.Claim

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_3 (c : Dev nD) (i : grid0.Coords) (arg4 : Memref sig .tc .vmem S4096x128 .bf16) (harg4 : arg4.IsWhole) (arg5 : Memref sig .tc .vmem S1x1x1024x1792 .f32) (harg5 : arg5.IsWhole) (arg6 : Memref sig .tc .vmem S1x1x1024x1792 .f32) (harg6 : arg6.IsWhole) (arg7 : Memref sig .tc .vmem S512x1792 .bf16) (harg7 : arg7.IsWhole) (arg8 : Memref sig .tc .vmem S4096x128 .f32) (harg8 : arg8.IsWhole)
    (x0 : Vec F S4096x128 .bf16) (x1 : Vec F S1x1x1024x1792 .f32) (x2 : Vec F S1x1x1024x1792 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (y : S512x1792.Idx) :
    ∃ pc ∈ (kernelRun0_A c i arg4 harg4 arg5 harg5 arg6 harg6 arg7 harg7 arg8 harg8 x0 x1 x2 xt0 xt1 hc0).1, y ∈ pc.1.set :=
  View.cover_of_tiledBy (kernelRun0_A c i arg4 harg4 arg5 harg5 arg6 harg6 arg7 harg7 arg8 harg8 x0 x1 x2 xt0 xt1 hc0).1 ![512, 256] (by sl_kernel_rfl) y

def out0_A_3 (c : Dev nD) (i : grid0.Coords) (arg4 : Memref sig .tc .vmem S4096x128 .bf16) (harg4 : arg4.IsWhole) (arg5 : Memref sig .tc .vmem S1x1x1024x1792 .f32) (harg5 : arg5.IsWhole) (arg6 : Memref sig .tc .vmem S1x1x1024x1792 .f32) (harg6 : arg6.IsWhole) (arg7 : Memref sig .tc .vmem S512x1792 .bf16) (harg7 : arg7.IsWhole) (arg8 : Memref sig .tc .vmem S4096x128 .f32) (harg8 : arg8.IsWhole)
    (x0 : Vec F S4096x128 .bf16) (x1 : Vec F S1x1x1024x1792 .f32) (x2 : Vec F S1x1x1024x1792 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) : Vec F S512x1792 .bf16 :=
  VO0_3.read (Elt F) (VO0_3.writes (Elt F) VO0_3.junk (kernelRun0_A c i arg4 harg4 arg5 harg5 arg6 harg6 arg7 harg7 arg8 harg8 x0 x1 x2 xt0 xt1 hc0).1)

theorem cover0_B_3 (c : Dev nD) (i : grid0.Coords) (arg4 : Memref sig .tc .vmem S4096x128 .bf16) (harg4 : arg4.IsWhole) (arg5 : Memref sig .tc .vmem S1x1x1024x1792 .f32) (harg5 : arg5.IsWhole) (arg6 : Memref sig .tc .vmem S1x1x1024x1792 .f32) (harg6 : arg6.IsWhole) (arg7 : Memref sig .tc .vmem S512x1792 .bf16) (harg7 : arg7.IsWhole) (arg8 : Memref sig .tc .vmem S4096x128 .f32) (harg8 : arg8.IsWhole)
    (x0 : Vec F S4096x128 .bf16) (x1 : Vec F S1x1x1024x1792 .f32) (x2 : Vec F S1x1x1024x1792 .f32) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) (y : S512x1792.Idx) :
    ∃ pc ∈ (kernelRun0_B c i arg4 harg4 arg5 harg5 arg6 harg6 arg7 harg7 arg8 harg8 x0 x1 x2 xt0 xt1 hc0).1, y ∈ pc.1.set :=
  View.cover_of_tiledL (kernelRun0_B c i arg4 harg4 arg5 harg5 arg6 harg6 arg7 harg7 arg8 harg8 x0 x1 x2 xt0 xt1 hc0).1 S512x1792.size (by sl_kernel_rfl) y

def out0_B_3 (c : Dev nD) (i : grid0.Coords) (arg4 : Memref sig .tc .vmem S4096x128 .bf16) (harg4 : arg4.IsWhole) (arg5 : Memref sig .tc .vmem S1x1x1024x1792 .f32) (harg5 : arg5.IsWhole) (arg6 : Memref sig .tc .vmem S1x1x1024x1792 .f32) (harg6 : arg6.IsWhole) (arg7 : Memref sig .tc .vmem S512x1792 .bf16) (harg7 : arg7.IsWhole) (arg8 : Memref sig .tc .vmem S4096x128 .f32) (harg8 : arg8.IsWhole)
    (x0 : Vec F S4096x128 .bf16) (x1 : Vec F S1x1x1024x1792 .f32) (x2 : Vec F S1x1x1024x1792 .f32) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) : Vec F S512x1792 .bf16 :=
  VO0_3.read (Elt F) (VO0_3.writes (Elt F) VO0_3.junk (kernelRun0_B c i arg4 harg4 arg5 harg5 arg6 harg6 arg7 harg7 arg8 harg8 x0 x1 x2 xt0 xt1 hc0).1)

/-- What the result's block holds after the body at a point. -/
def outsAt0 (hO : Ok m) (c : Dev nD) (t : Fin (cfgM m hO).N) : Vec F S512x1792 .bf16 :=
  if h0 : cond0_0 (grid0.coords t) (tbM0_1.view.readAt (Elt F) (Rect.unit (s := S1) ![0] S1.size inb_S1_S1_0).toLoadRect (tbl m 1) (Shape.Idx.first (numel1_S1.symm ▸ Nat.one_pos))) then
    out0_A_3 c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (iblk m hO c 0 t) (iblk m hO c 1 t) (iblk m hO c 2 t) (tbl m 0) (tbl m 1) h0
  else
    out0_B_3 c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (iblk m hO c 0 t) (iblk m hO c 1 t) (iblk m hO c 2 t) (tbl m 0) (tbl m 1) h0

theorem outsAt0_A (hO : Ok m) (c : Dev nD) (t : Fin (cfgM m hO).N) (h0 : cond0_0 (grid0.coords t) (tbM0_1.view.readAt (Elt F) (Rect.unit (s := S1) ![0] S1.size inb_S1_S1_0).toLoadRect (tbl m 1) (Shape.Idx.first (numel1_S1.symm ▸ Nat.one_pos)))) :
    outsAt0 m hO c t = out0_A_3 c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (iblk m hO c 0 t) (iblk m hO c 1 t) (iblk m hO c 2 t) (tbl m 0) (tbl m 1) h0 := by
  unfold outsAt0; exact (dif_pos h0).trans rfl

theorem outsAt0_B (hO : Ok m) (c : Dev nD) (t : Fin (cfgM m hO).N) (h0 : ¬cond0_0 (grid0.coords t) (tbM0_1.view.readAt (Elt F) (Rect.unit (s := S1) ![0] S1.size inb_S1_S1_0).toLoadRect (tbl m 1) (Shape.Idx.first (numel1_S1.symm ▸ Nat.one_pos)))) :
    outsAt0 m hO c t = out0_B_3 c (grid0.coords t) (ms0_0 m hO t) (hs0_0 m hO t) (ms0_1 m hO t) (hs0_1 m hO t) (ms0_2 m hO t) (hs0_2 m hO t) (ms0_3 m hO t) (hs0_3 m hO t) scM0_0 (Memref.isWhole_whole _) (iblk m hO c 0 t) (iblk m hO c 1 t) (iblk m hO c 2 t) (tbl m 0) (tbl m 1) h0 := by
  unfold outsAt0; exact (dif_neg h0).trans rfl

/-- The launch's data: the arrays as the host leaves them, each input's block kept, the result's block as above. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO c t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = (outsAt0 m hO c t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t))

set_option maxHeartbeats 800000 in
/-- The body's triple at any point, the tile in use or not. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2]
  rw [show (dats m hO 0 c).Φ t.succ = (dats m hO 0 c).Φ t.castSucc from rfl,
    show (dats m hO 0 c).owesAt () t.succ = (dats m hO 0 c).owesAt () t.castSucc from rfl,
    after0_0, after0_1, after0_2, after0_3]
  rw [show (dats m hO 0 c).Φ t.castSucc = iprop(Pipeline.ΦA spec0 c ∗ Pipeline.ΦT pre0 (tbl m) c) from rfl, PhiT0_eq, PhiA0_eq]
  by_cases h0 : cond0_0 (grid0.coords t) (tbM0_1.view.readAt (Elt F) (Rect.unit (s := S1) ![0] S1.size inb_S1_S1_0).toLoadRect (tbl m 1) (Shape.Idx.first (numel1_S1.symm ▸ Nat.one_pos)))
  · rw [outsAt0_A m hO c t h0]
    unfold out0_A_3
    iintro ⟨⟨⟨HS0, Hg⟩, ⟨HT0, HT1⟩⟩, Ho, ⟨%d0, H0⟩, ⟨%d1, H1⟩, ⟨%d2, H2⟩, ⟨%d3, H3⟩⟩
    iapply ((kernelRun0_A c (grid0.coords t) _ _ _ _ _ _ _ _ _ _ (iblk m hO c 0 t) (iblk m hO c 1 t) (iblk m hO c 2 t) (tbl m 0) (tbl m 1) h0).2.2 Set.univ _)
    isplitl [H0]; · iexact H0
    isplitl [H1]; · iexact H1
    isplitl [H2]; · iexact H2
    isplitl [H3]; · iexists _; iexact H3
    isplitl [HS0]; · iexact HS0
    isplitl [HT0]; · iexact HT0
    isplitl [HT1]; · iexact HT1
    iintro ⟨H0, H1, H2, ⟨%e3, H3⟩, ⟨%fT0, HS0⟩, HT0, HT1⟩
    isplitl [HS0 Hg HT0 HT1]
    · isplitl [HS0 Hg]
      · isplitl [HS0]
        · iexists _; unfold owns; iexists _; isplitr
          swap; · iexact HS0
          ipureintro; rfl
        iexact Hg
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_A_3 c _ _ _ _ _ _ _ _ _ _ _ _ _ _ _ _ _)
  · rw [outsAt0_B m hO c t h0]
    unfold out0_B_3
    iintro ⟨⟨⟨HS0, Hg⟩, ⟨HT0, HT1⟩⟩, Ho, ⟨%d0, H0⟩, ⟨%d1, H1⟩, ⟨%d2, H2⟩, ⟨%d3, H3⟩⟩
    iapply ((kernelRun0_B c (grid0.coords t) _ _ _ _ _ _ _ _ _ _ (iblk m hO c 0 t) (iblk m hO c 1 t) (iblk m hO c 2 t) (tbl m 0) (tbl m 1) h0).2.2 Set.univ _)
    isplitl [H0]; · iexact H0
    isplitl [H1]; · iexact H1
    isplitl [H2]; · iexact H2
    isplitl [H3]; · iexists _; iexact H3
    isplitl [HS0]; · iexact HS0
    isplitl [HT0]; · iexact HT0
    isplitl [HT1]; · iexact HT1
    iintro ⟨H0, H1, H2, ⟨%e3, H3⟩, HS0, HT0, HT1⟩
    isplitl [HS0 Hg HT0 HT1]
    · isplitl [HS0 Hg]
      · isplitl [HS0]
        · iexact HS0
        iexact Hg
      isplitl [HT0]; · iexact HT0
      iexact HT1
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_B_3 c _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ :=
  Pipeline.body_live _ (never_idle (tbl m)) fun t => by
    rw [bigSep_W0, bigSep_W0, defs₀_row m hO]
    exact triple_restated (sound_body m hO c t) rfl .rfl fun _ => .rfl

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.Kernel2Ideal.Gen

end
-- ==== Proof.Table.lean ====
module

public import Idealize.ShloMosaic.Lib.StableHlo
public import Idealize.ShloMosaic.Lib.ValueIdx
public import Idealize.ShloMosaic.Lib.DynamicIndex
public import Idealize.ShloMosaic.Lib.ReduceAll
public import Idealize.ShloMosaic.PureOps
public import Idealize.ShloMosaic.PureOps.Ideal.Laws

@[expose] public section

noncomputable section

/-! # The host's table: an entry of the routing's table in each place, and before the count the place's own -/

namespace Cert.Tiles

open Idealize.ShloMosaic

abbrev L128 : Shape := ⟨1, ![128]⟩
abbrev L1 : Shape := ⟨1, ![1]⟩

theorem flag_of {p : Prop} [Decidable p] (h : p) : BitVec.ofBool (decide p) = 1#1 := by simp [h]

theorem table_at (x0 : L128.Idx → BitVec 32) (x1 : L1.Idx → BitVec 32) (st : Fin L128.rank → ℤ) (hb : L1.BroadcastsInDim L128 ![0]) (hs : L128.Slices (fun _ => 0) L1) (j : L128.Idx) (z : L1.Idx) :
    (∃ j', select (cmpi .slt (iotaInDim L128 32 0) (broadcastInDim L128 ![0] hb x1)) x0 (broadcastInDim L128 ![0] hb (Host.dynamicSlice L1 x0 st hs)) j = x0 j')
    ∧ ((BitVec.ofNat 32 (j 0).val).toInt < (x1 z).toInt →
      select (cmpi .slt (iotaInDim L128 32 0) (broadcastInDim L128 ![0] hb x1)) x0 (broadcastInDim L128 ![0] hb (Host.dynamicSlice L1 x0 st hs)) j = x0 j) := by
  have hz : ∀ u : L1.Idx, u = z := fun u => funext fun a => by
    match a with
    | ⟨0, _⟩ => exact Fin.ext (by have h1 : (u 0).val < 1 := (u 0).isLt; have h2 : (z 0).val < 1 := (z 0).isLt; show (u 0).val = (z 0).val; omega)
  have hsel : ∀ y : L128.Idx → BitVec 32, select (cmpi .slt (iotaInDim L128 32 0) (broadcastInDim L128 ![0] hb x1)) x0 y j
      = if BitVec.ofBool ((BitVec.ofNat 32 (j 0).val).slt (x1 z)) = 1#1 then x0 j else y j := fun y => by
    have hbx : broadcastInDim L128 ![0] hb x1 j = x1 z := congrArg x1 (hz _)
    show Scalar.select (BitVec.ofBool ((BitVec.ofNat 32 (j 0).val).slt (broadcastInDim L128 ![0] hb x1 j))) (x0 j) (y j) = _
    rw [hbx]
    rfl
  refine ⟨?_, fun h => ?_⟩
  · rw [hsel]
    split
    · exact ⟨j, rfl⟩
    · exact ⟨_, rfl⟩
  · rw [hsel]
    exact if_pos (flag_of h)

theorem toNat_of {w : BitVec 32} (h : 0 ≤ w.toInt) : (w.toNat : ℤ) = w.toInt := by
  have hl := w.isLt
  rw [BitVec.toInt_eq_toNat_cond] at h ⊢
  split at h <;> rename_i hc
  · rw [if_pos hc]
  · exact absurd h (by omega)

theorem toInt_small {i : ℕ} (h : i < 128) : (BitVec.ofNat 32 i).toInt = i := by
  rw [BitVec.toInt_eq_toNat_cond, BitVec.toNat_ofNat, Nat.mod_eq_of_lt (by omega : i < 2 ^ 32)]
  exact if_pos (by omega)

theorem pred_toInt {n : BitVec 32} (h1 : 1 ≤ n.toInt) (h2 : n.toInt ≤ 72) : (Scalar.subi n 1#32).toInt = n.toInt - 1 := by
  show (n - 1#32).toInt = _
  rw [BitVec.toInt_sub, show (1#32 : BitVec 32).toInt = 1 from by decide, Int.bmod_eq_of_le (by omega) (by omega)]

/-- A tile's rows are those of its own place, or of the last one in use. -/
theorem min_at {i : ℕ} (hi : i < 72) {n : BitVec 32} (h1 : 1 ≤ n.toInt) (h2 : n.toInt ≤ 72) :
    (Scalar.minsi (BitVec.ofNat 32 i) (Scalar.subi n 1#32)).toNat < 72
    ∧ ((BitVec.ofNat 32 i).toInt < n.toInt → (Scalar.minsi (BitVec.ofNat 32 i) (Scalar.subi n 1#32)).toNat = i) := by
  have hp := pred_toInt h1 h2
  have hs := toInt_small (by omega : i < 128)
  have hn := toNat_of (w := Scalar.subi n 1#32) (by omega)
  have hin : (BitVec.ofNat 32 i).toNat = i := by rw [BitVec.toNat_ofNat]; exact Nat.mod_eq_of_lt (by omega)
  have key : Scalar.minsi (BitVec.ofNat 32 i) (Scalar.subi n 1#32) = if (BitVec.ofNat 32 i).toInt < (Scalar.subi n 1#32).toInt then BitVec.ofNat 32 i else Scalar.subi n 1#32 := by
    show (if (BitVec.ofNat 32 i).slt (Scalar.subi n 1#32) then BitVec.ofNat 32 i else Scalar.subi n 1#32) = _
    simp only [BitVec.slt, decide_eq_true_eq]
  rw [key]
  split
  · exact ⟨by omega, fun _ => hin⟩
  · exact ⟨by omega, fun h => by omega⟩

/-- A row counts for an expert exactly where its tile is that expert's and in use. -/
theorem gate_iff (w i n : BitVec 32) (k : ℕ) (hk : k < 8) :
    IntOp.andi (IntOp.cmpi .eq w (BitVec.ofNat 32 k)) (IntOp.cmpi .slt i n) = 1#1 ↔ w.toNat = k ∧ i.toInt < n.toInt := by
  rw [IntOp.andi_eq_one]
  have hkn : (BitVec.ofNat 32 k).toNat = k := by rw [BitVec.toNat_ofNat]; exact Nat.mod_eq_of_lt (by omega)
  refine and_congr ⟨fun h => ?_, fun h => ?_⟩ ⟨fun h => ?_, fun h => flag_of h⟩
  · have h' : BitVec.ofBool (w == BitVec.ofNat 32 k) = 1#1 := h
    by_cases e : w = BitVec.ofNat 32 k
    · rw [e, hkn]
    · rw [show (w == BitVec.ofNat 32 k) = false from beq_eq_false_iff_ne.mpr e] at h'
      exact absurd h' (by decide)
  · have e : w = BitVec.ofNat 32 k := BitVec.eq_of_toNat_eq (h.trans hkn.symm)
    show BitVec.ofBool (w == BitVec.ofNat 32 k) = 1#1
    simp [e]
  · have h' : BitVec.ofBool (decide (i.toInt < n.toInt)) = 1#1 := h
    by_contra hn
    simp [hn] at h'

/-- So the sum over the experts is the tile's expert's part alone, or zero out of use. -/
theorem gated_sum (w i n : BitVec 32) (hw : w.toNat < 8) (z : EReal) (hz : z = 0) (v : Fin 8 → EReal) :
    z + ∑ k : Fin 8, Scalar.select (IntOp.andi (IntOp.cmpi .eq w (BitVec.ofNat 32 k.val)) (IntOp.cmpi .slt i n)) (v k) z
      = if i.toInt < n.toInt then v ⟨w.toNat, hw⟩ else 0 := by
  subst hz
  have hsel : ∀ k : Fin 8, Scalar.select (IntOp.andi (IntOp.cmpi .eq w (BitVec.ofNat 32 k.val)) (IntOp.cmpi .slt i n)) (v k) (0 : EReal)
      = if w.toNat = k.val ∧ i.toInt < n.toInt then v k else 0 := fun k => if_congr (gate_iff w i n k.val k.isLt) rfl rfl
  rw [zero_add, Finset.sum_congr rfl fun k _ => hsel k]
  by_cases hi : i.toInt < n.toInt
  · rw [if_pos hi]
    refine (Finset.sum_eq_single (⟨w.toNat, hw⟩ : Fin 8) (fun k _ hk => if_neg fun h => hk (Fin.ext h.1.symm)) (fun h => absurd (Finset.mem_univ _) h)).trans ?_
    exact if_pos ⟨rfl, hi⟩
  · rw [if_neg hi]
    exact Finset.sum_eq_zero fun k _ => if_neg fun h => hi h.2

theorem expert_lt {w : BitVec 32} (h : 0 ≤ w.toInt ∧ w.toInt < 8) : w.toNat < 8 := by
  have := toNat_of h.1
  omega

end Cert.Tiles

end
-- ==== Proof.Up.Tables.lean ====
module

public import proofs.«01_k».proof.Proof.Up.Frame
public import proofs.«01_k».proof.Proof.Table
public import Idealize.ShloMosaic.Lib.ValueIdx
public import Idealize.ShloMosaic.Lib.PairWhole
public import Idealize.ShloMosaic.Lib.StableHlo.RunRead

@[expose] public section

set_option maxRecDepth 16384

noncomputable section

/-! # The two tables -/

namespace Cert.Kernel2Ideal.Gen

open Idealize.ShloMosaic Idealize.ShloMosaic.TcCoe Idealize.SL.Sem Idealize.ShloMosaic.ValueIdx

variable {F : FTy → Type} [FloatOps F]
variable (m : (ℓ : Loc nD τ sig) → Buf (Elt F) ℓ)

abbrev T0 : S128.Idx → BitVec 32 := m (((0 : Dev nD) : Thread nD τ).loc main_arg0)
abbrev T1 : S1.Idx → BitVec 32 := m (((0 : Dev nD) : Thread nD τ).loc main_arg1)

theorem tbl_one : (tbl m 1 : S1.Idx → BitVec 32) = T1 m := V_kept m 0 main_arg1 (by simp)

theorem tbl_zero (j : S128.Idx) (z : S1.Idx) : (∃ j', (tbl m 0 : S128.Idx → BitVec 32) j = T0 m j')
    ∧ ((BitVec.ofNat 32 (j 0).val).toInt < (T1 m z).toInt → (tbl m 0 : S128.Idx → BitVec 32) j = T0 m j) := by
  show (∃ j', V m 0 main_v10 j = T0 m j') ∧ (_ → V m 0 main_v10 j = T0 m j)
  unfold V
  after_reads_simp
  exact Cert.Tiles.table_at (T0 m) (T1 m) _ _ _ j z

/-- A tile's place in the first table. -/
abbrev place (i : grid0.Coords) : S128.Idx := ix1 (⟨(i 1).val, Nat.lt_of_lt_of_le (show (i 1).val < 72 from (i 1).isLt) (by decide)⟩ : Fin 128)

/-- The block of rows a tile reads. -/
abbrev rowsOf (i : grid0.Coords) : ℕ := (Scalar.minsi (BitVec.ofNat 32 (i 1).val) (Scalar.subi (T1 m (ix1 (0 : Fin 1))) 1#32)).toNat

/-- The expert whose weights it reads. -/
abbrev expertOf (i : grid0.Coords) : ℕ := ((tbl m 0 : S128.Idx → BitVec 32) (place i)).toNat

theorem one_idx (u z : S1.Idx) : u = z := funext fun a => by
  match a with
  | ⟨0, _⟩ => exact Fin.ext (by have h1 : (u 0).val < 1 := (u 0).isLt; have h2 : (z 0).val < 1 := (z 0).isLt; show (u 0).val = (z 0).val; omega)

theorem rows_block (i : grid0.Coords) : cc0_transform_0 inb_S1_S1_0 numel1_S1 (tbl m) i = ![rowsOf m i, 0] := by
  have hn := congrFun (tbl_one m)
  unfold cc0_transform_0
  dsimp only
  refine congrArg (fun w : BitVec 32 => (![(Scalar.minsi (BitVec.ofNat 32 (i 1).val) (Scalar.subi w 1#32)).toNat, 0] : Fin 2 → ℕ)) ?_
  exact (hn _).trans (congrArg (T1 m) (one_idx _ _))

theorem weights_block (i : grid0.Coords) : cc0_transform_1 k0_off1_inb numel1_S1 (tbl m) i = ![0, expertOf m i, 0, (BitVec.ofNat 32 (i 0).val).toNat] := by
  unfold cc0_transform_1
  dsimp only
  refine congrArg (fun j : S128.Idx => (![0, ((tbl m 0 : S128.Idx → BitVec 32) j).toNat, 0, (BitVec.ofNat 32 (i 0).val).toNat] : Fin 4 → ℕ)) ?_
  refine funext fun a => ?_
  match a with
  | ⟨0, _⟩ =>
    refine Fin.ext ?_
    have h : (i 1).val < 72 := (i 1).isLt
    have e : (BitVec.ofNat 32 (i 1).val).toNat = (i 1).val := by rw [BitVec.toNat_ofNat]; exact Nat.mod_eq_of_lt (by omega)
    exact (Nat.add_zero _).trans e

theorem up_block (i : grid0.Coords) : cc0_transform_2 k0_off1_inb numel1_S1 (tbl m) i = ![0, expertOf m i, 0, (BitVec.ofNat 32 (i 0).val).toNat] := by
  unfold cc0_transform_2
  dsimp only
  refine congrArg (fun j : S128.Idx => (![0, ((tbl m 0 : S128.Idx → BitVec 32) j).toNat, 0, (BitVec.ofNat 32 (i 0).val).toNat] : Fin 4 → ℕ)) ?_
  refine funext fun a => ?_
  match a with
  | ⟨0, _⟩ =>
    refine Fin.ext ?_
    have h : (i 1).val < 72 := (i 1).isLt
    have e : (BitVec.ofNat 32 (i 1).val).toNat = (i 1).val := by rw [BitVec.toNat_ofNat]; exact Nat.mod_eq_of_lt (by omega)
    exact (Nat.add_zero _).trans e

theorem column_val (i : grid0.Coords) : (BitVec.ofNat 32 (i 0).val).toNat = (i 0).val := by
  have h : (i 0).val < 2 := (i 0).isLt
  rw [BitVec.toNat_ofNat]
  exact Nat.mod_eq_of_lt (by omega)

/-- What the precondition says of the tables. -/
abbrev InRange : Prop := (∀ j, 0 ≤ (T0 m j).toInt ∧ (T0 m j).toInt < 8) ∧ ∀ j, 1 ≤ (T1 m j).toInt ∧ (T1 m j).toInt ≤ 72

theorem expertOf_lt (h : InRange m) (i : grid0.Coords) : expertOf m i < 8 := by
  obtain ⟨j', hj⟩ := (tbl_zero m (place i) (ix1 (0 : Fin 1))).1
  exact Cert.Tiles.expert_lt (hj ▸ h.1 j')

theorem rowsOf_lt (h : InRange m) (i : grid0.Coords) : rowsOf m i < 72 := (Cert.Tiles.min_at (i 1).isLt (h.2 _).1 (h.2 _).2).1

theorem weights_fit (x : ℕ) (hx : x < 8) (j : ℕ) (hj : j < 2) (a : Fin 4) :
    ((![0, x, 0, j] : Fin 4 → ℕ) a + 1) * S1x1x1024x1792.size a ≤ S2x8x1024x3584.size a := by
  match a with
  | ⟨0, _⟩ => show (0 + 1) * 1 ≤ 2; omega
  | ⟨1, _⟩ => show (x + 1) * 1 ≤ 8; omega
  | ⟨2, _⟩ => show (0 + 1) * 1024 ≤ 1024; omega
  | ⟨3, _⟩ => show (j + 1) * 1792 ≤ 3584; omega

/-- Then every block the tables choose lies inside its array. -/
theorem ok_of (h : InRange m) : Ok m := by
  refine ⟨fun i => ⟨?_, .inr ?_⟩, fun i => ⟨?_, .inl rfl⟩, fun i => ⟨?_, .inl rfl⟩⟩
  · rw [rows_block]
    have := rowsOf_lt m h i
    intro a
    match a with
    | ⟨0, _⟩ => show (rowsOf m i + 1) * 4096 ≤ 294912; omega
    | ⟨1, _⟩ => show (0 + 1) * 128 ≤ 128; omega
  · refine .inl (Rect.packedRows_of_rowAxis _ _ (by decide) ?_ ?_ rfl)
    · show 2 ∣ cc0_transform_0 inb_S1_S1_0 numel1_S1 (tbl m) i 0 * 4096
      omega
    · show 2 ∣ 4096
      decide
  · rw [weights_block, column_val]
    exact weights_fit _ (expertOf_lt m h i) _ (i 0).isLt
  · rw [up_block, column_val]
    exact weights_fit _ (expertOf_lt m h i) _ (i 0).isLt

end Cert.Kernel2Ideal.Gen

end
-- ==== Proof.Up.Gate.lean ====
module

public import proofs.«01_k».proof.Proof.Table
public import Idealize.ShloMosaic.PureOps.Ideal.Laws
public import Idealize.ShloMosaic.Lib.ValueIdx

@[expose] public section

noncomputable section

/-! # The gated unit -/

namespace Cert.Up

open Idealize.ShloMosaic Idealize.ShloMosaic.ValueIdx

/-- The gate's product times its logistic, times the other product. -/
def gated (g u : EReal) : EReal := g * Ideal.logistic g * u

theorem one_lit : Ideal.ofBits .f32 0x3F800000#32 = 1 := by
  simp [Ideal.ofBits, Ideal.ieee]
  rw [← EReal.coe_mul]
  norm_num

theorem zero_lit : Ideal.ofBits .f32 0x00000000#32 = 0 := by simp [Ideal.ofBits, Ideal.ieee]

end Cert.Up

end
-- ==== Proof.Up.Value.lean ====
module

public import proofs.«01_k».proof.Proof.Up.Tables
public import proofs.«01_k».proof.Proof.Up.Gate
public import Idealize.ShloMosaic.Lib.MatmulPlain
public import Idealize.ShloMosaic.Lib.Pipeline.Value
public import Idealize.ShloMosaic.Lib.Pipeline.ReadBack
public import Idealize.ShloMosaic.Lib.Pipeline.ValueKit.Basic
public import Idealize.ShloMosaic.Lib.Pipeline.ValueKit.Tiles
public import Idealize.ShloMosaic.Lib.Writes
public import Idealize.ShloMosaic.PureOps.Ideal.Laws

@[expose] public section

set_option maxRecDepth 16384

noncomputable section

/-! # What the body leaves in a tile's block -/

namespace Cert.Kernel2Ideal.Value

open Cert.Kernel2Ideal Cert.Kernel2Ideal.Gen Idealize.ShloMosaic Idealize.ShloMosaic.TcCoe Idealize.SL.Sem Idealize.ShloMosaic.ValueIdx
open Idealize.ShloMosaic.Pipeline (Dat)
open Cert.Up (gated zero_lit)

theorem bf16_zero_lit : Ideal.ofBits .bf16 0x0000#16 = 0 := by simp [Ideal.ofBits, Ideal.ieee]

theorem weights_product (a : FVec Ideal S512x1024 .bf16) (w : Vec Ideal S1x1x1024x256 .f32) (r : Fin 512) (c : Fin 256) :
    matmul (F := Ideal) dot_S512x1024_S1024x256_S512x256_1_0_0_1_n_n none a (truncf .bf16 (shapeCast S1024x256 w shapeCasts_S1x1x1024x256_S1024x256) bitsLt_bf16_f32) (constant S512x256 .f32 0x00000000#32) (ix2 r c)
      = ∑ k : Fin 1024, a (ix2 r k) * w (ix4 (0 : Fin 1) (0 : Fin 1) k c) := by
  refine (Ideal.matmul_plain_apply (M := 512) (K := 1024) (N := 256) (φ₁ := .bf16) (φ₂ := .bf16) none a _ (constant S512x256 .f32 0x00000000#32) r c).trans ?_
  show Ideal.ofBits .f32 0x00000000#32 + _ = _
  rw [zero_lit, zero_add]
  refine Finset.sum_congr rfl fun k _ => congrArg (a (ix2 r k) * ·) ?_
  refine shapeCast_apply (s := S1x1x1024x256) (α := EReal) w shapeCasts_S1x1x1024x256_S1024x256 (ix2 k c) (ix4 (0 : Fin 1) (0 : Fin 1) k c) ?_
  show ((⟨4, ![1, 1, 1024, 256]⟩ : Shape).rowMajor (ix4 (0 : Fin 1) (0 : Fin 1) k c)).val = ((⟨2, ![1024, 256]⟩ : Shape).rowMajor (ix2 k c)).val
  rw [Shape.rowMajor_val_two, Shape.rowMajor_val_four]
  show ((0 * 1 + 0) * 1024 + k.val) * 256 + c.val = k.val * 256 + c.val
  omega

/-- The gated unit of 256 columns of the expert's weights. -/
theorem pay9_at (a : FVec Ideal S512x1024 .bf16) (w u : Vec Ideal S1x1x1024x256 .f32) (r : Fin 512) (c : Fin 256) :
    k0_pay9 (F := Ideal) a w u (ix2 r c)
      = gated (∑ k : Fin 1024, a (ix2 r k) * w (ix4 (0 : Fin 1) (0 : Fin 1) k c)) (∑ k : Fin 1024, a (ix2 r k) * u (ix4 (0 : Fin 1) (0 : Fin 1) k c)) := by
  rw [← weights_product, ← weights_product]
  rfl

/-- Eight blocks of 128 columns side by side. -/
theorem pay5_at (v : Fin 8 → Vec Ideal S512x128 .f32) (r : Fin 512) (s : Fin 8) (l : Fin 128) (d : Fin 1024) (hd : d.val = 128 * s.val + l.val) :
    k0_pay5 (F := Ideal) (v 0) (v 1) (v 2) (v 3) (v 4) (v 5) (v 6) (v 7) (ix2 r d) = v s (ix2 r l) := by
  unfold k0_pay5
  match s, hd with
  | ⟨0, hn⟩, hd =>
    exact concatenate_apply_piece (t := S512x1024) 1 _ _ _ 0 (by show 0 < 8; omega) S512x128 _ rfl rfl 0 rfl (ix2 r l)
      (fun a ha => by match a with | ⟨0, _⟩ => rfl | ⟨1, _⟩ => exact (ha rfl).elim) hd.symm
  | ⟨1, hn⟩, hd =>
    exact concatenate_apply_piece (t := S512x1024) 1 _ _ _ 1 (by show 1 < 8; omega) S512x128 _ rfl rfl 128 rfl (ix2 r l)
      (fun a ha => by match a with | ⟨0, _⟩ => rfl | ⟨1, _⟩ => exact (ha rfl).elim) hd.symm
  | ⟨2, hn⟩, hd =>
    exact concatenate_apply_piece (t := S512x1024) 1 _ _ _ 2 (by show 2 < 8; omega) S512x128 _ rfl rfl 256 rfl (ix2 r l)
      (fun a ha => by match a with | ⟨0, _⟩ => rfl | ⟨1, _⟩ => exact (ha rfl).elim) hd.symm
  | ⟨3, hn⟩, hd =>
    exact concatenate_apply_piece (t := S512x1024) 1 _ _ _ 3 (by show 3 < 8; omega) S512x128 _ rfl rfl 384 rfl (ix2 r l)
      (fun a ha => by match a with | ⟨0, _⟩ => rfl | ⟨1, _⟩ => exact (ha rfl).elim) hd.symm
  | ⟨4, hn⟩, hd =>
    exact concatenate_apply_piece (t := S512x1024) 1 _ _ _ 4 (by show 4 < 8; omega) S512x128 _ rfl rfl 512 rfl (ix2 r l)
      (fun a ha => by match a with | ⟨0, _⟩ => rfl | ⟨1, _⟩ => exact (ha rfl).elim) hd.symm
  | ⟨5, hn⟩, hd =>
    exact concatenate_apply_piece (t := S512x1024) 1 _ _ _ 5 (by show 5 < 8; omega) S512x128 _ rfl rfl 640 rfl (ix2 r l)
      (fun a ha => by match a with | ⟨0, _⟩ => rfl | ⟨1, _⟩ => exact (ha rfl).elim) hd.symm
  | ⟨6, hn⟩, hd =>
    exact concatenate_apply_piece (t := S512x1024) 1 _ _ _ 6 (by show 6 < 8; omega) S512x128 _ rfl rfl 768 rfl (ix2 r l)
      (fun a ha => by match a with | ⟨0, _⟩ => rfl | ⟨1, _⟩ => exact (ha rfl).elim) hd.symm
  | ⟨7, hn⟩, hd =>
    exact concatenate_apply_piece (t := S512x1024) 1 _ _ _ 7 (by show 7 < 8; omega) S512x128 _ rfl rfl 896 rfl (ix2 r l)
      (fun a ha => by match a with | ⟨0, _⟩ => rfl | ⟨1, _⟩ => exact (ha rfl).elim) hd.symm

/-- The rows `8 r + s` of the block, as the body reads them back. -/
abbrev everyEighth (arg4 : Memref sig .tc .vmem S4096x128 .bf16) (harg4 : arg4.IsWhole) (arg8 : Memref sig .tc .vmem S4096x128 .f32) (x0 : Vec Ideal S4096x128 .bf16) (s : ℕ) (inb : ∀ a : Fin 2, S512x128.size a = 0 ∨ (![s, 0] : Fin 2 → ℕ) a + (![8, 1] : Fin 2 → ℕ) a * (S512x128.size a - 1) < S4096x128.size a) : Vec Ideal S512x128 .f32 :=
  arg8.view.readCov [(⟨Rect.unit ![0, 0] S4096x128.size inb_S4096x128_S4096x128_0_0, k0_pay4 (arg4.view.readAt (Elt Ideal) (Rect.unit (s := S4096x128) ![0, 0] S4096x128.size inb_S4096x128_S4096x128_0_0).toLoadRect (harg4.unread x0))⟩ : View.Piece (Elt Ideal) S4096x128 .f32)]
    (⟨![s, 0], S512x128.size, ![8, 1], inb⟩ : LoadRect S4096x128)

theorem steps_pos : ∀ a : Fin 2, 0 < (![8, 1] : Fin 2 → ℕ) a := by decide

theorem everyEighth_at (arg4 : Memref sig .tc .vmem S4096x128 .bf16) (harg4 : arg4.IsWhole) (arg8 : Memref sig .tc .vmem S4096x128 .f32) (x0 : Vec Ideal S4096x128 .bf16) (s : ℕ) (inb : ∀ a : Fin 2, S512x128.size a = 0 ∨ (![s, 0] : Fin 2 → ℕ) a + (![8, 1] : Fin 2 → ℕ) a * (S512x128.size a - 1) < S4096x128.size a) (r : Fin 512) (l : Fin 128) (R : Fin 4096) (hR : R.val = 8 * r.val + s) :
    everyEighth arg4 harg4 arg8 x0 s inb (ix2 r l) = x0 (ix2 R l) := by
  unfold everyEighth
  refine (congrFun (View.readCov_fill arg8.view inb_S4096x128_S4096x128_0_0 _ [] (⟨(⟨![s, 0], S512x128.size, ![8, 1], inb⟩ : LoadRect S4096x128), steps_pos⟩ : Rect S4096x128) (by decide)) (ix2 r l)).trans ?_
  unfold k0_pay4
  rw [View.readAt_eq_ld, harg4.read_unread, View.ld_unit_lit (S := S4096x128) _ x0 (by decide)]
  refine (shapeCast_apply (s := S4096x128) (α := EReal) x0 shapeCasts_S4096x128_S4096x128 _ _ rfl).trans (congrArg x0 (funext fun a => Fin.ext ?_))
  match a with
  | ⟨0, _⟩ => show s + 8 * r.val = R.val; omega
  | ⟨1, _⟩ => show 0 + 1 * l.val = l.val; omega

/-- The block's rows flattened, eight to one. -/
abbrev rowsOfBlock (arg4 : Memref sig .tc .vmem S4096x128 .bf16) (harg4 : arg4.IsWhole) (arg8 : Memref sig .tc .vmem S4096x128 .f32) (x0 : Vec Ideal S4096x128 .bf16) : FVec Ideal S512x1024 .bf16 :=
  k0_pay5 (everyEighth arg4 harg4 arg8 x0 0 inb_S4096x128_S512x128_0_0_s_8_1) (everyEighth arg4 harg4 arg8 x0 1 inb_S4096x128_S512x128_1_0_s_8_1) (everyEighth arg4 harg4 arg8 x0 2 inb_S4096x128_S512x128_2_0_s_8_1) (everyEighth arg4 harg4 arg8 x0 3 inb_S4096x128_S512x128_3_0_s_8_1) (everyEighth arg4 harg4 arg8 x0 4 inb_S4096x128_S512x128_4_0_s_8_1) (everyEighth arg4 harg4 arg8 x0 5 inb_S4096x128_S512x128_5_0_s_8_1) (everyEighth arg4 harg4 arg8 x0 6 inb_S4096x128_S512x128_6_0_s_8_1) (everyEighth arg4 harg4 arg8 x0 7 inb_S4096x128_S512x128_7_0_s_8_1)

theorem rowsOfBlock_at (arg4 : Memref sig .tc .vmem S4096x128 .bf16) (harg4 : arg4.IsWhole) (arg8 : Memref sig .tc .vmem S4096x128 .f32) (x0 : Vec Ideal S4096x128 .bf16) (r : Fin 512) (k : Fin 1024) :
    rowsOfBlock arg4 harg4 arg8 x0 (ix2 r k) = x0 (ix2 (⟨r.val * 8 + k.val / 128, by omega⟩ : Fin 4096) (⟨k.val % 128, by omega⟩ : Fin 128)) := by
  have inb : ∀ s : Fin 8, ∀ a : Fin 2, S512x128.size a = 0 ∨ (![s.val, 0] : Fin 2 → ℕ) a + (![8, 1] : Fin 2 → ℕ) a * (S512x128.size a - 1) < S4096x128.size a := by decide
  exact (pay5_at (fun s => everyEighth arg4 harg4 arg8 x0 s.val (inb s)) r ⟨k.val / 128, by omega⟩ ⟨k.val % 128, by omega⟩ k (by show k.val = 128 * (k.val / 128) + k.val % 128; omega)).trans
    (everyEighth_at arg4 harg4 arg8 x0 _ _ r _ _ (by show r.val * 8 + k.val / 128 = 8 * r.val + k.val / 128; omega))

abbrev wOf (arg5 : Memref sig .tc .vmem S1x1x1024x1792 .f32) (harg5 : arg5.IsWhole) (x1 : Vec Ideal S1x1x1024x1792 .f32) (off : Fin 4 → ℕ) (inb : ∀ a, off a + S1x1x1024x256.size a ≤ S1x1x1024x1792.size a) : Vec Ideal S1x1x1024x256 .f32 :=
  arg5.view.readAt (Elt Ideal) (Rect.unit (s := S1x1x1024x1792) off S1x1x1024x256.size inb).toLoadRect (harg5.unread x1)

/-- The seven stores of a tile in use. -/
theorem pieces_A (c : Dev nD) (i : grid0.Coords) (arg4 : Memref sig .tc .vmem S4096x128 .bf16) (harg4 : arg4.IsWhole) (arg5 : Memref sig .tc .vmem S1x1x1024x1792 .f32) (harg5 : arg5.IsWhole) (arg6 : Memref sig .tc .vmem S1x1x1024x1792 .f32) (harg6 : arg6.IsWhole) (arg7 : Memref sig .tc .vmem S512x1792 .bf16) (harg7 : arg7.IsWhole) (arg8 : Memref sig .tc .vmem S4096x128 .f32) (harg8 : arg8.IsWhole)
    (x0 : Vec Ideal S4096x128 .bf16) (x1 x2 : Vec Ideal S1x1x1024x1792 .f32) (xt0 : TbBuf0 (F := Ideal) c tbM0_0) (xt1 : TbBuf0 (F := Ideal) c tbM0_1) (hc0) :
    (kernelRun0_A c i arg4 harg4 arg5 harg5 arg6 harg6 arg7 harg7 arg8 harg8 x0 x1 x2 xt0 xt1 hc0).1
      = [⟨Rect.unit ![0, 1536] ![512, 256] inb_S512x1792_S512x256_0_1536, k0_pay9 (rowsOfBlock arg4 harg4 arg8 x0) (wOf arg5 harg5 x1 ![0, 0, 0, 1536] inb_S1x1x1024x1792_S1x1x1024x256_0_0_0_1536) (wOf arg6 harg6 x2 ![0, 0, 0, 1536] inb_S1x1x1024x1792_S1x1x1024x256_0_0_0_1536)⟩,
       ⟨Rect.unit ![0, 1280] ![512, 256] inb_S512x1792_S512x256_0_1280, k0_pay9 (rowsOfBlock arg4 harg4 arg8 x0) (wOf arg5 harg5 x1 ![0, 0, 0, 1280] inb_S1x1x1024x1792_S1x1x1024x256_0_0_0_1280) (wOf arg6 harg6 x2 ![0, 0, 0, 1280] inb_S1x1x1024x1792_S1x1x1024x256_0_0_0_1280)⟩,
       ⟨Rect.unit ![0, 1024] ![512, 256] inb_S512x1792_S512x256_0_1024, k0_pay9 (rowsOfBlock arg4 harg4 arg8 x0) (wOf arg5 harg5 x1 ![0, 0, 0, 1024] inb_S1x1x1024x1792_S1x1x1024x256_0_0_0_1024) (wOf arg6 harg6 x2 ![0, 0, 0, 1024] inb_S1x1x1024x1792_S1x1x1024x256_0_0_0_1024)⟩,
       ⟨Rect.unit ![0, 768] ![512, 256] inb_S512x1792_S512x256_0_768, k0_pay9 (rowsOfBlock arg4 harg4 arg8 x0) (wOf arg5 harg5 x1 ![0, 0, 0, 768] inb_S1x1x1024x1792_S1x1x1024x256_0_0_0_768) (wOf arg6 harg6 x2 ![0, 0, 0, 768] inb_S1x1x1024x1792_S1x1x1024x256_0_0_0_768)⟩,
       ⟨Rect.unit ![0, 512] ![512, 256] inb_S512x1792_S512x256_0_512, k0_pay9 (rowsOfBlock arg4 harg4 arg8 x0) (wOf arg5 harg5 x1 ![0, 0, 0, 512] inb_S1x1x1024x1792_S1x1x1024x256_0_0_0_512) (wOf arg6 harg6 x2 ![0, 0, 0, 512] inb_S1x1x1024x1792_S1x1x1024x256_0_0_0_512)⟩,
       ⟨Rect.unit ![0, 256] ![512, 256] inb_S512x1792_S512x256_0_256, k0_pay9 (rowsOfBlock arg4 harg4 arg8 x0) (wOf arg5 harg5 x1 ![0, 0, 0, 256] inb_S1x1x1024x1792_S1x1x1024x256_0_0_0_256) (wOf arg6 harg6 x2 ![0, 0, 0, 256] inb_S1x1x1024x1792_S1x1x1024x256_0_0_0_256)⟩,
       ⟨Rect.unit ![0, 0] ![512, 256] inb_S512x1792_S512x256_0_0, k0_pay9 (rowsOfBlock arg4 harg4 arg8 x0) (wOf arg5 harg5 x1 ![0, 0, 0, 0] inb_S1x1x1024x1792_S1x1x1024x256_0_0_0_0) (wOf arg6 harg6 x2 ![0, 0, 0, 0] inb_S1x1x1024x1792_S1x1x1024x256_0_0_0_0)⟩] := rfl

/-- A tile's row and column of the full product. -/
abbrev prod (x0 : Vec Ideal S4096x128 .bf16) (x1 : Vec Ideal S1x1x1024x1792 .f32) (r : Fin 512) (c : Fin 1792) : EReal :=
  ∑ k : Fin 1024, x0 (ix2 (⟨r.val * 8 + k.val / 128, by omega⟩ : Fin 4096) (⟨k.val % 128, by omega⟩ : Fin 128)) * x1 (ix4 (0 : Fin 1) (0 : Fin 1) k c)

theorem wOf_at (arg5 : Memref sig .tc .vmem S1x1x1024x1792 .f32) (harg5 : arg5.IsWhole) (x1 : Vec Ideal S1x1x1024x1792 .f32) (o : ℕ) (inb : ∀ a, (![0, 0, 0, o] : Fin 4 → ℕ) a + S1x1x1024x256.size a ≤ S1x1x1024x1792.size a) (k : Fin 1024) (c : Fin 256) (c' : Fin 1792) (hc : c'.val = o + c.val) :
    wOf arg5 harg5 x1 ![0, 0, 0, o] inb (ix4 (0 : Fin 1) (0 : Fin 1) k c) = x1 (ix4 (0 : Fin 1) (0 : Fin 1) k c') := by
  unfold wOf
  rw [View.readAt_eq_ld, harg5.read_unread]
  refine View.ld_unit_apply_of x1 _ _ _ _ (ix4 (0 : Fin 1) (0 : Fin 1) k c') fun a => ?_
  match a with
  | ⟨0, _⟩ => rfl
  | ⟨1, _⟩ => rfl
  | ⟨2, _⟩ => show k.val = 0 + k.val; omega
  | ⟨3, _⟩ => exact hc

theorem loaded_at (arg4 : Memref sig .tc .vmem S4096x128 .bf16) (harg4 : arg4.IsWhole) (arg5 : Memref sig .tc .vmem S1x1x1024x1792 .f32) (harg5 : arg5.IsWhole) (arg6 : Memref sig .tc .vmem S1x1x1024x1792 .f32) (harg6 : arg6.IsWhole) (arg8 : Memref sig .tc .vmem S4096x128 .f32)
    (x0 : Vec Ideal S4096x128 .bf16) (x1 x2 : Vec Ideal S1x1x1024x1792 .f32) (o : ℕ) (inb : ∀ a, (![0, 0, 0, o] : Fin 4 → ℕ) a + S1x1x1024x256.size a ≤ S1x1x1024x1792.size a) (r : Fin 512) (c : Fin 256) (c' : Fin 1792) (hc : c'.val = o + c.val) :
    k0_pay9 (F := Ideal) (rowsOfBlock arg4 harg4 arg8 x0) (wOf arg5 harg5 x1 ![0, 0, 0, o] inb) (wOf arg6 harg6 x2 ![0, 0, 0, o] inb) (ix2 r c) = gated (prod x0 x1 r c') (prod x0 x2 r c') := by
  rw [pay9_at]
  refine congr (congrArg gated (Finset.sum_congr rfl fun k _ => ?_)) (Finset.sum_congr rfl fun k _ => ?_)
  · exact congr (congrArg (HMul.hMul (α := EReal)) (rowsOfBlock_at arg4 harg4 arg8 x0 r k)) (wOf_at arg5 harg5 x1 o inb k c c' hc)
  · exact congr (congrArg (HMul.hMul (α := EReal)) (rowsOfBlock_at arg4 harg4 arg8 x0 r k)) (wOf_at arg6 harg6 x2 o inb k c c' hc)

/-- A tile in use. -/
theorem out_A_at (c : Dev nD) (i : grid0.Coords) (arg4 : Memref sig .tc .vmem S4096x128 .bf16) (harg4 : arg4.IsWhole) (arg5 : Memref sig .tc .vmem S1x1x1024x1792 .f32) (harg5 : arg5.IsWhole) (arg6 : Memref sig .tc .vmem S1x1x1024x1792 .f32) (harg6 : arg6.IsWhole) (arg7 : Memref sig .tc .vmem S512x1792 .bf16) (harg7 : arg7.IsWhole) (arg8 : Memref sig .tc .vmem S4096x128 .f32) (harg8 : arg8.IsWhole)
    (x0 : Vec Ideal S4096x128 .bf16) (x1 x2 : Vec Ideal S1x1x1024x1792 .f32) (xt0 : TbBuf0 (F := Ideal) c tbM0_0) (xt1 : TbBuf0 (F := Ideal) c tbM0_1) (hc0) (y : S512x1792.Idx) :
    out0_A_3 c i arg4 harg4 arg5 harg5 arg6 harg6 arg7 harg7 arg8 harg8 x0 x1 x2 xt0 xt1 hc0 y = gated (prod x0 x1 (y 0) (y 1)) (prod x0 x2 (y 0) (y 1)) := by
  have piece : ∀ (o : ℕ) (inb1 : ∀ a, (![0, 0, 0, o] : Fin 4 → ℕ) a + S1x1x1024x256.size a ≤ S1x1x1024x1792.size a) (inb2 : ∀ a, (![0, o] : Fin 2 → ℕ) a + S512x256.size a ≤ S512x1792.size a) (ho : o + 256 ≤ 1792)
      (x : (Rect.unit (s := S512x1792) ![0, o] ![512, 256] inb2).shape.Idx),
      k0_pay9 (F := Ideal) (rowsOfBlock arg4 harg4 arg8 x0) (wOf arg5 harg5 x1 ![0, 0, 0, o] inb1) (wOf arg6 harg6 x2 ![0, 0, 0, o] inb1) x
        = (fun y : S512x1792.Idx => gated (prod x0 x1 (y 0) (y 1)) (prod x0 x2 (y 0) (y 1))) ((Rect.unit (s := S512x1792) ![0, o] ![512, 256] inb2).emb x) := by
    intro o inb1 inb2 ho x
    obtain ⟨r, d, rfl⟩ : ∃ (r : Fin 512) (d : Fin 256), x = (ix2 r d : S512x256.Idx) := ⟨x 0, x 1, funext fun a => by
      match a with
      | ⟨0, _⟩ => rfl
      | ⟨1, _⟩ => rfl⟩
    have hd := d.isLt
    refine (loaded_at arg4 harg4 arg5 harg5 arg6 harg6 arg8 x0 x1 x2 o inb1 r d ⟨o + d.val, by omega⟩ rfl).trans ?_
    have e : ((Rect.unit (s := S512x1792) ![0, o] ![512, 256] inb2).emb (ix2 r d : S512x256.Idx) : S512x1792.Idx) = ix2 r (⟨o + d.val, by omega⟩ : Fin 1792) := funext fun a => Fin.ext (by
      match a with
      | ⟨0, _⟩ => show 0 + 1 * r.val = r.val; omega
      | ⟨1, _⟩ => show o + 1 * d.val = o + d.val; omega)
    rw [e]
  unfold out0_A_3
  refine View.read_writes_apply_of_pieces (Val := Elt Ideal) VO0_3 _ (fun y : S512x1792.Idx => gated (prod x0 x1 (y 0) (y 1)) (prod x0 x2 (y 0) (y 1))) _ ?_ y (cover0_A_3 c i arg4 harg4 arg5 harg5 arg6 harg6 arg7 harg7 arg8 harg8 x0 x1 x2 xt0 xt1 hc0 y)
  rw [pieces_A]
  intro p hp
  simp only [List.mem_cons, List.not_mem_nil, or_false] at hp
  rcases hp with rfl | rfl | rfl | rfl | rfl | rfl | rfl
  · exact piece 1536 inb_S1x1x1024x1792_S1x1x1024x256_0_0_0_1536 inb_S512x1792_S512x256_0_1536 (by decide)
  · exact piece 1280 inb_S1x1x1024x1792_S1x1x1024x256_0_0_0_1280 inb_S512x1792_S512x256_0_1280 (by decide)
  · exact piece 1024 inb_S1x1x1024x1792_S1x1x1024x256_0_0_0_1024 inb_S512x1792_S512x256_0_1024 (by decide)
  · exact piece 768 inb_S1x1x1024x1792_S1x1x1024x256_0_0_0_768 inb_S512x1792_S512x256_0_768 (by decide)
  · exact piece 512 inb_S1x1x1024x1792_S1x1x1024x256_0_0_0_512 inb_S512x1792_S512x256_0_512 (by decide)
  · exact piece 256 inb_S1x1x1024x1792_S1x1x1024x256_0_0_0_256 inb_S512x1792_S512x256_0_256 (by decide)
  · exact piece 0 inb_S1x1x1024x1792_S1x1x1024x256_0_0_0_0 inb_S512x1792_S512x256_0_0 (by decide)

/-- A tile out of use holds zeros. -/
theorem out_B_at (c : Dev nD) (i : grid0.Coords) (arg4 : Memref sig .tc .vmem S4096x128 .bf16) (harg4 : arg4.IsWhole) (arg5 : Memref sig .tc .vmem S1x1x1024x1792 .f32) (harg5 : arg5.IsWhole) (arg6 : Memref sig .tc .vmem S1x1x1024x1792 .f32) (harg6 : arg6.IsWhole) (arg7 : Memref sig .tc .vmem S512x1792 .bf16) (harg7 : arg7.IsWhole) (arg8 : Memref sig .tc .vmem S4096x128 .f32) (harg8 : arg8.IsWhole)
    (x0 : Vec Ideal S4096x128 .bf16) (x1 x2 : Vec Ideal S1x1x1024x1792 .f32) (xt0 : TbBuf0 (F := Ideal) c tbM0_0) (xt1 : TbBuf0 (F := Ideal) c tbM0_1) (hc0) (y : S512x1792.Idx) :
    out0_B_3 c i arg4 harg4 arg5 harg5 arg6 harg6 arg7 harg7 arg8 harg8 x0 x1 x2 xt0 xt1 hc0 y = (0 : EReal) := by
  unfold out0_B_3
  refine View.read_writes_apply_of_pieces (Val := Elt Ideal) VO0_3 _ (fun _ => (0 : EReal)) _ ?_ y (cover0_B_3 c i arg4 harg4 arg5 harg5 arg6 harg6 arg7 harg7 arg8 harg8 x0 x1 x2 xt0 xt1 hc0 y)
  intro p hp x
  unfold kernelRun0_B at hp
  dsimp only at hp
  simp only [List.mem_cons, List.not_mem_nil, or_false] at hp
  subst hp
  exact bf16_zero_lit

end Cert.Kernel2Ideal.Value

end
-- ==== Proof.Up.Array.lean ====
module

public import proofs.«01_k».proof.Proof.Up.Value
public import Idealize.ShloMosaic.Lib.Pipeline.ValueKit.Geometry
public import Idealize.ShloMosaic.Lib.Pipeline.Covers

@[expose] public section

set_option maxRecDepth 16384

noncomputable section

/-! # The gate and up projection's result, read at an index -/

namespace Cert.Kernel2Ideal.Value

open Cert.Kernel2Ideal Cert.Kernel2Ideal.Gen Idealize.ShloMosaic Idealize.ShloMosaic.TcCoe Idealize.SL.Sem Idealize.ShloMosaic.ValueIdx
open Idealize.ShloMosaic.Pipeline (Dat)
open Cert.Up (gated)

variable (m : (ℓ : Loc nD τ sig) → Buf (Elt Ideal) ℓ)

abbrev A2 (c : Dev nD) : S294912x128.Idx → EReal := m ((c : Thread nD τ).loc main_arg2)
abbrev A3 (c : Dev nD) : S2x8x1024x3584.Idx → EReal := m ((c : Thread nD τ).loc main_arg3)
abbrev A4 (c : Dev nD) : S2x8x1024x3584.Idx → EReal := m ((c : Thread nD τ).loc main_arg4)

variable (hr : InRange m)

theorem index0 (t : Fin (cfgM m (ok_of m hr)).N) : ((cfgM m (ok_of m hr)).win 0).index t = ![rowsOf m (grid0.coords t), 0] := rows_block m (grid0.coords t)
theorem index1 (t : Fin (cfgM m (ok_of m hr)).N) : ((cfgM m (ok_of m hr)).win 1).index t = ![0, expertOf m (grid0.coords t), 0, (grid0.coords t 0).val] :=
  (weights_block m (grid0.coords t)).trans (by rw [column_val])
theorem index2 (t : Fin (cfgM m (ok_of m hr)).N) : ((cfgM m (ok_of m hr)).win 2).index t = ![0, expertOf m (grid0.coords t), 0, (grid0.coords t 0).val] :=
  (up_block m (grid0.coords t)).trans (by rw [column_val])

theorem half_lt (i : grid0.Coords) : (i 0).val < 2 := (i 0).isLt
theorem tile_lt (i : grid0.Coords) : (i 1).val < 72 := (i 1).isLt

theorem iblk0_at (c : Dev nD) (t : Fin (cfgM m (ok_of m hr)).N) (r : Fin 4096) (l : Fin 128) :
    iblk m (ok_of m hr) c 0 t (ix2 r l) = A2 m c (ix2 (⟨rowsOf m (grid0.coords t) * 4096 + r.val, by have := rowsOf_lt m hr (grid0.coords t); omega⟩ : Fin 294912) l) := by
  refine Eq.trans ?_ (congrFun (V_kept m c main_arg2 (by simp)) _)
  refine congrArg (V m c main_arg2) (funext fun a => Fin.ext ((((cfgM m (ok_of m hr)).win 0).rect_emb_val t (ix2 r l) a).trans ?_))
  refine (congrArg (fun f : Fin 2 → ℕ => f a * S4096x128.size a + ((ix2 r l : S4096x128.Idx) a).val) (index0 m hr t)).trans ?_
  match a with
  | ⟨0, _⟩ => rfl
  | ⟨1, _⟩ => show 0 * 128 + l.val = l.val; omega

theorem iblk1_at (c : Dev nD) (t : Fin (cfgM m (ok_of m hr)).N) (k : Fin 1024) (e : Fin 1792) :
    iblk m (ok_of m hr) c 1 t (ix4 (0 : Fin 1) (0 : Fin 1) k e)
      = A3 m c (ix4 (0 : Fin 2) (⟨expertOf m (grid0.coords t), expertOf_lt m hr _⟩ : Fin 8) k (⟨(grid0.coords t 0).val * 1792 + e.val, by have := half_lt (grid0.coords t); omega⟩ : Fin 3584)) := by
  refine Eq.trans ?_ (congrFun (V_kept m c main_arg3 (by simp)) _)
  refine congrArg (V m c main_arg3) (funext fun a => Fin.ext ((((cfgM m (ok_of m hr)).win 1).rect_emb_val t (ix4 (0 : Fin 1) (0 : Fin 1) k e) a).trans ?_))
  refine (congrArg (fun f : Fin 4 → ℕ => f a * S1x1x1024x1792.size a + ((ix4 (0 : Fin 1) (0 : Fin 1) k e : S1x1x1024x1792.Idx) a).val) (index1 m hr t)).trans ?_
  match a with
  | ⟨0, _⟩ => rfl
  | ⟨1, _⟩ => exact (Nat.add_zero _).trans (Nat.mul_one _)
  | ⟨2, _⟩ => show 0 * 1024 + k.val = k.val; omega
  | ⟨3, _⟩ => rfl

theorem iblk2_at (c : Dev nD) (t : Fin (cfgM m (ok_of m hr)).N) (k : Fin 1024) (e : Fin 1792) :
    iblk m (ok_of m hr) c 2 t (ix4 (0 : Fin 1) (0 : Fin 1) k e)
      = A4 m c (ix4 (0 : Fin 2) (⟨expertOf m (grid0.coords t), expertOf_lt m hr _⟩ : Fin 8) k (⟨(grid0.coords t 0).val * 1792 + e.val, by have := half_lt (grid0.coords t); omega⟩ : Fin 3584)) := by
  refine Eq.trans ?_ (congrFun (V_kept m c main_arg4 (by simp)) _)
  refine congrArg (V m c main_arg4) (funext fun a => Fin.ext ((((cfgM m (ok_of m hr)).win 2).rect_emb_val t (ix4 (0 : Fin 1) (0 : Fin 1) k e) a).trans ?_))
  refine (congrArg (fun f : Fin 4 → ℕ => f a * S1x1x1024x1792.size a + ((ix4 (0 : Fin 1) (0 : Fin 1) k e : S1x1x1024x1792.Idx) a).val) (index2 m hr t)).trans ?_
  match a with
  | ⟨0, _⟩ => rfl
  | ⟨1, _⟩ => exact (Nat.add_zero _).trans (Nat.mul_one _)
  | ⟨2, _⟩ => show 0 * 1024 + k.val = k.val; omega
  | ⟨3, _⟩ => rfl

/-- A row's product with one column of an expert's weights. -/
abbrev dot (x : S294912x128.Idx → EReal) (w : S2x8x1024x3584.Idx → EReal) (r : Fin 36864) (z : Fin 8) (e : Fin 3584) : EReal :=
  ∑ k : Fin 1024, x (ix2 (⟨r.val * 8 + k.val / 128, by omega⟩ : Fin 294912) (⟨k.val % 128, by omega⟩ : Fin 128)) * w (ix4 (0 : Fin 2) z k e)

/-- A row's tile's expert. -/
abbrev expertAt (r : Fin 36864) : Fin 8 := Fin.ofNat 8 (T0 m (ix1 (⟨r.val / 512, by omega⟩ : Fin 128))).toNat

/-- The result from the arguments. -/
def outOf (c : Dev nD) : S36864x3584.Idx → EReal := fun y =>
  if (BitVec.ofNat 32 ((y 0).val / 512)).toInt < (T1 m (ix1 (0 : Fin 1))).toInt then
    gated (dot (A2 m c) (A3 m c) (y 0) (expertAt m (y 0)) (y 1)) (dot (A2 m c) (A4 m c) (y 0) (expertAt m (y 0)) (y 1))
  else 0

theorem count_word (i : grid0.Coords) :
    cond0_0 i (tbM0_1.view.readAt (Elt Ideal) (Rect.unit (s := S1) ![0] S1.size inb_S1_S1_0).toLoadRect (tbl m 1) (Shape.Idx.first (numel1_S1.symm ▸ Nat.one_pos)))
      ↔ (BitVec.ofNat 32 (i 1).val).toInt < (T1 m (ix1 (0 : Fin 1))).toInt := by
  rw [cond_iff]
  have e : (tbM0_1.view.readAt (Elt Ideal) (Rect.unit (s := S1) ![0] S1.size inb_S1_S1_0).toLoadRect (tbl m 1) (Shape.Idx.first (numel1_S1.symm ▸ Nat.one_pos)) : BitVec 32) = T1 m (ix1 (0 : Fin 1)) :=
    (congrFun (tbl_one m) _).trans (congrArg (T1 m) (one_idx _ _))
  rw [e]

theorem after_at (c : Dev nD) (t : Fin (cfgM m (ok_of m hr)).N) (y : S512x1792.Idx) (Y : S36864x3584.Idx) (h0 : (Y 0).val = (grid0.coords t 1).val * 512 + (y 0).val) (h1 : (Y 1).val = (grid0.coords t 0).val * 1792 + (y 1).val) :
    ((dats m (ok_of m hr) 0 c).after 3 t : S512x1792.Idx → EReal) y = outOf m c Y := by
  have hy0 : (y 0).val < 512 := (y 0).isLt
  have hy1 : (y 1).val < 1792 := (y 1).isLt
  have ht := tile_lt (grid0.coords t)
  have hd : (Y 0).val / 512 = (grid0.coords t 1).val := by omega
  rw [after0_3]
  unfold outOf
  by_cases h : cond0_0 (grid0.coords t) (tbM0_1.view.readAt (Elt Ideal) (Rect.unit (s := S1) ![0] S1.size inb_S1_S1_0).toLoadRect (tbl m 1) (Shape.Idx.first (numel1_S1.symm ▸ Nat.one_pos)))
  · have hlt := (count_word m _).mp h
    rw [outsAt0_A m _ c t h, if_pos (hd.symm ▸ hlt)]
    have hrow : rowsOf m (grid0.coords t) = (grid0.coords t 1).val := by
      unfold rowsOf
      exact (Cert.Tiles.min_at ht (hr.2 (ix1 (0 : Fin 1))).1 (hr.2 (ix1 (0 : Fin 1))).2).2 hlt
    have hx : expertOf m (grid0.coords t) = (T0 m (ix1 (⟨(Y 0).val / 512, by omega⟩ : Fin 128))).toNat := by
      unfold expertOf
      rw [(tbl_zero m (place (grid0.coords t)) (ix1 (0 : Fin 1))).2 hlt]
      exact congrArg (fun j : Fin 128 => (T0 m (ix1 j)).toNat) (Fin.ext hd.symm)
    have hxe : (⟨expertOf m (grid0.coords t), expertOf_lt m hr _⟩ : Fin 8) = expertAt m (Y 0) := Fin.ext (by
      show expertOf m (grid0.coords t) = _ % 8
      have := expertOf_lt m hr (grid0.coords t)
      omega)
    have hcell : ∀ k : Fin 1024, iblk m (ok_of m hr) c 0 t (ix2 (⟨(y 0).val * 8 + k.val / 128, by omega⟩ : Fin 4096) (⟨k.val % 128, by omega⟩ : Fin 128))
        = A2 m c (ix2 (⟨(Y 0).val * 8 + k.val / 128, by have : (Y 0).val < 36864 := (Y 0).isLt; omega⟩ : Fin 294912) (⟨k.val % 128, by omega⟩ : Fin 128)) := fun k =>
      (iblk0_at m hr c t _ _).trans (congrArg (fun r : Fin 294912 => A2 m c (ix2 r (⟨k.val % 128, by omega⟩ : Fin 128))) (Fin.ext (by
        show rowsOf m (grid0.coords t) * 4096 + ((y 0).val * 8 + k.val / 128) = (Y 0).val * 8 + k.val / 128
        omega)))
    have hcol : (⟨(grid0.coords t 0).val * 1792 + (y 1).val, by have := half_lt (grid0.coords t); omega⟩ : Fin 3584) = Y 1 := Fin.ext h1.symm
    refine (out_A_at c _ _ _ _ _ _ _ _ _ _ _ _ _ _ _ _ _ y).trans ?_
    refine congr (congrArg gated (Finset.sum_congr rfl fun k _ => ?_)) (Finset.sum_congr rfl fun k _ => ?_)
    · refine congr (congrArg (HMul.hMul (α := EReal)) (hcell k)) ((iblk1_at m hr c t k (y 1)).trans ?_)
      exact congrArg (A3 m c) (congr (congrArg (fun (x : Fin 8) (z : Fin 3584) => (ix4 (0 : Fin 2) x k z : S2x8x1024x3584.Idx)) hxe) hcol)
    · refine congr (congrArg (HMul.hMul (α := EReal)) (hcell k)) ((iblk2_at m hr c t k (y 1)).trans ?_)
      exact congrArg (A4 m c) (congr (congrArg (fun (x : Fin 8) (z : Fin 3584) => (ix4 (0 : Fin 2) x k z : S2x8x1024x3584.Idx)) hxe) hcol)
  · have hlt := fun h' => h ((count_word m _).mpr h')
    rw [outsAt0_B m _ c t h, if_neg (hd.symm ▸ hlt)]
    exact out_B_at c _ _ _ _ _ _ _ _ _ _ _ _ _ _ _ _ _ y

theorem index3 (t : Fin (cfgM m (ok_of m hr)).N) : ((cfgM m (ok_of m hr)).win 3).index t = ![(grid0.coords t 1).val, (grid0.coords t 0).val] :=
  (by decide +kernel : ∀ i : grid0.Coords, cc0_transform_3 i = ![(i 1).val, (i 0).val]) (grid0.coords t)

/-- Every block of the result is some tile's. -/
theorem covers : ((cfgM m (ok_of m hr)).win 3).Covers := by
  have n0 : ((cfgM m (ok_of m hr)).win 3).nblk (0 : Fin 2) = 72 := by show (36864 + 512 - 1) / 512 = 72; decide
  have n1 : ((cfgM m (ok_of m hr)).win 3).nblk (1 : Fin 2) = 2 := by show (3584 + 1792 - 1) / 1792 = 2; decide
  refine Pipeline.Window.covers_of_indexMap_surj _ rfl (fun a => ?_) fun β => ⟨fun a => match a with | ⟨0, _⟩ => ⟨(β (1 : Fin 2)).val, ?_⟩ | ⟨1, _⟩ => ⟨(β (0 : Fin 2)).val, ?_⟩, fun a => ?_⟩
  · exact (by decide : ∀ a : Fin 2, 0 < S512x1792.size a) a
  · exact Nat.lt_of_lt_of_eq (β (1 : Fin 2)).isLt n1
  · exact Nat.lt_of_lt_of_eq (β (0 : Fin 2)).isLt n0
  · match a with
    | ⟨0, _⟩ =>
      have h : (β (0 : Fin 2)).val < 72 := Nat.lt_of_lt_of_eq (β (0 : Fin 2)).isLt n0
      show (BitVec.ofNat 32 (β (0 : Fin 2)).val).toNat = (β (0 : Fin 2)).val
      rw [BitVec.toNat_ofNat]
      exact Nat.mod_eq_of_lt (by omega)
    | ⟨1, _⟩ =>
      have h : (β (1 : Fin 2)).val < 2 := Nat.lt_of_lt_of_eq (β (1 : Fin 2)).isLt n1
      show (BitVec.ofNat 32 (β (1 : Fin 2)).val).toNat = (β (1 : Fin 2)).val
      rw [BitVec.toNat_ofNat]
      exact Nat.mod_eq_of_lt (by omega)

theorem block_at (t : Fin (cfgM m (ok_of m hr)).N) (y : S512x1792.Idx) (a : Fin 2) :
    ((((cfgM m (ok_of m hr)).win 3).blk t).view.emb y a).val = (![(grid0.coords t 1).val, (grid0.coords t 0).val] : Fin 2 → ℕ) a * S512x1792.size a + (y a).val :=
  (((cfgM m (ok_of m hr)).win 3).rect_emb_val t y a).trans (congrArg (fun f : Fin 2 → ℕ => f a * S512x1792.size a + (y a).val) (index3 m hr t))

/-- THE RESULT ARRAY. -/
theorem arr_eq (c : Dev nD) : (dats m (ok_of m hr) 0 c).arrAt 3 (cfgM m (ok_of m hr)).N = outOf m c := by
  refine (dats m (ok_of m hr) 0 c).arrAt_eq_of_covers 3 _ (covers m hr) fun t hf y => ?_
  exact after_at m hr c t y _ (block_at m hr t y 0) (block_at m hr t y 1)

end Cert.Kernel2Ideal.Value

end
-- ==== Proof.Up.Ref.lean ====
module

public import proofs.«01_k».proof.Proof.Up.Gate
public import proofs.«01_k».proof.Proof.Gen.Reference2Ideal.Read

@[expose] public section

set_option maxRecDepth 16384

noncomputable section

/-! # The gate and up projection's reference, read at an index -/

namespace Cert.Reference2Ideal.Read

open Cert.Reference2Ideal Cert.Reference2Ideal.Gen Idealize.ShloMosaic Idealize.ShloMosaic.ValueIdx
open Cert.Up (gated one_lit zero_lit)

theorem gate_at (x0 : S128.Idx → BitVec 32) (x1 : S1.Idx → BitVec 32) (i : S36864x8x3584.Idx) (t : Fin 128) (ht : t.val = (i 0).val / 512) :
    val_main_call1_v1 (F := Ideal) x0 x1 i = IntOp.andi (IntOp.cmpi .eq (x0 (ix1 t)) (BitVec.ofNat 32 (i 1).val)) (IntOp.cmpi .slt (BitVec.ofNat 32 t.val) (x1 (ix1 (0 : Fin 1)))) := by
  have h0 : (i 0).val < 36864 := (i 0).isLt
  have h1 : (i 1).val < 8 := (i 1).isLt
  rw [val_main_call1_v1_apply, val_main_v25_apply, val_main_v24_apply, val_main_v23_apply, val_main_v22_apply, val_main_v17_apply, val_main_v21_apply,
    val_main_v15_apply, val_main_v12_apply, val_main_v11_apply, val_main_v16_apply, val_main_v14_apply, val_main_v13_apply, val_main_v20_apply, val_main_v19_apply,
    val_main_v10_apply, val_main_v18_apply]
  have e1 : ((i 0).val * 8 + (i 1).val) / 4096 = t.val := by omega
  have e2 : ((i 0).val * 8 + (i 1).val) % 8 = (i 1).val := by omega
  refine congr (congrArg IntOp.andi (congr (congrArg (IntOp.cmpi .eq) (congrArg x0 (funext fun a => ?_))) (congrArg (BitVec.ofNat 32) ?_))) (congr (congrArg (IntOp.cmpi .slt) (congrArg (BitVec.ofNat 32) ?_)) (congrArg x1 (funext fun a => ?_)))
  · match a with | ⟨0, _⟩ => exact Fin.ext e1
  · exact e2
  · exact e1
  · match a with | ⟨0, _⟩ => rfl

/-- Where row `r` of the flattened rows keeps its column `k`. -/
abbrev cell (r : Fin 36864) (k : Fin 1024) : S294912x128.Idx := ix2 (⟨r.val * 8 + k.val / 128, by omega⟩ : Fin 294912) (⟨k.val % 128, by omega⟩ : Fin 128)

/-- A row's product with one column of an expert's weights. -/
abbrev dot (x2 : S294912x128.Idx → EReal) (w : S2x8x1024x3584.Idx → EReal) (r : Fin 36864) (x : Fin 8) (e : Fin 3584) : EReal :=
  ∑ k : Fin 1024, x2 (cell r k) * w (ix4 (0 : Fin 2) x k e)

theorem gate_product (x2 : S294912x128.Idx → EReal) (x3 : S2x8x1024x3584.Idx → EReal) (i : S36864x8x3584.Idx) :
    val_main_v4 (F := Ideal) x2 x3 i = dot x2 x3 (i 0) (i 1) (i 2) := by
  have h0 : (i 1).val < 8 := (i 1).isLt
  have h2 : (i 2).val < 3584 := (i 2).isLt
  rw [val_main_v4_apply]
  refine Finset.sum_congr rfl fun k _ => ?_
  have hk := k.isLt
  refine congr (congrArg (HMul.hMul (α := EReal)) ?_) ?_
  · rw [val_main_v1_apply]
    refine congrArg x2 (funext fun a => Fin.ext ?_)
    match a with
    | ⟨0, _⟩ => show ((i 0).val * 1024 + k.val) / 128 = (i 0).val * 8 + k.val / 128; omega
    | ⟨1, _⟩ => show ((i 0).val * 1024 + k.val) % 128 = k.val % 128; omega
  · rw [val_main_v3_apply, val_main_v2_apply]
    refine congrArg x3 (funext fun a => Fin.ext ?_)
    match a with
    | ⟨0, _⟩ => rfl
    | ⟨1, _⟩ => show (((i 1).val * 1024 + k.val) * 3584 + (i 2).val) / 3670016 % 8 = (i 1).val; omega
    | ⟨2, _⟩ => show (((i 1).val * 1024 + k.val) * 3584 + (i 2).val) / 3584 % 1024 = k.val; omega
    | ⟨3, _⟩ => show (((i 1).val * 1024 + k.val) * 3584 + (i 2).val) % 3584 = (i 2).val; omega

theorem up_product (x2 : S294912x128.Idx → EReal) (x4 : S2x8x1024x3584.Idx → EReal) (i : S36864x8x3584.Idx) :
    val_main_v8 (F := Ideal) x2 x4 i = dot x2 x4 (i 0) (i 1) (i 2) := by
  have h0 : (i 1).val < 8 := (i 1).isLt
  have h2 : (i 2).val < 3584 := (i 2).isLt
  rw [val_main_v8_apply]
  refine Finset.sum_congr rfl fun k _ => ?_
  have hk := k.isLt
  refine congr (congrArg (HMul.hMul (α := EReal)) ?_) ?_
  · rw [val_main_v1_apply]
    refine congrArg x2 (funext fun a => Fin.ext ?_)
    match a with
    | ⟨0, _⟩ => show ((i 0).val * 1024 + k.val) / 128 = (i 0).val * 8 + k.val / 128; omega
    | ⟨1, _⟩ => show ((i 0).val * 1024 + k.val) % 128 = k.val % 128; omega
  · rw [val_main_v7_apply, val_main_v6_apply]
    refine congrArg x4 (funext fun a => Fin.ext ?_)
    match a with
    | ⟨0, _⟩ => rfl
    | ⟨1, _⟩ => show (((i 1).val * 1024 + k.val) * 3584 + (i 2).val) / 3670016 % 8 = (i 1).val; omega
    | ⟨2, _⟩ => show (((i 1).val * 1024 + k.val) * 3584 + (i 2).val) / 3584 % 1024 = k.val; omega
    | ⟨3, _⟩ => show (((i 1).val * 1024 + k.val) * 3584 + (i 2).val) % 3584 = (i 2).val; omega

/-- An expert's gated unit. -/
theorem unit_at (x2 : S294912x128.Idx → EReal) (x3 x4 : S2x8x1024x3584.Idx → EReal) (i : S36864x8x3584.Idx) :
    val_main_v9 (F := Ideal) x2 x3 x4 i = gated (dot x2 x3 (i 0) (i 1) (i 2)) (dot x2 x4 (i 0) (i 1) (i 2)) := by
  rw [val_main_v9_apply, val_main_v5_apply, val_main_call0_v5_apply, val_main_call0_v4_apply, val_main_call0_cst_0_apply, val_main_call0_v3_apply, val_main_call0_v2_apply,
    val_main_call0_cst_apply, val_main_call0_v1_apply, val_main_call0_v0_apply, gate_product, up_product]
  generalize dot x2 x3 (i 0) (i 1) (i 2) = g
  generalize dot x2 x4 (i 0) (i 1) (i 2) = u
  show g * Ideal.div (Ideal.ofBits .f32 0x3F800000#32) (Ideal.ofBits .f32 0x3F800000#32 + Ideal.exp (-g)) * u = _
  rw [one_lit]
  rfl

/-- The row's tile's expert's gated unit where the tile is in use, zero elsewhere. -/
theorem v28_at (x0 : S128.Idx → BitVec 32) (x1 : S1.Idx → BitVec 32) (x2 : S294912x128.Idx → EReal) (x3 x4 : S2x8x1024x3584.Idx → EReal)
    (t : Fin 128) (r : Fin 36864) (e : Fin 3584) (ht : t.val = r.val / 512) (hw : (x0 (ix1 t)).toNat < 8) :
    val_main_v28 (F := Ideal) x0 x1 x2 x3 x4 (ix2 r e)
      = if (BitVec.ofNat 32 t.val).toInt < (x1 (ix1 (0 : Fin 1))).toInt then gated (dot x2 x3 r (⟨(x0 (ix1 t)).toNat, hw⟩ : Fin 8) e) (dot x2 x4 r (⟨(x0 (ix1 t)).toNat, hw⟩ : Fin 8) e) else 0 := by
  rw [val_main_v28_apply, val_main_v27_apply]
  refine Eq.trans ?_ (Cert.Tiles.gated_sum (x0 (ix1 t)) (BitVec.ofNat 32 t.val) (x1 (ix1 (0 : Fin 1))) hw (Ideal.ofBits .f32 0x00000000#32) zero_lit
    fun x => gated (dot x2 x3 r x e) (dot x2 x4 r x e))
  refine congrArg (_ + ·) (Finset.sum_congr rfl fun x _ => ?_)
  rw [val_main_v26_apply, gate_at x0 x1 _ t ht, unit_at]
  rfl

end Cert.Reference2Ideal.Read

end
-- ==== Proof.PreUp.lean ====
module

public import proofs.«01_k».proof.Pre_up_in_range
public import Idealize.ShloMosaic.Lib.ReduceAll
public import Idealize.ShloMosaic.Lib.ValueIdx
public import Idealize.ShloMosaic.PureOps.Ideal.Laws

@[expose] public section

noncomputable section

/-! # What the tables' precondition says -/

namespace Cert.Pre_up_in_range

open Idealize.ShloMosaic

theorem facts : Facts where
  bcast_S_S128 := by decide
  reducesTo_S128_S_d0 := by decide
  h_S_ := by decide
  bcast_S_S1 := by decide
  reducesTo_S1_S_d0 := by decide

theorem of_flag {p : Prop} [Decidable p] (h : BitVec.ofBool (decide p) = 1#1) : p := by
  by_contra hn
  simp [hn] at h

theorem between (x lo hi : BitVec 32) (h : IntOp.andi (IntOp.cmpi .sge x lo) (IntOp.cmpi .slt x hi) = 1#1) :
    lo.toInt ≤ x.toInt ∧ x.toInt < hi.toInt := by
  obtain ⟨a, b⟩ := IntOp.andi_eq_one.mp h
  have ha : BitVec.ofBool (lo.sle x) = 1#1 := a
  have hb : BitVec.ofBool (x.slt hi) = 1#1 := b
  simp only [BitVec.sle, BitVec.slt] at ha hb
  exact ⟨of_flag ha, of_flag hb⟩

theorem within (x lo hi : BitVec 32) (h : IntOp.andi (IntOp.cmpi .sge x lo) (IntOp.cmpi .sle x hi) = 1#1) :
    lo.toInt ≤ x.toInt ∧ x.toInt ≤ hi.toInt := by
  obtain ⟨a, b⟩ := IntOp.andi_eq_one.mp h
  have ha : BitVec.ofBool (lo.sle x) = 1#1 := a
  have hb : BitVec.ofBool (x.sle hi) = 1#1 := b
  simp only [BitVec.sle] at ha hb
  exact ⟨of_flag ha, of_flag hb⟩

/-- Every entry of the table names one of the eight experts, and the count is of one to seventy-two tiles. -/
theorem read {F : FTy → Type} [FloatOps F] [hf : Facts] (x0 : IVec S128 32) (x1 : IVec S1 32) (x2 : FVec F S294912x128 .bf16) (x3 x4 : FVec F S2x8x1024x3584 .f32)
    (h : fn (F := F) x0 x1 x2 x3 x4 = fun _ => 1#1) :
    (∀ j, 0 ≤ (x0 j).toInt ∧ (x0 j).toInt < 8) ∧ (∀ j, 1 ≤ (x1 j).toInt ∧ (x1 j).toInt ≤ 72) := by
  have hs : Subsingleton S_.Idx := ⟨fun a b => funext fun i => i.elim0⟩
  have h0 := congrFun h (fun i => i.elim0)
  unfold fn at h0
  dsimp only at h0
  obtain ⟨ht, hn⟩ := IntOp.andi_eq_one.mp h0
  exact ⟨fun j => between _ 0#32 8#32 (Host.reduce_andi_all _ _ _ _ _ ht j), fun j => within _ 1#32 72#32 (Host.reduce_andi_all _ _ _ _ _ hn j)⟩

end Cert.Pre_up_in_range

end
-- ==== Proof.Up.Claims.lean ====
module

public import proofs.«01_k».proof.Proof.Up.Array
public import proofs.«01_k».proof.Proof.Up.Ref
public import proofs.«01_k».proof.Proof.Bits.Up.Tables
public import proofs.«01_k».proof.Proof.PreUp
public import proofs.«01_k».proof.Proof.Gen.Reference2Ideal.Run
public import proofs.«01_k».proof.Defs

@[expose] public section

set_option maxRecDepth 16384

noncomputable section

/-! # The claims about the gate and up projection -/

namespace Cert.Up

open Idealize.ShloMosaic Idealize.ShloMosaic.TcCoe Idealize.SL.Sem Idealize.ShloMosaic.ValueIdx

theorem range (m : (ℓ : Loc Cert.Kernel2.nD Cert.Kernel2.τ Cert.Kernel2.sig) → Buf (Elt Bits) ℓ) (h : Cert.Pre_Kernel2 (hPre_up_in_range := Cert.Pre_up_in_range.facts) m) :
    Cert.Kernel2.Gen.InRange m := Cert.Pre_up_in_range.read (hf := Cert.Pre_up_in_range.facts) _ _ _ _ _ (h 0)

theorem rangeIdeal (m : (ℓ : Loc Cert.Kernel2Ideal.nD Cert.Kernel2Ideal.τ Cert.Kernel2Ideal.sig) → Buf (Elt Ideal) ℓ) (h : Cert.Pre_Kernel2Ideal (hPre_up_in_range := Cert.Pre_up_in_range.facts) m) :
    Cert.Kernel2Ideal.Gen.InRange m := Cert.Pre_up_in_range.read (hf := Cert.Pre_up_in_range.facts) _ _ _ _ _ (h 0)

theorem frame : Cert.quiescent_Kernel2 (hKernel2 := Cert.Kernel2.Gen.facts) (hPre_up_in_range := Cert.Pre_up_in_range.facts) :=
  fun m g h => Cert.Kernel2.Gen.frame m g (Cert.Kernel2.Gen.ok_of m (range m h))

theorem frameIdeal : Cert.quiescent_Kernel2Ideal (hKernel2Ideal := Cert.Kernel2Ideal.Gen.facts) (hPre_up_in_range := Cert.Pre_up_in_range.facts) :=
  fun m g h => Cert.Kernel2Ideal.Gen.frame m g (Cert.Kernel2Ideal.Gen.ok_of m (rangeIdeal m h))

theorem frameRef : Cert.quiescent_Reference2Ideal (hReference2Ideal := Cert.Reference2Ideal.Gen.facts) := fun m g _ =>
  (θ_run Cert.Reference2Ideal.defs _ _).mono (fun r h => ⟨fun c => (h c).2, sem_eq_zero_of_no_sems (by decide) r.2⟩)
    (Cert.Reference2Ideal.Value.run (F := Ideal) m g)

open Cert.Kernel2Ideal Cert.Kernel2Ideal.Gen in
/-- The run with the result named. -/
theorem run_named (m : (ℓ : Loc nD τ sig) → Buf (Elt Ideal) ℓ) (g : Dev nD → PrngReg) (hr : InRange m) :
    θ_run (defs (F := Ideal)) (onTc (τ := τ) (main (F := Ideal))) ⟨m, fun _ => 0, g⟩ fun r => ∀ c : Dev nD,
      r.2.mem ((c : Thread nD τ).loc main_v11) = Cert.Kernel2Ideal.Value.outOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 3).trans (Cert.Kernel2Ideal.Value.arr_eq m hr c), h.2 c⟩)
    (θ_run_and (run_main m g (ok_of m hr)) (unchanged m g (ok_of m hr)))

/-- The result is the reference's. -/
theorem outOf_eq (m : (ℓ : Loc Cert.Kernel2Ideal.nD Cert.Kernel2Ideal.τ Cert.Kernel2Ideal.sig) → Buf (Elt Ideal) ℓ) (hr : Cert.Kernel2Ideal.Gen.InRange m) (c : Dev Cert.Kernel2Ideal.nD) :
    Cert.Kernel2Ideal.Value.outOf m c = Cert.Reference2Ideal.Read.val_main_v28 (F := Ideal) (Cert.Kernel2Ideal.Gen.T0 m) (Cert.Kernel2Ideal.Gen.T1 m) (Cert.Kernel2Ideal.Value.A2 m c) (Cert.Kernel2Ideal.Value.A3 m c) (Cert.Kernel2Ideal.Value.A4 m c) := by
  funext y
  obtain ⟨r, e, rfl⟩ : ∃ (r : Fin 36864) (e : Fin 3584), y = (ix2 r e : Cert.Kernel2Ideal.S36864x3584.Idx) := ⟨y 0, y 1, funext fun a => by
    match a with
    | ⟨0, _⟩ => rfl
    | ⟨1, _⟩ => rfl⟩
  have hw := Cert.Tiles.expert_lt (hr.1 (ix1 (⟨r.val / 512, by omega⟩ : Fin 128)))
  refine Eq.trans ?_ (Cert.Reference2Ideal.Read.v28_at _ _ _ _ _ ⟨r.val / 512, by omega⟩ r e rfl hw).symm
  unfold Cert.Kernel2Ideal.Value.outOf
  have hx : Cert.Kernel2Ideal.Value.expertAt m r = ⟨(Cert.Kernel2Ideal.Gen.T0 m (ix1 (⟨r.val / 512, by omega⟩ : Fin 128))).toNat, hw⟩ := Fin.ext (Nat.mod_eq_of_lt hw)
  refine if_congr Iff.rfl ?_ rfl
  exact congrArg (fun x : Fin 8 => gated (Cert.Kernel2Ideal.Value.dot (Cert.Kernel2Ideal.Value.A2 m c) (Cert.Kernel2Ideal.Value.A3 m c) r x e) (Cert.Kernel2Ideal.Value.dot (Cert.Kernel2Ideal.Value.A2 m c) (Cert.Kernel2Ideal.Value.A4 m c) r x e)) hx

theorem values : Cert.algebraic_Kernel2Ideal_Reference2Ideal (hKernel2Ideal := Cert.Kernel2Ideal.Gen.facts) (hReference2Ideal := Cert.Reference2Ideal.Gen.facts) (hPre_up_in_range := Cert.Pre_up_in_range.facts) := by
  intro m g m' g' hpre hargs
  have hr := rangeIdeal m hpre
  refine ⟨fun c => Cert.Kernel2Ideal.Value.outOf m c, run_named m g hr, ?_⟩
  refine (θ_run Cert.Reference2Ideal.defs _ _).mono (fun r h c => ⟨(h c).1.trans ?_, (h c).2⟩) (Cert.Reference2Ideal.Value.run (F := Ideal) m' g')
  obtain rfl : c = 0 := Subsingleton.elim _ _
  obtain ⟨a0, a1, a2, a3, a4⟩ := hargs 0
  rw [Cert.Reference2Ideal.Read.val_main_v28_eq, a0, a1, a2, a3, a4]
  exact (outOf_eq m hr 0).symm

end Cert.Up

end
-- ==== Proof.Down.Runs.lean ====
module

public import proofs.«01_k».proof.Proof.Gen.Kernel3Ideal.Launch
public import proofs.«01_k».proof.Proof.Gen.Kernel3Ideal.Skeleton
public import Idealize.ShloMosaic.Lib.Pipeline.Kit
public import Idealize.ShloMosaic.Lib.Pipeline.FrameBody
public import Idealize.ShloMosaic.Lib.Ring
public import Idealize.ShloMosaic.Lib.Tactic
public import proofs.«01_k».proof.Proof.Flag
public import proofs.«01_k».proof.Proof.Live

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)

abbrev bodyAt0 (a : (pcfg0 (F := F)).Adm) (t : Fin (cfg0 a).N) : Prog (TpuEff nD τ sig (Elt F) Λ₀ .tc) PUnit :=
  cc0_moe_down (grid0.coords t) (Memref.whole main_v10) (Memref.isWhole_whole _) (Memref.whole main_arg1) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2))

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- The host stretch before the launch writes none of the arguments: each is as the launch memory has it. -/
theorem V_kept (c : Dev nD) (b : Ref sig .tc) (hb : b ∈ [main_arg0, main_arg1, main_arg2, main_arg3]) :
    V m c b = m ((c : Thread nD τ).loc b) := by
  refine StableHlo.after_of_forall_not_mem (b := Proc.devRef .tc b) _ _ (List.forall_iff_forall_mem.mp ?_)
  simp only [List.mem_cons, List.not_mem_nil, or_false] at hb
  rcases hb with rfl | rfl | rfl | rfl <;>
  · simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)

def tbl : pre0.Contents (Elt F) := fun j => V m (0 : Dev nD) (pre0.ref j)
theorem V_pre (c : Dev nD) (j : Fin 2) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S128 .i32 := Memref.whole main_v10
abbrev htbM0_0 : tbM0_0.IsWhole := Memref.isWhole_whole _
abbrev tbM0_1 : Memref sig .tc .smem S1 .i32 := Memref.whole main_arg1
abbrev htbM0_1 : tbM0_1.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h c).2 main_arg0 (by decide : main_arg0 ∈ Pipeline.restRefs sig spec0)).trans (V_kept m c main_arg0 (by simp)),
      ((h c).2 main_arg1 (by decide : main_arg1 ∈ Pipeline.restRefs sig spec0)).trans (V_kept m c main_arg1 (by simp)),
      ((h c).1 0).trans (((dats 0 c).arrAt_in 0 rfl _).trans ((hA c 0).trans (V_kept m c main_arg2 (by simp)))),
      ((h c).1 1).trans (((dats 0 c).arrAt_in 1 rfl _).trans ((hA c 1).trans (V_kept m c main_arg3 (by simp))))⟩) h

/-- The tile's branch, a word of the count table decides it: the tile is in use, -/
abbrev cond0_0 (i : grid0.Coords) (v0 : BitVec 32) : Prop := k0_cond1 i v0 = 1#1

/-- which is a comparison of the tile's number with the word, -/
theorem cond_iff (i : grid0.Coords) (w : BitVec 32) : cond0_0 i w ↔ (BitVec.ofNat 32 (i 0).val).toInt < w.toInt :=
  (branch_iff ((BitVec.ofNat 32 (i 0).val).slt w)).trans (by simp [BitVec.slt])

/-- and the other branch is taken exactly where this one is not. -/
theorem cond_other (i : grid0.Coords) (w : BitVec 32) : k0_cond2 i w = 1#1 ↔ ¬cond0_0 i w := by
  rw [cond_iff]
  exact (branch_iff (w.sle (BitVec.ofNat 32 (i 0).val))).trans (by simp [BitVec.sle])

/-- So no point leaves a block untouched. -/
theorem never_idle (pf : pre0.Contents (Elt F)) (i : grid0.Coords) : ∀ w : Fin 3, idle0 pf w i = false
  | 0 => rfl
  | 1 => rfl
  | 2 => by
    show (!(k0_cond1 i (pf.atD 1 ![0]) == 1#1) && !(k0_cond2 i (pf.atD 1 ![0]) == 1#1)) = false
    have := cond_other i (pf.atD 1 ![0])
    by_cases h : k0_cond1 i (pf.atD 1 ![0]) = 1#1 <;> simp_all [cond0_0]

abbrev VO0_2 : View sig .tc .vmem S4096x128 .f32 := (Memref.whole cc0_stg2_0 : Memref sig .tc .vmem S4096x128 .f32).view
abbrev ms0_0 (hO : Ok m) (t : Fin (cfgM m hO).N) : Memref sig .tc .vmem S512x3584 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1x3584x1024 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S4096x128 .f32 := spec0_2.stage ((cfgM m hO).slots t 2)
abbrev hs0_2 (hO : Ok m) (t : Fin (cfgM m hO).N) : (ms0_2 m hO t).IsWhole := hstage0_2 (((cfgM m hO).slots t 2).cast nbuf0_2)

end Cert.Kernel3Ideal.Gen

end
-- ==== Proof.Down.RunA.lean ====
module

public import proofs.«01_k».proof.Proof.Down.Runs

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the result's block where the tile is in use, with the run that leaves them. -/
noncomputable def kernelRun0_A (c : Dev nD) (i : grid0.Coords) (arg3 : Memref sig .tc .vmem S512x3584 .bf16) (harg3 : arg3.IsWhole) (arg4 : Memref sig .tc .vmem S1x1x3584x1024 .f32) (harg4 : arg4.IsWhole) (arg5 : Memref sig .tc .vmem S4096x128 .f32) (harg5 : arg5.IsWhole)
    (x0 : Vec F S512x3584 .bf16) (x1 : Vec F S1x1x3584x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) :
    { L2 : List (View.Piece (Elt F) S4096x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ tbPt0 c tbM0_0 xt0 ∗ tbPt0 c tbM0_1 xt1) -∗ K ⟨⟩))
          ⊢ wp frame (wpE (defs₀ (F := F)) Variants.none c none) E (cc0_moe_down i tbM0_0 htbM0_0 tbM0_1 htbM0_1 arg3 harg3 arg4 harg4 arg5 harg5) K } := by
  refine ⟨?_, fun E K => ?run⟩
  case run =>
    simp only [cc0_moe_down_eq_skeleton]; unfold cc0_moe_down_skel
    simp only [k0_part1_eq_skeleton]
    have hc1 := fun h => (cond_other i _).mp h hc0
    unfold owns
    iintro ⟨⟨%f0, %hf0, H0⟩, ⟨%f1, %hf1, H1⟩, ⟨%d2, %f2, -, H2⟩, HT0, HT1, Hk⟩
    obtain rfl := harg3.eq_unread hf0; obtain rfl := harg4.eq_unread hf1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HT0]; · iexact HT0
    iexact HT1

end Cert.Kernel3Ideal.Gen

end
-- ==== Proof.Down.RunB.lean ====
module

public import proofs.«01_k».proof.Proof.Down.RunA

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body leaves in the result's block where the tile is not in use, with the run that leaves them. -/
noncomputable def kernelRun0_B (c : Dev nD) (i : grid0.Coords) (arg3 : Memref sig .tc .vmem S512x3584 .bf16) (harg3 : arg3.IsWhole) (arg4 : Memref sig .tc .vmem S1x1x3584x1024 .f32) (harg4 : arg4.IsWhole) (arg5 : Memref sig .tc .vmem S4096x128 .f32) (harg5 : arg5.IsWhole)
    (x0 : Vec F S512x3584 .bf16) (x1 : Vec F S1x1x3584x1024 .f32) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) :
    { L2 : List (View.Piece (Elt F) S4096x128 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ tbPt0 c tbM0_0 xt0 ∗ tbPt0 c tbM0_1 xt1
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ tbPt0 c tbM0_0 xt0 ∗ tbPt0 c tbM0_1 xt1) -∗ K ⟨⟩))
          ⊢ wp frame (wpE (defs₀ (F := F)) Variants.none c none) E (cc0_moe_down i tbM0_0 htbM0_0 tbM0_1 htbM0_1 arg3 harg3 arg4 harg4 arg5 harg5) K } := by
  refine ⟨?_, fun E K => ?run⟩
  case run =>
    simp only [cc0_moe_down_eq_skeleton]; unfold cc0_moe_down_skel
    have hc1 := (cond_other i _).mpr hc0
    unfold owns
    iintro ⟨⟨%f0, %hf0, H0⟩, ⟨%f1, %hf1, H1⟩, ⟨%d2, %f2, -, H2⟩, HT0, HT1, Hk⟩
    obtain rfl := harg3.eq_unread hf0; obtain rfl := harg4.eq_unread hf1
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    isplitl [HT0]; · iexact HT0
    iexact HT1

end Cert.Kernel3Ideal.Gen

end
-- ==== Proof.Down.Frame.lean ====
module

public import proofs.«01_k».proof.Proof.Down.RunB
public import Idealize.ShloMosaic.Lib.Claim

@[expose] public section

set_option maxRecDepth 16384

noncomputable section

namespace Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The rows `8 q + s` of the block, every eighth from `s`. -/
theorem every_eighth (s : ℕ) (inb) (hp) (y : S4096x128.Idx) (hy : (y 0).val % 8 = s) :
    y ∈ (⟨(⟨![s, 0], S512x128.size, ![8, 1], inb⟩ : LoadRect S4096x128), hp⟩ : Rect S4096x128).set := by
  rw [← Rect.map_emb_univ]
  refine Finset.mem_map.mpr ⟨fun a => match a with | ⟨0, _⟩ => ⟨(y 0).val / 8, ?_⟩ | ⟨1, _⟩ => ⟨(y 1).val, (y 1).isLt⟩, Finset.mem_univ _, ?_⟩
  · have h : (y 0).val < 4096 := (y 0).isLt
    show (y 0).val / 8 < 512
    omega
  · funext a
    refine Fin.ext ?_
    match a with
    | ⟨0, _⟩ => show s + 8 * ((y 0).val / 8) = (y 0).val; omega
    | ⟨1, _⟩ => show 0 + 1 * (y 1).val = (y 1).val; omega

/-- The eight stores of a tile in use, as the run leaves them. -/
abbrev rows8 (p0 p1 p2 p3 p4 p5 p6 p7 : FVec F S512x128 .f32) : List (View.Piece (Elt F) S4096x128 .f32) :=
  [⟨⟨(⟨![7, 0], S512x128.size, ![8, 1], inb_S4096x128_S512x128_7_0_s_8_1⟩ : LoadRect S4096x128), spos_8_1⟩, p7⟩,
   ⟨⟨(⟨![6, 0], S512x128.size, ![8, 1], inb_S4096x128_S512x128_6_0_s_8_1⟩ : LoadRect S4096x128), spos_8_1⟩, p6⟩,
   ⟨⟨(⟨![5, 0], S512x128.size, ![8, 1], inb_S4096x128_S512x128_5_0_s_8_1⟩ : LoadRect S4096x128), spos_8_1⟩, p5⟩,
   ⟨⟨(⟨![4, 0], S512x128.size, ![8, 1], inb_S4096x128_S512x128_4_0_s_8_1⟩ : LoadRect S4096x128), spos_8_1⟩, p4⟩,
   ⟨⟨(⟨![3, 0], S512x128.size, ![8, 1], inb_S4096x128_S512x128_3_0_s_8_1⟩ : LoadRect S4096x128), spos_8_1⟩, p3⟩,
   ⟨⟨(⟨![2, 0], S512x128.size, ![8, 1], inb_S4096x128_S512x128_2_0_s_8_1⟩ : LoadRect S4096x128), spos_8_1⟩, p2⟩,
   ⟨⟨(⟨![1, 0], S512x128.size, ![8, 1], inb_S4096x128_S512x128_1_0_s_8_1⟩ : LoadRect S4096x128), spos_8_1⟩, p1⟩,
   ⟨⟨(⟨![0, 0], S512x128.size, ![8, 1], inb_S4096x128_S512x128_0_0_s_8_1⟩ : LoadRect S4096x128), spos_8_1⟩, p0⟩]

/-- They cover the block. -/
theorem rows8_cover (p0 p1 p2 p3 p4 p5 p6 p7 : FVec F S512x128 .f32) (y : S4096x128.Idx) : ∃ pc ∈ rows8 p0 p1 p2 p3 p4 p5 p6 p7, y ∈ pc.1.set := by
  have h : (y 0).val % 8 < 8 := Nat.mod_lt _ (by decide)
  obtain h | h | h | h | h | h | h | h : (y 0).val % 8 = 7 ∨ (y 0).val % 8 = 6 ∨ (y 0).val % 8 = 5 ∨ (y 0).val % 8 = 4 ∨ (y 0).val % 8 = 3 ∨ (y 0).val % 8 = 2 ∨ (y 0).val % 8 = 1 ∨ (y 0).val % 8 = 0 := by omega
  · exact ⟨_, .head _, every_eighth _ _ _ y h⟩
  · exact ⟨_, .tail _ (.head _), every_eighth _ _ _ y h⟩
  · exact ⟨_, .tail _ (.tail _ (.head _)), every_eighth _ _ _ y h⟩
  · exact ⟨_, .tail _ (.tail _ (.tail _ (.head _))), every_eighth _ _ _ y h⟩
  · exact ⟨_, .tail _ (.tail _ (.tail _ (.tail _ (.head _)))), every_eighth _ _ _ y h⟩
  · exact ⟨_, .tail _ (.tail _ (.tail _ (.tail _ (.tail _ (.head _))))), every_eighth _ _ _ y h⟩
  · exact ⟨_, .tail _ (.tail _ (.tail _ (.tail _ (.tail _ (.tail _ (.head _)))))), every_eighth _ _ _ y h⟩
  · exact ⟨_, .tail _ (.tail _ (.tail _ (.tail _ (.tail _ (.tail _ (.tail _ (.head _))))))), every_eighth _ _ _ y h⟩

/-- The block of rows and the columns of the weights, as the body loads them. -/
abbrev actOf (arg3 : Memref sig .tc .vmem S512x3584 .bf16) (harg3 : arg3.IsWhole) (x0 : Vec F S512x3584 .bf16) : Vec F S512x3584 .bf16 :=
  arg3.view.readAt (Elt F) (Rect.unit (s := S512x3584) ![0, 0] S512x3584.size inb_S512x3584_S512x3584_0_0).toLoadRect (harg3.unread x0)
abbrev wOf (arg4 : Memref sig .tc .vmem S1x1x3584x1024 .f32) (harg4 : arg4.IsWhole) (x1 : Vec F S1x1x3584x1024 .f32) (off : Fin 4 → ℕ) (inb : ∀ a, off a + S1x1x3584x256.size a ≤ S1x1x3584x1024.size a) : Vec F S1x1x3584x256 .f32 :=
  arg4.view.readAt (Elt F) (Rect.unit (s := S1x1x3584x1024) off S1x1x3584x256.size inb).toLoadRect (harg4.unread x1)

theorem pieces_A (c : Dev nD) (i : grid0.Coords) (arg3 : Memref sig .tc .vmem S512x3584 .bf16) (harg3 : arg3.IsWhole) (arg4 : Memref sig .tc .vmem S1x1x3584x1024 .f32) (harg4 : arg4.IsWhole) (arg5 : Memref sig .tc .vmem S4096x128 .f32) (harg5 : arg5.IsWhole)
    (x0 : Vec F S512x3584 .bf16) (x1 : Vec F S1x1x3584x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) :
    (kernelRun0_A c i arg3 harg3 arg4 harg4 arg5 harg5 x0 x1 xt0 xt1 hc0).1
      = rows8 (k0_pay6 (actOf arg3 harg3 x0) (wOf arg4 harg4 x1 ![0, 0, 0, 0] inb_S1x1x3584x1024_S1x1x3584x256_0_0_0_0)) (k0_pay7 (actOf arg3 harg3 x0) (wOf arg4 harg4 x1 ![0, 0, 0, 0] inb_S1x1x3584x1024_S1x1x3584x256_0_0_0_0))
        (k0_pay9 (actOf arg3 harg3 x0) (wOf arg4 harg4 x1 ![0, 0, 0, 256] inb_S1x1x3584x1024_S1x1x3584x256_0_0_0_256)) (k0_pay10 (actOf arg3 harg3 x0) (wOf arg4 harg4 x1 ![0, 0, 0, 256] inb_S1x1x3584x1024_S1x1x3584x256_0_0_0_256))
        (k0_pay12 (actOf arg3 harg3 x0) (wOf arg4 harg4 x1 ![0, 0, 0, 512] inb_S1x1x3584x1024_S1x1x3584x256_0_0_0_512)) (k0_pay13 (actOf arg3 harg3 x0) (wOf arg4 harg4 x1 ![0, 0, 0, 512] inb_S1x1x3584x1024_S1x1x3584x256_0_0_0_512))
        (k0_pay2 (actOf arg3 harg3 x0) (wOf arg4 harg4 x1 ![0, 0, 0, 768] inb_S1x1x3584x1024_S1x1x3584x256_0_0_0_768)) (k0_pay3 (actOf arg3 harg3 x0) (wOf arg4 harg4 x1 ![0, 0, 0, 768] inb_S1x1x3584x1024_S1x1x3584x256_0_0_0_768)) := rfl

theorem cover0_A (c : Dev nD) (i : grid0.Coords) (arg3 : Memref sig .tc .vmem S512x3584 .bf16) (harg3 : arg3.IsWhole) (arg4 : Memref sig .tc .vmem S1x1x3584x1024 .f32) (harg4 : arg4.IsWhole) (arg5 : Memref sig .tc .vmem S4096x128 .f32) (harg5 : arg5.IsWhole)
    (x0 : Vec F S512x3584 .bf16) (x1 : Vec F S1x1x3584x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) (y : S4096x128.Idx) :
    ∃ pc ∈ (kernelRun0_A c i arg3 harg3 arg4 harg4 arg5 harg5 x0 x1 xt0 xt1 hc0).1, y ∈ pc.1.set := by
  rw [pieces_A]; exact rows8_cover _ _ _ _ _ _ _ _ y

def out0_A (c : Dev nD) (i : grid0.Coords) (arg3 : Memref sig .tc .vmem S512x3584 .bf16) (harg3 : arg3.IsWhole) (arg4 : Memref sig .tc .vmem S1x1x3584x1024 .f32) (harg4 : arg4.IsWhole) (arg5 : Memref sig .tc .vmem S4096x128 .f32) (harg5 : arg5.IsWhole)
    (x0 : Vec F S512x3584 .bf16) (x1 : Vec F S1x1x3584x1024 .f32) (xt0 : TbBuf0 (F := F) c tbM0_0) (xt1 : TbBuf0 (F := F) c tbM0_1) (hc0 : cond0_0 i (tbM0_1.view.readAt (Elt F) (Rect.unit (s := S1) ![0] S1.size inb_S1_S1_0).toLoadRect xt1 (Shape.Idx.first (numel1_S1.symm ▸ Nat.one_pos)))) : Vec F S4096x128 .f32 :=
  VO0_2.read (Elt F) (VO0_2.writes (Elt F) VO0_2.junk (kernelRun0_A c i arg3 harg3 arg4 harg4 arg5 harg5 x0 x1 xt0 xt1 hc0).1)

theorem cover0_B (c : Dev nD) (i : grid0.Coords) (arg3 : Memref sig .tc .vmem S512x3584 .bf16) (harg3 : arg3.IsWhole) (arg4 : Memref sig .tc .vmem S1x1x3584x1024 .f32) (harg4 : arg4.IsWhole) (arg5 : Memref sig .tc .vmem S4096x128 .f32) (harg5 : arg5.IsWhole)
    (x0 : Vec F S512x3584 .bf16) (x1 : Vec F S1x1x3584x1024 .f32) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) (y : S4096x128.Idx) :
    ∃ pc ∈ (kernelRun0_B c i arg3 harg3 arg4 harg4 arg5 harg5 x0 x1 xt0 xt1 hc0).1, y ∈ pc.1.set :=
  View.cover_of_tiledL (kernelRun0_B c i arg3 harg3 arg4 harg4 arg5 harg5 x0 x1 xt0 xt1 hc0).1 S4096x128.size (by sl_kernel_rfl) y

def out0_B (c : Dev nD) (i : grid0.Coords) (arg3 : Memref sig .tc .vmem S512x3584 .bf16) (harg3 : arg3.IsWhole) (arg4 : Memref sig .tc .vmem S1x1x3584x1024 .f32) (harg4 : arg4.IsWhole) (arg5 : Memref sig .tc .vmem S4096x128 .f32) (harg5 : arg5.IsWhole)
    (x0 : Vec F S512x3584 .bf16) (x1 : Vec F S1x1x3584x1024 .f32) (xt0 : TbBuf0 (F := F) c tbM0_0) (xt1 : TbBuf0 (F := F) c tbM0_1) (hc0 : ¬cond0_0 i (tbM0_1.view.readAt (Elt F) (Rect.unit (s := S1) ![0] S1.size inb_S1_S1_0).toLoadRect xt1 (Shape.Idx.first (numel1_S1.symm ▸ Nat.one_pos)))) : Vec F S4096x128 .f32 :=
  VO0_2.read (Elt F) (VO0_2.writes (Elt F) VO0_2.junk (kernelRun0_B c i arg3 harg3 arg4 harg4 arg5 harg5 x0 x1 xt0 xt1 hc0).1)

/-- What the result's block holds after the body at a point. -/
def outsAt0 (hO : Ok m) (c : Dev nD) (t : Fin (cfgM m hO).N) : Vec F S4096x128 .f32 :=
  if h0 : cond0_0 (grid0.coords t) (tbM0_1.view.readAt (Elt F) (Rect.unit (s := S1) ![0] S1.size inb_S1_S1_0).toLoadRect (tbl m 1) (Shape.Idx.first (numel1_S1.symm ▸ Nat.one_pos))) then out0_A c (grid0.coords t) (ms0_0 m hO t) (hs0_0 m hO t) (ms0_1 m hO t) (hs0_1 m hO t) (ms0_2 m hO t) (hs0_2 m hO t) (iblk m hO c 0 t) (iblk m hO c 1 t) (tbl m 0) (tbl m 1) h0 else out0_B c (grid0.coords t) (ms0_0 m hO t) (hs0_0 m hO t) (ms0_1 m hO t) (hs0_1 m hO t) (ms0_2 m hO t) (hs0_2 m hO t) (iblk m hO c 0 t) (iblk m hO c 1 t) (tbl m 0) (tbl m 1) h0

theorem outsAt0_A (hO : Ok m) (c : Dev nD) (t : Fin (cfgM m hO).N) (h0 : cond0_0 (grid0.coords t) (tbM0_1.view.readAt (Elt F) (Rect.unit (s := S1) ![0] S1.size inb_S1_S1_0).toLoadRect (tbl m 1) (Shape.Idx.first (numel1_S1.symm ▸ Nat.one_pos)))) :
    outsAt0 m hO c t = out0_A c (grid0.coords t) (ms0_0 m hO t) (hs0_0 m hO t) (ms0_1 m hO t) (hs0_1 m hO t) (ms0_2 m hO t) (hs0_2 m hO t) (iblk m hO c 0 t) (iblk m hO c 1 t) (tbl m 0) (tbl m 1) h0 := by
  unfold outsAt0; exact (dif_pos h0).trans rfl

theorem outsAt0_B (hO : Ok m) (c : Dev nD) (t : Fin (cfgM m hO).N) (h0 : ¬cond0_0 (grid0.coords t) (tbM0_1.view.readAt (Elt F) (Rect.unit (s := S1) ![0] S1.size inb_S1_S1_0).toLoadRect (tbl m 1) (Shape.Idx.first (numel1_S1.symm ▸ Nat.one_pos)))) :
    outsAt0 m hO c t = out0_B c (grid0.coords t) (ms0_0 m hO t) (hs0_0 m hO t) (ms0_1 m hO t) (hs0_1 m hO t) (ms0_2 m hO t) (hs0_2 m hO t) (iblk m hO c 0 t) (iblk m hO c 1 t) (tbl m 0) (tbl m 1) h0 := by
  unfold outsAt0; exact (dif_neg h0).trans rfl

/-- The launch's data: the arrays as the host leaves them, each input's block kept, the result's block as above. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => (outsAt0 m hO c t)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = (outsAt0 m hO c t) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t))

set_option maxHeartbeats 800000 in
/-- The body's triple at any point, the tile in use or not. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1]
  rw [show (dats m hO 0 c).Φ t.succ = (dats m hO 0 c).Φ t.castSucc from rfl,
    show (dats m hO 0 c).owesAt () t.succ = (dats m hO 0 c).owesAt () t.castSucc from rfl,
    after0_0, after0_1, after0_2]
  rw [show (dats m hO 0 c).Φ t.castSucc = iprop(Pipeline.ΦA spec0 c ∗ Pipeline.ΦT pre0 (tbl m) c) from rfl, PhiT0_eq]
  by_cases h0 : cond0_0 (grid0.coords t) (tbM0_1.view.readAt (Elt F) (Rect.unit (s := S1) ![0] S1.size inb_S1_S1_0).toLoadRect (tbl m 1) (Shape.Idx.first (numel1_S1.symm ▸ Nat.one_pos)))
  · rw [outsAt0_A m hO c t h0]
    unfold out0_A
    iintro ⟨⟨Hg, ⟨HT0, HT1⟩⟩, Ho, ⟨%d0, H0⟩, ⟨%d1, H1⟩, ⟨%d2, H2⟩⟩
    iapply ((kernelRun0_A c (grid0.coords t) _ _ _ _ _ _ (iblk m hO c 0 t) (iblk m hO c 1 t) (tbl m 0) (tbl m 1) h0).2 Set.univ _)
    isplitl [H0]; · iexact H0
    isplitl [H1]; · iexact H1
    isplitl [H2]; · iexists _; iexact H2
    isplitl [HT0]; · iexact HT0
    isplitl [HT1]; · iexact HT1
    iintro ⟨H0, H1, ⟨%e2, H2⟩, HT0, HT1⟩
    isplitl [Hg HT0 HT1]
    · isplitl [Hg]
      · iexact Hg
      isplitl [HT0]; · iexact HT0
      iexact HT1
    isplitl [Ho]; · iexact Ho
    isplitl [H0]; · iexact H0
    isplitl [H1]; · iexact H1
    unfold owns; iexists _; isplitr
    swap; · iexact H2
    ipureintro; exact View.read_writes_of_cover _ _ _ _ _ (cover0_A c _ _ _ _ _ _ _ _ _ _ _ _)
  · rw [outsAt0_B m hO c t h0]
    unfold out0_B
    iintro ⟨⟨Hg, ⟨HT0, HT1⟩⟩, Ho, ⟨%d0, H0⟩, ⟨%d1, H1⟩, ⟨%d2, H2⟩⟩
    iapply ((kernelRun0_B c (grid0.coords t) _ _ _ _ _ _ (iblk m hO c 0 t) (iblk m hO c 1 t) (tbl m 0) (tbl m 1) h0).2 Set.univ _)
    isplitl [H0]; · iexact H0
    isplitl [H1]; · iexact H1
    isplitl [H2]; · iexists _; iexact H2
    isplitl [HT0]; · iexact HT0
    isplitl [HT1]; · iexact HT1
    iintro ⟨H0, H1, ⟨%e2, H2⟩, HT0, HT1⟩
    isplitl [Hg HT0 HT1]
    · isplitl [Hg]
      · iexact Hg
      isplitl [HT0]; · iexact HT0
      iexact HT1
    isplitl [Ho]; · iexact Ho
    isplitl [H0]; · iexact H0
    isplitl [H1]; · iexact H1
    unfold owns; iexists _; isplitr
    swap; · iexact H2
    ipureintro; exact View.read_writes_of_cover _ _ _ _ _ (cover0_B c _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ :=
  Pipeline.body_live _ (never_idle (tbl m)) fun t => by
    rw [bigSep_W0, bigSep_W0, defs₀_row m hO]
    exact triple_restated (sound_body m hO c t) rfl .rfl fun _ => .rfl

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.Kernel3Ideal.Gen

end
-- ==== Proof.Down.Tables.lean ====
module

public import proofs.«01_k».proof.Proof.Down.Frame
public import proofs.«01_k».proof.Proof.Table
public import Idealize.ShloMosaic.Lib.ValueIdx
public import Idealize.ShloMosaic.Lib.PairWhole
public import Idealize.ShloMosaic.Lib.StableHlo.RunRead

@[expose] public section

set_option maxRecDepth 16384

noncomputable section

/-! # The two tables -/

namespace Cert.Kernel3Ideal.Gen

open Idealize.ShloMosaic Idealize.ShloMosaic.TcCoe Idealize.SL.Sem Idealize.ShloMosaic.ValueIdx

variable {F : FTy → Type} [FloatOps F]
variable (m : (ℓ : Loc nD τ sig) → Buf (Elt F) ℓ)

abbrev T0 : S128.Idx → BitVec 32 := m (((0 : Dev nD) : Thread nD τ).loc main_arg0)
abbrev T1 : S1.Idx → BitVec 32 := m (((0 : Dev nD) : Thread nD τ).loc main_arg1)

theorem tbl_one : (tbl m 1 : S1.Idx → BitVec 32) = T1 m := V_kept m 0 main_arg1 (by simp)

theorem tbl_zero (j : S128.Idx) (z : S1.Idx) : (∃ j', (tbl m 0 : S128.Idx → BitVec 32) j = T0 m j')
    ∧ ((BitVec.ofNat 32 (j 0).val).toInt < (T1 m z).toInt → (tbl m 0 : S128.Idx → BitVec 32) j = T0 m j) := by
  show (∃ j', V m 0 main_v10 j = T0 m j') ∧ (_ → V m 0 main_v10 j = T0 m j)
  unfold V
  after_reads_simp
  exact Cert.Tiles.table_at (T0 m) (T1 m) _ _ _ j z

/-- A tile's place in the first table. -/
abbrev place (i : grid0.Coords) : S128.Idx := ix1 (⟨(i 0).val, Nat.lt_of_lt_of_le (show (i 0).val < 72 from (i 0).isLt) (by decide)⟩ : Fin 128)

/-- The block of rows a tile reads. -/
abbrev rowsOf (i : grid0.Coords) : ℕ := (Scalar.minsi (BitVec.ofNat 32 (i 0).val) (Scalar.subi (T1 m (ix1 (0 : Fin 1))) 1#32)).toNat

/-- The expert whose weights it reads. -/
abbrev expertOf (i : grid0.Coords) : ℕ := ((tbl m 0 : S128.Idx → BitVec 32) (place i)).toNat

theorem one_idx (u z : S1.Idx) : u = z := funext fun a => by
  match a with
  | ⟨0, _⟩ => exact Fin.ext (by have h1 : (u 0).val < 1 := (u 0).isLt; have h2 : (z 0).val < 1 := (z 0).isLt; show (u 0).val = (z 0).val; omega)

theorem rows_block (i : grid0.Coords) : cc0_transform_0 inb_S1_S1_0 numel1_S1 (tbl m) i = ![rowsOf m i, 0] := by
  have hn := congrFun (tbl_one m)
  unfold cc0_transform_0
  dsimp only
  refine congrArg (fun w : BitVec 32 => (![(Scalar.minsi (BitVec.ofNat 32 (i 0).val) (Scalar.subi w 1#32)).toNat, 0] : Fin 2 → ℕ)) ?_
  exact (hn _).trans (congrArg (T1 m) (one_idx _ _))

theorem weights_block (i : grid0.Coords) : cc0_transform_1 k0_off1_inb numel1_S1 (tbl m) i = ![0, expertOf m i, 0, 0] := by
  unfold cc0_transform_1
  dsimp only
  refine congrArg (fun j : S128.Idx => (![0, ((tbl m 0 : S128.Idx → BitVec 32) j).toNat, 0, 0] : Fin 4 → ℕ)) ?_
  refine funext fun a => ?_
  match a with
  | ⟨0, _⟩ =>
    refine Fin.ext ?_
    have h : (i 0).val < 72 := (i 0).isLt
    have e : (BitVec.ofNat 32 (i 0).val).toNat = (i 0).val := by rw [BitVec.toNat_ofNat]; exact Nat.mod_eq_of_lt (by omega)
    exact (Nat.add_zero _).trans e

/-- What the precondition says of the tables. -/
abbrev InRange : Prop := (∀ j, 0 ≤ (T0 m j).toInt ∧ (T0 m j).toInt < 8) ∧ ∀ j, 1 ≤ (T1 m j).toInt ∧ (T1 m j).toInt ≤ 72

theorem expertOf_lt (h : InRange m) (i : grid0.Coords) : expertOf m i < 8 := by
  obtain ⟨j', hj⟩ := (tbl_zero m (place i) (ix1 (0 : Fin 1))).1
  exact Cert.Tiles.expert_lt (hj ▸ h.1 j')

theorem rowsOf_lt (h : InRange m) (i : grid0.Coords) : rowsOf m i < 72 := (Cert.Tiles.min_at (i 0).isLt (h.2 _).1 (h.2 _).2).1

/-- Then every block the tables choose lies inside its array. -/
theorem ok_of (h : InRange m) : Ok m := by
  refine ⟨fun i => ⟨?_, .inr ?_⟩, fun i => ⟨?_, .inl rfl⟩⟩
  · rw [rows_block]
    have := rowsOf_lt m h i
    intro a
    match a with
    | ⟨0, _⟩ => show (rowsOf m i + 1) * 512 ≤ 36864; omega
    | ⟨1, _⟩ => show (0 + 1) * 3584 ≤ 3584; omega
  · refine .inl (Rect.packedRows_of_rowAxis _ _ (by decide) ?_ ?_ rfl)
    · show 2 ∣ cc0_transform_0 inb_S1_S1_0 numel1_S1 (tbl m) i 0 * 512
      omega
    · show 2 ∣ 512
      decide
  · rw [weights_block]
    have := expertOf_lt m h i
    intro a
    match a with
    | ⟨0, _⟩ => show (0 + 1) * 1 ≤ 2; omega
    | ⟨1, _⟩ => show (expertOf m i + 1) * 1 ≤ 8; omega
    | ⟨2, _⟩ => show (0 + 1) * 3584 ≤ 3584; omega
    | ⟨3, _⟩ => show (0 + 1) * 1024 ≤ 1024; omega

end Cert.Kernel3Ideal.Gen

end
-- ==== Proof.Down.Value.lean ====
module

public import proofs.«01_k».proof.Proof.Down.Tables
public import Idealize.ShloMosaic.Lib.MatmulPlain
public import Idealize.ShloMosaic.Lib.Pipeline.Value
public import Idealize.ShloMosaic.Lib.Pipeline.ReadBack
public import Idealize.ShloMosaic.Lib.Pipeline.ValueKit.Basic
public import Idealize.ShloMosaic.Lib.Pipeline.ValueKit.Tiles
public import Idealize.ShloMosaic.Lib.Writes
public import Idealize.ShloMosaic.PureOps.Ideal.Laws

@[expose] public section

set_option maxRecDepth 16384

noncomputable section

/-! # What the body leaves in a tile's block -/

namespace Cert.Kernel3Ideal.Value

open Cert.Kernel3Ideal Cert.Kernel3Ideal.Gen Idealize.ShloMosaic Idealize.ShloMosaic.TcCoe Idealize.SL.Sem Idealize.ShloMosaic.ValueIdx
open Idealize.ShloMosaic.Pipeline (Dat)

theorem zero_lit : Ideal.ofBits .f32 0x00000000#32 = 0 := by simp [Ideal.ofBits, Ideal.ieee]

/-- The product with 256 columns of the expert's weights. -/
theorem pay5_at (a : Vec Ideal S512x3584 .bf16) (w : Vec Ideal S1x1x3584x256 .f32) (r : Fin 512) (c : Fin 256) :
    k0_pay5 (F := Ideal) a w (ix2 r c) = ∑ k : Fin 3584, a (ix2 r k) * w (ix4 (0 : Fin 1) (0 : Fin 1) k c) := by
  unfold k0_pay5
  refine (Ideal.matmul_plain_apply (M := 512) (K := 3584) (N := 256) (φ₁ := .bf16) (φ₂ := .bf16) none a _ (constant S512x256 .f32 0x00000000#32) r c).trans ?_
  show Ideal.ofBits .f32 0x00000000#32 + _ = _
  rw [zero_lit, zero_add]
  refine Finset.sum_congr rfl fun k _ => congrArg (a (ix2 r k) * ·) ?_
  refine shapeCast_apply (s := S1x1x3584x256) (α := EReal) w shapeCasts_S1x1x3584x256_S3584x256 (ix2 k c) (ix4 (0 : Fin 1) (0 : Fin 1) k c) ?_
  show ((⟨4, ![1, 1, 3584, 256]⟩ : Shape).rowMajor (ix4 (0 : Fin 1) (0 : Fin 1) k c)).val = ((⟨2, ![3584, 256]⟩ : Shape).rowMajor (ix2 k c)).val
  rw [Shape.rowMajor_val_two, Shape.rowMajor_val_four]
  show ((0 * 1 + 0) * 3584 + k.val) * 256 + c.val = k.val * 256 + c.val
  omega

/-- A tile's row and column of the full product. -/
abbrev prod (x0 : Vec Ideal S512x3584 .bf16) (x1 : Vec Ideal S1x1x3584x1024 .f32) (r : Fin 512) (c : Fin 1024) : EReal :=
  ∑ k : Fin 3584, x0 (ix2 r k) * x1 (ix4 (0 : Fin 1) (0 : Fin 1) k c)

theorem loaded_at (arg3 : Memref sig .tc .vmem S512x3584 .bf16) (harg3 : arg3.IsWhole) (arg4 : Memref sig .tc .vmem S1x1x3584x1024 .f32) (harg4 : arg4.IsWhole)
    (x0 : Vec Ideal S512x3584 .bf16) (x1 : Vec Ideal S1x1x3584x1024 .f32) (o : ℕ) (inb : ∀ a, (![0, 0, 0, o] : Fin 4 → ℕ) a + S1x1x3584x256.size a ≤ S1x1x3584x1024.size a) (r : Fin 512) (c : Fin 256) (c' : Fin 1024) (hc : c'.val = o + c.val) :
    k0_pay5 (F := Ideal) (actOf arg3 harg3 x0) (wOf arg4 harg4 x1 ![0, 0, 0, o] inb) (ix2 r c) = prod x0 x1 r c' := by
  rw [pay5_at]
  refine Finset.sum_congr rfl fun k _ => congr (congrArg (HMul.hMul (α := EReal)) ?_) ?_
  · unfold actOf
    rw [View.readAt_eq_ld, harg3.read_unread, View.ld_unit_lit (S := S512x3584) _ x0 (by decide)]
  · unfold wOf
    rw [View.readAt_eq_ld, harg4.read_unread]
    refine View.ld_unit_apply_of x1 _ _ _ _ (ix4 (0 : Fin 1) (0 : Fin 1) k c') fun a => ?_
    match a with
    | ⟨0, _⟩ => rfl
    | ⟨1, _⟩ => rfl
    | ⟨2, _⟩ => show k.val = 0 + k.val; omega
    | ⟨3, _⟩ => exact hc

theorem half_at (v : FVec Ideal S512x256 .f32) (o : ℕ) (h : S512x256.Slices ![0, o] S512x128) (r : Fin 512) (c : Fin 128) (c' : Fin 256) (hc : c'.val = o + c.val) :
    extractStridedSlice S512x128 ![0, o] v h (ix2 r c) = v (ix2 r c') :=
  extractStridedSlice_apply _ v h (ix2 r c) (ix2 r c') fun a => by
    match a with
    | ⟨0, _⟩ => show r.val = 0 + r.val; omega
    | ⟨1, _⟩ => exact hc

/-- A tile in use: row `8 q + s` of its block is the `s`-th group of 128 columns of row `q`. -/
theorem out_A_at (c : Dev nD) (i : grid0.Coords) (arg3 : Memref sig .tc .vmem S512x3584 .bf16) (harg3 : arg3.IsWhole) (arg4 : Memref sig .tc .vmem S1x1x3584x1024 .f32) (harg4 : arg4.IsWhole) (arg5 : Memref sig .tc .vmem S4096x128 .f32) (harg5 : arg5.IsWhole)
    (x0 : Vec Ideal S512x3584 .bf16) (x1 : Vec Ideal S1x1x3584x1024 .f32) (xt0 : TbBuf0 (F := Ideal) c tbM0_0) (xt1 : TbBuf0 (F := Ideal) c tbM0_1) (hc0) (y : S4096x128.Idx) (q : Fin 512) (e : Fin 1024)
    (hq : q.val = (y 0).val / 8) (he : e.val = (y 0).val % 8 * 128 + (y 1).val) :
    out0_A c i arg3 harg3 arg4 harg4 arg5 harg5 x0 x1 xt0 xt1 hc0 y = prod x0 x1 q e := by
  have hy0 : (y 0).val < 4096 := (y 0).isLt
  have hy1 : (y 1).val < 128 := (y 1).isLt
  let G : S4096x128.Idx → EReal := fun y => prod x0 x1 ⟨(y 0).val / 8, by have : (y 0).val < 4096 := (y 0).isLt; omega⟩
    ⟨(y 0).val % 8 * 128 + (y 1).val, by have : (y 1).val < 128 := (y 1).isLt; omega⟩
  have hGy : G y = prod x0 x1 q e := congr (congrArg (prod x0 x1) (Fin.ext hq.symm)) (Fin.ext he.symm)
  refine Eq.trans ?_ hGy
  have piece : ∀ (s : ℕ) (o1 o2 : ℕ) (inb1 : ∀ a, (![0, 0, 0, o1] : Fin 4 → ℕ) a + S1x1x3584x256.size a ≤ S1x1x3584x1024.size a) (h2 : S512x256.Slices ![0, o2] S512x128)
      (hs : s < 8) (ho : o1 + o2 = s * 128) (ho2 : o2 ≤ 128) (inb) (hp)
      (x : (⟨(⟨![s, 0], S512x128.size, ![8, 1], inb⟩ : LoadRect S4096x128), hp⟩ : Rect S4096x128).shape.Idx),
      extractStridedSlice S512x128 ![0, o2] (k0_pay5 (F := Ideal) (actOf arg3 harg3 x0) (wOf arg4 harg4 x1 ![0, 0, 0, o1] inb1)) h2 x
        = G ((⟨(⟨![s, 0], S512x128.size, ![8, 1], inb⟩ : LoadRect S4096x128), hp⟩ : Rect S4096x128).emb x) := by
    intro s o1 o2 inb1 h2 hs ho ho2 inb hp x
    obtain ⟨r, d, rfl⟩ : ∃ (r : Fin 512) (d : Fin 128), x = (ix2 r d : S512x128.Idx) := ⟨x 0, x 1, funext fun a => by
      match a with
      | ⟨0, _⟩ => rfl
      | ⟨1, _⟩ => rfl⟩
    have hr := r.isLt
    have hd := d.isLt
    refine (half_at _ o2 h2 r d ⟨o2 + d.val, by omega⟩ rfl).trans ?_
    refine (loaded_at arg3 harg3 arg4 harg4 x0 x1 o1 inb1 r ⟨o2 + d.val, by omega⟩ ⟨s * 128 + d.val, by omega⟩ (by show s * 128 + d.val = o1 + (o2 + d.val); omega)).trans ?_
    refine congr (congrArg (prod x0 x1) (Fin.ext ?_)) (Fin.ext ?_)
    · show r.val = (s + 8 * r.val) / 8
      omega
    · show s * 128 + d.val = (s + 8 * r.val) % 8 * 128 + (0 + 1 * d.val)
      omega
  unfold out0_A
  rw [pieces_A]
  refine View.read_writes_apply_of_pieces (Val := Elt Ideal) VO0_2 _ G _ ?_ y (rows8_cover _ _ _ _ _ _ _ _ y)
  intro p hp
  simp only [List.mem_cons, List.not_mem_nil, or_false] at hp
  rcases hp with rfl | rfl | rfl | rfl | rfl | rfl | rfl | rfl
  · exact piece 7 768 128 inb_S1x1x3584x1024_S1x1x3584x256_0_0_0_768 slices_S512x256_o0_128_S512x128 (by decide) rfl (by decide) inb_S4096x128_S512x128_7_0_s_8_1 spos_8_1
  · exact piece 6 768 0 inb_S1x1x3584x1024_S1x1x3584x256_0_0_0_768 slices_S512x256_o0_0_S512x128 (by decide) rfl (by decide) inb_S4096x128_S512x128_6_0_s_8_1 spos_8_1
  · exact piece 5 512 128 inb_S1x1x3584x1024_S1x1x3584x256_0_0_0_512 slices_S512x256_o0_128_S512x128 (by decide) rfl (by decide) inb_S4096x128_S512x128_5_0_s_8_1 spos_8_1
  · exact piece 4 512 0 inb_S1x1x3584x1024_S1x1x3584x256_0_0_0_512 slices_S512x256_o0_0_S512x128 (by decide) rfl (by decide) inb_S4096x128_S512x128_4_0_s_8_1 spos_8_1
  · exact piece 3 256 128 inb_S1x1x3584x1024_S1x1x3584x256_0_0_0_256 slices_S512x256_o0_128_S512x128 (by decide) rfl (by decide) inb_S4096x128_S512x128_3_0_s_8_1 spos_8_1
  · exact piece 2 256 0 inb_S1x1x3584x1024_S1x1x3584x256_0_0_0_256 slices_S512x256_o0_0_S512x128 (by decide) rfl (by decide) inb_S4096x128_S512x128_2_0_s_8_1 spos_8_1
  · exact piece 1 0 128 inb_S1x1x3584x1024_S1x1x3584x256_0_0_0_0 slices_S512x256_o0_128_S512x128 (by decide) rfl (by decide) inb_S4096x128_S512x128_1_0_s_8_1 spos_8_1
  · exact piece 0 0 0 inb_S1x1x3584x1024_S1x1x3584x256_0_0_0_0 slices_S512x256_o0_0_S512x128 (by decide) rfl (by decide) inb_S4096x128_S512x128_0_0_s_8_1 spos_8_1

/-- A tile out of use holds zeros. -/
theorem out_B_at (c : Dev nD) (i : grid0.Coords) (arg3 : Memref sig .tc .vmem S512x3584 .bf16) (harg3 : arg3.IsWhole) (arg4 : Memref sig .tc .vmem S1x1x3584x1024 .f32) (harg4 : arg4.IsWhole) (arg5 : Memref sig .tc .vmem S4096x128 .f32) (harg5 : arg5.IsWhole)
    (x0 : Vec Ideal S512x3584 .bf16) (x1 : Vec Ideal S1x1x3584x1024 .f32) (xt0 : TbBuf0 (F := Ideal) c tbM0_0) (xt1 : TbBuf0 (F := Ideal) c tbM0_1) (hc0) (y : S4096x128.Idx) :
    out0_B c i arg3 harg3 arg4 harg4 arg5 harg5 x0 x1 xt0 xt1 hc0 y = (0 : EReal) := by
  unfold out0_B
  refine View.read_writes_apply_of_pieces (Val := Elt Ideal) VO0_2 _ (fun _ => (0 : EReal)) _ ?_ y (cover0_B c i arg3 harg3 arg4 harg4 arg5 harg5 x0 x1 xt0 xt1 hc0 y)
  intro p hp x
  unfold kernelRun0_B at hp
  dsimp only at hp
  simp only [List.mem_cons, List.not_mem_nil, or_false] at hp
  subst hp
  exact zero_lit

end Cert.Kernel3Ideal.Value

end
-- ==== Proof.Down.Array.lean ====
module

public import proofs.«01_k».proof.Proof.Down.Value
public import Idealize.ShloMosaic.Lib.Pipeline.ValueKit.Geometry
public import Idealize.ShloMosaic.Lib.Pipeline.Covers

@[expose] public section

set_option maxRecDepth 16384

noncomputable section

/-! # The down projection's result, read at an index -/

namespace Cert.Kernel3Ideal.Value

open Cert.Kernel3Ideal Cert.Kernel3Ideal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

abbrev A2 (c : Dev nD) : S36864x3584.Idx → EReal := m ((c : Thread nD τ).loc main_arg2)
abbrev A3 (c : Dev nD) : S2x8x3584x1024.Idx → EReal := m ((c : Thread nD τ).loc main_arg3)

variable (hr : InRange m)

theorem index0 (t : Fin (cfgM m (ok_of m hr)).N) : ((cfgM m (ok_of m hr)).win 0).index t = ![rowsOf m (grid0.coords t), 0] := rows_block m (grid0.coords t)
theorem index1 (t : Fin (cfgM m (ok_of m hr)).N) : ((cfgM m (ok_of m hr)).win 1).index t = ![0, expertOf m (grid0.coords t), 0, 0] := weights_block m (grid0.coords t)

theorem tile_lt (i : grid0.Coords) : (i 0).val < 72 := (i 0).isLt

theorem iblk0_at (c : Dev nD) (t : Fin (cfgM m (ok_of m hr)).N) (r : Fin 512) (k : Fin 3584) :
    iblk m (ok_of m hr) c 0 t (ix2 r k) = A2 m c (ix2 (⟨rowsOf m (grid0.coords t) * 512 + r.val, by have := rowsOf_lt m hr (grid0.coords t); omega⟩ : Fin 36864) k) := by
  refine Eq.trans ?_ (congrFun (V_kept m c main_arg2 (by simp)) _)
  refine congrArg (V m c main_arg2) (funext fun a => Fin.ext ((((cfgM m (ok_of m hr)).win 0).rect_emb_val t (ix2 r k) a).trans ?_))
  refine (congrArg (fun f : Fin 2 → ℕ => f a * S512x3584.size a + ((ix2 r k : S512x3584.Idx) a).val) (index0 m hr t)).trans ?_
  match a with
  | ⟨0, _⟩ => rfl
  | ⟨1, _⟩ => show 0 * 3584 + k.val = k.val; omega

theorem iblk1_at (c : Dev nD) (t : Fin (cfgM m (ok_of m hr)).N) (k : Fin 3584) (e : Fin 1024) :
    iblk m (ok_of m hr) c 1 t (ix4 (0 : Fin 1) (0 : Fin 1) k e) = A3 m c (ix4 (0 : Fin 2) (⟨expertOf m (grid0.coords t), expertOf_lt m hr _⟩ : Fin 8) k e) := by
  refine Eq.trans ?_ (congrFun (V_kept m c main_arg3 (by simp)) _)
  refine congrArg (V m c main_arg3) (funext fun a => Fin.ext ((((cfgM m (ok_of m hr)).win 1).rect_emb_val t (ix4 (0 : Fin 1) (0 : Fin 1) k e) a).trans ?_))
  refine (congrArg (fun f : Fin 4 → ℕ => f a * S1x1x3584x1024.size a + ((ix4 (0 : Fin 1) (0 : Fin 1) k e : S1x1x3584x1024.Idx) a).val) (index1 m hr t)).trans ?_
  match a with
  | ⟨0, _⟩ => rfl
  | ⟨1, _⟩ => exact (Nat.add_zero _).trans (Nat.mul_one _)
  | ⟨2, _⟩ => show 0 * 3584 + k.val = k.val; omega
  | ⟨3, _⟩ => show 0 * 1024 + e.val = e.val; omega

/-- The result from the arguments. -/
def outOf (c : Dev nD) : S294912x128.Idx → EReal := fun y =>
  if (BitVec.ofNat 32 ((y 0).val / 4096)).toInt < (T1 m (ix1 (0 : Fin 1))).toInt then
    ∑ k : Fin 3584, A2 m c (ix2 (⟨(y 0).val / 8, by have : (y 0).val < 294912 := (y 0).isLt; omega⟩ : Fin 36864) k)
      * A3 m c (ix4 (0 : Fin 2) (Fin.ofNat 8 (T0 m (ix1 (⟨(y 0).val / 4096, by have : (y 0).val < 294912 := (y 0).isLt; omega⟩ : Fin 128))).toNat) k
          (⟨(y 0).val % 8 * 128 + (y 1).val, by have : (y 1).val < 128 := (y 1).isLt; omega⟩ : Fin 1024))
  else 0

theorem count_word (i : grid0.Coords) :
    cond0_0 i (tbM0_1.view.readAt (Elt Ideal) (Rect.unit (s := S1) ![0] S1.size inb_S1_S1_0).toLoadRect (tbl m 1) (Shape.Idx.first (numel1_S1.symm ▸ Nat.one_pos)))
      ↔ (BitVec.ofNat 32 (i 0).val).toInt < (T1 m (ix1 (0 : Fin 1))).toInt := by
  rw [cond_iff]
  have e : (tbM0_1.view.readAt (Elt Ideal) (Rect.unit (s := S1) ![0] S1.size inb_S1_S1_0).toLoadRect (tbl m 1) (Shape.Idx.first (numel1_S1.symm ▸ Nat.one_pos)) : BitVec 32) = T1 m (ix1 (0 : Fin 1)) :=
    (congrFun (tbl_one m) _).trans (congrArg (T1 m) (one_idx _ _))
  rw [e]

theorem after_at (c : Dev nD) (t : Fin (cfgM m (ok_of m hr)).N) (y : S4096x128.Idx) (Y : S294912x128.Idx) (h0 : (Y 0).val = (grid0.coords t 0).val * 4096 + (y 0).val) (h1 : (Y 1).val = (y 1).val) :
    ((dats m (ok_of m hr) 0 c).after 2 t : S4096x128.Idx → EReal) y = outOf m c Y := by
  have hy0 : (y 0).val < 4096 := (y 0).isLt
  have hy1 : (y 1).val < 128 := (y 1).isLt
  have ht := tile_lt (grid0.coords t)
  have hd : (Y 0).val / 4096 = (grid0.coords t 0).val := by omega
  rw [after0_2]
  unfold outOf
  by_cases h : cond0_0 (grid0.coords t) (tbM0_1.view.readAt (Elt Ideal) (Rect.unit (s := S1) ![0] S1.size inb_S1_S1_0).toLoadRect (tbl m 1) (Shape.Idx.first (numel1_S1.symm ▸ Nat.one_pos)))
  · have hlt := (count_word m _).mp h
    rw [outsAt0_A m _ c t h, if_pos (hd.symm ▸ hlt)]
    refine (out_A_at c _ _ _ _ _ _ _ _ _ _ _ _ y ⟨(y 0).val / 8, by omega⟩ ⟨(y 0).val % 8 * 128 + (y 1).val, by omega⟩ rfl rfl).trans ?_
    refine Finset.sum_congr rfl fun k _ => congr (congrArg (HMul.hMul (α := EReal)) ((iblk0_at m hr c t _ k).trans ?_)) ((iblk1_at m hr c t k _).trans ?_)
    · refine congrArg (A2 m c) (congrArg (ix2 · k) (Fin.ext ?_))
      have := (Cert.Tiles.min_at ht (hr.2 (ix1 (0 : Fin 1))).1 (hr.2 (ix1 (0 : Fin 1))).2).2 hlt
      show rowsOf m (grid0.coords t) * 512 + (y 0).val / 8 = (Y 0).val / 8
      unfold rowsOf
      rw [this, h0]
      omega
    · have hx : expertOf m (grid0.coords t) = (T0 m (ix1 (⟨(Y 0).val / 4096, by omega⟩ : Fin 128))).toNat := by
        unfold expertOf
        rw [(tbl_zero m (place (grid0.coords t)) (ix1 (0 : Fin 1))).2 hlt]
        exact congrArg (fun j : Fin 128 => (T0 m (ix1 j)).toNat) (Fin.ext hd.symm)
      refine congrArg (A3 m c) (congr (congrArg (fun (x : Fin 8) (z : Fin 1024) => (ix4 (0 : Fin 2) x k z : S2x8x3584x1024.Idx)) (Fin.ext ?_)) (Fin.ext ?_))
      · show expertOf m (grid0.coords t) = _ % 8
        have := expertOf_lt m hr (grid0.coords t)
        omega
      · show (y 0).val % 8 * 128 + (y 1).val = (Y 0).val % 8 * 128 + (Y 1).val
        omega
  · have hlt := fun h' => h ((count_word m _).mpr h')
    rw [outsAt0_B m _ c t h, if_neg (hd.symm ▸ hlt)]
    exact out_B_at c _ _ _ _ _ _ _ _ _ _ _ _ y

theorem index2 (t : Fin (cfgM m (ok_of m hr)).N) : ((cfgM m (ok_of m hr)).win 2).index t = ![(grid0.coords t 0).val, 0] :=
  (by decide +kernel : ∀ i : grid0.Coords, cc0_transform_2 i = ![(i 0).val, 0]) (grid0.coords t)

/-- Every block of the result is some tile's. -/
theorem covers : ((cfgM m (ok_of m hr)).win 2).Covers := by
  have n0 : ((cfgM m (ok_of m hr)).win 2).nblk (0 : Fin 2) = 72 := by show (294912 + 4096 - 1) / 4096 = 72; decide
  have n1 : ((cfgM m (ok_of m hr)).win 2).nblk (1 : Fin 2) = 1 := by show (128 + 128 - 1) / 128 = 1; decide
  refine Pipeline.Window.covers_of_indexMap_surj _ rfl (fun a => ?_) fun β => ⟨fun a => match a with | ⟨0, _⟩ => ⟨(β (0 : Fin 2)).val, ?_⟩, fun a => ?_⟩
  · exact (by decide : ∀ a : Fin 2, 0 < S4096x128.size a) a
  · exact Nat.lt_of_lt_of_eq (β (0 : Fin 2)).isLt n0
  · match a with
    | ⟨0, _⟩ =>
      have h : (β (0 : Fin 2)).val < 72 := Nat.lt_of_lt_of_eq (β (0 : Fin 2)).isLt n0
      show (BitVec.ofNat 32 (β (0 : Fin 2)).val).toNat = (β (0 : Fin 2)).val
      rw [BitVec.toNat_ofNat]
      exact Nat.mod_eq_of_lt (by omega)
    | ⟨1, _⟩ =>
      have h : (β (1 : Fin 2)).val < 1 := Nat.lt_of_lt_of_eq (β (1 : Fin 2)).isLt n1
      show 0 = (β (1 : Fin 2)).val
      omega

theorem block_at (t : Fin (cfgM m (ok_of m hr)).N) (y : S4096x128.Idx) (a : Fin 2) :
    ((((cfgM m (ok_of m hr)).win 2).blk t).view.emb y a).val = (![(grid0.coords t 0).val, 0] : Fin 2 → ℕ) a * S4096x128.size a + (y a).val :=
  (((cfgM m (ok_of m hr)).win 2).rect_emb_val t y a).trans (congrArg (fun f : Fin 2 → ℕ => f a * S4096x128.size a + (y a).val) (index2 m hr t))

/-- THE RESULT ARRAY. -/
theorem arr_eq (c : Dev nD) : (dats m (ok_of m hr) 0 c).arrAt 2 (cfgM m (ok_of m hr)).N = outOf m c := by
  refine (dats m (ok_of m hr) 0 c).arrAt_eq_of_covers 2 _ (covers m hr) fun t hf y => ?_
  refine after_at m hr c t y _ (block_at m hr t y 0) ((block_at m hr t y 1).trans ?_)
  show 0 * 128 + _ = _
  omega

end Cert.Kernel3Ideal.Value

end
-- ==== Proof.Down.Ref.lean ====
module

public import proofs.«01_k».proof.Proof.Table
public import proofs.«01_k».proof.Proof.Gen.Reference3Ideal.Read

@[expose] public section

set_option maxRecDepth 16384

noncomputable section

/-! # The down projection's reference, read at an index -/

namespace Cert.Reference3Ideal.Read

open Cert.Reference3Ideal Cert.Reference3Ideal.Gen Idealize.ShloMosaic Idealize.ShloMosaic.ValueIdx

theorem zero_lit : Ideal.ofBits .f32 0x00000000#32 = 0 := by simp [Ideal.ofBits, Ideal.ieee]

theorem gate_at (x0 : S128.Idx → BitVec 32) (x1 : S1.Idx → BitVec 32) (i : S36864x8x1024.Idx) (t : Fin 128) (ht : t.val = (i 0).val / 512) :
    val_main_call0_v1 (F := Ideal) x0 x1 i = IntOp.andi (IntOp.cmpi .eq (x0 (ix1 t)) (BitVec.ofNat 32 (i 1).val)) (IntOp.cmpi .slt (BitVec.ofNat 32 t.val) (x1 (ix1 (0 : Fin 1)))) := by
  have h0 : (i 0).val < 36864 := (i 0).isLt
  have h1 : (i 1).val < 8 := (i 1).isLt
  rw [val_main_call0_v1_apply, val_main_v19_apply, val_main_v18_apply, val_main_v17_apply, val_main_v16_apply, val_main_v11_apply, val_main_v15_apply,
    val_main_v9_apply, val_main_v6_apply, val_main_v5_apply, val_main_v10_apply, val_main_v8_apply, val_main_v7_apply, val_main_v14_apply, val_main_v13_apply,
    val_main_v4_apply, val_main_v12_apply]
  have e1 : ((i 0).val * 8 + (i 1).val) / 4096 = t.val := by omega
  have e2 : ((i 0).val * 8 + (i 1).val) % 8 = (i 1).val := by omega
  refine congr (congrArg IntOp.andi (congr (congrArg (IntOp.cmpi .eq) (congrArg x0 (funext fun a => ?_))) (congrArg (BitVec.ofNat 32) ?_))) (congr (congrArg (IntOp.cmpi .slt) (congrArg (BitVec.ofNat 32) ?_)) (congrArg x1 (funext fun a => ?_)))
  · match a with | ⟨0, _⟩ => exact Fin.ext e1
  · exact e2
  · exact e1
  · match a with | ⟨0, _⟩ => rfl

theorem product_at (x2 : S36864x3584.Idx → EReal) (x3 : S2x8x3584x1024.Idx → EReal) (i : S36864x8x1024.Idx) :
    val_main_v3 (F := Ideal) x2 x3 i = ∑ k : Fin 3584, x2 (ix2 (i 0 : Fin 36864) k) * x3 (ix4 (0 : Fin 2) (i 1 : Fin 8) k (i 2 : Fin 1024)) := by
  have h0 : (i 1).val < 8 := (i 1).isLt
  have h2 : (i 2).val < 1024 := (i 2).isLt
  rw [val_main_v3_apply]
  refine Finset.sum_congr rfl fun k _ => congr (congrArg (HMul.hMul (α := EReal)) ?_) ?_
  · refine congrArg x2 (funext fun a => ?_)
    match a with | ⟨0, _⟩ => rfl | ⟨1, _⟩ => rfl
  · rw [val_main_v2_apply, val_main_v1_apply]
    have hk := k.isLt
    refine congrArg x3 (funext fun a => Fin.ext ?_)
    match a with
    | ⟨0, _⟩ => rfl
    | ⟨1, _⟩ => show (((i 1).val * 3584 + k.val) * 1024 + (i 2).val) / 3670016 % 8 = (i 1).val; omega
    | ⟨2, _⟩ => show (((i 1).val * 3584 + k.val) * 1024 + (i 2).val) / 1024 % 3584 = k.val; omega
    | ⟨3, _⟩ => show (((i 1).val * 3584 + k.val) * 1024 + (i 2).val) % 1024 = (i 2).val; omega

/-- The row's tile's expert's product where the tile is in use, zero elsewhere. -/
theorem v22_at (x0 : S128.Idx → BitVec 32) (x1 : S1.Idx → BitVec 32) (x2 : S36864x3584.Idx → EReal) (x3 : S2x8x3584x1024.Idx → EReal) (y : S294912x128.Idx)
    (t : Fin 128) (r : Fin 36864) (e : Fin 1024) (ht : t.val = r.val / 512) (hr : r.val = ((y 0).val * 128 + (y 1).val) / 1024) (he : e.val = ((y 0).val * 128 + (y 1).val) % 1024)
    (hw : (x0 (ix1 t)).toNat < 8) :
    val_main_v22 (F := Ideal) x0 x1 x2 x3 y
      = if (BitVec.ofNat 32 t.val).toInt < (x1 (ix1 (0 : Fin 1))).toInt then ∑ k : Fin 3584, x2 (ix2 r k) * x3 (ix4 (0 : Fin 2) (⟨(x0 (ix1 t)).toNat, hw⟩ : Fin 8) k e) else 0 := by
  rw [val_main_v22_apply, val_main_v21_apply]
  have hi : idx_main_v22 y = (ix2 r e : S36864x1024.Idx) := funext fun a => by
    match a with
    | ⟨0, _⟩ => exact Fin.ext hr.symm
    | ⟨1, _⟩ => exact Fin.ext he.symm
  rw [hi]
  refine Eq.trans ?_ (Cert.Tiles.gated_sum (x0 (ix1 t)) (BitVec.ofNat 32 t.val) (x1 (ix1 (0 : Fin 1))) hw (Ideal.ofBits .f32 0x00000000#32) zero_lit
    fun x => ∑ k : Fin 3584, x2 (ix2 r k) * x3 (ix4 (0 : Fin 2) x k e))
  refine congrArg (_ + ·) (Finset.sum_congr rfl fun x _ => ?_)
  rw [val_main_v20_apply, gate_at x0 x1 _ t ht, product_at]
  rfl

end Cert.Reference3Ideal.Read

end
-- ==== Proof.PreDown.lean ====
module

public import proofs.«01_k».proof.Pre_down_in_range
public import Idealize.ShloMosaic.Lib.ReduceAll
public import Idealize.ShloMosaic.Lib.ValueIdx
public import Idealize.ShloMosaic.PureOps.Ideal.Laws

@[expose] public section

noncomputable section

/-! # What the tables' precondition says -/

namespace Cert.Pre_down_in_range

open Idealize.ShloMosaic

theorem facts : Facts where
  bcast_S_S128 := by decide
  reducesTo_S128_S_d0 := by decide
  h_S_ := by decide
  bcast_S_S1 := by decide
  reducesTo_S1_S_d0 := by decide

theorem of_flag {p : Prop} [Decidable p] (h : BitVec.ofBool (decide p) = 1#1) : p := by
  by_contra hn
  simp [hn] at h

theorem between (x lo hi : BitVec 32) (h : IntOp.andi (IntOp.cmpi .sge x lo) (IntOp.cmpi .slt x hi) = 1#1) :
    lo.toInt ≤ x.toInt ∧ x.toInt < hi.toInt := by
  obtain ⟨a, b⟩ := IntOp.andi_eq_one.mp h
  have ha : BitVec.ofBool (lo.sle x) = 1#1 := a
  have hb : BitVec.ofBool (x.slt hi) = 1#1 := b
  simp only [BitVec.sle, BitVec.slt] at ha hb
  exact ⟨of_flag ha, of_flag hb⟩

theorem within (x lo hi : BitVec 32) (h : IntOp.andi (IntOp.cmpi .sge x lo) (IntOp.cmpi .sle x hi) = 1#1) :
    lo.toInt ≤ x.toInt ∧ x.toInt ≤ hi.toInt := by
  obtain ⟨a, b⟩ := IntOp.andi_eq_one.mp h
  have ha : BitVec.ofBool (lo.sle x) = 1#1 := a
  have hb : BitVec.ofBool (x.sle hi) = 1#1 := b
  simp only [BitVec.sle] at ha hb
  exact ⟨of_flag ha, of_flag hb⟩

/-- Every entry of the table names one of the eight experts, and the count is of one to seventy-two tiles. -/
theorem read {F : FTy → Type} [FloatOps F] [hf : Facts] (x0 : IVec S128 32) (x1 : IVec S1 32) (x2 : FVec F S36864x3584 .bf16) (x3 : FVec F S2x8x3584x1024 .f32)
    (h : fn (F := F) x0 x1 x2 x3 = fun _ => 1#1) :
    (∀ j, 0 ≤ (x0 j).toInt ∧ (x0 j).toInt < 8) ∧ (∀ j, 1 ≤ (x1 j).toInt ∧ (x1 j).toInt ≤ 72) := by
  have hs : Subsingleton S_.Idx := ⟨fun a b => funext fun i => i.elim0⟩
  have h0 := congrFun h (fun i => i.elim0)
  unfold fn at h0
  dsimp only at h0
  obtain ⟨ht, hn⟩ := IntOp.andi_eq_one.mp h0
  exact ⟨fun j => between _ 0#32 8#32 (Host.reduce_andi_all _ _ _ _ _ ht j), fun j => within _ 1#32 72#32 (Host.reduce_andi_all _ _ _ _ _ hn j)⟩

end Cert.Pre_down_in_range

end
-- ==== Proof.Down.Claims.lean ====
module

public import proofs.«01_k».proof.Proof.Down.Array
public import proofs.«01_k».proof.Proof.Down.Ref
public import proofs.«01_k».proof.Proof.Bits.Down.Tables
public import proofs.«01_k».proof.Proof.PreDown
public import proofs.«01_k».proof.Proof.Gen.Reference3Ideal.Run
public import proofs.«01_k».proof.Defs

@[expose] public section

set_option maxRecDepth 16384

noncomputable section

/-! # The claims about the down projection -/

namespace Cert.Down

open Idealize.ShloMosaic Idealize.ShloMosaic.TcCoe Idealize.SL.Sem Idealize.ShloMosaic.ValueIdx

theorem range (m : (ℓ : Loc Cert.Kernel3.nD Cert.Kernel3.τ Cert.Kernel3.sig) → Buf (Elt Bits) ℓ) (h : Cert.Pre_Kernel3 (hPre_down_in_range := Cert.Pre_down_in_range.facts) m) :
    Cert.Kernel3.Gen.InRange m := Cert.Pre_down_in_range.read (hf := Cert.Pre_down_in_range.facts) _ _ _ _ (h 0)

theorem rangeIdeal (m : (ℓ : Loc Cert.Kernel3Ideal.nD Cert.Kernel3Ideal.τ Cert.Kernel3Ideal.sig) → Buf (Elt Ideal) ℓ) (h : Cert.Pre_Kernel3Ideal (hPre_down_in_range := Cert.Pre_down_in_range.facts) m) :
    Cert.Kernel3Ideal.Gen.InRange m := Cert.Pre_down_in_range.read (hf := Cert.Pre_down_in_range.facts) _ _ _ _ (h 0)

theorem frame : Cert.quiescent_Kernel3 (hKernel3 := Cert.Kernel3.Gen.facts) (hPre_down_in_range := Cert.Pre_down_in_range.facts) :=
  fun m g h => Cert.Kernel3.Gen.frame m g (Cert.Kernel3.Gen.ok_of m (range m h))

theorem frameIdeal : Cert.quiescent_Kernel3Ideal (hKernel3Ideal := Cert.Kernel3Ideal.Gen.facts) (hPre_down_in_range := Cert.Pre_down_in_range.facts) :=
  fun m g h => Cert.Kernel3Ideal.Gen.frame m g (Cert.Kernel3Ideal.Gen.ok_of m (rangeIdeal m h))

theorem frameRef : Cert.quiescent_Reference3Ideal (hReference3Ideal := Cert.Reference3Ideal.Gen.facts) := fun m g _ =>
  (θ_run Cert.Reference3Ideal.defs _ _).mono (fun r h => ⟨fun c => (h c).2, sem_eq_zero_of_no_sems (by decide) r.2⟩)
    (Cert.Reference3Ideal.Value.run (F := Ideal) m g)

open Cert.Kernel3Ideal Cert.Kernel3Ideal.Gen in
/-- The run with the result named. -/
theorem run_named (m : (ℓ : Loc nD τ sig) → Buf (Elt Ideal) ℓ) (g : Dev nD → PrngReg) (hr : InRange m) :
    θ_run (defs (F := Ideal)) (onTc (τ := τ) (main (F := Ideal))) ⟨m, fun _ => 0, g⟩ fun r => ∀ c : Dev nD,
      r.2.mem ((c : Thread nD τ).loc main_v11) = Cert.Kernel3Ideal.Value.outOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 2).trans (Cert.Kernel3Ideal.Value.arr_eq m hr c), h.2 c⟩)
    (θ_run_and (run_main m g (ok_of m hr)) (unchanged m g (ok_of m hr)))

/-- The result is the reference's. -/
theorem outOf_eq (m : (ℓ : Loc Cert.Kernel3Ideal.nD Cert.Kernel3Ideal.τ Cert.Kernel3Ideal.sig) → Buf (Elt Ideal) ℓ) (hr : Cert.Kernel3Ideal.Gen.InRange m) (c : Dev Cert.Kernel3Ideal.nD) :
    Cert.Kernel3Ideal.Value.outOf m c = Cert.Reference3Ideal.Read.val_main_v22 (F := Ideal) (Cert.Kernel3Ideal.Gen.T0 m) (Cert.Kernel3Ideal.Gen.T1 m) (Cert.Kernel3Ideal.Value.A2 m c) (Cert.Kernel3Ideal.Value.A3 m c) := by
  funext y
  have h0 : (y 0).val < 294912 := (y 0).isLt
  have h1 : (y 1).val < 128 := (y 1).isLt
  have hw := Cert.Tiles.expert_lt (hr.1 (ix1 (⟨(y 0).val / 4096, by omega⟩ : Fin 128)))
  refine Eq.trans ?_ (Cert.Reference3Ideal.Read.v22_at _ _ _ _ y ⟨(y 0).val / 4096, by omega⟩ ⟨(y 0).val / 8, by omega⟩ ⟨(y 0).val % 8 * 128 + (y 1).val, by omega⟩
    (by show (y 0).val / 4096 = (y 0).val / 8 / 512; omega) (by show (y 0).val / 8 = ((y 0).val * 128 + (y 1).val) / 1024; omega)
    (by show (y 0).val % 8 * 128 + (y 1).val = ((y 0).val * 128 + (y 1).val) % 1024; omega) hw).symm
  unfold Cert.Kernel3Ideal.Value.outOf
  refine if_congr Iff.rfl (Finset.sum_congr rfl fun k _ => congrArg (HMul.hMul _) ?_) rfl
  refine congrArg (fun x : Fin 8 => Cert.Kernel3Ideal.Value.A3 m c (ix4 (0 : Fin 2) x k _)) (Fin.ext ?_)
  exact Nat.mod_eq_of_lt hw

theorem values : Cert.algebraic_Kernel3Ideal_Reference3Ideal (hKernel3Ideal := Cert.Kernel3Ideal.Gen.facts) (hReference3Ideal := Cert.Reference3Ideal.Gen.facts) (hPre_down_in_range := Cert.Pre_down_in_range.facts) := by
  intro m g m' g' hpre hargs
  have hr := rangeIdeal m hpre
  refine ⟨fun c => Cert.Kernel3Ideal.Value.outOf m c, run_named m g hr, ?_⟩
  refine (θ_run Cert.Reference3Ideal.defs _ _).mono (fun r h c => ⟨(h c).1.trans ?_, (h c).2⟩) (Cert.Reference3Ideal.Value.run (F := Ideal) m' g')
  obtain rfl : c = 0 := Subsingleton.elim _ _
  obtain ⟨a0, a1, a2, a3⟩ := hargs 0
  rw [Cert.Reference3Ideal.Read.val_main_v22_eq, a0, a1, a2, a3]
  exact (outOf_eq m hr 0).symm

end Cert.Down

end
-- ==== Proof.Out.Pay.lean ====
module

public import proofs.«01_k».proof.Proof.Math
public import proofs.«01_k».proof.Proof.Up.Gate
public import proofs.«01_k».proof.Proof.Gen.Kernel4Ideal.Skeleton
public import Idealize.ShloMosaic.Lib.ValueIdx
public import Idealize.ShloMosaic.Lib.MatmulPlain
public import Idealize.ShloMosaic.Lib.Pipeline.Value
public import Idealize.ShloMosaic.PureOps.Ideal.Laws

@[expose] public section

set_option maxRecDepth 16384

noncomputable section

/-! # The output projection's arithmetic, read at an index -/

namespace Cert.Kernel4Ideal.Value

open Cert.Kernel4Ideal Cert.Kernel4Ideal.Gen Idealize.ShloMosaic Idealize.ShloMosaic.ValueIdx
open Cert.Attn (normRow)
open Cert.Up (zero_lit)

theorem half_product (a : FVec Ideal S1024x512 .bf16) (w : FVec Ideal S512x1024 .bf16) (r : Fin 1024) (c : Fin 1024) :
    matmul (F := Ideal) dot_S1024x512_S512x1024_S1024x1024_1_0_0_1_n_n none a w (constant S1024x1024 .f32 0x00000000#32) (ix2 r c)
      = ∑ k : Fin 512, a (ix2 r k) * w (ix2 k c) := by
  refine (Ideal.matmul_plain_apply (M := 1024) (K := 512) (N := 1024) (φ₁ := .bf16) (φ₂ := .bf16) none a w (constant S1024x1024 .f32 0x00000000#32) r c).trans ?_
  show Ideal.ofBits .f32 0x00000000#32 + _ = _
  rw [zero_lit, zero_add]

/-- One of the four column blocks, its leading axis dropped. -/
theorem drop_lead (v : Vec Ideal S1x1024x128 .f32) (r : Fin 1024) (l : Fin 128) :
    shapeCast S1024x128 v shapeCasts_S1x1024x128_S1024x128 (ix2 r l) = v (ix3 (0 : Fin 1) r l) :=
  shapeCast_apply _ _ _ _ (by rw [Shape.rowMajor_val_two, Shape.rowMajor_val_three]; show (0 * 1024 + r.val) * 128 + l.val = r.val * 128 + l.val; omega)

/-- The four column blocks side by side. -/
theorem side_by_side (v : Fin 4 → Vec Ideal S1x1024x128 .f32) (r : Fin 1024) (s : Fin 4) (l : Fin 128) (d : Fin 512) (hd : d.val = 128 * s.val + l.val) :
    concatenate (α := EReal) S1024x512 1 [⟨S1024x128, shapeCast S1024x128 (v 0) shapeCasts_S1x1024x128_S1024x128⟩, ⟨S1024x128, shapeCast S1024x128 (v 1) shapeCasts_S1x1024x128_S1024x128⟩,
      ⟨S1024x128, shapeCast S1024x128 (v 2) shapeCasts_S1x1024x128_S1024x128⟩, ⟨S1024x128, shapeCast S1024x128 (v 3) shapeCasts_S1x1024x128_S1024x128⟩]
      concatenates_S1024x128_S1024x128_S1024x128_S1024x128_S1024x512_d1 (ix2 r d) = v s (ix3 (0 : Fin 1) r l) := by
  rw [← drop_lead (v s) r l]
  match s, hd with
  | ⟨0, hn⟩, hd =>
    exact concatenate_apply_piece (t := S1024x512) 1 _ _ _ 0 (by show 0 < 4; omega) S1024x128 _ rfl rfl 0 rfl (ix2 r l)
      (fun a ha => by match a with | ⟨0, _⟩ => rfl | ⟨1, _⟩ => exact (ha rfl).elim) hd.symm
  | ⟨1, hn⟩, hd =>
    exact concatenate_apply_piece (t := S1024x512) 1 _ _ _ 1 (by show 1 < 4; omega) S1024x128 _ rfl rfl 128 rfl (ix2 r l)
      (fun a ha => by match a with | ⟨0, _⟩ => rfl | ⟨1, _⟩ => exact (ha rfl).elim) hd.symm
  | ⟨2, hn⟩, hd =>
    exact concatenate_apply_piece (t := S1024x512) 1 _ _ _ 2 (by show 2 < 4; omega) S1024x128 _ rfl rfl 256 rfl (ix2 r l)
      (fun a ha => by match a with | ⟨0, _⟩ => rfl | ⟨1, _⟩ => exact (ha rfl).elim) hd.symm
  | ⟨3, hn⟩, hd =>
    exact concatenate_apply_piece (t := S1024x512) 1 _ _ _ 3 (by show 3 < 4; omega) S1024x128 _ rfl rfl 384 rfl (ix2 r l)
      (fun a ha => by match a with | ⟨0, _⟩ => rfl | ⟨1, _⟩ => exact (ha rfl).elim) hd.symm

/-- The row with the two halves' products added. -/
theorem pay21_at (v : Fin 4 → Vec Ideal S1x1024x128 .f32) (a : Vec Ideal S1024x512 .bf16) (w u : Vec Ideal S512x1024 .bf16) (x : Vec Ideal S1024x1024 .f32) (r c : Fin 1024) :
    k0_pay21 (F := Ideal) (v 0) (v 1) (v 2) (v 3) a w u x (ix2 r c)
      = x (ix2 r c) + ((∑ k : Fin 512, a (ix2 r k) * w (ix2 k c))
        + ∑ k : Fin 512, v (⟨k.val / 128, by omega⟩ : Fin 4) (ix3 (0 : Fin 1) r (⟨k.val % 128, by omega⟩ : Fin 128)) * u (ix2 k c)) := by
  unfold k0_pay21
  refine congrArg (x (ix2 r c) + ·) (congr (congrArg HAdd.hAdd (half_product a w r c)) ((half_product _ u r c).trans (Finset.sum_congr rfl fun k _ => congrArg (· * u (ix2 k c)) ?_)))
  exact side_by_side v r ⟨k.val / 128, by omega⟩ ⟨k.val % 128, by omega⟩ k (by show k.val = 128 * (k.val / 128) + k.val % 128; omega)

theorem gain_at (g : Vec Ideal S1x1x1024 .f32) (c : Fin 1024) : k0_pay22 (F := Ideal) g (ix2 (0 : Fin 1) c) = g (ix3 (0 : Fin 1) (0 : Fin 1) c) := by
  unfold k0_pay22
  exact shapeCast_apply _ _ _ _ (by rw [Shape.rowMajor_val_two, Shape.rowMajor_val_three]; show (0 * 1 + 0) * 1024 + c.val = 0 * 1024 + c.val; omega)

/-- The weights the scratch keeps. -/
theorem pay2_at (w : Vec Ideal S1x1024x1024 .f32) (k c : Fin 1024) : k0_pay2 (F := Ideal) w (ix2 k c) = w (ix3 (0 : Fin 1) k c) := by
  unfold k0_pay2
  refine (shapeCast_apply _ _ (ix2 k c) (ix2 k c) rfl).trans ?_
  exact shapeCast_apply _ _ _ _ (by rw [Shape.rowMajor_val_two, Shape.rowMajor_val_three]; show (0 * 1024 + k.val) * 1024 + c.val = k.val * 1024 + c.val; omega)

/-- A column block on its way into the scratch. -/
theorem widened_at (x : Vec Ideal S256x128 .bf16) (q : Fin 256) (l : Fin 128) :
    shapeCast S1x256x128 (extf (F := Ideal) .f32 x bitsLt_bf16_f32) shapeCasts_S256x128_S1x256x128 (ix3 (0 : Fin 1) q l) = x (ix2 q l) :=
  shapeCast_apply (α := EReal) _ _ _ _ (by rw [Shape.rowMajor_val_two, Shape.rowMajor_val_three]; show q.val * 128 + l.val = (0 * 256 + q.val) * 128 + l.val; omega)

/-- A column of one entry per row. -/
theorem column_at (x : FVec Ideal S1024 .f32) (r : Fin 1024) : shapeCast S1024x1 x shapeCasts_S1024_S1024x1 (ix2 r (0 : Fin 1)) = x (ix1 r) :=
  shapeCast_apply _ _ _ _ (by rw [Shape.rowMajor_val_one, Shape.rowMajor_val_two]; show r.val = r.val * 1 + 0; omega)

/-- The normed row. -/
theorem pay1_at (v : Fin 4 → Vec Ideal S1x1024x128 .f32) (a : Vec Ideal S1024x512 .bf16) (w u : Vec Ideal S512x1024 .bf16) (x : Vec Ideal S1024x1024 .f32) (g : Vec Ideal S1x1x1024 .f32) (r c : Fin 1024) :
    k0_pay1 (F := Ideal) (k0_pay21 (v 0) (v 1) (v 2) (v 3) a w u x) (k0_pay22 g) (k0_pay23 (v 0) (v 1) (v 2) (v 3) a w u x) (ix2 r c)
      = normRow (Ideal.ofBits .f32 0x44800000#32) (Ideal.ofBits .f32 0x358637BD#32) (fun j => k0_pay21 (F := Ideal) (v 0) (v 1) (v 2) (v 3) a w u x (ix2 r j)) (fun j => g (ix3 (0 : Fin 1) (0 : Fin 1) j)) c := by
  unfold k0_pay1 k0_pay23 normRow
  generalize k0_pay21 (F := Ideal) (v 0) (v 1) (v 2) (v 3) a w u x = y
  dsimp only
  rw [truncf_apply, mulf_apply, mulf_apply,
    broadcastTo_apply (k0_pay22 g) broadcasts_S1x1024_S1024x1024 (ix2 r c) (ix2 (0 : Fin 1) c) fun b => by match b with | ⟨0, _⟩ => rfl | ⟨1, _⟩ => rfl,
    broadcastTo_apply _ broadcasts_S1024x1_S1024x1024 (ix2 r c) (ix2 r (0 : Fin 1)) fun b => by match b with | ⟨0, _⟩ => rfl | ⟨1, _⟩ => rfl, gain_at]
  refine congrArg (fun z => y (ix2 r c) * Ideal.rsqrt (Ideal.div z (Ideal.ofBits .f32 0x44800000#32) + Ideal.ofBits .f32 0x358637BD#32) * g (ix3 (0 : Fin 1) (0 : Fin 1) c)) ?_
  rw [column_at, Ideal.multiReduction_add_single (mulf y y) 0x00000000#32 reduces_S1024x1024_S1024 (.inl rfl) rfl (ix1 r)]
  refine Finset.sum_congr rfl fun j _ => ?_
  refine congrArg (fun i => y i * y i) (funext fun b => Fin.ext (by match b with | ⟨0, _⟩ => rfl | ⟨1, _⟩ => rfl))

end Cert.Kernel4Ideal.Value

end
-- ==== Proof.Out.Value.lean ====
module

public import proofs.«01_k».proof.Proof.Out.Pay
public import proofs.«01_k».proof.Proof.Gen.Kernel4Ideal.Frame
public import Idealize.ShloMosaic.Lib.Pipeline.ReadBack
public import Idealize.ShloMosaic.Lib.Pipeline.ValueKit.Basic
public import Idealize.ShloMosaic.Lib.Pipeline.ValueKit.Tiles
public import Idealize.ShloMosaic.Lib.Writes

@[expose] public section

set_option maxRecDepth 16384

noncomputable section

/-! # What a point of the output projection leaves in its blocks -/

namespace Cert.Kernel4Ideal.Value

open Cert.Kernel4Ideal Cert.Kernel4Ideal.Gen Idealize.ShloMosaic Idealize.ShloMosaic.TcCoe Idealize.SL.Sem Idealize.ShloMosaic.ValueIdx
open Cert.Attn (normRow)

/-! ## The second half's rows, spread over the scratch -/

theorem spread_inb : ∀ s k : Fin 4, ∀ a : Fin 3, S1x256x128.size a = 0 ∨ (![s.val, k.val, 0] : Fin 3 → ℕ) a + (![1, 4, 1] : Fin 3 → ℕ) a * (S1x256x128.size a - 1) < S4x1024x128.size a := by decide

theorem part_inb : ∀ s k : Fin 4, ∀ a : Fin 2, (![0, 512 * k.val + 128 * s.val] : Fin 2 → ℕ) a + S256x128.size a ≤ S256x2048.size a := by decide

theorem slab_inb : ∀ s : Fin 4, ∀ a : Fin 3, (![s.val, 0, 0] : Fin 3 → ℕ) a + S1x1024x128.size a ≤ S4x1024x128.size a := by decide

theorem steps_pos : ∀ a : Fin 3, 0 < (![1, 4, 1] : Fin 3 → ℕ) a := by decide

/-- Where the block of columns `s` of every fourth row from `k` goes. -/
abbrev spreadRect (s k : Fin 4) : Rect S4x1024x128 := ⟨(⟨![s.val, k.val, 0], S1x256x128.size, ![1, 4, 1], spread_inb s k⟩ : LoadRect S4x1024x128), steps_pos⟩

/-- The block of columns `s` of every fourth row from `k`. -/
abbrev part (arg2 : Memref sig .tc .vmem S256x2048 .bf16) (harg2 : arg2.IsWhole) (x1 : Vec Ideal S256x2048 .bf16) (s k : Fin 4) : Vec Ideal S256x128 .bf16 :=
  arg2.view.readAt (Elt Ideal) (Rect.unit (s := S256x2048) ![0, 512 * k.val + 128 * s.val] S256x128.size (part_inb s k)).toLoadRect (harg2.unread x1)

abbrev spreadPiece (arg2 : Memref sig .tc .vmem S256x2048 .bf16) (harg2 : arg2.IsWhole) (x1 : Vec Ideal S256x2048 .bf16) (p : Fin 4 × Fin 4) : View.Piece (Elt Ideal) S4x1024x128 .f32 :=
  ⟨spreadRect p.1 p.2, shapeCast S1x256x128 (extf (F := Ideal) .f32 (part arg2 harg2 x1 p.1 p.2) bitsLt_bf16_f32) shapeCasts_S256x128_S1x256x128⟩

/-- The sixteen stores, last first. -/
abbrev order : List (Fin 4 × Fin 4) := [(3, 3), (2, 3), (1, 3), (0, 3), (3, 2), (2, 2), (1, 2), (0, 2), (3, 1), (2, 1), (1, 1), (0, 1), (3, 0), (2, 0), (1, 0), (0, 0)]

theorem mem_order : ∀ p : Fin 4 × Fin 4, p ∈ order := by decide

abbrev spread (arg2 : Memref sig .tc .vmem S256x2048 .bf16) (harg2 : arg2.IsWhole) (x1 : Vec Ideal S256x2048 .bf16) : List (View.Piece (Elt Ideal) S4x1024x128 .f32) :=
  order.map (spreadPiece arg2 harg2 x1)

/-- Column `k` of row `r` of the second half. -/
abbrev halfAt (x1 : Vec Ideal S256x2048 .bf16) (r : Fin 1024) (k : Fin 512) : EReal :=
  x1 (ix2 (⟨r.val / 4, by omega⟩ : Fin 256) (⟨r.val % 4 * 512 + k.val, by omega⟩ : Fin 2048))

/-- What the scratch holds once all sixteen are in. -/
abbrev held (x1 : Vec Ideal S256x2048 .bf16) : S4x1024x128.Idx → EReal := fun y =>
  halfAt x1 (y 1) (⟨(y 0).val * 128 + (y 2).val, by have h0 : (y 0).val < 4 := (y 0).isLt; have h2 : (y 2).val < 128 := (y 2).isLt; omega⟩ : Fin 512)

theorem piece_at (arg2 : Memref sig .tc .vmem S256x2048 .bf16) (harg2 : arg2.IsWhole) (x1 : Vec Ideal S256x2048 .bf16) (s k : Fin 4) (z : S1x256x128.Idx) :
    shapeCast S1x256x128 (extf (F := Ideal) .f32 (part arg2 harg2 x1 s k) bitsLt_bf16_f32) shapeCasts_S256x128_S1x256x128 z = held x1 ((spreadRect s k).emb z) := by
  obtain ⟨q, l, rfl⟩ : ∃ (q : Fin 256) (l : Fin 128), z = (ix3 (0 : Fin 1) q l : S1x256x128.Idx) := ⟨z 1, z 2, funext fun a => by
    match a with
    | ⟨0, _⟩ => exact Fin.ext (by have h : (z 0).val < 1 := (z 0).isLt; show (z 0).val = 0; omega)
    | ⟨1, _⟩ => rfl
    | ⟨2, _⟩ => rfl⟩
  have hs := s.isLt
  have hk := k.isLt
  have hl := l.isLt
  refine (widened_at _ q l).trans ?_
  unfold part
  rw [View.readAt_eq_ld, harg2.read_unread]
  refine View.ld_unit_apply_of x1 _ _ _ _ _ fun a => ?_
  match a with
  | ⟨0, _⟩ => show (k.val + 4 * q.val) / 4 = 0 + q.val; omega
  | ⟨1, _⟩ => show (k.val + 4 * q.val) % 4 * 512 + ((s.val + 1 * 0) * 128 + (0 + 1 * l.val)) = 512 * k.val + 128 * s.val + l.val; omega

abbrev slab (arg2 : Memref sig .tc .vmem S256x2048 .bf16) (harg2 : arg2.IsWhole) (arg9 : Memref sig .tc .vmem S4x1024x128 .f32) (x1 : Vec Ideal S256x2048 .bf16) (s : Fin 4) : Vec Ideal S1x1024x128 .f32 :=
  arg9.view.readCov (spread arg2 harg2 x1) (Rect.unit (s := S4x1024x128) ![s.val, 0, 0] S1x1024x128.size (slab_inb s)).toLoadRect

/-- A slab read back. -/
theorem slab_at (arg2 : Memref sig .tc .vmem S256x2048 .bf16) (harg2 : arg2.IsWhole) (arg9 : Memref sig .tc .vmem S4x1024x128 .f32) (x1 : Vec Ideal S256x2048 .bf16) (s : Fin 4) (r : Fin 1024) (l : Fin 128) (k : Fin 512) (hk : k.val = s.val * 128 + l.val) :
    slab arg2 harg2 arg9 x1 s (ix3 (0 : Fin 1) r l) = halfAt x1 r k := by
  have e : (Rect.unit (s := S4x1024x128) ![s.val, 0, 0] S1x1024x128.size (slab_inb s)).toLoadRect.idx (ix3 (0 : Fin 1) r l : S1x1024x128.Idx) = (ix3 s r l : S4x1024x128.Idx) := funext fun a => Fin.ext (by
    match a with
    | ⟨0, _⟩ => show s.val + 1 * 0 = s.val; omega
    | ⟨1, _⟩ => show 0 + 1 * r.val = r.val; omega
    | ⟨2, _⟩ => show 0 + 1 * l.val = l.val; omega)
  unfold slab
  rw [View.readCov_eq_canon']
  refine (congrArg (View.canon (spread arg2 harg2 x1)) e).trans ?_
  refine (View.canon_apply_of_pieces (held x1) (spread arg2 harg2 x1) ?_ (ix3 s r l : S4x1024x128.Idx) ?_).trans ?_
  · intro p hp
    obtain ⟨⟨s', k'⟩, _, rfl⟩ := List.mem_map.mp hp
    exact piece_at arg2 harg2 x1 s' k'
  · refine ⟨spreadPiece arg2 harg2 x1 (s, (⟨r.val % 4, by omega⟩ : Fin 4)), List.mem_map_of_mem (mem_order _), ?_⟩
    have h : (ix3 s r l : S4x1024x128.Idx) = (spreadRect s (⟨r.val % 4, by omega⟩ : Fin 4)).emb (ix3 (0 : Fin 1) (⟨r.val / 4, by omega⟩ : Fin 256) l : S1x256x128.Idx) := funext fun a => Fin.ext (by
      match a with
      | ⟨0, _⟩ => show s.val = s.val + 1 * 0; omega
      | ⟨1, _⟩ => show r.val = r.val % 4 + 4 * (r.val / 4); omega
      | ⟨2, _⟩ => show l.val = 0 + 1 * l.val; omega)
    rw [h]
    exact (congrArg (_ ∈ ·) (Rect.map_emb_univ (spreadRect s (⟨r.val % 4, by omega⟩ : Fin 4)))).mp (Finset.mem_map_of_mem _ (Finset.mem_univ _))
  · exact congrArg (halfAt x1 r) (Fin.ext hk.symm)

/-! ## The weights kept in the scratch -/

/-- The two halves of the weights, read from the scratch where the point filled it. -/
abbrev filled (arg4 : Memref sig .tc .vmem S1x1024x1024 .f32) (harg4 : arg4.IsWhole) (x3 : Vec Ideal S1x1024x1024 .f32) : List (View.Piece (Elt Ideal) S1024x1024 .bf16) :=
  [⟨Rect.unit ![0, 0] S1024x1024.size inb_S1024x1024_S1024x1024_0_0, k0_pay2 (arg4.view.readAt (Elt Ideal) (Rect.unit (s := S1x1024x1024) ![0, 0, 0] S1x1024x1024.size inb_S1x1024x1024_S1x1024x1024_0_0_0).toLoadRect (harg4.unread x3))⟩]

/-- The weights without their leading axis. -/
abbrev flat (x3 : Vec Ideal S1x1024x1024 .f32) : S1024x1024.Idx → EReal := fun y => x3 (ix3 (0 : Fin 1) (y 0) (y 1))

theorem pay2_eq (arg4 : Memref sig .tc .vmem S1x1024x1024 .f32) (harg4 : arg4.IsWhole) (x3 : Vec Ideal S1x1024x1024 .f32) :
    k0_pay2 (F := Ideal) (arg4.view.readAt (Elt Ideal) (Rect.unit (s := S1x1024x1024) ![0, 0, 0] S1x1024x1024.size inb_S1x1024x1024_S1x1024x1024_0_0_0).toLoadRect (harg4.unread x3)) = flat x3 := by
  rw [View.readAt_eq_ld, harg4.read_unread, View.ld_unit_lit (S := S1x1024x1024) _ x3 (by decide)]
  funext y
  obtain ⟨k, c, rfl⟩ : ∃ (k c : Fin 1024), y = (ix2 k c : S1024x1024.Idx) := ⟨y 0, y 1, funext fun a => by
    match a with
    | ⟨0, _⟩ => rfl
    | ⟨1, _⟩ => rfl⟩
  exact pay2_at x3 k c

theorem half_inb : ∀ s : Fin 2, ∀ a : Fin 2, (![512 * s.val, 0] : Fin 2 → ℕ) a + S512x1024.size a ≤ S1024x1024.size a := by decide

theorem half_idx (o : ℕ) (inb : ∀ a : Fin 2, (![o, 0] : Fin 2 → ℕ) a + S512x1024.size a ≤ S1024x1024.size a) (k : Fin 512) (c : Fin 1024) (K : Fin 1024) (hK : K.val = o + k.val) :
    (Rect.unit (s := S1024x1024) ![o, 0] S512x1024.size inb).emb (ix2 k c : S512x1024.Idx) = (ix2 K c : S1024x1024.Idx) := funext fun a => Fin.ext (by
  match a with
  | ⟨0, _⟩ => show o + 1 * k.val = K.val; omega
  | ⟨1, _⟩ => show 0 + 1 * c.val = c.val; omega)

theorem filled_at (arg4 : Memref sig .tc .vmem S1x1024x1024 .f32) (harg4 : arg4.IsWhole) (arg8 : Memref sig .tc .vmem S1024x1024 .bf16) (x3 : Vec Ideal S1x1024x1024 .f32)
    (o : ℕ) (inb : ∀ a : Fin 2, (![o, 0] : Fin 2 → ℕ) a + S512x1024.size a ≤ S1024x1024.size a) (k : Fin 512) (c : Fin 1024) (K : Fin 1024) (hK : K.val = o + k.val) :
    arg8.view.readCov (filled arg4 harg4 x3) (Rect.unit (s := S1024x1024) ![o, 0] S512x1024.size inb).toLoadRect (ix2 k c : S512x1024.Idx) = flat x3 (ix2 K c) := by
  unfold filled
  rw [pay2_eq]
  refine (congrFun (View.readCov_fill arg8.view inb_S1024x1024_S1024x1024_0_0 _ [] (Rect.unit (s := S1024x1024) ![o, 0] S512x1024.size inb) (by decide)) (ix2 k c)).trans ?_
  exact congrArg (flat x3) (half_idx o inb k c K hK)

theorem kept_at (arg8 : Memref sig .tc .vmem S1024x1024 .bf16) (harg8 : arg8.IsWhole) (xs : Vec Ideal S1024x1024 .bf16)
    (o : ℕ) (inb : ∀ a : Fin 2, (![o, 0] : Fin 2 → ℕ) a + S512x1024.size a ≤ S1024x1024.size a) (k : Fin 512) (c : Fin 1024) (K : Fin 1024) (hK : K.val = o + k.val) :
    arg8.view.readAt (Elt Ideal) (Rect.unit (s := S1024x1024) ![o, 0] S512x1024.size inb).toLoadRect (harg8.unread xs) (ix2 k c : S512x1024.Idx) = xs (ix2 K c) := by
  rw [View.readAt_eq_ld, harg8.read_unread]
  exact congrArg xs (half_idx o inb k c K hK)

theorem whole_emb (y : S1024x1024.Idx) : (Rect.unit (s := S1024x1024) ![0, 0] ![1024, 1024] inb_S1024x1024_S1024x1024_0_0).emb y = y := funext fun a => Fin.ext (by
  match a with
  | ⟨0, _⟩ => show 0 + 1 * (y 0).val = (y 0).val; omega
  | ⟨1, _⟩ => show 0 + 1 * (y 1).val = (y 1).val; omega)

/-! ## The stores -/

abbrev wholeA (arg1 : Memref sig .tc .vmem S1024x512 .bf16) (harg1 : arg1.IsWhole) (x0 : Vec Ideal S1024x512 .bf16) : Vec Ideal S1024x512 .bf16 :=
  arg1.view.readAt (Elt Ideal) (Rect.unit (s := S1024x512) ![0, 0] S1024x512.size inb_S1024x512_S1024x512_0_0).toLoadRect (harg1.unread x0)
abbrev wholeX (arg3 : Memref sig .tc .vmem S1024x1024 .f32) (harg3 : arg3.IsWhole) (x2 : Vec Ideal S1024x1024 .f32) : Vec Ideal S1024x1024 .f32 :=
  arg3.view.readAt (Elt Ideal) (Rect.unit (s := S1024x1024) ![0, 0] S1024x1024.size inb_S1024x1024_S1024x1024_0_0).toLoadRect (harg3.unread x2)
abbrev wholeG (arg5 : Memref sig .tc .vmem S1x1x1024 .f32) (harg5 : arg5.IsWhole) (x4 : Vec Ideal S1x1x1024 .f32) : Vec Ideal S1x1x1024 .f32 :=
  arg5.view.readAt (Elt Ideal) (Rect.unit (s := S1x1x1024) ![0, 0, 0] S1x1x1024.size inb_S1x1x1024_S1x1x1024_0_0_0).toLoadRect (harg5.unread x4)

theorem wholeA_eq (arg1 : Memref sig .tc .vmem S1024x512 .bf16) (harg1 : arg1.IsWhole) (x0 : Vec Ideal S1024x512 .bf16) : wholeA arg1 harg1 x0 = x0 := by
  unfold wholeA
  rw [View.readAt_eq_ld, harg1.read_unread]
  exact View.ld_unit_lit (S := S1024x512) _ x0 (by decide)
theorem wholeX_eq (arg3 : Memref sig .tc .vmem S1024x1024 .f32) (harg3 : arg3.IsWhole) (x2 : Vec Ideal S1024x1024 .f32) : wholeX arg3 harg3 x2 = x2 := by
  unfold wholeX
  rw [View.readAt_eq_ld, harg3.read_unread]
  exact View.ld_unit_lit (S := S1024x1024) _ x2 (by decide)
theorem wholeG_eq (arg5 : Memref sig .tc .vmem S1x1x1024 .f32) (harg5 : arg5.IsWhole) (x4 : Vec Ideal S1x1x1024 .f32) : wholeG arg5 harg5 x4 = x4 := by
  unfold wholeG
  rw [View.readAt_eq_ld, harg5.read_unread]
  exact View.ld_unit_lit (S := S1x1x1024) _ x4 (by decide)

abbrev fresh (arg4 : Memref sig .tc .vmem S1x1024x1024 .f32) (harg4 : arg4.IsWhole) (arg8 : Memref sig .tc .vmem S1024x1024 .bf16) (x3 : Vec Ideal S1x1024x1024 .f32) (s : Fin 2) : Vec Ideal S512x1024 .bf16 :=
  arg8.view.readCov (filled arg4 harg4 x3) (Rect.unit (s := S1024x1024) ![512 * s.val, 0] S512x1024.size (half_inb s)).toLoadRect
abbrev kept (arg8 : Memref sig .tc .vmem S1024x1024 .bf16) (harg8 : arg8.IsWhole) (xs : Vec Ideal S1024x1024 .bf16) (s : Fin 2) : Vec Ideal S512x1024 .bf16 :=
  arg8.view.readAt (Elt Ideal) (Rect.unit (s := S1024x1024) ![512 * s.val, 0] S512x1024.size (half_inb s)).toLoadRect (harg8.unread xs)

/-- The point's rows, from the loads. -/
abbrev rows (v : Fin 4 → Vec Ideal S1x1024x128 .f32) (a : Vec Ideal S1024x512 .bf16) (w : Fin 2 → Vec Ideal S512x1024 .bf16) (x : Vec Ideal S1024x1024 .f32) : FVec Ideal S1024x1024 .f32 :=
  k0_pay21 (F := Ideal) (v 0) (v 1) (v 2) (v 3) a (w 0) (w 1) x
abbrev normed (v : Fin 4 → Vec Ideal S1x1024x128 .f32) (a : Vec Ideal S1024x512 .bf16) (w : Fin 2 → Vec Ideal S512x1024 .bf16) (x : Vec Ideal S1024x1024 .f32) (g : Vec Ideal S1x1x1024 .f32) : FVec Ideal S1024x1024 .bf16 :=
  k0_pay1 (F := Ideal) (k0_pay21 (v 0) (v 1) (v 2) (v 3) a (w 0) (w 1) x) (k0_pay22 g) (k0_pay23 (v 0) (v 1) (v 2) (v 3) a (w 0) (w 1) x)

/-- A row with both halves' products added. -/
abbrev mixed (x0 : Vec Ideal S1024x512 .bf16) (x1 : Vec Ideal S256x2048 .bf16) (x2 : Vec Ideal S1024x1024 .f32) (W : S1024x1024.Idx → EReal) (r c : Fin 1024) : EReal :=
  x2 (ix2 r c) + ((∑ k : Fin 512, x0 (ix2 r k) * W (ix2 (⟨k.val, by omega⟩ : Fin 1024) c)) + ∑ k : Fin 512, halfAt x1 r k * W (ix2 (⟨512 + k.val, by omega⟩ : Fin 1024) c))

theorem rows_at (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg9 : Memref sig .tc .vmem S4x1024x128 .f32)
    (x0 : Vec Ideal S1024x512 .bf16) (x1 : Vec Ideal S256x2048 .bf16) (x2 : Vec Ideal S1024x1024 .f32) (w : Fin 2 → Vec Ideal S512x1024 .bf16) (W : S1024x1024.Idx → EReal)
    (hw : ∀ (s : Fin 2) (k : Fin 512) (c K : Fin 1024), K.val = 512 * s.val + k.val → w s (ix2 k c) = W (ix2 K c)) (r c : Fin 1024) :
    rows (slab arg2 harg2 arg9 x1) (wholeA arg1 harg1 x0) w (wholeX arg3 harg3 x2) (ix2 r c) = mixed x0 x1 x2 W r c := by
  rw [wholeA_eq, wholeX_eq]
  refine (pay21_at (slab arg2 harg2 arg9 x1) x0 (w 0) (w 1) x2 r c).trans ?_
  refine congrArg (x2 (ix2 r c) + ·) (congr (congrArg HAdd.hAdd (Finset.sum_congr rfl fun k _ => ?_)) (Finset.sum_congr rfl fun k _ => ?_))
  · exact congrArg (x0 (ix2 r k) * ·) (hw 0 k c _ (by show k.val = 512 * 0 + k.val; omega))
  · refine congr (congrArg HMul.hMul (slab_at arg2 harg2 arg9 x1 _ r _ k ?_)) (hw 1 k c _ (by show 512 + k.val = 512 * 1 + k.val; omega))
    show k.val = k.val / 128 * 128 + k.val % 128
    omega

theorem normed_at (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg5 : Memref sig .tc .vmem S1x1x1024 .f32) (harg5 : arg5.IsWhole) (arg9 : Memref sig .tc .vmem S4x1024x128 .f32)
    (x0 : Vec Ideal S1024x512 .bf16) (x1 : Vec Ideal S256x2048 .bf16) (x2 : Vec Ideal S1024x1024 .f32) (x4 : Vec Ideal S1x1x1024 .f32) (w : Fin 2 → Vec Ideal S512x1024 .bf16) (W : S1024x1024.Idx → EReal)
    (hw : ∀ (s : Fin 2) (k : Fin 512) (c K : Fin 1024), K.val = 512 * s.val + k.val → w s (ix2 k c) = W (ix2 K c)) (r c : Fin 1024) :
    normed (slab arg2 harg2 arg9 x1) (wholeA arg1 harg1 x0) w (wholeX arg3 harg3 x2) (wholeG arg5 harg5 x4) (ix2 r c)
      = normRow (Ideal.ofBits .f32 0x44800000#32) (Ideal.ofBits .f32 0x358637BD#32) (mixed x0 x1 x2 W r) (fun j => x4 (ix3 (0 : Fin 1) (0 : Fin 1) j)) c := by
  rw [wholeG_eq]
  refine (pay1_at (slab arg2 harg2 arg9 x1) (wholeA arg1 harg1 x0) (w 0) (w 1) (wholeX arg3 harg3 x2) x4 r c).trans ?_
  exact congrArg (fun a => normRow _ _ a (fun j => x4 (ix3 (0 : Fin 1) (0 : Fin 1) j)) c) (funext fun j => rows_at arg1 harg1 arg2 harg2 arg3 harg3 arg9 x0 x1 x2 w W hw r j)

theorem fresh_at (arg4 : Memref sig .tc .vmem S1x1024x1024 .f32) (harg4 : arg4.IsWhole) (arg8 : Memref sig .tc .vmem S1024x1024 .bf16) (x3 : Vec Ideal S1x1024x1024 .f32) (s : Fin 2) (k : Fin 512) (c K : Fin 1024) (hK : K.val = 512 * s.val + k.val) :
    fresh arg4 harg4 arg8 x3 s (ix2 k c) = flat x3 (ix2 K c) := filled_at arg4 harg4 arg8 x3 _ _ k c K hK

theorem keptHalf_at (arg8 : Memref sig .tc .vmem S1024x1024 .bf16) (harg8 : arg8.IsWhole) (xs : Vec Ideal S1024x1024 .bf16) (s : Fin 2) (k : Fin 512) (c K : Fin 1024) (hK : K.val = 512 * s.val + k.val) :
    kept arg8 harg8 xs s (ix2 k c) = xs (ix2 K c) := kept_at arg8 harg8 xs _ _ k c K hK

theorem pieces_A_5 (c : Dev nD) (i : grid0.Coords) (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S4x1024x128 .f32) (harg9 : arg9.IsWhole) (hc0 : cond0_0 i)
    (x0 : Vec Ideal S1024x512 .bf16) (x1 : Vec Ideal S256x2048 .bf16) (x2 : Vec Ideal S1024x1024 .f32) (x3 : Vec Ideal S1x1024x1024 .f32) (x4 : Vec Ideal S1x1x1024 .f32) :
    (kernelRun0_A c i arg1 harg1 arg2 harg2 arg3 harg3 arg4 harg4 arg5 harg5 arg6 harg6 arg7 harg7 arg8 harg8 arg9 harg9 hc0 x0 x1 x2 x3 x4).1
      = [⟨Rect.unit ![0, 0] ![1024, 1024] inb_S1024x1024_S1024x1024_0_0, rows (slab arg2 harg2 arg9 x1) (wholeA arg1 harg1 x0) (fresh arg4 harg4 arg8 x3) (wholeX arg3 harg3 x2)⟩] := rfl

theorem out_A_5_at (c : Dev nD) (i : grid0.Coords) (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S4x1024x128 .f32) (harg9 : arg9.IsWhole) (hc0 : cond0_0 i)
    (x0 : Vec Ideal S1024x512 .bf16) (x1 : Vec Ideal S256x2048 .bf16) (x2 : Vec Ideal S1024x1024 .f32) (x3 : Vec Ideal S1x1024x1024 .f32) (x4 : Vec Ideal S1x1x1024 .f32) (r e : Fin 1024) :
    out0_A_5 c i arg1 harg1 arg2 harg2 arg3 harg3 arg4 harg4 arg5 harg5 arg6 harg6 arg7 harg7 arg8 harg8 arg9 harg9 hc0 x0 x1 x2 x3 x4 (ix2 r e) = mixed x0 x1 x2 (flat x3) r e := by
  refine Eq.trans ?_ (rows_at arg1 harg1 arg2 harg2 arg3 harg3 arg9 x0 x1 x2 (fresh arg4 harg4 arg8 x3) (flat x3) (fresh_at arg4 harg4 arg8 x3) r e)
  unfold out0_A_5
  refine View.read_writes_apply_of_pieces (Val := Elt Ideal) VO0_5 _ (rows (slab arg2 harg2 arg9 x1) (wholeA arg1 harg1 x0) (fresh arg4 harg4 arg8 x3) (wholeX arg3 harg3 x2)) _ ?_ _ (cover0_A_5 c i arg1 harg1 arg2 harg2 arg3 harg3 arg4 harg4 arg5 harg5 arg6 harg6 arg7 harg7 arg8 harg8 arg9 harg9 hc0 x0 x1 x2 x3 x4 _)
  rw [pieces_A_5]
  intro p hp y
  simp only [List.mem_cons, List.not_mem_nil, or_false] at hp
  subst hp
  exact congrArg (rows (slab arg2 harg2 arg9 x1) (wholeA arg1 harg1 x0) (fresh arg4 harg4 arg8 x3) (wholeX arg3 harg3 x2)) (whole_emb y).symm

theorem pieces_A_6 (c : Dev nD) (i : grid0.Coords) (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S4x1024x128 .f32) (harg9 : arg9.IsWhole) (hc0 : cond0_0 i)
    (x0 : Vec Ideal S1024x512 .bf16) (x1 : Vec Ideal S256x2048 .bf16) (x2 : Vec Ideal S1024x1024 .f32) (x3 : Vec Ideal S1x1024x1024 .f32) (x4 : Vec Ideal S1x1x1024 .f32) :
    (kernelRun0_A c i arg1 harg1 arg2 harg2 arg3 harg3 arg4 harg4 arg5 harg5 arg6 harg6 arg7 harg7 arg8 harg8 arg9 harg9 hc0 x0 x1 x2 x3 x4).2.1
      = [⟨Rect.unit ![0, 0] ![1024, 1024] inb_S1024x1024_S1024x1024_0_0, normed (slab arg2 harg2 arg9 x1) (wholeA arg1 harg1 x0) (fresh arg4 harg4 arg8 x3) (wholeX arg3 harg3 x2) (wholeG arg5 harg5 x4)⟩] := rfl

theorem out_A_6_at (c : Dev nD) (i : grid0.Coords) (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S4x1024x128 .f32) (harg9 : arg9.IsWhole) (hc0 : cond0_0 i)
    (x0 : Vec Ideal S1024x512 .bf16) (x1 : Vec Ideal S256x2048 .bf16) (x2 : Vec Ideal S1024x1024 .f32) (x3 : Vec Ideal S1x1024x1024 .f32) (x4 : Vec Ideal S1x1x1024 .f32) (r e : Fin 1024) :
    out0_A_6 c i arg1 harg1 arg2 harg2 arg3 harg3 arg4 harg4 arg5 harg5 arg6 harg6 arg7 harg7 arg8 harg8 arg9 harg9 hc0 x0 x1 x2 x3 x4 (ix2 r e) = normRow (Ideal.ofBits .f32 0x44800000#32) (Ideal.ofBits .f32 0x358637BD#32) (mixed x0 x1 x2 (flat x3) r) (fun j => x4 (ix3 (0 : Fin 1) (0 : Fin 1) j)) e := by
  refine Eq.trans ?_ (normed_at arg1 harg1 arg2 harg2 arg3 harg3 arg5 harg5 arg9 x0 x1 x2 x4 (fresh arg4 harg4 arg8 x3) (flat x3) (fresh_at arg4 harg4 arg8 x3) r e)
  unfold out0_A_6
  refine View.read_writes_apply_of_pieces (Val := Elt Ideal) VO0_6 _ (normed (slab arg2 harg2 arg9 x1) (wholeA arg1 harg1 x0) (fresh arg4 harg4 arg8 x3) (wholeX arg3 harg3 x2) (wholeG arg5 harg5 x4)) _ ?_ _ (cover0_A_6 c i arg1 harg1 arg2 harg2 arg3 harg3 arg4 harg4 arg5 harg5 arg6 harg6 arg7 harg7 arg8 harg8 arg9 harg9 hc0 x0 x1 x2 x3 x4 _)
  rw [pieces_A_6]
  intro p hp y
  simp only [List.mem_cons, List.not_mem_nil, or_false] at hp
  subst hp
  exact congrArg (normed (slab arg2 harg2 arg9 x1) (wholeA arg1 harg1 x0) (fresh arg4 harg4 arg8 x3) (wholeX arg3 harg3 x2) (wholeG arg5 harg5 x4)) (whole_emb y).symm

theorem pieces_B_5 (c : Dev nD) (i : grid0.Coords) (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S4x1024x128 .f32) (harg9 : arg9.IsWhole) (hc0 : ¬cond0_0 i)
    (x0 : Vec Ideal S1024x512 .bf16) (x1 : Vec Ideal S256x2048 .bf16) (x2 : Vec Ideal S1024x1024 .f32) (x3 : Vec Ideal S1x1024x1024 .f32) (x4 : Vec Ideal S1x1x1024 .f32) (xs0 : Vec Ideal S1024x1024 .bf16) :
    (kernelRun0_B c i arg1 harg1 arg2 harg2 arg3 harg3 arg4 harg4 arg5 harg5 arg6 harg6 arg7 harg7 arg8 harg8 arg9 harg9 hc0 x0 x1 x2 x3 x4 xs0).1
      = [⟨Rect.unit ![0, 0] ![1024, 1024] inb_S1024x1024_S1024x1024_0_0, rows (slab arg2 harg2 arg9 x1) (wholeA arg1 harg1 x0) (kept arg8 harg8 xs0) (wholeX arg3 harg3 x2)⟩] := rfl

theorem out_B_5_at (c : Dev nD) (i : grid0.Coords) (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S4x1024x128 .f32) (harg9 : arg9.IsWhole) (hc0 : ¬cond0_0 i)
    (x0 : Vec Ideal S1024x512 .bf16) (x1 : Vec Ideal S256x2048 .bf16) (x2 : Vec Ideal S1024x1024 .f32) (x3 : Vec Ideal S1x1024x1024 .f32) (x4 : Vec Ideal S1x1x1024 .f32) (xs0 : Vec Ideal S1024x1024 .bf16) (r e : Fin 1024) :
    out0_B_5 c i arg1 harg1 arg2 harg2 arg3 harg3 arg4 harg4 arg5 harg5 arg6 harg6 arg7 harg7 arg8 harg8 arg9 harg9 hc0 x0 x1 x2 x3 x4 xs0 (ix2 r e) = mixed x0 x1 x2 xs0 r e := by
  refine Eq.trans ?_ (rows_at arg1 harg1 arg2 harg2 arg3 harg3 arg9 x0 x1 x2 (kept arg8 harg8 xs0) xs0 (keptHalf_at arg8 harg8 xs0) r e)
  unfold out0_B_5
  refine View.read_writes_apply_of_pieces (Val := Elt Ideal) VO0_5 _ (rows (slab arg2 harg2 arg9 x1) (wholeA arg1 harg1 x0) (kept arg8 harg8 xs0) (wholeX arg3 harg3 x2)) _ ?_ _ (cover0_B_5 c i arg1 harg1 arg2 harg2 arg3 harg3 arg4 harg4 arg5 harg5 arg6 harg6 arg7 harg7 arg8 harg8 arg9 harg9 hc0 x0 x1 x2 x3 x4 xs0 _)
  rw [pieces_B_5]
  intro p hp y
  simp only [List.mem_cons, List.not_mem_nil, or_false] at hp
  subst hp
  exact congrArg (rows (slab arg2 harg2 arg9 x1) (wholeA arg1 harg1 x0) (kept arg8 harg8 xs0) (wholeX arg3 harg3 x2)) (whole_emb y).symm

theorem pieces_B_6 (c : Dev nD) (i : grid0.Coords) (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S4x1024x128 .f32) (harg9 : arg9.IsWhole) (hc0 : ¬cond0_0 i)
    (x0 : Vec Ideal S1024x512 .bf16) (x1 : Vec Ideal S256x2048 .bf16) (x2 : Vec Ideal S1024x1024 .f32) (x3 : Vec Ideal S1x1024x1024 .f32) (x4 : Vec Ideal S1x1x1024 .f32) (xs0 : Vec Ideal S1024x1024 .bf16) :
    (kernelRun0_B c i arg1 harg1 arg2 harg2 arg3 harg3 arg4 harg4 arg5 harg5 arg6 harg6 arg7 harg7 arg8 harg8 arg9 harg9 hc0 x0 x1 x2 x3 x4 xs0).2.1
      = [⟨Rect.unit ![0, 0] ![1024, 1024] inb_S1024x1024_S1024x1024_0_0, normed (slab arg2 harg2 arg9 x1) (wholeA arg1 harg1 x0) (kept arg8 harg8 xs0) (wholeX arg3 harg3 x2) (wholeG arg5 harg5 x4)⟩] := rfl

theorem out_B_6_at (c : Dev nD) (i : grid0.Coords) (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S4x1024x128 .f32) (harg9 : arg9.IsWhole) (hc0 : ¬cond0_0 i)
    (x0 : Vec Ideal S1024x512 .bf16) (x1 : Vec Ideal S256x2048 .bf16) (x2 : Vec Ideal S1024x1024 .f32) (x3 : Vec Ideal S1x1024x1024 .f32) (x4 : Vec Ideal S1x1x1024 .f32) (xs0 : Vec Ideal S1024x1024 .bf16) (r e : Fin 1024) :
    out0_B_6 c i arg1 harg1 arg2 harg2 arg3 harg3 arg4 harg4 arg5 harg5 arg6 harg6 arg7 harg7 arg8 harg8 arg9 harg9 hc0 x0 x1 x2 x3 x4 xs0 (ix2 r e) = normRow (Ideal.ofBits .f32 0x44800000#32) (Ideal.ofBits .f32 0x358637BD#32) (mixed x0 x1 x2 xs0 r) (fun j => x4 (ix3 (0 : Fin 1) (0 : Fin 1) j)) e := by
  refine Eq.trans ?_ (normed_at arg1 harg1 arg2 harg2 arg3 harg3 arg5 harg5 arg9 x0 x1 x2 x4 (kept arg8 harg8 xs0) xs0 (keptHalf_at arg8 harg8 xs0) r e)
  unfold out0_B_6
  refine View.read_writes_apply_of_pieces (Val := Elt Ideal) VO0_6 _ (normed (slab arg2 harg2 arg9 x1) (wholeA arg1 harg1 x0) (kept arg8 harg8 xs0) (wholeX arg3 harg3 x2) (wholeG arg5 harg5 x4)) _ ?_ _ (cover0_B_6 c i arg1 harg1 arg2 harg2 arg3 harg3 arg4 harg4 arg5 harg5 arg6 harg6 arg7 harg7 arg8 harg8 arg9 harg9 hc0 x0 x1 x2 x3 x4 xs0 _)
  rw [pieces_B_6]
  intro p hp y
  simp only [List.mem_cons, List.not_mem_nil, or_false] at hp
  subst hp
  exact congrArg (normed (slab arg2 harg2 arg9 x1) (wholeA arg1 harg1 x0) (kept arg8 harg8 xs0) (wholeX arg3 harg3 x2) (wholeG arg5 harg5 x4)) (whole_emb y).symm

theorem sout_A_eq (c : Dev nD) (i : grid0.Coords) (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1024x1024 .f32) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S4x1024x128 .f32) (harg9 : arg9.IsWhole) (hc0 : cond0_0 i)
    (x0 : Vec Ideal S1024x512 .bf16) (x1 : Vec Ideal S256x2048 .bf16) (x2 : Vec Ideal S1024x1024 .f32) (x3 : Vec Ideal S1x1024x1024 .f32) (x4 : Vec Ideal S1x1x1024 .f32) :
    sout0_A_0 c i arg1 harg1 arg2 harg2 arg3 harg3 arg4 harg4 arg5 harg5 arg6 harg6 arg7 harg7 arg8 harg8 arg9 harg9 hc0 x0 x1 x2 x3 x4 = flat x3 := by
  funext z
  unfold sout0_A_0
  refine View.read_writes_apply_of_pieces (Val := Elt Ideal) VS0_0 _ (flat x3) _ ?_ z (scover0_A_0 c i arg1 harg1 arg2 harg2 arg3 harg3 arg4 harg4 arg5 harg5 arg6 harg6 arg7 harg7 arg8 harg8 arg9 harg9 hc0 x0 x1 x2 x3 x4 z)
  rw [show (kernelRun0_A c i arg1 harg1 arg2 harg2 arg3 harg3 arg4 harg4 arg5 harg5 arg6 harg6 arg7 harg7 arg8 harg8 arg9 harg9 hc0 x0 x1 x2 x3 x4).2.2.1 = filled arg4 harg4 x3 from rfl]
  intro p hp y
  simp only [filled, List.mem_cons, List.not_mem_nil, or_false] at hp
  subst hp
  exact (congrFun (pay2_eq arg4 harg4 x3) y).trans (congrArg (flat x3) (whole_emb y).symm)

end Cert.Kernel4Ideal.Value

end
-- ==== Proof.Out.Ref.lean ====
module

public import proofs.«01_k».proof.Proof.Math
public import proofs.«01_k».proof.Proof.Up.Gate
public import proofs.«01_k».proof.Proof.Gen.Reference4Ideal.Read
public import Idealize.ShloMosaic.Lib.ValueIdx
public import Idealize.ShloMosaic.Lib.Pipeline.Value

@[expose] public section

set_option maxRecDepth 16384

noncomputable section

/-! # The output projection's reference, read at an index -/

namespace Cert.Reference4Ideal.Read

open Cert.Reference4Ideal Cert.Reference4Ideal.Gen Idealize.ShloMosaic Idealize.ShloMosaic.ValueIdx
open Cert.Attn (normRow)
open Cert.Up (zero_lit)

/-- Where row `r` of the flattened rows keeps its column `k`. -/
abbrev cell (r : Fin 16384) (k : Fin 512) : S4096x2048.Idx := ix2 (⟨r.val / 4, by omega⟩ : Fin 4096) (⟨r.val % 4 * 512 + k.val, by omega⟩ : Fin 2048)

/-- The row with both halves' products added. -/
abbrev mixed (a : S16384x512.Idx → EReal) (f : S4096x2048.Idx → EReal) (x : S16384x1024.Idx → EReal) (w : S4x1024x1024.Idx → EReal) (r : Fin 16384) (c : Fin 1024) : EReal :=
  x (ix2 r c) + ((∑ k : Fin 512, a (ix2 r k) * w (ix3 (0 : Fin 4) (⟨k.val, by omega⟩ : Fin 1024) c))
    + ∑ k : Fin 512, f (cell r k) * w (ix3 (0 : Fin 4) (⟨512 + k.val, by omega⟩ : Fin 1024) c))

variable (a : S16384x512.Idx → EReal) (f : S4096x2048.Idx → EReal) (x : S16384x1024.Idx → EReal) (w : S4x1024x1024.Idx → EReal) (g : S4x1024.Idx → EReal)

theorem left_at (r : Fin 16384) (k : Fin 512) (d : Fin 1024) (hd : k.val = d.val) : val_main_v3 (F := Ideal) a f (ix2 r d) = a (ix2 r k) := by
  unfold val_main_v3
  refine (concatenate_apply_piece (t := S16384x1024) 1 _ _ _ 0 (by show 0 < 2; omega) S16384x512 _ rfl rfl 0 rfl (ix2 r k)
    (fun a ha => by match a with | ⟨0, _⟩ => rfl | ⟨1, _⟩ => exact (ha rfl).elim) (by show 0 + k.val = d.val; omega)).trans ?_
  rfl

theorem right_at (r : Fin 16384) (k : Fin 512) (d : Fin 1024) (hd : 512 + k.val = d.val) : val_main_v3 (F := Ideal) a f (ix2 r d) = f (cell r k) := by
  unfold val_main_v3
  refine (concatenate_apply_piece (t := S16384x1024) 1 _ _ _ 1 (by show 1 < 2; omega) S16384x512 _ rfl rfl 512 rfl (ix2 r k)
    (fun a ha => by match a with | ⟨0, _⟩ => rfl | ⟨1, _⟩ => exact (ha rfl).elim) (by show 512 + k.val = d.val; exact hd)).trans ?_
  rw [val_main_v2_apply]
  have hk := k.isLt
  refine congrArg f (funext fun b => Fin.ext ?_)
  match b with
  | ⟨0, _⟩ => show (r.val * 512 + k.val) / 2048 = r.val / 4; omega
  | ⟨1, _⟩ => show (r.val * 512 + k.val) % 2048 = r.val % 4 * 512 + k.val; omega

theorem weights_at (k c : Fin 1024) : val_main_v5 (F := Ideal) w (ix2 k c) = w (ix3 (0 : Fin 4) k c) := by
  rw [val_main_v5_apply, val_main_v4_apply]
  have hk := k.isLt
  have hc := c.isLt
  refine congrArg w (funext fun b => Fin.ext ?_)
  match b with
  | ⟨0, _⟩ => rfl
  | ⟨1, _⟩ => show (k.val * 1024 + c.val) / 1024 % 1024 = k.val; omega
  | ⟨2, _⟩ => show (k.val * 1024 + c.val) % 1024 = c.val; omega

/-- The residual row. -/
theorem v7_at (r : Fin 16384) (c : Fin 1024) : val_main_v7 (F := Ideal) a f x w (ix2 r c) = mixed a f x w r c := by
  rw [val_main_v7_apply, val_main_v6_apply]
  refine congrArg (x (ix2 r c) + ·) ?_
  refine (Fin.sum_univ_add (a := 512) (b := 512) _).trans (congr (congrArg HAdd.hAdd (Finset.sum_congr rfl fun k _ => ?_)) (Finset.sum_congr rfl fun k _ => ?_))
  · refine congr (congrArg HMul.hMul ((congrArg (val_main_v3 (F := Ideal) a f) ?_).trans (left_at a f r k ⟨k.val, by omega⟩ rfl))) ((congrArg (val_main_v5 (F := Ideal) w) ?_).trans (weights_at w ⟨k.val, by omega⟩ c))
    · exact funext fun b => by match b with | ⟨0, _⟩ => rfl | ⟨1, _⟩ => rfl
    · exact funext fun b => by match b with | ⟨0, _⟩ => rfl | ⟨1, _⟩ => rfl
  · refine congr (congrArg HMul.hMul ((congrArg (val_main_v3 (F := Ideal) a f) ?_).trans (right_at a f r k ⟨512 + k.val, by omega⟩ rfl))) ((congrArg (val_main_v5 (F := Ideal) w) ?_).trans (weights_at w ⟨512 + k.val, by omega⟩ c))
    · exact funext fun b => by match b with | ⟨0, _⟩ => rfl | ⟨1, _⟩ => rfl
    · exact funext fun b => by match b with | ⟨0, _⟩ => rfl | ⟨1, _⟩ => rfl

theorem squares_at (r : Fin 16384) : val_main_v11 (F := Ideal) a f x w (ix1 r) = ∑ j, mixed a f x w r j * mixed a f x w r j := by
  rw [val_main_v11_apply]
  show Ideal.ofBits .f32 0x00000000#32 + _ = _
  rw [zero_lit, zero_add]
  refine Finset.sum_congr rfl fun j _ => ?_
  rw [show idx_main_v11 (ix1 r) j = ix2 r j from funext fun b => by match b with | ⟨0, _⟩ => rfl | ⟨1, _⟩ => rfl, val_main_v10_apply, v7_at]
  rfl

theorem gain_at (r : Fin 16384) (c : Fin 1024) : val_main_v21 (F := Ideal) g (ix2 r c) = g (ix2 (0 : Fin 4) c) := by
  rw [val_main_v21_apply, val_main_v20_apply, val_main_v9_apply, val_main_v8_apply]
  refine congrArg g (funext fun b => Fin.ext ?_)
  match b with
  | ⟨0, _⟩ => rfl
  | ⟨1, _⟩ => show c.val % 1024 = c.val; have := c.isLt; omega

/-- The normed row. -/
theorem v23_at (r : Fin 16384) (c : Fin 1024) :
    val_main_v23 (F := Ideal) a f x w g (ix2 r c)
      = normRow (Ideal.ofBits .f32 0x44800000#32) (Ideal.ofBits .f32 0x358637BD#32) (mixed a f x w r) (fun j => g (ix2 (0 : Fin 4) j)) c := by
  rw [val_main_v23_apply, val_main_v22_apply, gain_at, val_main_v19_apply, v7_at, val_main_v18_apply, val_main_v17_apply, val_main_v16_apply, val_main_v14_apply, val_main_v12_apply,
    val_main_v13_apply, val_main_v15_apply,
    show idx_main_v12 (idx_main_v18 (ix2 r c)) = ix1 r from funext fun b => by match b with | ⟨0, _⟩ => rfl, squares_at]
  rfl

end Cert.Reference4Ideal.Read

end
-- ==== Proof.Out.Array.lean ====
module

public import proofs.«01_k».proof.Proof.Out.Value
public import proofs.«01_k».proof.Proof.Out.Ref
public import Idealize.ShloMosaic.Lib.StableHlo.RunRead
public import Idealize.ShloMosaic.Lib.Pipeline.ValueKit.Geometry

@[expose] public section

set_option maxRecDepth 16384

noncomputable section

/-! # The output projection's two results, read at an index -/

namespace Cert.Kernel4Ideal.Value

open Cert.Kernel4Ideal Cert.Kernel4Ideal.Gen Idealize.ShloMosaic Idealize.ShloMosaic.TcCoe Idealize.SL.Sem Idealize.ShloMosaic.ValueIdx
open Idealize.ShloMosaic.Pipeline (Dat)
open Cert.Attn (normRow)

variable (m : (ℓ : Loc nD τ sig) → Buf (Elt Ideal) ℓ)

/-! ## The arguments, and the array the host makes -/

abbrev A0 (c : Dev nD) : S16384x512.Idx → EReal := m ((c : Thread nD τ).loc main_arg0)
abbrev A1 (c : Dev nD) : S4096x2048.Idx → EReal := m ((c : Thread nD τ).loc main_arg1)
abbrev A2 (c : Dev nD) : S16384x1024.Idx → EReal := m ((c : Thread nD τ).loc main_arg2)
abbrev A3 (c : Dev nD) : S4x1024x1024.Idx → EReal := m ((c : Thread nD τ).loc main_arg3)
abbrev A4 (c : Dev nD) : S4x1024.Idx → EReal := m ((c : Thread nD τ).loc main_arg4)

theorem V_main_v0 (c : Dev nD) (j : Fin 1024) :
    V m c main_v0 (ix3 (0 : Fin 4) (0 : Fin 1) j) = A4 m c (ix2 (0 : Fin 4) j) := by
  unfold V
  after_reads_simp
  refine shapeCast_apply (s := S4x1024) (α := EReal) (A4 m c) shapeCasts_S4x1024_S4x1x1024 (ix3 (0 : Fin 4) (0 : Fin 1) j) (ix2 (0 : Fin 4) j) ?_
  show ((⟨2, ![4, 1024]⟩ : Shape).rowMajor (ix2 (0 : Fin 4) j)).val = ((⟨3, ![4, 1, 1024]⟩ : Shape).rowMajor (ix3 (0 : Fin 4) (0 : Fin 1) j)).val
  rw [Shape.rowMajor_val_two, Shape.rowMajor_val_three]
  show 0 * 1024 + j.val = (0 * 1 + 0) * 1024 + j.val
  omega

/-! ## The windows' blocks -/

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![t.val, 0] :=
  (by decide +kernel : ∀ t : Fin grid0.N, win0_2.index t = ![t.val, 0])
theorem index3 : ∀ t : Fin cfg0.N, win0_3.index t = ![0, 0, 0] :=
  (by decide +kernel : ∀ t : Fin grid0.N, win0_3.index t = ![0, 0, 0])
theorem index4 : ∀ t : Fin cfg0.N, win0_4.index t = ![0, 0, 0] :=
  (by decide +kernel : ∀ t : Fin grid0.N, win0_4.index t = ![0, 0, 0])
theorem index5 : ∀ t : Fin cfg0.N, win0_5.index t = ![t.val, 0] :=
  (by decide +kernel : ∀ t : Fin grid0.N, win0_5.index t = ![t.val, 0])
theorem index6 : ∀ t : Fin cfg0.N, win0_6.index t = ![t.val, 0] :=
  (by decide +kernel : ∀ t : Fin grid0.N, win0_6.index t = ![t.val, 0])

theorem t_lt (t : Fin cfg0.N) : t.val < 16 := t.isLt

/-- Row `r` of point `t`. -/
abbrev rowOf (t : Fin cfg0.N) (r : Fin 1024) : Fin 16384 := ⟨t.val * 1024 + r.val, by have := t_lt t; omega⟩

theorem iblk0_at (c : Dev nD) (t : Fin cfg0.N) (p : Fin 1024) (e : Fin 512) :
    iblk m c 0 t (ix2 p e) = A0 m c (ix2 (⟨t.val * 1024 + p.val, by have := t_lt t; omega⟩ : Fin 16384) e) := by
  refine Eq.trans ?_ (congrFun (V_main_arg0 m c) _)
  refine congrArg (V m c main_arg0) (funext fun a => Fin.ext ((win0_0.rect_emb_val t (ix2 p e) a).trans ?_))
  refine (congrArg (fun f : Fin 2 → ℕ => f a * win0_0.size a + ((ix2 p e : S1024x512.Idx) a).val) (index0 t)).trans ?_
  match a with
  | ⟨0, _⟩ => rfl
  | ⟨1, _⟩ => show 0 * 512 + e.val = e.val; omega

theorem iblk1_at (c : Dev nD) (t : Fin cfg0.N) (p : Fin 256) (e : Fin 2048) :
    iblk m c 1 t (ix2 p e) = A1 m c (ix2 (⟨t.val * 256 + p.val, by have := t_lt t; omega⟩ : Fin 4096) e) := by
  refine Eq.trans ?_ (congrFun (V_main_arg1 m c) _)
  refine congrArg (V m c main_arg1) (funext fun a => Fin.ext ((win0_1.rect_emb_val t (ix2 p e) a).trans ?_))
  refine (congrArg (fun f : Fin 2 → ℕ => f a * win0_1.size a + ((ix2 p e : S256x2048.Idx) a).val) (index1 t)).trans ?_
  match a with
  | ⟨0, _⟩ => rfl
  | ⟨1, _⟩ => show 0 * 2048 + e.val = e.val; omega

theorem iblk2_at (c : Dev nD) (t : Fin cfg0.N) (p : Fin 1024) (e : Fin 1024) :
    iblk m c 2 t (ix2 p e) = A2 m c (ix2 (⟨t.val * 1024 + p.val, by have := t_lt t; omega⟩ : Fin 16384) e) := by
  refine Eq.trans ?_ (congrFun (V_main_arg2 m c) _)
  refine congrArg (V m c main_arg2) (funext fun a => Fin.ext ((win0_2.rect_emb_val t (ix2 p e) a).trans ?_))
  refine (congrArg (fun f : Fin 2 → ℕ => f a * win0_2.size a + ((ix2 p e : S1024x1024.Idx) a).val) (index2 t)).trans ?_
  match a with
  | ⟨0, _⟩ => rfl
  | ⟨1, _⟩ => show 0 * 1024 + e.val = e.val; omega

theorem iblk3_at (c : Dev nD) (t : Fin cfg0.N) (k e : Fin 1024) :
    iblk m c 3 t (ix3 (0 : Fin 1) k e) = A3 m c (ix3 (0 : Fin 4) k e) := by
  refine Eq.trans ?_ (congrFun (V_main_arg3 m c) _)
  refine congrArg (V m c main_arg3) (funext fun a => Fin.ext ((win0_3.rect_emb_val t (ix3 (0 : Fin 1) k e) a).trans ?_))
  refine (congrArg (fun f : Fin 3 → ℕ => f a * win0_3.size a + ((ix3 (0 : Fin 1) k e : S1x1024x1024.Idx) a).val) (index3 t)).trans ?_
  match a with
  | ⟨0, _⟩ => rfl
  | ⟨1, _⟩ => show 0 * 1024 + k.val = k.val; omega
  | ⟨2, _⟩ => show 0 * 1024 + e.val = e.val; omega

theorem iblk4_at (c : Dev nD) (t : Fin cfg0.N) (j : Fin 1024) :
    iblk m c 4 t (ix3 (0 : Fin 1) (0 : Fin 1) j) = A4 m c (ix2 (0 : Fin 4) j) := by
  refine Eq.trans ?_ (V_main_v0 m c j)
  refine congrArg (V m c main_v0) (funext fun a => Fin.ext ((win0_4.rect_emb_val t (ix3 (0 : Fin 1) (0 : Fin 1) j) a).trans ?_))
  refine (congrArg (fun f : Fin 3 → ℕ => f a * win0_4.size a + ((ix3 (0 : Fin 1) (0 : Fin 1) j : S1x1x1024.Idx) a).val) (index4 t)).trans ?_
  match a with
  | ⟨0, _⟩ => rfl
  | ⟨1, _⟩ => rfl
  | ⟨2, _⟩ => show 0 * 1024 + j.val = j.val; omega

/-! ## The scratch carried from point to point -/

/-- The weights of layer 0. -/
abbrev weights (c : Dev nD) : S1024x1024.Idx → EReal := fun y => A3 m c (ix3 (0 : Fin 4) (y 0) (y 1))

theorem flat_iblk3 (c : Dev nD) (t : Fin cfg0.N) : flat (iblk m c 3 t) = weights m c :=
  funext fun y => iblk3_at m c t (y 0) (y 1)

theorem scratch_eq (c : Dev nD) : ∀ (n : ℕ) (hn : n < cfg0.N), (outsAt0 m c n hn).2.2 = weights m c := by
  intro n
  induction n with
  | zero =>
    intro hn
    have e : outsAt0 m c 0 hn = _ := outsAt0_A m c ⟨0, hn⟩ (Nat.zero_mod 16)
    rw [e]
    dsimp only
    rw [sout_A_eq]
    exact flat_iblk3 m c _
  | succ n ih =>
    intro hn
    have h16 : n + 1 < 16 := hn
    have e : outsAt0 m c (n + 1) hn = _ := outsAt0_B m c ⟨n + 1, hn⟩ (by show ¬(n + 1) % 16 = 0; omega)
    rw [e]
    dsimp only
    unfold sout0_B_0
    exact ih _

/-! ## What a point leaves -/

/-- The first result from the arguments. -/
def sumOf (c : Dev nD) : S16384x1024.Idx → EReal := fun y =>
  Cert.Reference4Ideal.Read.mixed (A0 m c) (A1 m c) (A2 m c) (A3 m c) (y 0) (y 1)

/-- The second result from the arguments. -/
def normOf (c : Dev nD) : S16384x1024.Idx → EReal := fun y =>
  normRow (Ideal.ofBits .f32 0x44800000#32) (Ideal.ofBits .f32 0x358637BD#32) (Cert.Reference4Ideal.Read.mixed (A0 m c) (A1 m c) (A2 m c) (A3 m c) (y 0)) (fun j => A4 m c (ix2 (0 : Fin 4) j)) (y 1)

theorem half_iblk1 (c : Dev nD) (t : Fin cfg0.N) (r : Fin 1024) (k : Fin 512) :
    halfAt (iblk m c 1 t) r k = A1 m c (Cert.Reference4Ideal.Read.cell (rowOf t r) k) := by
  refine (iblk1_at m c t _ _).trans (congrArg (A1 m c) (funext fun a => Fin.ext ?_))
  match a with
  | ⟨0, _⟩ => show t.val * 256 + r.val / 4 = (t.val * 1024 + r.val) / 4; omega
  | ⟨1, _⟩ => show r.val % 4 * 512 + k.val = (t.val * 1024 + r.val) % 4 * 512 + k.val; omega

theorem mixed_iblk (c : Dev nD) (t : Fin cfg0.N) (r e : Fin 1024) :
    mixed (iblk m c 0 t) (iblk m c 1 t) (iblk m c 2 t) (weights m c) r e
      = Cert.Reference4Ideal.Read.mixed (A0 m c) (A1 m c) (A2 m c) (A3 m c) (rowOf t r) e := by
  unfold mixed Cert.Reference4Ideal.Read.mixed
  refine congr (congrArg HAdd.hAdd (iblk2_at m c t r e)) (congr (congrArg HAdd.hAdd (Finset.sum_congr rfl fun k _ => ?_)) (Finset.sum_congr rfl fun k _ => ?_))
  · exact congrArg (· * _) (iblk0_at m c t r k)
  · exact congrArg (· * _) (half_iblk1 m c t r k)

theorem gains_iblk (c : Dev nD) (t : Fin cfg0.N) : (fun j => iblk m c 4 t (ix3 (0 : Fin 1) (0 : Fin 1) j)) = fun j => A4 m c (ix2 (0 : Fin 4) j) :=
  funext fun j => iblk4_at m c t j

theorem after5_at (c : Dev nD) (t : Fin cfg0.N) (r e : Fin 1024) :
    ((dats m 0 c).after 5 t : S1024x1024.Idx → EReal) (ix2 r e) = sumOf m c (ix2 (rowOf t r) e) := by
  rw [after0_5]
  refine Eq.trans ?_ (mixed_iblk m c t r e)
  by_cases h0 : t.val % 16 = 0
  · rw [outsAt0_A m c t h0, ← flat_iblk3 m c t]
    dsimp only
    rw [out_A_5_at]
  · rw [outsAt0_B m c t h0, ← scratch_eq m c (t.val - 1) (by have := t_lt t; show t.val - 1 < 16; omega)]
    dsimp only
    rw [out_B_5_at]

theorem after6_at (c : Dev nD) (t : Fin cfg0.N) (r e : Fin 1024) :
    ((dats m 0 c).after 6 t : S1024x1024.Idx → EReal) (ix2 r e) = normOf m c (ix2 (rowOf t r) e) := by
  rw [after0_6]
  have hn : normOf m c (ix2 (rowOf t r) e) = normRow (Ideal.ofBits .f32 0x44800000#32) (Ideal.ofBits .f32 0x358637BD#32) (mixed (iblk m c 0 t) (iblk m c 1 t) (iblk m c 2 t) (weights m c) r) (fun j => iblk m c 4 t (ix3 (0 : Fin 1) (0 : Fin 1) j)) e := by
    rw [gains_iblk, show mixed (iblk m c 0 t) (iblk m c 1 t) (iblk m c 2 t) (weights m c) r = Cert.Reference4Ideal.Read.mixed (A0 m c) (A1 m c) (A2 m c) (A3 m c) (rowOf t r) from funext fun j => mixed_iblk m c t r j]
    rfl
  rw [hn]
  by_cases h0 : t.val % 16 = 0
  · rw [outsAt0_A m c t h0, ← flat_iblk3 m c t]
    dsimp only
    rw [out_A_6_at]
  · rw [outsAt0_B m c t h0, ← scratch_eq m c (t.val - 1) (by have := t_lt t; show t.val - 1 < 16; omega)]
    dsimp only
    rw [out_B_6_at]

/-! ## The result arrays -/

theorem arr_eq5 (c : Dev nD) : (dats m 0 c).arrAt 5 cfg0.N = sumOf m c := by
  refine (dats m 0 c).arrAt_eq_of_covers 5 _ (by decide +kernel) fun t hf y => ?_
  obtain ⟨r, e, rfl⟩ : ∃ (r e : Fin 1024), y = (ix2 r e : S1024x1024.Idx) := ⟨y 0, y 1, funext fun a => by
    match a with
    | ⟨0, _⟩ => rfl
    | ⟨1, _⟩ => rfl⟩
  have hG : (((cfg0.win 5).blk t).view.emb (ix2 r e : S1024x1024.Idx) : S16384x1024.Idx) = ix2 (rowOf t r) e := by
    refine funext fun a => Fin.ext ((win0_5.rect_emb_val t (ix2 r e) a).trans ?_)
    refine (congrArg (fun f : Fin 2 → ℕ => f a * win0_5.size a + ((ix2 r e : S1024x1024.Idx) a).val) (index5 t)).trans ?_
    match a with
    | ⟨0, _⟩ => rfl
    | ⟨1, _⟩ => show 0 * 1024 + e.val = e.val; omega
  exact (after5_at m c t r e).trans (congrArg (sumOf m c) hG.symm)

theorem arr_eq6 (c : Dev nD) : (dats m 0 c).arrAt 6 cfg0.N = normOf m c := by
  refine (dats m 0 c).arrAt_eq_of_covers 6 _ (by decide +kernel) fun t hf y => ?_
  obtain ⟨r, e, rfl⟩ : ∃ (r e : Fin 1024), y = (ix2 r e : S1024x1024.Idx) := ⟨y 0, y 1, funext fun a => by
    match a with
    | ⟨0, _⟩ => rfl
    | ⟨1, _⟩ => rfl⟩
  have hG : (((cfg0.win 6).blk t).view.emb (ix2 r e : S1024x1024.Idx) : S16384x1024.Idx) = ix2 (rowOf t r) e := by
    refine funext fun a => Fin.ext ((win0_6.rect_emb_val t (ix2 r e) a).trans ?_)
    refine (congrArg (fun f : Fin 2 → ℕ => f a * win0_6.size a + ((ix2 r e : S1024x1024.Idx) a).val) (index6 t)).trans ?_
    match a with
    | ⟨0, _⟩ => rfl
    | ⟨1, _⟩ => show 0 * 1024 + e.val = e.val; omega
  exact (after6_at m c t r e).trans (congrArg (normOf m c) hG.symm)

end Cert.Kernel4Ideal.Value

end
-- ==== Proof.Out.Claims.lean ====
module

public import proofs.«01_k».proof.Proof.Out.Array
public import proofs.«01_k».proof.Proof.Gen.Kernel4.Frame
public import proofs.«01_k».proof.Proof.Gen.Reference4Ideal.Run
public import proofs.«01_k».proof.Defs

@[expose] public section

set_option maxRecDepth 16384

noncomputable section

/-! # The claims about the output projection -/

namespace Cert.Out

open Idealize.ShloMosaic Idealize.ShloMosaic.TcCoe Idealize.SL.Sem Idealize.ShloMosaic.ValueIdx

theorem frame : Cert.quiescent_Kernel4 (hKernel4 := Cert.Kernel4.Gen.facts) := fun m g _ => Cert.Kernel4.Gen.frame m g

theorem frameIdeal : Cert.quiescent_Kernel4Ideal (hKernel4Ideal := Cert.Kernel4Ideal.Gen.facts) := fun m g _ => Cert.Kernel4Ideal.Gen.frame m g

theorem frameRef : Cert.quiescent_Reference4Ideal (hReference4Ideal := Cert.Reference4Ideal.Gen.facts) := fun m g _ =>
  (θ_run Cert.Reference4Ideal.defs _ _).mono (fun r h => ⟨fun c => (h c).2.2, sem_eq_zero_of_no_sems (by decide) r.2⟩)
    (Cert.Reference4Ideal.Value.run (F := Ideal) m g)

open Cert.Kernel4Ideal Cert.Kernel4Ideal.Gen in
/-- The run with the results named. -/
theorem run_named (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c : Thread nD τ).loc main_v1_0) = Cert.Kernel4Ideal.Value.sumOf m c
      ∧ r.2.mem ((c : Thread nD τ).loc main_v1_1) = Cert.Kernel4Ideal.Value.normOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h.1 c).1 5).trans (Cert.Kernel4Ideal.Value.arr_eq5 m c), ((h.1 c).1 6).trans (Cert.Kernel4Ideal.Value.arr_eq6 m c), h.2 c⟩)
    (θ_run_and (run_main m g) (unchanged m g))

/-- The first result is the reference's. -/
theorem sumOf_eq (m : (ℓ : Loc Cert.Kernel4Ideal.nD Cert.Kernel4Ideal.τ Cert.Kernel4Ideal.sig) → Buf (Elt Ideal) ℓ) (c : Dev Cert.Kernel4Ideal.nD) :
    Cert.Kernel4Ideal.Value.sumOf m c = Cert.Reference4Ideal.Read.val_main_v7 (F := Ideal) (Cert.Kernel4Ideal.Value.A0 m c) (Cert.Kernel4Ideal.Value.A1 m c) (Cert.Kernel4Ideal.Value.A2 m c) (Cert.Kernel4Ideal.Value.A3 m c) := by
  funext y
  obtain ⟨r, e, rfl⟩ : ∃ (r : Fin 16384) (e : Fin 1024), y = (ix2 r e : Cert.Kernel4Ideal.S16384x1024.Idx) := ⟨y 0, y 1, funext fun a => by
    match a with
    | ⟨0, _⟩ => rfl
    | ⟨1, _⟩ => rfl⟩
  exact (Cert.Reference4Ideal.Read.v7_at _ _ _ _ r e).symm

/-- The second result is the reference's. -/
theorem normOf_eq (m : (ℓ : Loc Cert.Kernel4Ideal.nD Cert.Kernel4Ideal.τ Cert.Kernel4Ideal.sig) → Buf (Elt Ideal) ℓ) (c : Dev Cert.Kernel4Ideal.nD) :
    Cert.Kernel4Ideal.Value.normOf m c = Cert.Reference4Ideal.Read.val_main_v23 (F := Ideal) (Cert.Kernel4Ideal.Value.A0 m c) (Cert.Kernel4Ideal.Value.A1 m c) (Cert.Kernel4Ideal.Value.A2 m c) (Cert.Kernel4Ideal.Value.A3 m c) (Cert.Kernel4Ideal.Value.A4 m c) := by
  funext y
  obtain ⟨r, e, rfl⟩ : ∃ (r : Fin 16384) (e : Fin 1024), y = (ix2 r e : Cert.Kernel4Ideal.S16384x1024.Idx) := ⟨y 0, y 1, funext fun a => by
    match a with
    | ⟨0, _⟩ => rfl
    | ⟨1, _⟩ => rfl⟩
  exact (Cert.Reference4Ideal.Read.v23_at _ _ _ _ _ r e).symm

theorem values : Cert.algebraic_Kernel4Ideal_Reference4Ideal (hKernel4Ideal := Cert.Kernel4Ideal.Gen.facts) (hReference4Ideal := Cert.Reference4Ideal.Gen.facts) := by
  intro m g m' g' _ hargs
  refine ⟨fun c => Cert.Kernel4Ideal.Value.sumOf m c, fun c => Cert.Kernel4Ideal.Value.normOf m c, run_named m g, ?_⟩
  refine (θ_run Cert.Reference4Ideal.defs _ _).mono (fun r h c => ⟨(h c).1.trans ?_, (h c).2.1.trans ?_, (h c).2.2⟩) (Cert.Reference4Ideal.Value.run (F := Ideal) m' g')
  · obtain ⟨a0, a1, a2, a3, a4⟩ := hargs c
    rw [Cert.Reference4Ideal.Read.val_main_v7_eq, a0, a1, a2, a3]
    exact (sumOf_eq m c).symm
  · obtain ⟨a0, a1, a2, a3, a4⟩ := hargs c
    rw [Cert.Reference4Ideal.Read.val_main_v23_eq, a0, a1, a2, a3, a4]
    exact (normOf_eq m c).symm

end Cert.Out

end
-- ==== Proof.Proj.Pay.lean ====
module

public import proofs.«01_k».proof.Proof.Math
public import proofs.«01_k».proof.Proof.Up.Gate
public import proofs.«01_k».proof.Proof.Gen.Kernel5Ideal.Skeleton
public import Idealize.ShloMosaic.Lib.ValueIdx
public import Idealize.ShloMosaic.Lib.MatmulPlain
public import Idealize.ShloMosaic.Lib.Pipeline.Value
public import Idealize.ShloMosaic.PureOps.Ideal.Laws

@[expose] public section

set_option maxRecDepth 16384

noncomputable section

/-! # The input projection's arithmetic, read at an index -/

namespace Cert.Kernel5Ideal.Value

open Cert.Kernel5Ideal Cert.Kernel5Ideal.Gen Idealize.ShloMosaic Idealize.ShloMosaic.ValueIdx
open Cert.Attn (normRow)
open Cert.Up (zero_lit)

theorem product (a : FVec Ideal S1024x1024 .bf16) (w : FVec Ideal S1024x1280 .bf16) (r : Fin 1024) (c : Fin 1280) :
    matmul (F := Ideal) dot_S1024x1024_S1024x1280_S1024x1280_1_0_0_1_n_n none a w (constant S1024x1280 .f32 0x00000000#32) (ix2 r c)
      = ∑ k : Fin 1024, a (ix2 r k) * w (ix2 k c) := by
  refine (Ideal.matmul_plain_apply (M := 1024) (K := 1024) (N := 1280) (φ₁ := .bf16) (φ₂ := .bf16) none a w (constant S1024x1280 .f32 0x00000000#32) r c).trans ?_
  show Ideal.ofBits .f32 0x00000000#32 + _ = _
  rw [zero_lit, zero_add]

theorem gain_at (g : Vec Ideal S1x1x1024 .f32) (c : Fin 1024) : shapeCast S1x1024 g shapeCasts_S1x1x1024_S1x1024 (ix2 (0 : Fin 1) c) = g (ix3 (0 : Fin 1) (0 : Fin 1) c) :=
  shapeCast_apply _ _ _ _ (by rw [Shape.rowMajor_val_two, Shape.rowMajor_val_three]; show (0 * 1 + 0) * 1024 + c.val = 0 * 1024 + c.val; omega)

/-- The weights the scratch keeps. -/
theorem pay1_at (w : Vec Ideal S1x1024x1280 .f32) (k : Fin 1024) (c : Fin 1280) : k0_pay1 (F := Ideal) w (ix2 k c) = w (ix3 (0 : Fin 1) k c) := by
  unfold k0_pay1
  refine (shapeCast_apply _ _ (ix2 k c) (ix2 k c) rfl).trans ?_
  exact shapeCast_apply _ _ _ _ (by rw [Shape.rowMajor_val_two, Shape.rowMajor_val_three]; show (0 * 1024 + k.val) * 1280 + c.val = k.val * 1280 + c.val; omega)

/-- A column of one entry per row. -/
theorem column_at (x : FVec Ideal S1024 .f32) (r : Fin 1024) : shapeCast S1024x1 x shapeCasts_S1024_S1024x1 (ix2 r (0 : Fin 1)) = x (ix1 r) :=
  shapeCast_apply _ _ _ _ (by rw [Shape.rowMajor_val_one, Shape.rowMajor_val_two]; show r.val = r.val * 1 + 0; omega)

/-- The normed row against a column of the weights. -/
abbrev proj (x : S1024x1024.Idx → EReal) (g : S1x1x1024.Idx → EReal) (w : S1024x1280.Idx → EReal) (r : Fin 1024) (c : Fin 1280) : EReal :=
  ∑ k : Fin 1024, normRow (Ideal.ofBits .f32 0x44800000#32) (Ideal.ofBits .f32 0x358637BD#32) (fun j => x (ix2 r j)) (fun j => g (ix3 (0 : Fin 1) (0 : Fin 1) j)) k * w (ix2 k c)

theorem pay2_at (x : Vec Ideal S1024x1024 .f32) (g : Vec Ideal S1x1x1024 .f32) (w : Vec Ideal S1024x1280 .bf16) (r : Fin 1024) (c : Fin 1280) :
    k0_pay2 (F := Ideal) x g w (ix2 r c) = proj x g w r c := by
  unfold k0_pay2 proj
  dsimp only
  refine (product _ w r c).trans (Finset.sum_congr rfl fun k _ => congrArg (· * w (ix2 k c)) ?_)
  unfold normRow
  rw [truncf_apply, mulf_apply, mulf_apply,
    broadcastTo_apply (shapeCast S1x1024 g shapeCasts_S1x1x1024_S1x1024) broadcasts_S1x1024_S1024x1024 (ix2 r k) (ix2 (0 : Fin 1) k) fun b => by match b with | ⟨0, _⟩ => rfl | ⟨1, _⟩ => rfl,
    broadcastTo_apply _ broadcasts_S1024x1_S1024x1024 (ix2 r k) (ix2 r (0 : Fin 1)) fun b => by match b with | ⟨0, _⟩ => rfl | ⟨1, _⟩ => rfl, gain_at]
  refine congrArg (fun z => x (ix2 r k) * Ideal.rsqrt (Ideal.div z (Ideal.ofBits .f32 0x44800000#32) + Ideal.ofBits .f32 0x358637BD#32) * g (ix3 (0 : Fin 1) (0 : Fin 1) k)) ?_
  rw [column_at, Ideal.multiReduction_add_single (mulf x x) 0x00000000#32 reduces_S1024x1024_S1024 (.inl rfl) rfl (ix1 r)]
  refine Finset.sum_congr rfl fun j _ => ?_
  refine congrArg (fun i => x i * x i) (funext fun b => Fin.ext (by match b with | ⟨0, _⟩ => rfl | ⟨1, _⟩ => rfl))

theorem pay18_at (z : FVec Ideal S1024x1280 .f32) (r : Fin 1024) (l : Fin 128) : k0_pay18 (F := Ideal) z (ix2 r l) = z (ix2 r (⟨640 + l.val, by omega⟩ : Fin 1280)) := by
  unfold k0_pay18
  refine extractStridedSlice_apply (α := EReal) ![0, 640] z slices_S1024x1280_o0_640_S1024x128 (ix2 r l) (ix2 r (⟨640 + l.val, by omega⟩ : Fin 1280)) fun a => ?_
  match a with
  | ⟨0, _⟩ => show r.val = 0 + r.val; omega
  | ⟨1, _⟩ => rfl

theorem pay19_at (z : FVec Ideal S1024x1280 .f32) (r : Fin 1024) (l : Fin 512) : k0_pay19 (F := Ideal) z (ix2 r l) = z (ix2 r (⟨768 + l.val, by omega⟩ : Fin 1280)) := by
  unfold k0_pay19
  refine extractStridedSlice_apply (α := EReal) ![0, 768] z slices_S1024x1280_o0_768_S1024x512 (ix2 r l) (ix2 r (⟨768 + l.val, by omega⟩ : Fin 1280)) fun a => ?_
  match a with
  | ⟨0, _⟩ => show r.val = 0 + r.val; omega
  | ⟨1, _⟩ => rfl

end Cert.Kernel5Ideal.Value

end
-- ==== Proof.Proj.Value.lean ====
module

public import proofs.«01_k».proof.Proof.Proj.Pay
public import proofs.«01_k».proof.Proof.Gen.Kernel5Ideal.Frame
public import Idealize.ShloMosaic.Lib.Pipeline.ReadBack
public import Idealize.ShloMosaic.Lib.Pipeline.ValueKit.Basic
public import Idealize.ShloMosaic.Lib.Pipeline.ValueKit.Tiles
public import Idealize.ShloMosaic.Lib.Writes

@[expose] public section

set_option maxRecDepth 16384

noncomputable section

/-! # What a point of the input projection leaves in its blocks -/

namespace Cert.Kernel5Ideal.Value

open Cert.Kernel5Ideal Cert.Kernel5Ideal.Gen Idealize.ShloMosaic Idealize.ShloMosaic.TcCoe Idealize.SL.Sem Idealize.ShloMosaic.ValueIdx
open Cert.Attn (normRow)

/-! ## The weights kept in the scratch -/

/-- The weights' block without its leading axis, as the point that fills the scratch stores it. -/
abbrev filled (arg3 : Memref sig .tc .vmem S1x1024x1280 .f32) (harg3 : arg3.IsWhole) (x2 : Vec Ideal S1x1024x1280 .f32) : List (View.Piece (Elt Ideal) S1024x1280 .bf16) :=
  [⟨Rect.unit ![0, 0] S1024x1280.size inb_S1024x1280_S1024x1280_0_0, k0_pay1 (arg3.view.readAt (Elt Ideal) (Rect.unit (s := S1x1024x1280) ![0, 0, 0] S1x1024x1280.size inb_S1x1024x1280_S1x1024x1280_0_0_0).toLoadRect (harg3.unread x2))⟩]

/-- The weights without their leading axis. -/
abbrev flat (x2 : Vec Ideal S1x1024x1280 .f32) : S1024x1280.Idx → EReal := fun y => x2 (ix3 (0 : Fin 1) (y 0) (y 1))

theorem pay1_eq (arg3 : Memref sig .tc .vmem S1x1024x1280 .f32) (harg3 : arg3.IsWhole) (x2 : Vec Ideal S1x1024x1280 .f32) :
    k0_pay1 (F := Ideal) (arg3.view.readAt (Elt Ideal) (Rect.unit (s := S1x1024x1280) ![0, 0, 0] S1x1024x1280.size inb_S1x1024x1280_S1x1024x1280_0_0_0).toLoadRect (harg3.unread x2)) = flat x2 := by
  rw [View.readAt_eq_ld, harg3.read_unread, View.ld_unit_lit (S := S1x1024x1280) _ x2 (by decide)]
  funext y
  obtain ⟨k, c, rfl⟩ : ∃ (k : Fin 1024) (c : Fin 1280), y = (ix2 k c : S1024x1280.Idx) := ⟨y 0, y 1, funext fun a => by
    match a with
    | ⟨0, _⟩ => rfl
    | ⟨1, _⟩ => rfl⟩
  exact pay1_at x2 k c

theorem emb1280 (y : S1024x1280.Idx) : (Rect.unit (s := S1024x1280) ![0, 0] S1024x1280.size inb_S1024x1280_S1024x1280_0_0).emb y = y := funext fun a => Fin.ext (by
  match a with
  | ⟨0, _⟩ => show 0 + 1 * (y 0).val = (y 0).val; omega
  | ⟨1, _⟩ => show 0 + 1 * (y 1).val = (y 1).val; omega)

theorem emb128 (y : S1024x128.Idx) : (Rect.unit (s := S1024x128) ![0, 0] S1024x128.size inb_S1024x128_S1024x128_0_0).emb y = y := funext fun a => Fin.ext (by
  match a with
  | ⟨0, _⟩ => show 0 + 1 * (y 0).val = (y 0).val; omega
  | ⟨1, _⟩ => show 0 + 1 * (y 1).val = (y 1).val; omega)

theorem emb512 (y : S1024x512.Idx) : (Rect.unit (s := S1024x512) ![0, 0] S1024x512.size inb_S1024x512_S1024x512_0_0).emb y = y := funext fun a => Fin.ext (by
  match a with
  | ⟨0, _⟩ => show 0 + 1 * (y 0).val = (y 0).val; omega
  | ⟨1, _⟩ => show 0 + 1 * (y 1).val = (y 1).val; omega)

/-! ## The loads -/

abbrev wholeX (arg1 : Memref sig .tc .vmem S1024x1024 .f32) (harg1 : arg1.IsWhole) (x0 : Vec Ideal S1024x1024 .f32) : Vec Ideal S1024x1024 .f32 :=
  arg1.view.readAt (Elt Ideal) (Rect.unit (s := S1024x1024) ![0, 0] S1024x1024.size inb_S1024x1024_S1024x1024_0_0).toLoadRect (harg1.unread x0)
abbrev wholeG (arg2 : Memref sig .tc .vmem S1x1x1024 .f32) (harg2 : arg2.IsWhole) (x1 : Vec Ideal S1x1x1024 .f32) : Vec Ideal S1x1x1024 .f32 :=
  arg2.view.readAt (Elt Ideal) (Rect.unit (s := S1x1x1024) ![0, 0, 0] S1x1x1024.size inb_S1x1x1024_S1x1x1024_0_0_0).toLoadRect (harg2.unread x1)
abbrev fresh (arg3 : Memref sig .tc .vmem S1x1024x1280 .f32) (harg3 : arg3.IsWhole) (arg14 : Memref sig .tc .vmem S1024x1280 .bf16) (x2 : Vec Ideal S1x1024x1280 .f32) : Vec Ideal S1024x1280 .bf16 :=
  arg14.view.readCov (filled arg3 harg3 x2) (Rect.unit (s := S1024x1280) ![0, 0] S1024x1280.size inb_S1024x1280_S1024x1280_0_0).toLoadRect
abbrev kept (arg14 : Memref sig .tc .vmem S1024x1280 .bf16) (harg14 : arg14.IsWhole) (xs : Vec Ideal S1024x1280 .bf16) : Vec Ideal S1024x1280 .bf16 :=
  arg14.view.readAt (Elt Ideal) (Rect.unit (s := S1024x1280) ![0, 0] S1024x1280.size inb_S1024x1280_S1024x1280_0_0).toLoadRect (harg14.unread xs)

theorem wholeX_eq (arg1 : Memref sig .tc .vmem S1024x1024 .f32) (harg1 : arg1.IsWhole) (x0 : Vec Ideal S1024x1024 .f32) : wholeX arg1 harg1 x0 = x0 := by
  unfold wholeX
  rw [View.readAt_eq_ld, harg1.read_unread]
  exact View.ld_unit_lit (S := S1024x1024) _ x0 (by decide)
theorem wholeG_eq (arg2 : Memref sig .tc .vmem S1x1x1024 .f32) (harg2 : arg2.IsWhole) (x1 : Vec Ideal S1x1x1024 .f32) : wholeG arg2 harg2 x1 = x1 := by
  unfold wholeG
  rw [View.readAt_eq_ld, harg2.read_unread]
  exact View.ld_unit_lit (S := S1x1x1024) _ x1 (by decide)
theorem fresh_eq (arg3 : Memref sig .tc .vmem S1x1024x1280 .f32) (harg3 : arg3.IsWhole) (arg14 : Memref sig .tc .vmem S1024x1280 .bf16) (x2 : Vec Ideal S1x1024x1280 .f32) : fresh arg3 harg3 arg14 x2 = flat x2 := by
  unfold fresh filled
  rw [pay1_eq]
  funext y
  refine (congrFun (View.readCov_fill arg14.view inb_S1024x1280_S1024x1280_0_0 _ [] (Rect.unit (s := S1024x1280) ![0, 0] S1024x1280.size inb_S1024x1280_S1024x1280_0_0) (by decide)) y).trans ?_
  exact congrArg (flat x2) (emb1280 y)
theorem kept_eq (arg14 : Memref sig .tc .vmem S1024x1280 .bf16) (harg14 : arg14.IsWhole) (xs : Vec Ideal S1024x1280 .bf16) : kept arg14 harg14 xs = xs := by
  unfold kept
  rw [View.readAt_eq_ld, harg14.read_unread]
  exact View.ld_unit_lit (S := S1024x1280) _ xs (by decide)

/-! ## The stores -/

theorem pieces_A_11 (c : Dev nD) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1024x1280 .f32) (harg3 : arg3.IsWhole) (arg4 : Memref sig .tc .vmem S640x128 .bf16) (harg4 : arg4.IsWhole) (arg5 : Memref sig .tc .vmem S128x640 .bf16) (harg5 : arg5.IsWhole) (arg6 : Memref sig .tc .vmem S1x1x640 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x512 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1024x512 .bf16) (harg13 : arg13.IsWhole) (arg14 : Memref sig .tc .vmem S1024x1280 .bf16) (harg14 : arg14.IsWhole) (hc0 : cond0_0 i)
    (x0 : Vec Ideal S1024x1024 .f32) (x1 : Vec Ideal S1x1x1024 .f32) (x2 : Vec Ideal S1x1024x1280 .f32) (x3 : Vec Ideal S640x128 .bf16) (x4 : Vec Ideal S128x640 .bf16) (x5 : Vec Ideal S1x1x640 .f32) (x6 : Vec Ideal S1024x128 .f32) (x7 : Vec Ideal S1024x128 .f32) (x8 : Vec Ideal S1024x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.1
      = [⟨Rect.unit ![0, 0] S1024x128.size inb_S1024x128_S1024x128_0_0, k0_pay18 (F := Ideal) (k0_pay2 (F := Ideal) (wholeX arg1 harg1 x0) (wholeG arg2 harg2 x1) (fresh arg3 harg3 arg14 x2))⟩] := rfl

theorem out_A_11_at (c : Dev nD) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1024x1280 .f32) (harg3 : arg3.IsWhole) (arg4 : Memref sig .tc .vmem S640x128 .bf16) (harg4 : arg4.IsWhole) (arg5 : Memref sig .tc .vmem S128x640 .bf16) (harg5 : arg5.IsWhole) (arg6 : Memref sig .tc .vmem S1x1x640 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x512 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1024x512 .bf16) (harg13 : arg13.IsWhole) (arg14 : Memref sig .tc .vmem S1024x1280 .bf16) (harg14 : arg14.IsWhole) (hc0 : cond0_0 i)
    (x0 : Vec Ideal S1024x1024 .f32) (x1 : Vec Ideal S1x1x1024 .f32) (x2 : Vec Ideal S1x1024x1280 .f32) (x3 : Vec Ideal S640x128 .bf16) (x4 : Vec Ideal S128x640 .bf16) (x5 : Vec Ideal S1x1x640 .f32) (x6 : Vec Ideal S1024x128 .f32) (x7 : Vec Ideal S1024x128 .f32) (x8 : Vec Ideal S1024x128 .f32) (r : Fin 1024) (l : Fin 128) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix2 r l) = proj x0 x1 (flat x2) r (⟨640 + l.val, by omega⟩ : Fin 1280) := by
  have hv : k0_pay18 (F := Ideal) (k0_pay2 (F := Ideal) (wholeX arg1 harg1 x0) (wholeG arg2 harg2 x1) (fresh arg3 harg3 arg14 x2)) (ix2 r l) = proj x0 x1 (flat x2) r (⟨640 + l.val, by omega⟩ : Fin 1280) := by
    rw [wholeX_eq, wholeG_eq, fresh_eq, pay18_at]
    exact pay2_at x0 x1 _ r _
  refine Eq.trans ?_ hv
  unfold out0_A_11
  refine View.read_writes_apply_of_pieces (Val := Elt Ideal) VO0_11 _ (k0_pay18 (F := Ideal) (k0_pay2 (F := Ideal) (wholeX arg1 harg1 x0) (wholeG arg2 harg2 x1) (fresh arg3 harg3 arg14 x2))) _ ?_ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 _)
  rw [pieces_A_11]
  intro p hp y
  simp only [List.mem_cons, List.not_mem_nil, or_false] at hp
  subst hp
  exact congrArg (k0_pay18 (F := Ideal) (k0_pay2 (F := Ideal) (wholeX arg1 harg1 x0) (wholeG arg2 harg2 x1) (fresh arg3 harg3 arg14 x2))) (emb128 y).symm

theorem pieces_A_12 (c : Dev nD) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1024x1280 .f32) (harg3 : arg3.IsWhole) (arg4 : Memref sig .tc .vmem S640x128 .bf16) (harg4 : arg4.IsWhole) (arg5 : Memref sig .tc .vmem S128x640 .bf16) (harg5 : arg5.IsWhole) (arg6 : Memref sig .tc .vmem S1x1x640 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x512 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1024x512 .bf16) (harg13 : arg13.IsWhole) (arg14 : Memref sig .tc .vmem S1024x1280 .bf16) (harg14 : arg14.IsWhole) (hc0 : cond0_0 i)
    (x0 : Vec Ideal S1024x1024 .f32) (x1 : Vec Ideal S1x1x1024 .f32) (x2 : Vec Ideal S1x1024x1280 .f32) (x3 : Vec Ideal S640x128 .bf16) (x4 : Vec Ideal S128x640 .bf16) (x5 : Vec Ideal S1x1x640 .f32) (x6 : Vec Ideal S1024x128 .f32) (x7 : Vec Ideal S1024x128 .f32) (x8 : Vec Ideal S1024x128 .f32) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.2.1
      = [⟨Rect.unit ![0, 0] S1024x512.size inb_S1024x512_S1024x512_0_0, k0_pay19 (F := Ideal) (k0_pay2 (F := Ideal) (wholeX arg1 harg1 x0) (wholeG arg2 harg2 x1) (fresh arg3 harg3 arg14 x2))⟩] := rfl

theorem out_A_12_at (c : Dev nD) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1024x1280 .f32) (harg3 : arg3.IsWhole) (arg4 : Memref sig .tc .vmem S640x128 .bf16) (harg4 : arg4.IsWhole) (arg5 : Memref sig .tc .vmem S128x640 .bf16) (harg5 : arg5.IsWhole) (arg6 : Memref sig .tc .vmem S1x1x640 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x512 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1024x512 .bf16) (harg13 : arg13.IsWhole) (arg14 : Memref sig .tc .vmem S1024x1280 .bf16) (harg14 : arg14.IsWhole) (hc0 : cond0_0 i)
    (x0 : Vec Ideal S1024x1024 .f32) (x1 : Vec Ideal S1x1x1024 .f32) (x2 : Vec Ideal S1x1024x1280 .f32) (x3 : Vec Ideal S640x128 .bf16) (x4 : Vec Ideal S128x640 .bf16) (x5 : Vec Ideal S1x1x640 .f32) (x6 : Vec Ideal S1024x128 .f32) (x7 : Vec Ideal S1024x128 .f32) (x8 : Vec Ideal S1024x128 .f32) (r : Fin 1024) (l : Fin 512) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 (ix2 r l) = proj x0 x1 (flat x2) r (⟨768 + l.val, by omega⟩ : Fin 1280) := by
  have hv : k0_pay19 (F := Ideal) (k0_pay2 (F := Ideal) (wholeX arg1 harg1 x0) (wholeG arg2 harg2 x1) (fresh arg3 harg3 arg14 x2)) (ix2 r l) = proj x0 x1 (flat x2) r (⟨768 + l.val, by omega⟩ : Fin 1280) := by
    rw [wholeX_eq, wholeG_eq, fresh_eq, pay19_at]
    exact pay2_at x0 x1 _ r _
  refine Eq.trans ?_ hv
  unfold out0_A_12
  refine View.read_writes_apply_of_pieces (Val := Elt Ideal) VO0_12 _ (k0_pay19 (F := Ideal) (k0_pay2 (F := Ideal) (wholeX arg1 harg1 x0) (wholeG arg2 harg2 x1) (fresh arg3 harg3 arg14 x2))) _ ?_ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 _)
  rw [pieces_A_12]
  intro p hp y
  simp only [List.mem_cons, List.not_mem_nil, or_false] at hp
  subst hp
  exact congrArg (k0_pay19 (F := Ideal) (k0_pay2 (F := Ideal) (wholeX arg1 harg1 x0) (wholeG arg2 harg2 x1) (fresh arg3 harg3 arg14 x2))) (emb512 y).symm

theorem pieces_B_11 (c : Dev nD) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1024x1280 .f32) (harg3 : arg3.IsWhole) (arg4 : Memref sig .tc .vmem S640x128 .bf16) (harg4 : arg4.IsWhole) (arg5 : Memref sig .tc .vmem S128x640 .bf16) (harg5 : arg5.IsWhole) (arg6 : Memref sig .tc .vmem S1x1x640 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x512 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1024x512 .bf16) (harg13 : arg13.IsWhole) (arg14 : Memref sig .tc .vmem S1024x1280 .bf16) (harg14 : arg14.IsWhole) (hc0 : ¬cond0_0 i)
    (x0 : Vec Ideal S1024x1024 .f32) (x1 : Vec Ideal S1x1x1024 .f32) (x2 : Vec Ideal S1x1024x1280 .f32) (x3 : Vec Ideal S640x128 .bf16) (x4 : Vec Ideal S128x640 .bf16) (x5 : Vec Ideal S1x1x640 .f32) (x6 : Vec Ideal S1024x128 .f32) (x7 : Vec Ideal S1024x128 .f32) (x8 : Vec Ideal S1024x128 .f32) (xs0 : Vec Ideal S1024x1280 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0).2.2.1
      = [⟨Rect.unit ![0, 0] S1024x128.size inb_S1024x128_S1024x128_0_0, k0_pay18 (F := Ideal) (k0_pay2 (F := Ideal) (wholeX arg1 harg1 x0) (wholeG arg2 harg2 x1) (kept arg14 harg14 xs0))⟩] := rfl

theorem out_B_11_at (c : Dev nD) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1024x1280 .f32) (harg3 : arg3.IsWhole) (arg4 : Memref sig .tc .vmem S640x128 .bf16) (harg4 : arg4.IsWhole) (arg5 : Memref sig .tc .vmem S128x640 .bf16) (harg5 : arg5.IsWhole) (arg6 : Memref sig .tc .vmem S1x1x640 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x512 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1024x512 .bf16) (harg13 : arg13.IsWhole) (arg14 : Memref sig .tc .vmem S1024x1280 .bf16) (harg14 : arg14.IsWhole) (hc0 : ¬cond0_0 i)
    (x0 : Vec Ideal S1024x1024 .f32) (x1 : Vec Ideal S1x1x1024 .f32) (x2 : Vec Ideal S1x1024x1280 .f32) (x3 : Vec Ideal S640x128 .bf16) (x4 : Vec Ideal S128x640 .bf16) (x5 : Vec Ideal S1x1x640 .f32) (x6 : Vec Ideal S1024x128 .f32) (x7 : Vec Ideal S1024x128 .f32) (x8 : Vec Ideal S1024x128 .f32) (xs0 : Vec Ideal S1024x1280 .bf16) (r : Fin 1024) (l : Fin 128) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 (ix2 r l) = proj x0 x1 xs0 r (⟨640 + l.val, by omega⟩ : Fin 1280) := by
  have hv : k0_pay18 (F := Ideal) (k0_pay2 (F := Ideal) (wholeX arg1 harg1 x0) (wholeG arg2 harg2 x1) (kept arg14 harg14 xs0)) (ix2 r l) = proj x0 x1 xs0 r (⟨640 + l.val, by omega⟩ : Fin 1280) := by
    rw [wholeX_eq, wholeG_eq, kept_eq, pay18_at]
    exact pay2_at x0 x1 _ r _
  refine Eq.trans ?_ hv
  unfold out0_B_11
  refine View.read_writes_apply_of_pieces (Val := Elt Ideal) VO0_11 _ (k0_pay18 (F := Ideal) (k0_pay2 (F := Ideal) (wholeX arg1 harg1 x0) (wholeG arg2 harg2 x1) (kept arg14 harg14 xs0))) _ ?_ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 _)
  rw [pieces_B_11]
  intro p hp y
  simp only [List.mem_cons, List.not_mem_nil, or_false] at hp
  subst hp
  exact congrArg (k0_pay18 (F := Ideal) (k0_pay2 (F := Ideal) (wholeX arg1 harg1 x0) (wholeG arg2 harg2 x1) (kept arg14 harg14 xs0))) (emb128 y).symm

theorem pieces_B_12 (c : Dev nD) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1024x1280 .f32) (harg3 : arg3.IsWhole) (arg4 : Memref sig .tc .vmem S640x128 .bf16) (harg4 : arg4.IsWhole) (arg5 : Memref sig .tc .vmem S128x640 .bf16) (harg5 : arg5.IsWhole) (arg6 : Memref sig .tc .vmem S1x1x640 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x512 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1024x512 .bf16) (harg13 : arg13.IsWhole) (arg14 : Memref sig .tc .vmem S1024x1280 .bf16) (harg14 : arg14.IsWhole) (hc0 : ¬cond0_0 i)
    (x0 : Vec Ideal S1024x1024 .f32) (x1 : Vec Ideal S1x1x1024 .f32) (x2 : Vec Ideal S1x1024x1280 .f32) (x3 : Vec Ideal S640x128 .bf16) (x4 : Vec Ideal S128x640 .bf16) (x5 : Vec Ideal S1x1x640 .f32) (x6 : Vec Ideal S1024x128 .f32) (x7 : Vec Ideal S1024x128 .f32) (x8 : Vec Ideal S1024x128 .f32) (xs0 : Vec Ideal S1024x1280 .bf16) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0).2.2.2.1
      = [⟨Rect.unit ![0, 0] S1024x512.size inb_S1024x512_S1024x512_0_0, k0_pay19 (F := Ideal) (k0_pay2 (F := Ideal) (wholeX arg1 harg1 x0) (wholeG arg2 harg2 x1) (kept arg14 harg14 xs0))⟩] := rfl

theorem out_B_12_at (c : Dev nD) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1024x1280 .f32) (harg3 : arg3.IsWhole) (arg4 : Memref sig .tc .vmem S640x128 .bf16) (harg4 : arg4.IsWhole) (arg5 : Memref sig .tc .vmem S128x640 .bf16) (harg5 : arg5.IsWhole) (arg6 : Memref sig .tc .vmem S1x1x640 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x512 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1024x512 .bf16) (harg13 : arg13.IsWhole) (arg14 : Memref sig .tc .vmem S1024x1280 .bf16) (harg14 : arg14.IsWhole) (hc0 : ¬cond0_0 i)
    (x0 : Vec Ideal S1024x1024 .f32) (x1 : Vec Ideal S1x1x1024 .f32) (x2 : Vec Ideal S1x1024x1280 .f32) (x3 : Vec Ideal S640x128 .bf16) (x4 : Vec Ideal S128x640 .bf16) (x5 : Vec Ideal S1x1x640 .f32) (x6 : Vec Ideal S1024x128 .f32) (x7 : Vec Ideal S1024x128 .f32) (x8 : Vec Ideal S1024x128 .f32) (xs0 : Vec Ideal S1024x1280 .bf16) (r : Fin 1024) (l : Fin 512) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 (ix2 r l) = proj x0 x1 xs0 r (⟨768 + l.val, by omega⟩ : Fin 1280) := by
  have hv : k0_pay19 (F := Ideal) (k0_pay2 (F := Ideal) (wholeX arg1 harg1 x0) (wholeG arg2 harg2 x1) (kept arg14 harg14 xs0)) (ix2 r l) = proj x0 x1 xs0 r (⟨768 + l.val, by omega⟩ : Fin 1280) := by
    rw [wholeX_eq, wholeG_eq, kept_eq, pay19_at]
    exact pay2_at x0 x1 _ r _
  refine Eq.trans ?_ hv
  unfold out0_B_12
  refine View.read_writes_apply_of_pieces (Val := Elt Ideal) VO0_12 _ (k0_pay19 (F := Ideal) (k0_pay2 (F := Ideal) (wholeX arg1 harg1 x0) (wholeG arg2 harg2 x1) (kept arg14 harg14 xs0))) _ ?_ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 xs0 _)
  rw [pieces_B_12]
  intro p hp y
  simp only [List.mem_cons, List.not_mem_nil, or_false] at hp
  subst hp
  exact congrArg (k0_pay19 (F := Ideal) (k0_pay2 (F := Ideal) (wholeX arg1 harg1 x0) (wholeG arg2 harg2 x1) (kept arg14 harg14 xs0))) (emb512 y).symm

theorem sout_A_eq (c : Dev nD) (i : grid0.Coords) (arg1 : Memref sig .tc .vmem S1024x1024 .f32) (harg1 : arg1.IsWhole) (arg2 : Memref sig .tc .vmem S1x1x1024 .f32) (harg2 : arg2.IsWhole) (arg3 : Memref sig .tc .vmem S1x1024x1280 .f32) (harg3 : arg3.IsWhole) (arg4 : Memref sig .tc .vmem S640x128 .bf16) (harg4 : arg4.IsWhole) (arg5 : Memref sig .tc .vmem S128x640 .bf16) (harg5 : arg5.IsWhole) (arg6 : Memref sig .tc .vmem S1x1x640 .f32) (harg6 : arg6.IsWhole) (arg7 : Memref sig .tc .vmem S1024x128 .f32) (harg7 : arg7.IsWhole) (arg8 : Memref sig .tc .vmem S1024x128 .f32) (harg8 : arg8.IsWhole) (arg9 : Memref sig .tc .vmem S1024x128 .f32) (harg9 : arg9.IsWhole) (arg10 : Memref sig .tc .vmem S1024x512 .bf16) (harg10 : arg10.IsWhole) (arg11 : Memref sig .tc .vmem S1024x128 .bf16) (harg11 : arg11.IsWhole) (arg12 : Memref sig .tc .vmem S1024x128 .bf16) (harg12 : arg12.IsWhole) (arg13 : Memref sig .tc .vmem S1024x512 .bf16) (harg13 : arg13.IsWhole) (arg14 : Memref sig .tc .vmem S1024x1280 .bf16) (harg14 : arg14.IsWhole) (hc0 : cond0_0 i)
    (x0 : Vec Ideal S1024x1024 .f32) (x1 : Vec Ideal S1x1x1024 .f32) (x2 : Vec Ideal S1x1024x1280 .f32) (x3 : Vec Ideal S640x128 .bf16) (x4 : Vec Ideal S128x640 .bf16) (x5 : Vec Ideal S1x1x640 .f32) (x6 : Vec Ideal S1024x128 .f32) (x7 : Vec Ideal S1024x128 .f32) (x8 : Vec Ideal S1024x128 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 = flat x2 := by
  funext z
  unfold sout0_A_0
  refine View.read_writes_apply_of_pieces (Val := Elt Ideal) VS0_0 _ (flat x2) _ ?_ z (scover0_A_0 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 z)
  rw [show (kernelRun0_A c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8).2.2.2.2.1 = filled arg3 harg3 x2 from rfl]
  intro p hp y
  simp only [filled, List.mem_cons, List.not_mem_nil, or_false] at hp
  subst hp
  exact (congrFun (pay1_eq arg3 harg3 x2) y).trans (congrArg (flat x2) (emb1280 y).symm)

end Cert.Kernel5Ideal.Value

end
-- ==== Proof.Proj.Ref.lean ====
module

public import proofs.«01_k».proof.Proof.Math
public import proofs.«01_k».proof.Proof.Up.Gate
public import proofs.«01_k».proof.Proof.Gen.Reference5Ideal.Read
public import Idealize.ShloMosaic.Lib.ValueIdx
public import Idealize.ShloMosaic.Lib.Pipeline.Value

@[expose] public section

set_option maxRecDepth 16384

noncomputable section

/-! # The input projection's reference, read at an index -/

namespace Cert.Reference5Ideal.Read

open Cert.Reference5Ideal Cert.Reference5Ideal.Gen Idealize.ShloMosaic Idealize.ShloMosaic.ValueIdx
open Cert.Attn (normRow)
open Cert.Up (zero_lit)

/-- The normed row against a column of the weights. -/
abbrev proj (x : S16384x1024.Idx → EReal) (g : S4x1024.Idx → EReal) (w : S4x1024x1280.Idx → EReal) (r : Fin 16384) (c : Fin 1280) : EReal :=
  ∑ k : Fin 1024, normRow (Ideal.ofBits .f32 0x44800000#32) (Ideal.ofBits .f32 0x358637BD#32) (fun j => x (ix2 r j)) (fun j => g (ix2 (0 : Fin 4) j)) k * w (ix3 (0 : Fin 4) k c)

variable (x : S16384x1024.Idx → EReal) (g : S4x1024.Idx → EReal) (w : S4x1024x1280.Idx → EReal)

theorem weights_at (k : Fin 1024) (c : Fin 1280) : val_main_v16 (F := Ideal) w (ix2 k c) = w (ix3 (0 : Fin 4) k c) := by
  rw [val_main_v16_apply, val_main_v15_apply]
  have hk := k.isLt
  have hc := c.isLt
  refine congrArg w (funext fun b => Fin.ext ?_)
  match b with
  | ⟨0, _⟩ => rfl
  | ⟨1, _⟩ => show (k.val * 1280 + c.val) / 1280 % 1024 = k.val; omega
  | ⟨2, _⟩ => show (k.val * 1280 + c.val) % 1280 = c.val; omega

theorem squares_at (r : Fin 16384) : val_main_v3 (F := Ideal) x (ix1 r) = ∑ j : Fin 1024, x (ix2 r j) * x (ix2 r j) := by
  rw [val_main_v3_apply]
  show Ideal.ofBits .f32 0x00000000#32 + _ = _
  rw [zero_lit, zero_add]
  refine Finset.sum_congr rfl fun j _ => ?_
  rw [show idx_main_v3 (ix1 r) j = ix2 r j from funext fun b => by match b with | ⟨0, _⟩ => rfl | ⟨1, _⟩ => rfl, val_main_v2_apply]
  rfl

theorem gain_at (r : Fin 16384) (c : Fin 1024) : val_main_v13 (F := Ideal) g (ix2 r c) = g (ix2 (0 : Fin 4) c) := by
  rw [val_main_v13_apply, val_main_v12_apply, val_main_v1_apply, val_main_v0_apply]
  refine congrArg g (funext fun b => Fin.ext ?_)
  match b with
  | ⟨0, _⟩ => rfl
  | ⟨1, _⟩ => show c.val % 1024 = c.val; have := c.isLt; omega

/-- The normed row. -/
theorem v14_at (r : Fin 16384) (c : Fin 1024) :
    val_main_v14 (F := Ideal) x g (ix2 r c) = normRow (Ideal.ofBits .f32 0x44800000#32) (Ideal.ofBits .f32 0x358637BD#32) (fun j => x (ix2 r j)) (fun j => g (ix2 (0 : Fin 4) j)) c := by
  rw [val_main_v14_apply, val_main_v11_apply, gain_at, val_main_v10_apply, val_main_v9_apply, val_main_v8_apply, val_main_v6_apply, val_main_v4_apply, val_main_v5_apply, val_main_v7_apply,
    show idx_main_v4 (idx_main_v10 (ix2 r c)) = ix1 r from funext fun b => by match b with | ⟨0, _⟩ => rfl, squares_at]
  rfl

theorem v17_at (r : Fin 16384) (c : Fin 1280) : val_main_v17 (F := Ideal) x g w (ix2 r c) = proj x g w r c := by
  rw [val_main_v17_apply]
  unfold proj
  refine Finset.sum_congr rfl fun k _ => ?_
  refine congr (congrArg HMul.hMul ((congrArg (val_main_v14 (F := Ideal) x g) ?_).trans (v14_at x g r k))) ((congrArg (val_main_v16 (F := Ideal) w) ?_).trans (weights_at w k c))
  · exact funext fun b => by match b with | ⟨0, _⟩ => rfl | ⟨1, _⟩ => rfl
  · exact funext fun b => by match b with | ⟨0, _⟩ => rfl | ⟨1, _⟩ => rfl

/-- The values. -/
theorem v19_at (r : Fin 16384) (l : Fin 128) : val_main_v19 (F := Ideal) x g w (ix2 r l) = proj x g w r (⟨640 + l.val, by omega⟩ : Fin 1280) := by
  rw [val_main_v19_apply, val_main_v18_apply]
  refine (congrArg (val_main_v17 (F := Ideal) x g w) ?_).trans (v17_at x g w r ⟨640 + l.val, by omega⟩)
  exact funext fun b => by match b with | ⟨0, _⟩ => rfl | ⟨1, _⟩ => rfl

/-- The Fourier channels. -/
theorem v21_at (r : Fin 16384) (l : Fin 512) : val_main_v21 (F := Ideal) x g w (ix2 r l) = proj x g w r (⟨768 + l.val, by omega⟩ : Fin 1280) := by
  rw [val_main_v21_apply, val_main_v20_apply]
  refine (congrArg (val_main_v17 (F := Ideal) x g w) ?_).trans (v17_at x g w r ⟨768 + l.val, by omega⟩)
  exact funext fun b => by match b with | ⟨0, _⟩ => rfl | ⟨1, _⟩ => rfl

end Cert.Reference5Ideal.Read

end
-- ==== Proof.Proj.Array.lean ====
module

public import proofs.«01_k».proof.Proof.Proj.Value
public import proofs.«01_k».proof.Proof.Proj.Ref
public import Idealize.ShloMosaic.Lib.StableHlo.RunRead
public import Idealize.ShloMosaic.Lib.Pipeline.ValueKit.Geometry

@[expose] public section

set_option maxRecDepth 16384

noncomputable section

/-! # Two results of the input projection, read at an index -/

namespace Cert.Kernel5Ideal.Value

open Cert.Kernel5Ideal Cert.Kernel5Ideal.Gen Idealize.ShloMosaic Idealize.ShloMosaic.TcCoe Idealize.SL.Sem Idealize.ShloMosaic.ValueIdx
open Idealize.ShloMosaic.Pipeline (Dat)
open Cert.Attn (normRow)

variable (m : (ℓ : Loc nD τ sig) → Buf (Elt Ideal) ℓ)

/-! ## The arguments, and the array of gains the host makes -/

abbrev A0 (c : Dev nD) : S16384x1024.Idx → EReal := m ((c : Thread nD τ).loc main_arg0)
abbrev A2 (c : Dev nD) : S4x1024.Idx → EReal := m ((c : Thread nD τ).loc main_arg2)
abbrev A3 (c : Dev nD) : S4x1024x1280.Idx → EReal := m ((c : Thread nD τ).loc main_arg3)

theorem V_main_v57 (c : Dev nD) (j : Fin 1024) :
    V m c main_v57 (ix3 (0 : Fin 4) (0 : Fin 1) j) = A2 m c (ix2 (0 : Fin 4) j) := by
  unfold V
  after_reads_simp
  refine shapeCast_apply (s := S4x1024) (α := EReal) (A2 m c) shapeCasts_S4x1024_S4x1x1024 (ix3 (0 : Fin 4) (0 : Fin 1) j) (ix2 (0 : Fin 4) j) ?_
  show ((⟨2, ![4, 1024]⟩ : Shape).rowMajor (ix2 (0 : Fin 4) j)).val = ((⟨3, ![4, 1, 1024]⟩ : Shape).rowMajor (ix3 (0 : Fin 4) (0 : Fin 1) j)).val
  rw [Shape.rowMajor_val_two, Shape.rowMajor_val_three]
  show 0 * 1024 + j.val = (0 * 1 + 0) * 1024 + j.val
  omega

/-! ## The windows' blocks -/

theorem index0 : ∀ t : Fin cfg0.N, win0_0.index t = ![t.val, 0] :=
  (by decide +kernel : ∀ t : Fin grid0.N, win0_0.index t = ![t.val, 0])
theorem index1 : ∀ t : Fin cfg0.N, win0_1.index t = ![0, 0, 0] :=
  (by decide +kernel : ∀ t : Fin grid0.N, win0_1.index t = ![0, 0, 0])
theorem index2 : ∀ t : Fin cfg0.N, win0_2.index t = ![0, 0, 0] :=
  (by decide +kernel : ∀ t : Fin grid0.N, win0_2.index t = ![0, 0, 0])
theorem index11 : ∀ t : Fin cfg0.N, win0_11.index t = ![t.val, 0] :=
  (by decide +kernel : ∀ t : Fin grid0.N, win0_11.index t = ![t.val, 0])
theorem index12 : ∀ t : Fin cfg0.N, win0_12.index t = ![t.val, 0] :=
  (by decide +kernel : ∀ t : Fin grid0.N, win0_12.index t = ![t.val, 0])

theorem t_lt (t : Fin cfg0.N) : t.val < 16 := t.isLt

/-- Row `r` of point `t`. -/
abbrev rowOf (t : Fin cfg0.N) (r : Fin 1024) : Fin 16384 := ⟨t.val * 1024 + r.val, by have := t_lt t; omega⟩

theorem iblk0_at (c : Dev nD) (t : Fin cfg0.N) (p : Fin 1024) (e : Fin 1024) :
    iblk m c 0 t (ix2 p e) = A0 m c (ix2 (rowOf t p) e) := by
  refine Eq.trans ?_ (congrFun (V_main_arg0 m c) _)
  refine congrArg (V m c main_arg0) (funext fun a => Fin.ext ((win0_0.rect_emb_val t (ix2 p e) a).trans ?_))
  refine (congrArg (fun f : Fin 2 → ℕ => f a * win0_0.size a + ((ix2 p e : S1024x1024.Idx) a).val) (index0 t)).trans ?_
  match a with
  | ⟨0, _⟩ => rfl
  | ⟨1, _⟩ => show 0 * 1024 + e.val = e.val; omega

theorem iblk1_at (c : Dev nD) (t : Fin cfg0.N) (j : Fin 1024) :
    iblk m c 1 t (ix3 (0 : Fin 1) (0 : Fin 1) j) = A2 m c (ix2 (0 : Fin 4) j) := by
  refine Eq.trans ?_ (V_main_v57 m c j)
  refine congrArg (V m c main_v57) (funext fun a => Fin.ext ((win0_1.rect_emb_val t (ix3 (0 : Fin 1) (0 : Fin 1) j) a).trans ?_))
  refine (congrArg (fun f : Fin 3 → ℕ => f a * win0_1.size a + ((ix3 (0 : Fin 1) (0 : Fin 1) j : S1x1x1024.Idx) a).val) (index1 t)).trans ?_
  match a with
  | ⟨0, _⟩ => rfl
  | ⟨1, _⟩ => rfl
  | ⟨2, _⟩ => show 0 * 1024 + j.val = j.val; omega

theorem iblk2_at (c : Dev nD) (t : Fin cfg0.N) (k : Fin 1024) (e : Fin 1280) :
    iblk m c 2 t (ix3 (0 : Fin 1) k e) = A3 m c (ix3 (0 : Fin 4) k e) := by
  refine Eq.trans ?_ (congrFun (V_main_arg3 m c) _)
  refine congrArg (V m c main_arg3) (funext fun a => Fin.ext ((win0_2.rect_emb_val t (ix3 (0 : Fin 1) k e) a).trans ?_))
  refine (congrArg (fun f : Fin 3 → ℕ => f a * win0_2.size a + ((ix3 (0 : Fin 1) k e : S1x1024x1280.Idx) a).val) (index2 t)).trans ?_
  match a with
  | ⟨0, _⟩ => rfl
  | ⟨1, _⟩ => show 0 * 1024 + k.val = k.val; omega
  | ⟨2, _⟩ => show 0 * 1280 + e.val = e.val; omega

/-! ## The scratch carried from point to point -/

/-- The weights of layer 0. -/
abbrev weights (c : Dev nD) : S1024x1280.Idx → EReal := fun y => A3 m c (ix3 (0 : Fin 4) (y 0) (y 1))

theorem flat_iblk2 (c : Dev nD) (t : Fin cfg0.N) : flat (iblk m c 2 t) = weights m c :=
  funext fun y => iblk2_at m c t (y 0) (y 1)

theorem scratch_eq (c : Dev nD) : ∀ (n : ℕ) (hn : n < cfg0.N), (outsAt0 m c n hn).2.2.2.2 = weights m c := by
  intro n
  induction n with
  | zero =>
    intro hn
    have e : outsAt0 m c 0 hn = _ := outsAt0_A m c ⟨0, hn⟩ (Nat.zero_mod 16)
    rw [e]
    dsimp only
    rw [sout_A_eq]
    exact flat_iblk2 m c _
  | succ n ih =>
    intro hn
    have h16 : n + 1 < 16 := hn
    have e : outsAt0 m c (n + 1) hn = _ := outsAt0_B m c ⟨n + 1, hn⟩ (by show ¬(n + 1) % 16 = 0; omega)
    rw [e]
    dsimp only
    unfold sout0_B_0
    exact ih _

/-! ## What a point leaves -/

/-- The values from the arguments. -/
def valuesOf (c : Dev nD) : S16384x128.Idx → EReal := fun y =>
  Cert.Reference5Ideal.Read.proj (A0 m c) (A2 m c) (A3 m c) (y 0) (⟨640 + (y 1).val, by have h : (y 1).val < 128 := (y 1).isLt; omega⟩ : Fin 1280)

/-- The Fourier channels from the arguments. -/
def channelsOf (c : Dev nD) : S16384x512.Idx → EReal := fun y =>
  Cert.Reference5Ideal.Read.proj (A0 m c) (A2 m c) (A3 m c) (y 0) (⟨768 + (y 1).val, by have h : (y 1).val < 512 := (y 1).isLt; omega⟩ : Fin 1280)

theorem proj_iblk (c : Dev nD) (t : Fin cfg0.N) (r : Fin 1024) (e : Fin 1280) :
    proj (iblk m c 0 t) (iblk m c 1 t) (weights m c) r e
      = Cert.Reference5Ideal.Read.proj (A0 m c) (A2 m c) (A3 m c) (rowOf t r) e := by
  unfold proj Cert.Reference5Ideal.Read.proj
  rw [show (fun j => iblk m c 0 t (ix2 r j)) = fun j => A0 m c (ix2 (rowOf t r) j) from funext fun j => iblk0_at m c t r j,
    show (fun j => iblk m c 1 t (ix3 (0 : Fin 1) (0 : Fin 1) j)) = fun j => A2 m c (ix2 (0 : Fin 4) j) from funext fun j => iblk1_at m c t j]

theorem after11_at (c : Dev nD) (t : Fin cfg0.N) (r : Fin 1024) (l : Fin 128) :
    ((dats m 0 c).after 11 t : S1024x128.Idx → EReal) (ix2 r l) = valuesOf m c (ix2 (rowOf t r) l) := by
  rw [after0_11]
  refine Eq.trans ?_ (proj_iblk m c t r (⟨640 + l.val, by omega⟩ : Fin 1280))
  by_cases h0 : t.val % 16 = 0
  · rw [outsAt0_A m c t h0, ← flat_iblk2 m c t]
    dsimp only
    rw [out_A_11_at]
  · rw [outsAt0_B m c t h0, ← scratch_eq m c (t.val - 1) (by have := t_lt t; show t.val - 1 < 16; omega)]
    dsimp only
    rw [out_B_11_at]

theorem after12_at (c : Dev nD) (t : Fin cfg0.N) (r : Fin 1024) (l : Fin 512) :
    ((dats m 0 c).after 12 t : S1024x512.Idx → EReal) (ix2 r l) = channelsOf m c (ix2 (rowOf t r) l) := by
  rw [after0_12]
  refine Eq.trans ?_ (proj_iblk m c t r (⟨768 + l.val, by omega⟩ : Fin 1280))
  by_cases h0 : t.val % 16 = 0
  · rw [outsAt0_A m c t h0, ← flat_iblk2 m c t]
    dsimp only
    rw [out_A_12_at]
  · rw [outsAt0_B m c t h0, ← scratch_eq m c (t.val - 1) (by have := t_lt t; show t.val - 1 < 16; omega)]
    dsimp only
    rw [out_B_12_at]

theorem arr_eq11 (c : Dev nD) : (dats m 0 c).arrAt 11 cfg0.N = valuesOf m c := by
  refine (dats m 0 c).arrAt_eq_of_covers 11 _ (by decide +kernel) fun t hf y => ?_
  obtain ⟨r, e, rfl⟩ : ∃ (r : Fin 1024) (e : Fin 128), y = (ix2 r e : S1024x128.Idx) := ⟨y 0, y 1, funext fun a => by
    match a with
    | ⟨0, _⟩ => rfl
    | ⟨1, _⟩ => rfl⟩
  have hG : (((cfg0.win 11).blk t).view.emb (ix2 r e : S1024x128.Idx) : S16384x128.Idx) = ix2 (rowOf t r) e := by
    refine funext fun a => Fin.ext ((win0_11.rect_emb_val t (ix2 r e) a).trans ?_)
    refine (congrArg (fun f : Fin 2 → ℕ => f a * win0_11.size a + ((ix2 r e : S1024x128.Idx) a).val) (index11 t)).trans ?_
    match a with
    | ⟨0, _⟩ => rfl
    | ⟨1, _⟩ => show 0 * 128 + e.val = e.val; omega
  exact (after11_at m c t r e).trans (congrArg (valuesOf m c) hG.symm)

theorem arr_eq12 (c : Dev nD) : (dats m 0 c).arrAt 12 cfg0.N = channelsOf m c := by
  refine (dats m 0 c).arrAt_eq_of_covers 12 _ (by decide +kernel) fun t hf y => ?_
  obtain ⟨r, e, rfl⟩ : ∃ (r : Fin 1024) (e : Fin 512), y = (ix2 r e : S1024x512.Idx) := ⟨y 0, y 1, funext fun a => by
    match a with
    | ⟨0, _⟩ => rfl
    | ⟨1, _⟩ => rfl⟩
  have hG : (((cfg0.win 12).blk t).view.emb (ix2 r e : S1024x512.Idx) : S16384x512.Idx) = ix2 (rowOf t r) e := by
    refine funext fun a => Fin.ext ((win0_12.rect_emb_val t (ix2 r e) a).trans ?_)
    refine (congrArg (fun f : Fin 2 → ℕ => f a * win0_12.size a + ((ix2 r e : S1024x512.Idx) a).val) (index12 t)).trans ?_
    match a with
    | ⟨0, _⟩ => rfl
    | ⟨1, _⟩ => show 0 * 512 + e.val = e.val; omega
  exact (after12_at m c t r e).trans (congrArg (channelsOf m c) hG.symm)

end Cert.Kernel5Ideal.Value

end
-- ==== Proof.Proj.Claims.lean ====
module

public import proofs.«01_k».proof.Proof.Proj.Array
public import proofs.«01_k».proof.Proof.Gen.Kernel5.Frame
public import proofs.«01_k».proof.Proof.Gen.Reference5Ideal.Run
public import proofs.«01_k».proof.Defs

@[expose] public section

set_option maxRecDepth 16384

noncomputable section

/-! # The claims about the input projection -/

namespace Cert.Proj

open Idealize.ShloMosaic Idealize.ShloMosaic.TcCoe Idealize.SL.Sem Idealize.ShloMosaic.ValueIdx

theorem frame : Cert.quiescent_Kernel5 (hKernel5 := Cert.Kernel5.Gen.facts) := fun m g _ => Cert.Kernel5.Gen.frame m g

theorem frameIdeal : Cert.quiescent_Kernel5Ideal (hKernel5Ideal := Cert.Kernel5Ideal.Gen.facts) := fun m g _ => Cert.Kernel5Ideal.Gen.frame m g

theorem frameRef : Cert.quiescent_Reference5Ideal (hReference5Ideal := Cert.Reference5Ideal.Gen.facts) := fun m g _ =>
  (θ_run Cert.Reference5Ideal.defs _ _).mono (fun r h => ⟨fun c => (h c).2.2, sem_eq_zero_of_no_sems (by decide) r.2⟩)
    (Cert.Reference5Ideal.Value.run (F := Ideal) m g)

open Cert.Kernel5Ideal Cert.Kernel5Ideal.Gen in
/-- The run with the two results named. -/
theorem run_named (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c : Thread nD τ).loc main_v58_2) = Cert.Kernel5Ideal.Value.valuesOf m c
      ∧ r.2.mem ((c : Thread nD τ).loc main_v58_3) = Cert.Kernel5Ideal.Value.channelsOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h.1 c).1 11).trans (Cert.Kernel5Ideal.Value.arr_eq11 m c), ((h.1 c).1 12).trans (Cert.Kernel5Ideal.Value.arr_eq12 m c), h.2 c⟩)
    (θ_run_and (run_main m g) (unchanged m g))

/-- The values are the reference's. -/
theorem valuesOf_eq (m : (ℓ : Loc Cert.Kernel5Ideal.nD Cert.Kernel5Ideal.τ Cert.Kernel5Ideal.sig) → Buf (Elt Ideal) ℓ) (c : Dev Cert.Kernel5Ideal.nD) :
    Cert.Kernel5Ideal.Value.valuesOf m c = Cert.Reference5Ideal.Read.val_main_v19 (F := Ideal) (Cert.Kernel5Ideal.Value.A0 m c) (Cert.Kernel5Ideal.Value.A2 m c) (Cert.Kernel5Ideal.Value.A3 m c) := by
  funext y
  obtain ⟨r, e, rfl⟩ : ∃ (r : Fin 16384) (e : Fin 128), y = (ix2 r e : Cert.Kernel5Ideal.S16384x128.Idx) := ⟨y 0, y 1, funext fun a => by
    match a with
    | ⟨0, _⟩ => rfl
    | ⟨1, _⟩ => rfl⟩
  exact (Cert.Reference5Ideal.Read.v19_at _ _ _ r e).symm

/-- The Fourier channels are the reference's. -/
theorem channelsOf_eq (m : (ℓ : Loc Cert.Kernel5Ideal.nD Cert.Kernel5Ideal.τ Cert.Kernel5Ideal.sig) → Buf (Elt Ideal) ℓ) (c : Dev Cert.Kernel5Ideal.nD) :
    Cert.Kernel5Ideal.Value.channelsOf m c = Cert.Reference5Ideal.Read.val_main_v21 (F := Ideal) (Cert.Kernel5Ideal.Value.A0 m c) (Cert.Kernel5Ideal.Value.A2 m c) (Cert.Kernel5Ideal.Value.A3 m c) := by
  funext y
  obtain ⟨r, e, rfl⟩ : ∃ (r : Fin 16384) (e : Fin 512), y = (ix2 r e : Cert.Kernel5Ideal.S16384x512.Idx) := ⟨y 0, y 1, funext fun a => by
    match a with
    | ⟨0, _⟩ => rfl
    | ⟨1, _⟩ => rfl⟩
  exact (Cert.Reference5Ideal.Read.v21_at _ _ _ r e).symm

theorem values : Cert.algebraic_Kernel5Ideal_Reference5Ideal (hKernel5Ideal := Cert.Kernel5Ideal.Gen.facts) (hReference5Ideal := Cert.Reference5Ideal.Gen.facts) := by
  intro m g m' g' _ hargs
  refine ⟨fun c => Cert.Kernel5Ideal.Value.valuesOf m c, fun c => Cert.Kernel5Ideal.Value.channelsOf m c, run_named m g, ?_⟩
  refine (θ_run Cert.Reference5Ideal.defs _ _).mono (fun r h c => ⟨(h c).1.trans ?_, (h c).2.1.trans ?_, (h c).2.2⟩) (Cert.Reference5Ideal.Value.run (F := Ideal) m' g')
  · obtain ⟨a0, a1, a2, a3, a4, a5⟩ := hargs c
    rw [Cert.Reference5Ideal.Read.val_main_v19_eq, a0, a2, a3]
    exact (valuesOf_eq m c).symm
  · obtain ⟨a0, a1, a2, a3, a4, a5⟩ := hargs c
    rw [Cert.Reference5Ideal.Read.val_main_v21_eq, a0, a2, a3]
    exact (channelsOf_eq m c).symm

end Cert.Proj

end
-- ==== Proof.Route.Pay.lean ====
module

public import proofs.«01_k».proof.Proof.Math
public import proofs.«01_k».proof.Proof.Up.Gate
public import proofs.«01_k».proof.Proof.Gen.Kernel6Ideal.Skeleton
public import Idealize.ShloMosaic.Lib.ValueIdx
public import Idealize.ShloMosaic.Lib.MatmulPlain
public import Idealize.ShloMosaic.Lib.Pipeline.Value
public import Idealize.ShloMosaic.PureOps.Ideal.Laws

@[expose] public section

set_option maxRecDepth 16384

noncomputable section

/-! # The routed output projection's arithmetic, read at an index -/

namespace Cert.Kernel6Ideal.Value

open Cert.Kernel6Ideal Cert.Kernel6Ideal.Gen Idealize.ShloMosaic Idealize.ShloMosaic.ValueIdx
open Cert.Attn (normRow)
open Cert.Up (zero_lit)

theorem half_product (a : FVec Ideal S1024x512 .bf16) (w : FVec Ideal S512x1024 .bf16) (r : Fin 1024) (c : Fin 1024) :
    matmul (F := Ideal) dot_S1024x512_S512x1024_S1024x1024_1_0_0_1_n_n none a w (constant S1024x1024 .f32 0x00000000#32) (ix2 r c)
      = ∑ k : Fin 512, a (ix2 r k) * w (ix2 k c) := by
  refine (Ideal.matmul_plain_apply (M := 1024) (K := 512) (N := 1024) (φ₁ := .bf16) (φ₂ := .bf16) none a w (constant S1024x1024 .f32 0x00000000#32) r c).trans ?_
  show Ideal.ofBits .f32 0x00000000#32 + _ = _
  rw [zero_lit, zero_add]

/-- One of the four column blocks, its leading axis dropped. -/
theorem drop_lead (v : Vec Ideal S1x1024x128 .f32) (r : Fin 1024) (l : Fin 128) :
    shapeCast S1024x128 v shapeCasts_S1x1024x128_S1024x128 (ix2 r l) = v (ix3 (0 : Fin 1) r l) :=
  shapeCast_apply _ _ _ _ (by rw [Shape.rowMajor_val_two, Shape.rowMajor_val_three]; show (0 * 1024 + r.val) * 128 + l.val = r.val * 128 + l.val; omega)

/-- The four column blocks side by side. -/
theorem side_by_side (v : Fin 4 → Vec Ideal S1x1024x128 .f32) (r : Fin 1024) (s : Fin 4) (l : Fin 128) (d : Fin 512) (hd : d.val = 128 * s.val + l.val) :
    concatenate (α := EReal) S1024x512 1 [⟨S1024x128, shapeCast S1024x128 (v 0) shapeCasts_S1x1024x128_S1024x128⟩, ⟨S1024x128, shapeCast S1024x128 (v 1) shapeCasts_S1x1024x128_S1024x128⟩,
      ⟨S1024x128, shapeCast S1024x128 (v 2) shapeCasts_S1x1024x128_S1024x128⟩, ⟨S1024x128, shapeCast S1024x128 (v 3) shapeCasts_S1x1024x128_S1024x128⟩]
      concatenates_S1024x128_S1024x128_S1024x128_S1024x128_S1024x512_d1 (ix2 r d) = v s (ix3 (0 : Fin 1) r l) := by
  rw [← drop_lead (v s) r l]
  match s, hd with
  | ⟨0, hn⟩, hd =>
    exact concatenate_apply_piece (t := S1024x512) 1 _ _ _ 0 (by show 0 < 4; omega) S1024x128 _ rfl rfl 0 rfl (ix2 r l)
      (fun a ha => by match a with | ⟨0, _⟩ => rfl | ⟨1, _⟩ => exact (ha rfl).elim) hd.symm
  | ⟨1, hn⟩, hd =>
    exact concatenate_apply_piece (t := S1024x512) 1 _ _ _ 1 (by show 1 < 4; omega) S1024x128 _ rfl rfl 128 rfl (ix2 r l)
      (fun a ha => by match a with | ⟨0, _⟩ => rfl | ⟨1, _⟩ => exact (ha rfl).elim) hd.symm
  | ⟨2, hn⟩, hd =>
    exact concatenate_apply_piece (t := S1024x512) 1 _ _ _ 2 (by show 2 < 4; omega) S1024x128 _ rfl rfl 256 rfl (ix2 r l)
      (fun a ha => by match a with | ⟨0, _⟩ => rfl | ⟨1, _⟩ => exact (ha rfl).elim) hd.symm
  | ⟨3, hn⟩, hd =>
    exact concatenate_apply_piece (t := S1024x512) 1 _ _ _ 3 (by show 3 < 4; omega) S1024x128 _ rfl rfl 384 rfl (ix2 r l)
      (fun a ha => by match a with | ⟨0, _⟩ => rfl | ⟨1, _⟩ => exact (ha rfl).elim) hd.symm

/-- The row with the two halves' products added. -/
theorem pay25_at (v : Fin 4 → Vec Ideal S1x1024x128 .f32) (a : Vec Ideal S1024x512 .bf16) (w u : Vec Ideal S512x1024 .bf16) (x : Vec Ideal S1024x1024 .f32) (r c : Fin 1024) :
    k0_pay25 (F := Ideal) (v 0) (v 1) (v 2) (v 3) a w u x (ix2 r c)
      = x (ix2 r c) + ((∑ k : Fin 512, a (ix2 r k) * w (ix2 k c))
        + ∑ k : Fin 512, v (⟨k.val / 128, by omega⟩ : Fin 4) (ix3 (0 : Fin 1) r (⟨k.val % 128, by omega⟩ : Fin 128)) * u (ix2 k c)) := by
  unfold k0_pay25
  refine congrArg (x (ix2 r c) + ·) (congr (congrArg HAdd.hAdd (half_product a w r c)) ((half_product _ u r c).trans (Finset.sum_congr rfl fun k _ => congrArg (· * u (ix2 k c)) ?_)))
  exact side_by_side v r ⟨k.val / 128, by omega⟩ ⟨k.val % 128, by omega⟩ k (by show k.val = 128 * (k.val / 128) + k.val % 128; omega)

theorem gain_at (g : Vec Ideal S1x1x1024 .f32) (c : Fin 1024) : k0_pay26 (F := Ideal) g (ix2 (0 : Fin 1) c) = g (ix3 (0 : Fin 1) (0 : Fin 1) c) := by
  unfold k0_pay26
  exact shapeCast_apply _ _ _ _ (by rw [Shape.rowMajor_val_two, Shape.rowMajor_val_three]; show (0 * 1 + 0) * 1024 + c.val = 0 * 1024 + c.val; omega)

/-- The weights the scratch keeps. -/
theorem pay7_at (w : Vec Ideal S1x1024x1024 .f32) (k c : Fin 1024) : k0_pay7 (F := Ideal) w (ix2 k c) = w (ix3 (0 : Fin 1) k c) := by
  unfold k0_pay7
  refine (shapeCast_apply _ _ (ix2 k c) (ix2 k c) rfl).trans ?_
  exact shapeCast_apply _ _ _ _ (by rw [Shape.rowMajor_val_two, Shape.rowMajor_val_three]; show (0 * 1024 + k.val) * 1024 + c.val = k.val * 1024 + c.val; omega)

/-- A column block on its way into the scratch. -/
theorem widened_at (x : Vec Ideal S256x128 .bf16) (q : Fin 256) (l : Fin 128) :
    shapeCast S1x256x128 (extf (F := Ideal) .f32 x bitsLt_bf16_f32) shapeCasts_S256x128_S1x256x128 (ix3 (0 : Fin 1) q l) = x (ix2 q l) :=
  shapeCast_apply (α := EReal) _ _ _ _ (by rw [Shape.rowMajor_val_two, Shape.rowMajor_val_three]; show q.val * 128 + l.val = (0 * 256 + q.val) * 128 + l.val; omega)

/-- A column of one entry per row. -/
theorem column_at (x : FVec Ideal S1024 .f32) (r : Fin 1024) : shapeCast S1024x1 x shapeCasts_S1024_S1024x1 (ix2 r (0 : Fin 1)) = x (ix1 r) :=
  shapeCast_apply _ _ _ _ (by rw [Shape.rowMajor_val_one, Shape.rowMajor_val_two]; show r.val = r.val * 1 + 0; omega)

/-- The normed row. -/
theorem pay29_at (v : Fin 4 → Vec Ideal S1x1024x128 .f32) (a : Vec Ideal S1024x512 .bf16) (w u : Vec Ideal S512x1024 .bf16) (x : Vec Ideal S1024x1024 .f32) (g : Vec Ideal S1x1x1024 .f32) (r c : Fin 1024) :
    k0_pay29 (F := Ideal) (k0_pay25 (v 0) (v 1) (v 2) (v 3) a w u x) (k0_pay26 g) (k0_pay27 (v 0) (v 1) (v 2) (v 3) a w u x) k0_pay28 (ix2 r c)
      = normRow (Ideal.ofBits .f32 0x44800000#32) (Ideal.ofBits .f32 0x358637BD#32) (fun j => k0_pay25 (F := Ideal) (v 0) (v 1) (v 2) (v 3) a w u x (ix2 r j)) (fun j => g (ix3 (0 : Fin 1) (0 : Fin 1) j)) c := by
  unfold k0_pay29 k0_pay27 k0_pay28 normRow
  generalize k0_pay25 (F := Ideal) (v 0) (v 1) (v 2) (v 3) a w u x = y
  dsimp only
  rw [mulf_apply, mulf_apply,
    broadcastTo_apply (k0_pay26 g) broadcasts_S1x1024_S1024x1024 (ix2 r c) (ix2 (0 : Fin 1) c) fun b => by match b with | ⟨0, _⟩ => rfl | ⟨1, _⟩ => rfl,
    broadcastTo_apply _ broadcasts_S1024x1_S1024x1024 (ix2 r c) (ix2 r (0 : Fin 1)) fun b => by match b with | ⟨0, _⟩ => rfl | ⟨1, _⟩ => rfl, gain_at]
  refine congrArg (fun z => y (ix2 r c) * Ideal.rsqrt (Ideal.div z (Ideal.ofBits .f32 0x44800000#32) + Ideal.ofBits .f32 0x358637BD#32) * g (ix3 (0 : Fin 1) (0 : Fin 1) c)) ?_
  rw [column_at, Ideal.multiReduction_add_single (mulf y y) 0x00000000#32 reduces_S1024x1024_S1024 (.inl rfl) rfl (ix1 r)]
  refine Finset.sum_congr rfl fun j _ => ?_
  refine congrArg (fun i => y i * y i) (funext fun b => Fin.ext (by match b with | ⟨0, _⟩ => rfl | ⟨1, _⟩ => rfl))

theorem line_slices : ∀ s : Fin 8, S1024x1024.Slices ![0, 128 * s.val] S1024x128 := by decide

/-- The columns `128 s` to `128 s + 127` of the normed rows. -/
abbrev line (h : FVec Ideal S1024x1024 .f32) (s : Fin 8) : FVec Ideal S1024x128 .f32 :=
  shapeCast S1024x128 (extractStridedSlice S1024x128 ![0, 128 * s.val] h (line_slices s)) shapeCasts_S1024x128_S1024x128

theorem line_at (h : FVec Ideal S1024x1024 .f32) (s : Fin 8) (r : Fin 1024) (l : Fin 128) :
    line h s (ix2 r l) = h (ix2 r (⟨s.val * 128 + l.val, by omega⟩ : Fin 1024)) := by
  refine (shapeCast_apply _ _ (ix2 r l) (ix2 r l) rfl).trans ?_
  refine extractStridedSlice_apply ![0, 128 * s.val] h (line_slices s) (ix2 r l) (ix2 r (⟨s.val * 128 + l.val, by omega⟩ : Fin 1024)) fun a => ?_
  match a with
  | ⟨0, _⟩ => show r.val = 0 + r.val; omega
  | ⟨1, _⟩ => show s.val * 128 + l.val = 128 * s.val + l.val; omega

end Cert.Kernel6Ideal.Value

end
-- ==== Proof.Route.Value.lean ====
module

public import proofs.«01_k».proof.Proof.Route.Pay
public import proofs.«01_k».proof.Proof.Gen.Kernel6Ideal.Frame
public import Idealize.ShloMosaic.Lib.Pipeline.ReadBack
public import Idealize.ShloMosaic.Lib.Pipeline.ValueKit.Basic
public import Idealize.ShloMosaic.Lib.Pipeline.ValueKit.Tiles
public import Idealize.ShloMosaic.Lib.Writes

@[expose] public section

set_option maxRecDepth 16384

noncomputable section

/-! # What a point of the routed output projection leaves in its blocks -/

namespace Cert.Kernel6Ideal.Value

open Cert.Kernel6Ideal Cert.Kernel6Ideal.Gen Idealize.ShloMosaic Idealize.ShloMosaic.TcCoe Idealize.SL.Sem Idealize.ShloMosaic.ValueIdx
open Cert.Attn (normRow)

/-! ## The second half's rows, spread over the scratch -/

theorem spread_inb : ∀ s k : Fin 4, ∀ a : Fin 3, S1x256x128.size a = 0 ∨ (![s.val, k.val, 0] : Fin 3 → ℕ) a + (![1, 4, 1] : Fin 3 → ℕ) a * (S1x256x128.size a - 1) < S4x1024x128.size a := by decide

theorem part_inb : ∀ s k : Fin 4, ∀ a : Fin 2, (![0, 512 * k.val + 128 * s.val] : Fin 2 → ℕ) a + S256x128.size a ≤ S256x2048.size a := by decide

theorem slab_inb : ∀ s : Fin 4, ∀ a : Fin 3, (![s.val, 0, 0] : Fin 3 → ℕ) a + S1x1024x128.size a ≤ S4x1024x128.size a := by decide

theorem steps_pos : ∀ a : Fin 3, 0 < (![1, 4, 1] : Fin 3 → ℕ) a := by decide

/-- Where the block of columns `s` of every fourth row from `k` goes. -/
abbrev spreadRect (s k : Fin 4) : Rect S4x1024x128 := ⟨(⟨![s.val, k.val, 0], S1x256x128.size, ![1, 4, 1], spread_inb s k⟩ : LoadRect S4x1024x128), steps_pos⟩

/-- The block of columns `s` of every fourth row from `k`. -/
abbrev part (arg2 : Memref sig .tc .vmem S256x2048 .bf16) (harg2 : arg2.IsWhole) (x1 : Vec Ideal S256x2048 .bf16) (s k : Fin 4) : Vec Ideal S256x128 .bf16 :=
  arg2.view.readAt (Elt Ideal) (Rect.unit (s := S256x2048) ![0, 512 * k.val + 128 * s.val] S256x128.size (part_inb s k)).toLoadRect (harg2.unread x1)

abbrev spreadPiece (arg2 : Memref sig .tc .vmem S256x2048 .bf16) (harg2 : arg2.IsWhole) (x1 : Vec Ideal S256x2048 .bf16) (p : Fin 4 × Fin 4) : View.Piece (Elt Ideal) S4x1024x128 .f32 :=
  ⟨spreadRect p.1 p.2, shapeCast S1x256x128 (extf (F := Ideal) .f32 (part arg2 harg2 x1 p.1 p.2) bitsLt_bf16_f32) shapeCasts_S256x128_S1x256x128⟩

/-- The sixteen stores, last first. -/
abbrev order : List (Fin 4 × Fin 4) := [(3, 3), (2, 3), (1, 3), (0, 3), (3, 2), (2, 2), (1, 2), (0, 2), (3, 1), (2, 1), (1, 1), (0, 1), (3, 0), (2, 0), (1, 0), (0, 0)]

theorem mem_order : ∀ p : Fin 4 × Fin 4, p ∈ order := by decide

abbrev spread (arg2 : Memref sig .tc .vmem S256x2048 .bf16) (harg2 : arg2.IsWhole) (x1 : Vec Ideal S256x2048 .bf16) : List (View.Piece (Elt Ideal) S4x1024x128 .f32) :=
  order.map (spreadPiece arg2 harg2 x1)

/-- Column `k` of row `r` of the second half. -/
abbrev halfAt (x1 : Vec Ideal S256x2048 .bf16) (r : Fin 1024) (k : Fin 512) : EReal :=
  x1 (ix2 (⟨r.val / 4, by omega⟩ : Fin 256) (⟨r.val % 4 * 512 + k.val, by omega⟩ : Fin 2048))

/-- What the scratch holds once all sixteen are in. -/
abbrev held (x1 : Vec Ideal S256x2048 .bf16) : S4x1024x128.Idx → EReal := fun y =>
  halfAt x1 (y 1) (⟨(y 0).val * 128 + (y 2).val, by have h0 : (y 0).val < 4 := (y 0).isLt; have h2 : (y 2).val < 128 := (y 2).isLt; omega⟩ : Fin 512)

theorem piece_at (arg2 : Memref sig .tc .vmem S256x2048 .bf16) (harg2 : arg2.IsWhole) (x1 : Vec Ideal S256x2048 .bf16) (s k : Fin 4) (z : S1x256x128.Idx) :
    shapeCast S1x256x128 (extf (F := Ideal) .f32 (part arg2 harg2 x1 s k) bitsLt_bf16_f32) shapeCasts_S256x128_S1x256x128 z = held x1 ((spreadRect s k).emb z) := by
  obtain ⟨q, l, rfl⟩ : ∃ (q : Fin 256) (l : Fin 128), z = (ix3 (0 : Fin 1) q l : S1x256x128.Idx) := ⟨z 1, z 2, funext fun a => by
    match a with
    | ⟨0, _⟩ => exact Fin.ext (by have h : (z 0).val < 1 := (z 0).isLt; show (z 0).val = 0; omega)
    | ⟨1, _⟩ => rfl
    | ⟨2, _⟩ => rfl⟩
  have hs := s.isLt
  have hk := k.isLt
  have hl := l.isLt
  refine (widened_at _ q l).trans ?_
  unfold part
  rw [View.readAt_eq_ld, harg2.read_unread]
  refine View.ld_unit_apply_of x1 _ _ _ _ _ fun a => ?_
  match a with
  | ⟨0, _⟩ => show (k.val + 4 * q.val) / 4 = 0 + q.val; omega
  | ⟨1, _⟩ => show (k.val + 4 * q.val) % 4 * 512 + ((s.val + 1 * 0) * 128 + (0 + 1 * l.val)) = 512 * k.val + 128 * s.val + l.val; omega

abbrev slab (arg2 : Memref sig .tc .vmem S256x2048 .bf16) (harg2 : arg2.IsWhole) (arg9 : Memref sig .tc .vmem S4x1024x128 .f32) (x1 : Vec Ideal S256x2048 .bf16) (s : Fin 4) : Vec Ideal S1x1024x128 .f32 :=
  arg9.view.readCov (spread arg2 harg2 x1) (Rect.unit (s := S4x1024x128) ![s.val, 0, 0] S1x1024x128.size (slab_inb s)).toLoadRect

/-- A slab read back. -/
theorem slab_at (arg2 : Memref sig .tc .vmem S256x2048 .bf16) (harg2 : arg2.IsWhole) (arg9 : Memref sig .tc .vmem S4x1024x128 .f32) (x1 : Vec Ideal S256x2048 .bf16) (s : Fin 4) (r : Fin 1024) (l : Fin 128) (k : Fin 512) (hk : k.val = s.val * 128 + l.val) :
    slab arg2 harg2 arg9 x1 s (ix3 (0 : Fin 1) r l) = halfAt x1 r k := by
  have e : (Rect.unit (s := S4x1024x128) ![s.val, 0, 0] S1x1024x128.size (slab_inb s)).toLoadRect.idx (ix3 (0 : Fin 1) r l : S1x1024x128.Idx) = (ix3 s r l : S4x1024x128.Idx) := funext fun a => Fin.ext (by
    match a with
    | ⟨0, _⟩ => show s.val + 1 * 0 = s.val; omega
    | ⟨1, _⟩ => show 0 + 1 * r.val = r.val; omega
    | ⟨2, _⟩ => show 0 + 1 * l.val = l.val; omega)
  unfold slab
  rw [View.readCov_eq_canon']
  refine (congrArg (View.canon (spread arg2 harg2 x1)) e).trans ?_
  refine (View.canon_apply_of_pieces (held x1) (spread arg2 harg2 x1) ?_ (ix3 s r l : S4x1024x128.Idx) ?_).trans ?_
  · intro p hp
    obtain ⟨⟨s', k'⟩, _, rfl⟩ := List.mem_map.mp hp
    exact piece_at arg2 harg2 x1 s' k'
  · refine ⟨spreadPiece arg2 harg2 x1 (s, (⟨r.val % 4, by omega⟩ : Fin 4)), List.mem_map_of_mem (mem_order _), ?_⟩
    have h : (ix3 s r l : S4x1024x128.Idx) = (spreadRect s (⟨r.val % 4, by omega⟩ : Fin 4)).emb (ix3 (0 : Fin 1) (⟨r.val / 4, by omega⟩ : Fin 256) l : S1x256x128.Idx) := funext fun a => Fin.ext (by
      match a with
      | ⟨0, _⟩ => show s.val = s.val + 1 * 0; omega
      | ⟨1, _⟩ => show r.val = r.val % 4 + 4 * (r.val / 4); omega
      | ⟨2, _⟩ => show l.val = 0 + 1 * l.val; omega)
    rw [h]
    exact (congrArg (_ ∈ ·) (Rect.map_emb_univ (spreadRect s (⟨r.val % 4, by omega⟩ : Fin 4)))).mp (Finset.mem_map_of_mem _ (Finset.mem_univ _))
  · exact congrArg (halfAt x1 r) (Fin.ext hk.symm)

/-! ## The weights kept in the scratch -/

/-- The two halves of the weights, read from the scratch where the point filled it. -/
abbrev filled (arg4 : Memref sig .tc .vmem S1x1024x1024 .f32) (harg4 : arg4.IsWhole) (x3 : Vec Ideal S1x1024x1024 .f32) : List (View.Piece (Elt Ideal) S1024x1024 .bf16) :=
  [⟨Rect.unit ![0, 0] S1024x1024.size inb_S1024x1024_S1024x1024_0_0, k0_pay7 (arg4.view.readAt (Elt Ideal) (Rect.unit (s := S1x1024x1024) ![0, 0, 0] S1x1024x1024.size inb_S1x1024x1024_S1x1024x1024_0_0_0).toLoadRect (harg4.unread x3))⟩]

/-- The weights without their leading axis. -/
abbrev flat (x3 : Vec Ideal S1x1024x1024 .f32) : S1024x1024.Idx → EReal := fun y => x3 (ix3 (0 : Fin 1) (y 0) (y 1))

theorem pay7_eq (arg4 : Memref sig .tc .vmem S1x1024x1024 .f32) (harg4 : arg4.IsWhole) (x3 : Vec Ideal S1x1024x1024 .f32) :
    k0_pay7 (F := Ideal) (arg4.view.readAt (Elt Ideal) (Rect.unit (s := S1x1024x1024) ![0, 0, 0] S1x1024x1024.size inb_S1x1024x1024_S1x1024x1024_0_0_0).toLoadRect (harg4.unread x3)) = flat x3 := by
  rw [View.readAt_eq_ld, harg4.read_unread, View.ld_unit_lit (S := S1x1024x1024) _ x3 (by decide)]
  funext y
  obtain ⟨k, c, rfl⟩ : ∃ (k c : Fin 1024), y = (ix2 k c : S1024x1024.Idx) := ⟨y 0, y 1, funext fun a => by
    match a with
    | ⟨0, _⟩ => rfl
    | ⟨1, _⟩ => rfl⟩
  exact pay7_at x3 k c

theorem half_inb : ∀ s : Fin 2, ∀ a : Fin 2, (![512 * s.val, 0] : Fin 2 → ℕ) a + S512x1024.size a ≤ S1024x1024.size a := by decide

theorem half_idx (o : ℕ) (inb : ∀ a : Fin 2, (![o, 0] : Fin 2 → ℕ) a + S512x1024.size a ≤ S1024x1024.size a) (k : Fin 512) (c : Fin 1024) (K : Fin 1024) (hK : K.val = o + k.val) :
    (Rect.unit (s := S1024x1024) ![o, 0] S512x1024.size inb).emb (ix2 k c : S512x1024.Idx) = (ix2 K c : S1024x1024.Idx) := funext fun a => Fin.ext (by
  match a with
  | ⟨0, _⟩ => show o + 1 * k.val = K.val; omega
  | ⟨1, _⟩ => show 0 + 1 * c.val = c.val; omega)

theorem filled_at (arg4 : Memref sig .tc .vmem S1x1024x1024 .f32) (harg4 : arg4.IsWhole) (arg8 : Memref sig .tc .vmem S1024x1024 .bf16) (x3 : Vec Ideal S1x1024x1024 .f32)
    (o : ℕ) (inb : ∀ a : Fin 2, (![o, 0] : Fin 2 → ℕ) a + S512x1024.size a ≤ S1024x1024.size a) (k : Fin 512) (c : Fin 1024) (K : Fin 1024) (hK : K.val = o + k.val) :
    arg8.view.readCov (filled arg4 harg4 x3) (Rect.unit (s := S1024x1024) ![o, 0] S512x1024.size inb).toLoadRect (ix2 k c : S512x1024.Idx) = flat x3 (ix2 K c) := by
  unfold filled
  rw [pay7_eq]
  refine (congrFun (View.readCov_fill arg8.view inb_S1024x1024_S1024x1024_0_0 _ [] (Rect.unit (s := S1024x1024) ![o, 0] S512x1024.size inb) (by decide)) (ix2 k c)).trans ?_
  exact congrArg (flat x3) (half_idx o inb k c K hK)

theorem kept_at (arg8 : Memref sig .tc .vmem S1024x1024 .bf16) (harg8 : arg8.IsWhole) (xs : Vec Ideal S1024x1024 .bf16)
    (o : ℕ) (inb : ∀ a : Fin 2, (![o, 0] : Fin 2 → ℕ) a + S512x1024.size a ≤ S1024x1024.size a) (k : Fin 512) (c : Fin 1024) (K : Fin 1024) (hK : K.val = o + k.val) :
    arg8.view.readAt (Elt Ideal) (Rect.unit (s := S1024x1024) ![o, 0] S512x1024.size inb).toLoadRect (harg8.unread xs) (ix2 k c : S512x1024.Idx) = xs (ix2 K c) := by
  rw [View.readAt_eq_ld, harg8.read_unread]
  exact congrArg xs (half_idx o inb k c K hK)

theorem whole_emb (y : S1024x1024.Idx) : (Rect.unit (s := S1024x1024) ![0, 0] ![1024, 1024] inb_S1024x1024_S1024x1024_0_0).emb y = y := funext fun a => Fin.ext (by
  match a with
  | ⟨0, _⟩ => show 0 + 1 * (y 0).val = (y 0).val; omega
  | ⟨1, _⟩ => show 0 + 1 * (y 1).val = (y 1).val; omega)

/-! ## The stores -/

abbrev wholeA (arg1 : Memref sig .tc .vmem S1024x512 .bf16) (harg1 : arg1.IsWhole) (x0 : Vec Ideal S1024x512 .bf16) : Vec Ideal S1024x512 .bf16 :=
  arg1.view.readAt (Elt Ideal) (Rect.unit (s := S1024x512) ![0, 0] S1024x512.size inb_S1024x512_S1024x512_0_0).toLoadRect (harg1.unread x0)
abbrev wholeX (arg3 : Memref sig .tc .vmem S1024x1024 .f32) (harg3 : arg3.IsWhole) (x2 : Vec Ideal S1024x1024 .f32) : Vec Ideal S1024x1024 .f32 :=
  arg3.view.readAt (Elt Ideal) (Rect.unit (s := S1024x1024) ![0, 0] S1024x1024.size inb_S1024x1024_S1024x1024_0_0).toLoadRect (harg3.unread x2)
abbrev wholeG (arg5 : Memref sig .tc .vmem S1x1x1024 .f32) (harg5 : arg5.IsWhole) (x4 : Vec Ideal S1x1x1024 .f32) : Vec Ideal S1x1x1024 .f32 :=
  arg5.view.readAt (Elt Ideal) (Rect.unit (s := S1x1x1024) ![0, 0, 0] S1x1x1024.size inb_S1x1x1024_S1x1x1024_0_0_0).toLoadRect (harg5.unread x4)

theorem wholeA_eq (arg1 : Memref sig .tc .vmem S1024x512 .bf16) (harg1 : arg1.IsWhole) (x0 : Vec Ideal S1024x512 .bf16) : wholeA arg1 harg1 x0 = x0 := by
  unfold wholeA
  rw [View.readAt_eq_ld, harg1.read_unread]
  exact View.ld_unit_lit (S := S1024x512) _ x0 (by decide)
theorem wholeX_eq (arg3 : Memref sig .tc .vmem S1024x1024 .f32) (harg3 : arg3.IsWhole) (x2 : Vec Ideal S1024x1024 .f32) : wholeX arg3 harg3 x2 = x2 := by
  unfold wholeX
  rw [View.readAt_eq_ld, harg3.read_unread]
  exact View.ld_unit_lit (S := S1024x1024) _ x2 (by decide)
theorem wholeG_eq (arg5 : Memref sig .tc .vmem S1x1x1024 .f32) (harg5 : arg5.IsWhole) (x4 : Vec Ideal S1x1x1024 .f32) : wholeG arg5 harg5 x4 = x4 := by
  unfold wholeG
  rw [View.readAt_eq_ld, harg5.read_unread]
  exact View.ld_unit_lit (S := S1x1x1024) _ x4 (by decide)

abbrev fresh (arg4 : Memref sig .tc .vmem S1x1024x1024 .f32) (harg4 : arg4.IsWhole) (arg8 : Memref sig .tc .vmem S1024x1024 .bf16) (x3 : Vec Ideal S1x1024x1024 .f32) (s : Fin 2) : Vec Ideal S512x1024 .bf16 :=
  arg8.view.readCov (filled arg4 harg4 x3) (Rect.unit (s := S1024x1024) ![512 * s.val, 0] S512x1024.size (half_inb s)).toLoadRect
abbrev kept (arg8 : Memref sig .tc .vmem S1024x1024 .bf16) (harg8 : arg8.IsWhole) (xs : Vec Ideal S1024x1024 .bf16) (s : Fin 2) : Vec Ideal S512x1024 .bf16 :=
  arg8.view.readAt (Elt Ideal) (Rect.unit (s := S1024x1024) ![512 * s.val, 0] S512x1024.size (half_inb s)).toLoadRect (harg8.unread xs)

/-- The point's rows, from the loads. -/
abbrev rows (v : Fin 4 → Vec Ideal S1x1024x128 .f32) (a : Vec Ideal S1024x512 .bf16) (w : Fin 2 → Vec Ideal S512x1024 .bf16) (x : Vec Ideal S1024x1024 .f32) : FVec Ideal S1024x1024 .f32 :=
  k0_pay25 (F := Ideal) (v 0) (v 1) (v 2) (v 3) a (w 0) (w 1) x
abbrev normed (v : Fin 4 → Vec Ideal S1x1024x128 .f32) (a : Vec Ideal S1024x512 .bf16) (w : Fin 2 → Vec Ideal S512x1024 .bf16) (x : Vec Ideal S1024x1024 .f32) (g : Vec Ideal S1x1x1024 .f32) : FVec Ideal S1024x1024 .f32 :=
  k0_pay29 (F := Ideal) (k0_pay25 (v 0) (v 1) (v 2) (v 3) a (w 0) (w 1) x) (k0_pay26 g) (k0_pay27 (v 0) (v 1) (v 2) (v 3) a (w 0) (w 1) x) k0_pay28

/-- A row with both halves' products added. -/
abbrev mixed (x0 : Vec Ideal S1024x512 .bf16) (x1 : Vec Ideal S256x2048 .bf16) (x2 : Vec Ideal S1024x1024 .f32) (W : S1024x1024.Idx → EReal) (r c : Fin 1024) : EReal :=
  x2 (ix2 r c) + ((∑ k : Fin 512, x0 (ix2 r k) * W (ix2 (⟨k.val, by omega⟩ : Fin 1024) c)) + ∑ k : Fin 512, halfAt x1 r k * W (ix2 (⟨512 + k.val, by omega⟩ : Fin 1024) c))

theorem rows_at (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg9 : Memref sig .tc .vmem S4x1024x128 .f32)
    (x0 : Vec Ideal S1024x512 .bf16) (x1 : Vec Ideal S256x2048 .bf16) (x2 : Vec Ideal S1024x1024 .f32) (w : Fin 2 → Vec Ideal S512x1024 .bf16) (W : S1024x1024.Idx → EReal)
    (hw : ∀ (s : Fin 2) (k : Fin 512) (c K : Fin 1024), K.val = 512 * s.val + k.val → w s (ix2 k c) = W (ix2 K c)) (r c : Fin 1024) :
    rows (slab arg2 harg2 arg9 x1) (wholeA arg1 harg1 x0) w (wholeX arg3 harg3 x2) (ix2 r c) = mixed x0 x1 x2 W r c := by
  rw [wholeA_eq, wholeX_eq]
  refine (pay25_at (slab arg2 harg2 arg9 x1) x0 (w 0) (w 1) x2 r c).trans ?_
  refine congrArg (x2 (ix2 r c) + ·) (congr (congrArg HAdd.hAdd (Finset.sum_congr rfl fun k _ => ?_)) (Finset.sum_congr rfl fun k _ => ?_))
  · exact congrArg (x0 (ix2 r k) * ·) (hw 0 k c _ (by show k.val = 512 * 0 + k.val; omega))
  · refine congr (congrArg HMul.hMul (slab_at arg2 harg2 arg9 x1 _ r _ k ?_)) (hw 1 k c _ (by show 512 + k.val = 512 * 1 + k.val; omega))
    show k.val = k.val / 128 * 128 + k.val % 128
    omega

theorem normed_at (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg5 : Memref sig .tc .vmem S1x1x1024 .f32) (harg5 : arg5.IsWhole) (arg9 : Memref sig .tc .vmem S4x1024x128 .f32)
    (x0 : Vec Ideal S1024x512 .bf16) (x1 : Vec Ideal S256x2048 .bf16) (x2 : Vec Ideal S1024x1024 .f32) (x4 : Vec Ideal S1x1x1024 .f32) (w : Fin 2 → Vec Ideal S512x1024 .bf16) (W : S1024x1024.Idx → EReal)
    (hw : ∀ (s : Fin 2) (k : Fin 512) (c K : Fin 1024), K.val = 512 * s.val + k.val → w s (ix2 k c) = W (ix2 K c)) (r c : Fin 1024) :
    normed (slab arg2 harg2 arg9 x1) (wholeA arg1 harg1 x0) w (wholeX arg3 harg3 x2) (wholeG arg5 harg5 x4) (ix2 r c)
      = normRow (Ideal.ofBits .f32 0x44800000#32) (Ideal.ofBits .f32 0x358637BD#32) (mixed x0 x1 x2 W r) (fun j => x4 (ix3 (0 : Fin 1) (0 : Fin 1) j)) c := by
  rw [wholeG_eq]
  refine (pay29_at (slab arg2 harg2 arg9 x1) (wholeA arg1 harg1 x0) (w 0) (w 1) (wholeX arg3 harg3 x2) x4 r c).trans ?_
  exact congrArg (fun a => normRow _ _ a (fun j => x4 (ix3 (0 : Fin 1) (0 : Fin 1) j)) c) (funext fun j => rows_at arg1 harg1 arg2 harg2 arg3 harg3 arg9 x0 x1 x2 w W hw r j)

theorem fresh_at (arg4 : Memref sig .tc .vmem S1x1024x1024 .f32) (harg4 : arg4.IsWhole) (arg8 : Memref sig .tc .vmem S1024x1024 .bf16) (x3 : Vec Ideal S1x1024x1024 .f32) (s : Fin 2) (k : Fin 512) (c K : Fin 1024) (hK : K.val = 512 * s.val + k.val) :
    fresh arg4 harg4 arg8 x3 s (ix2 k c) = flat x3 (ix2 K c) := filled_at arg4 harg4 arg8 x3 _ _ k c K hK

theorem keptHalf_at (arg8 : Memref sig .tc .vmem S1024x1024 .bf16) (harg8 : arg8.IsWhole) (xs : Vec Ideal S1024x1024 .bf16) (s : Fin 2) (k : Fin 512) (c K : Fin 1024) (hK : K.val = 512 * s.val + k.val) :
    kept arg8 harg8 xs s (ix2 k c) = xs (ix2 K c) := kept_at arg8 harg8 xs _ _ k c K hK

/-! ## The normed rows, spread over lines -/

theorem line_inb : ∀ s : Fin 8, ∀ a : Fin 2, S1024x128.size a = 0 ∨ (![s.val, 0] : Fin 2 → ℕ) a + (![8, 1] : Fin 2 → ℕ) a * (S1024x128.size a - 1) < S8192x128.size a := by decide

theorem line_pos : ∀ a : Fin 2, 0 < (![8, 1] : Fin 2 → ℕ) a := by decide

/-- Where the line `s` of each row goes. -/
abbrev lineRect (s : Fin 8) : Rect S8192x128 := ⟨(⟨![s.val, 0], S1024x128.size, ![8, 1], line_inb s⟩ : LoadRect S8192x128), line_pos⟩

abbrev linePiece (h : FVec Ideal S1024x1024 .f32) (s : Fin 8) : View.Piece (Elt Ideal) S8192x128 .f32 := ⟨lineRect s, line h s⟩

/-- The eight stores, last first. -/
abbrev lines (h : FVec Ideal S1024x1024 .f32) : List (View.Piece (Elt Ideal) S8192x128 .f32) :=
  ([7, 6, 5, 4, 3, 2, 1, 0] : List (Fin 8)).map (linePiece h)

theorem mem_lines : ∀ s : Fin 8, s ∈ ([7, 6, 5, 4, 3, 2, 1, 0] : List (Fin 8)) := by decide

/-- What the scratch holds once all eight are in. -/
abbrev laid (h : FVec Ideal S1024x1024 .f32) : S8192x128.Idx → EReal := fun y =>
  h (ix2 (⟨(y 0).val / 8, by have h0 : (y 0).val < 8192 := (y 0).isLt; omega⟩ : Fin 1024) (⟨(y 0).val % 8 * 128 + (y 1).val, by have h1 : (y 1).val < 128 := (y 1).isLt; omega⟩ : Fin 1024))

theorem linePiece_at (h : FVec Ideal S1024x1024 .f32) (s : Fin 8) (z : S1024x128.Idx) : line h s z = laid h ((lineRect s).emb z) := by
  obtain ⟨r, l, rfl⟩ : ∃ (r : Fin 1024) (l : Fin 128), z = (ix2 r l : S1024x128.Idx) := ⟨z 0, z 1, funext fun a => by
    match a with
    | ⟨0, _⟩ => rfl
    | ⟨1, _⟩ => rfl⟩
  have hs := s.isLt
  refine (line_at h s r l).trans (congrArg h (funext fun a => Fin.ext ?_))
  match a with
  | ⟨0, _⟩ => show r.val = (s.val + 8 * r.val) / 8; omega
  | ⟨1, _⟩ => show s.val * 128 + l.val = (s.val + 8 * r.val) % 8 * 128 + (0 + 1 * l.val); omega

theorem whole_idx (y : S8192x128.Idx) : (Rect.unit (s := S8192x128) ![0, 0] S8192x128.size inb_S8192x128_S8192x128_0_0).emb y = y := funext fun a => Fin.ext (by
  match a with
  | ⟨0, _⟩ => show 0 + 1 * (y 0).val = (y 0).val; omega
  | ⟨1, _⟩ => show 0 + 1 * (y 1).val = (y 1).val; omega)

/-- The lines read back, all of them, and cast. -/
abbrev gathered (arg16 : Memref sig .tc .vmem S8192x128 .f32) (h : FVec Ideal S1024x1024 .f32) : FVec Ideal S8192x128 .bf16 :=
  k0_pay39 (F := Ideal) (arg16.view.readCov (lines h) (Rect.unit (s := S8192x128) ![0, 0] S8192x128.size inb_S8192x128_S8192x128_0_0).toLoadRect)

theorem gathered_at (arg16 : Memref sig .tc .vmem S8192x128 .f32) (h : FVec Ideal S1024x1024 .f32) (q : Fin 8192) (l : Fin 128) :
    gathered arg16 h (ix2 q l) = h (ix2 (⟨q.val / 8, by omega⟩ : Fin 1024) (⟨q.val % 8 * 128 + l.val, by omega⟩ : Fin 1024)) := by
  unfold gathered k0_pay39
  dsimp only
  rw [truncf_apply, View.readCov_eq_canon']
  refine (congrArg (View.canon (lines h)) (whole_idx (ix2 q l : S8192x128.Idx))).trans ?_
  refine (View.canon_apply_of_pieces (laid h) (lines h) ?_ (ix2 q l : S8192x128.Idx) ?_).trans ?_
  · intro p hp
    obtain ⟨s', _, rfl⟩ := List.mem_map.mp hp
    exact linePiece_at h s'
  · refine ⟨linePiece h (⟨q.val % 8, by omega⟩ : Fin 8), List.mem_map_of_mem (mem_lines _), ?_⟩
    have e : (ix2 q l : S8192x128.Idx) = (lineRect (⟨q.val % 8, by omega⟩ : Fin 8)).emb (ix2 (⟨q.val / 8, by omega⟩ : Fin 1024) l : S1024x128.Idx) := funext fun a => Fin.ext (by
      match a with
      | ⟨0, _⟩ => show q.val = q.val % 8 + 8 * (q.val / 8); omega
      | ⟨1, _⟩ => show l.val = 0 + 1 * l.val; omega)
    rw [e]
    exact (congrArg (_ ∈ ·) (Rect.map_emb_univ (lineRect (⟨q.val % 8, by omega⟩ : Fin 8)))).mp (Finset.mem_map_of_mem _ (Finset.mem_univ _))
  · rfl

/-! ## What the stores leave -/

theorem pieces_A_7 (c : Dev nD) (i : grid0.Coords) (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S8192x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1024x1024 .bf16) (harg13 : arg13.IsWhole) (arg14 : Memref sig .tc .vmem S4x1024x128 .f32) (harg14 : arg14.IsWhole) (arg15 : Memref sig .tc .vmem S1024x256 .bf16) (harg15 : arg15.IsWhole) (arg16 : Memref sig .tc .vmem S8192x128 .f32) (harg16 : arg16.IsWhole) (arg17 : Memref sig .tc .vmem S1x128 .f32) (harg17 : arg17.IsWhole) (hc0 : cond0_0 i) (hc1 : cond0_1 i)
    (x0 : Vec Ideal S1024x512 .bf16) (x1 : Vec Ideal S256x2048 .bf16) (x2 : Vec Ideal S1024x1024 .f32) (x3 : Vec Ideal S1x1024x1024 .f32) (x4 : Vec Ideal S1x1x1024 .f32) (x5 : Vec Ideal S1x1024x128 .f32) (x6 : Vec Ideal S1024x1024 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6).1
      = [⟨Rect.unit ![0, 0] ![1024, 1024] inb_S1024x1024_S1024x1024_0_0, rows (slab arg2 harg2 arg14 x1) (wholeA arg1 harg1 x0) (fresh arg4 harg4 arg13 x3) (wholeX arg3 harg3 x2)⟩] := rfl

theorem out_A_7_at (c : Dev nD) (i : grid0.Coords) (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S8192x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1024x1024 .bf16) (harg13 : arg13.IsWhole) (arg14 : Memref sig .tc .vmem S4x1024x128 .f32) (harg14 : arg14.IsWhole) (arg15 : Memref sig .tc .vmem S1024x256 .bf16) (harg15 : arg15.IsWhole) (arg16 : Memref sig .tc .vmem S8192x128 .f32) (harg16 : arg16.IsWhole) (arg17 : Memref sig .tc .vmem S1x128 .f32) (harg17 : arg17.IsWhole) (hc0 : cond0_0 i) (hc1 : cond0_1 i)
    (x0 : Vec Ideal S1024x512 .bf16) (x1 : Vec Ideal S256x2048 .bf16) (x2 : Vec Ideal S1024x1024 .f32) (x3 : Vec Ideal S1x1024x1024 .f32) (x4 : Vec Ideal S1x1x1024 .f32) (x5 : Vec Ideal S1x1024x128 .f32) (x6 : Vec Ideal S1024x1024 .bf16) (r e : Fin 1024) :
    out0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 (ix2 r e) = mixed x0 x1 x2 (flat x3) r e := by
  refine Eq.trans ?_ (rows_at arg1 harg1 arg2 harg2 arg3 harg3 arg14 x0 x1 x2 (fresh arg4 harg4 arg13 x3) (flat x3) (fresh_at arg4 harg4 arg13 x3) r e)
  unfold out0_A_7
  refine View.read_writes_apply_of_pieces (Val := Elt Ideal) VO0_7 _ (rows (slab arg2 harg2 arg14 x1) (wholeA arg1 harg1 x0) (fresh arg4 harg4 arg13 x3) (wholeX arg3 harg3 x2)) _ ?_ _ (cover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 _)
  rw [pieces_A_7]
  intro p hp y
  simp only [List.mem_cons, List.not_mem_nil, or_false] at hp
  subst hp
  exact congrArg (rows (slab arg2 harg2 arg14 x1) (wholeA arg1 harg1 x0) (fresh arg4 harg4 arg13 x3) (wholeX arg3 harg3 x2)) (whole_emb y).symm

theorem pieces_A_8 (c : Dev nD) (i : grid0.Coords) (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S8192x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1024x1024 .bf16) (harg13 : arg13.IsWhole) (arg14 : Memref sig .tc .vmem S4x1024x128 .f32) (harg14 : arg14.IsWhole) (arg15 : Memref sig .tc .vmem S1024x256 .bf16) (harg15 : arg15.IsWhole) (arg16 : Memref sig .tc .vmem S8192x128 .f32) (harg16 : arg16.IsWhole) (arg17 : Memref sig .tc .vmem S1x128 .f32) (harg17 : arg17.IsWhole) (hc0 : cond0_0 i) (hc1 : cond0_1 i)
    (x0 : Vec Ideal S1024x512 .bf16) (x1 : Vec Ideal S256x2048 .bf16) (x2 : Vec Ideal S1024x1024 .f32) (x3 : Vec Ideal S1x1024x1024 .f32) (x4 : Vec Ideal S1x1x1024 .f32) (x5 : Vec Ideal S1x1024x128 .f32) (x6 : Vec Ideal S1024x1024 .bf16) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6).2.1
      = [⟨Rect.unit ![0, 0] ![8192, 128] inb_S8192x128_S8192x128_0_0, gathered arg16 (normed (slab arg2 harg2 arg14 x1) (wholeA arg1 harg1 x0) (fresh arg4 harg4 arg13 x3) (wholeX arg3 harg3 x2) (wholeG arg5 harg5 x4))⟩] := rfl

theorem out_A_8_at (c : Dev nD) (i : grid0.Coords) (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S8192x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1024x1024 .bf16) (harg13 : arg13.IsWhole) (arg14 : Memref sig .tc .vmem S4x1024x128 .f32) (harg14 : arg14.IsWhole) (arg15 : Memref sig .tc .vmem S1024x256 .bf16) (harg15 : arg15.IsWhole) (arg16 : Memref sig .tc .vmem S8192x128 .f32) (harg16 : arg16.IsWhole) (arg17 : Memref sig .tc .vmem S1x128 .f32) (harg17 : arg17.IsWhole) (hc0 : cond0_0 i) (hc1 : cond0_1 i)
    (x0 : Vec Ideal S1024x512 .bf16) (x1 : Vec Ideal S256x2048 .bf16) (x2 : Vec Ideal S1024x1024 .f32) (x3 : Vec Ideal S1x1024x1024 .f32) (x4 : Vec Ideal S1x1x1024 .f32) (x5 : Vec Ideal S1x1024x128 .f32) (x6 : Vec Ideal S1024x1024 .bf16) (q : Fin 8192) (l : Fin 128) :
    out0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 (ix2 q l) = normRow (Ideal.ofBits .f32 0x44800000#32) (Ideal.ofBits .f32 0x358637BD#32) (mixed x0 x1 x2 (flat x3) (⟨q.val / 8, by omega⟩ : Fin 1024)) (fun j => x4 (ix3 (0 : Fin 1) (0 : Fin 1) j)) (⟨q.val % 8 * 128 + l.val, by omega⟩ : Fin 1024) := by
  refine Eq.trans ?_ ((gathered_at arg16 _ q l).trans (normed_at arg1 harg1 arg2 harg2 arg3 harg3 arg5 harg5 arg14 x0 x1 x2 x4 (fresh arg4 harg4 arg13 x3) (flat x3) (fresh_at arg4 harg4 arg13 x3) _ _))
  unfold out0_A_8
  refine View.read_writes_apply_of_pieces (Val := Elt Ideal) VO0_8 _ (gathered arg16 (normed (slab arg2 harg2 arg14 x1) (wholeA arg1 harg1 x0) (fresh arg4 harg4 arg13 x3) (wholeX arg3 harg3 x2) (wholeG arg5 harg5 x4))) _ ?_ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 _)
  rw [pieces_A_8]
  intro p hp y
  simp only [List.mem_cons, List.not_mem_nil, or_false] at hp
  subst hp
  exact congrArg (gathered arg16 (normed (slab arg2 harg2 arg14 x1) (wholeA arg1 harg1 x0) (fresh arg4 harg4 arg13 x3) (wholeX arg3 harg3 x2) (wholeG arg5 harg5 x4))) (whole_idx y).symm

theorem pieces_B_7 (c : Dev nD) (i : grid0.Coords) (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S8192x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1024x1024 .bf16) (harg13 : arg13.IsWhole) (arg14 : Memref sig .tc .vmem S4x1024x128 .f32) (harg14 : arg14.IsWhole) (arg15 : Memref sig .tc .vmem S1024x256 .bf16) (harg15 : arg15.IsWhole) (arg16 : Memref sig .tc .vmem S8192x128 .f32) (harg16 : arg16.IsWhole) (arg17 : Memref sig .tc .vmem S1x128 .f32) (harg17 : arg17.IsWhole) (hc0 : ¬cond0_0 i) (hc1 : ¬cond0_1 i)
    (x0 : Vec Ideal S1024x512 .bf16) (x1 : Vec Ideal S256x2048 .bf16) (x2 : Vec Ideal S1024x1024 .f32) (x3 : Vec Ideal S1x1024x1024 .f32) (x4 : Vec Ideal S1x1x1024 .f32) (x5 : Vec Ideal S1x1024x128 .f32) (x6 : Vec Ideal S1024x1024 .bf16) (xs0 : Vec Ideal S1024x1024 .bf16) (xs2 : Vec Ideal S1024x256 .bf16) (xs4 : Vec Ideal S1x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs2 xs4).1
      = [⟨Rect.unit ![0, 0] ![1024, 1024] inb_S1024x1024_S1024x1024_0_0, rows (slab arg2 harg2 arg14 x1) (wholeA arg1 harg1 x0) (kept arg13 harg13 xs0) (wholeX arg3 harg3 x2)⟩] := rfl

theorem out_B_7_at (c : Dev nD) (i : grid0.Coords) (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S8192x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1024x1024 .bf16) (harg13 : arg13.IsWhole) (arg14 : Memref sig .tc .vmem S4x1024x128 .f32) (harg14 : arg14.IsWhole) (arg15 : Memref sig .tc .vmem S1024x256 .bf16) (harg15 : arg15.IsWhole) (arg16 : Memref sig .tc .vmem S8192x128 .f32) (harg16 : arg16.IsWhole) (arg17 : Memref sig .tc .vmem S1x128 .f32) (harg17 : arg17.IsWhole) (hc0 : ¬cond0_0 i) (hc1 : ¬cond0_1 i)
    (x0 : Vec Ideal S1024x512 .bf16) (x1 : Vec Ideal S256x2048 .bf16) (x2 : Vec Ideal S1024x1024 .f32) (x3 : Vec Ideal S1x1024x1024 .f32) (x4 : Vec Ideal S1x1x1024 .f32) (x5 : Vec Ideal S1x1024x128 .f32) (x6 : Vec Ideal S1024x1024 .bf16) (xs0 : Vec Ideal S1024x1024 .bf16) (xs2 : Vec Ideal S1024x256 .bf16) (xs4 : Vec Ideal S1x128 .f32) (r e : Fin 1024) :
    out0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs2 xs4 (ix2 r e) = mixed x0 x1 x2 xs0 r e := by
  refine Eq.trans ?_ (rows_at arg1 harg1 arg2 harg2 arg3 harg3 arg14 x0 x1 x2 (kept arg13 harg13 xs0) xs0 (keptHalf_at arg13 harg13 xs0) r e)
  unfold out0_B_7
  refine View.read_writes_apply_of_pieces (Val := Elt Ideal) VO0_7 _ (rows (slab arg2 harg2 arg14 x1) (wholeA arg1 harg1 x0) (kept arg13 harg13 xs0) (wholeX arg3 harg3 x2)) _ ?_ _ (cover0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs2 xs4 _)
  rw [pieces_B_7]
  intro p hp y
  simp only [List.mem_cons, List.not_mem_nil, or_false] at hp
  subst hp
  exact congrArg (rows (slab arg2 harg2 arg14 x1) (wholeA arg1 harg1 x0) (kept arg13 harg13 xs0) (wholeX arg3 harg3 x2)) (whole_emb y).symm

theorem pieces_B_8 (c : Dev nD) (i : grid0.Coords) (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S8192x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1024x1024 .bf16) (harg13 : arg13.IsWhole) (arg14 : Memref sig .tc .vmem S4x1024x128 .f32) (harg14 : arg14.IsWhole) (arg15 : Memref sig .tc .vmem S1024x256 .bf16) (harg15 : arg15.IsWhole) (arg16 : Memref sig .tc .vmem S8192x128 .f32) (harg16 : arg16.IsWhole) (arg17 : Memref sig .tc .vmem S1x128 .f32) (harg17 : arg17.IsWhole) (hc0 : ¬cond0_0 i) (hc1 : ¬cond0_1 i)
    (x0 : Vec Ideal S1024x512 .bf16) (x1 : Vec Ideal S256x2048 .bf16) (x2 : Vec Ideal S1024x1024 .f32) (x3 : Vec Ideal S1x1024x1024 .f32) (x4 : Vec Ideal S1x1x1024 .f32) (x5 : Vec Ideal S1x1024x128 .f32) (x6 : Vec Ideal S1024x1024 .bf16) (xs0 : Vec Ideal S1024x1024 .bf16) (xs2 : Vec Ideal S1024x256 .bf16) (xs4 : Vec Ideal S1x128 .f32) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs2 xs4).2.1
      = [⟨Rect.unit ![0, 0] ![8192, 128] inb_S8192x128_S8192x128_0_0, gathered arg16 (normed (slab arg2 harg2 arg14 x1) (wholeA arg1 harg1 x0) (kept arg13 harg13 xs0) (wholeX arg3 harg3 x2) (wholeG arg5 harg5 x4))⟩] := rfl

theorem out_B_8_at (c : Dev nD) (i : grid0.Coords) (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S8192x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1024x1024 .bf16) (harg13 : arg13.IsWhole) (arg14 : Memref sig .tc .vmem S4x1024x128 .f32) (harg14 : arg14.IsWhole) (arg15 : Memref sig .tc .vmem S1024x256 .bf16) (harg15 : arg15.IsWhole) (arg16 : Memref sig .tc .vmem S8192x128 .f32) (harg16 : arg16.IsWhole) (arg17 : Memref sig .tc .vmem S1x128 .f32) (harg17 : arg17.IsWhole) (hc0 : ¬cond0_0 i) (hc1 : ¬cond0_1 i)
    (x0 : Vec Ideal S1024x512 .bf16) (x1 : Vec Ideal S256x2048 .bf16) (x2 : Vec Ideal S1024x1024 .f32) (x3 : Vec Ideal S1x1024x1024 .f32) (x4 : Vec Ideal S1x1x1024 .f32) (x5 : Vec Ideal S1x1024x128 .f32) (x6 : Vec Ideal S1024x1024 .bf16) (xs0 : Vec Ideal S1024x1024 .bf16) (xs2 : Vec Ideal S1024x256 .bf16) (xs4 : Vec Ideal S1x128 .f32) (q : Fin 8192) (l : Fin 128) :
    out0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs2 xs4 (ix2 q l) = normRow (Ideal.ofBits .f32 0x44800000#32) (Ideal.ofBits .f32 0x358637BD#32) (mixed x0 x1 x2 xs0 (⟨q.val / 8, by omega⟩ : Fin 1024)) (fun j => x4 (ix3 (0 : Fin 1) (0 : Fin 1) j)) (⟨q.val % 8 * 128 + l.val, by omega⟩ : Fin 1024) := by
  refine Eq.trans ?_ ((gathered_at arg16 _ q l).trans (normed_at arg1 harg1 arg2 harg2 arg3 harg3 arg5 harg5 arg14 x0 x1 x2 x4 (kept arg13 harg13 xs0) xs0 (keptHalf_at arg13 harg13 xs0) _ _))
  unfold out0_B_8
  refine View.read_writes_apply_of_pieces (Val := Elt Ideal) VO0_8 _ (gathered arg16 (normed (slab arg2 harg2 arg14 x1) (wholeA arg1 harg1 x0) (kept arg13 harg13 xs0) (wholeX arg3 harg3 x2) (wholeG arg5 harg5 x4))) _ ?_ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 xs0 xs2 xs4 _)
  rw [pieces_B_8]
  intro p hp y
  simp only [List.mem_cons, List.not_mem_nil, or_false] at hp
  subst hp
  exact congrArg (gathered arg16 (normed (slab arg2 harg2 arg14 x1) (wholeA arg1 harg1 x0) (kept arg13 harg13 xs0) (wholeX arg3 harg3 x2) (wholeG arg5 harg5 x4))) (whole_idx y).symm

theorem sout_A_eq (c : Dev nD) (i : grid0.Coords) (arg1 : Memref sig .tc .vmem S1024x512 .bf16) (harg1 : arg1.IsWhole) (arg2 : Memref sig .tc .vmem S256x2048 .bf16) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x128 .f32) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S8192x128 .bf16) (harg9 : arg9.IsWhole) (arg10 : Memref sig .tc .vmem S1024x128 .f32) (harg10 : arg10.IsWhole) (arg11 : Memref sig .tc .vmem S1024x128 .f32) (harg11 : arg11.IsWhole) (arg12 : Memref sig .tc .vmem S1x128 .f32) (harg12 : arg12.IsWhole) (arg13 : Memref sig .tc .vmem S1024x1024 .bf16) (harg13 : arg13.IsWhole) (arg14 : Memref sig .tc .vmem S4x1024x128 .f32) (harg14 : arg14.IsWhole) (arg15 : Memref sig .tc .vmem S1024x256 .bf16) (harg15 : arg15.IsWhole) (arg16 : Memref sig .tc .vmem S8192x128 .f32) (harg16 : arg16.IsWhole) (arg17 : Memref sig .tc .vmem S1x128 .f32) (harg17 : arg17.IsWhole) (hc0 : cond0_0 i) (hc1 : cond0_1 i)
    (x0 : Vec Ideal S1024x512 .bf16) (x1 : Vec Ideal S256x2048 .bf16) (x2 : Vec Ideal S1024x1024 .f32) (x3 : Vec Ideal S1x1024x1024 .f32) (x4 : Vec Ideal S1x1x1024 .f32) (x5 : Vec Ideal S1x1024x128 .f32) (x6 : Vec Ideal S1024x1024 .bf16) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 = flat x3 := by
  funext z
  unfold sout0_A_0
  refine View.read_writes_apply_of_pieces (Val := Elt Ideal) VS0_0 _ (flat x3) _ ?_ z (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 z)
  rw [show (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6).2.2.2.2.2.1 = filled arg4 harg4 x3 from rfl]
  intro p hp y
  simp only [filled, List.mem_cons, List.not_mem_nil, or_false] at hp
  subst hp
  exact (congrFun (pay7_eq arg4 harg4 x3) y).trans (congrArg (flat x3) (whole_emb y).symm)

end Cert.Kernel6Ideal.Value

end
-- ==== Proof.Route.Ref.lean ====
module

public import proofs.«01_k».proof.Proof.Math
public import proofs.«01_k».proof.Proof.Up.Gate
public import proofs.«01_k».proof.Proof.Gen.Reference6Ideal.Read
public import Idealize.ShloMosaic.Lib.ValueIdx
public import Idealize.ShloMosaic.Lib.Pipeline.Value

@[expose] public section

set_option maxRecDepth 16384

noncomputable section

/-! # The routed output projection's reference, read at an index -/

namespace Cert.Reference6Ideal.Read

open Cert.Reference6Ideal Cert.Reference6Ideal.Gen Idealize.ShloMosaic Idealize.ShloMosaic.ValueIdx
open Cert.Attn (normRow)
open Cert.Up (zero_lit)

/-- Where row `r` of the flattened rows keeps its column `k`. -/
abbrev cell (r : Fin 16384) (k : Fin 512) : S4096x2048.Idx := ix2 (⟨r.val / 4, by omega⟩ : Fin 4096) (⟨r.val % 4 * 512 + k.val, by omega⟩ : Fin 2048)

/-- The row with both halves' products added. -/
abbrev mixed (a : S16384x512.Idx → EReal) (f : S4096x2048.Idx → EReal) (x : S16384x1024.Idx → EReal) (w : S4x1024x1024.Idx → EReal) (r : Fin 16384) (c : Fin 1024) : EReal :=
  x (ix2 r c) + ((∑ k : Fin 512, a (ix2 r k) * w (ix3 (1 : Fin 4) (⟨k.val, by omega⟩ : Fin 1024) c))
    + ∑ k : Fin 512, f (cell r k) * w (ix3 (1 : Fin 4) (⟨512 + k.val, by omega⟩ : Fin 1024) c))

variable (a : S16384x512.Idx → EReal) (f : S4096x2048.Idx → EReal) (x : S16384x1024.Idx → EReal) (w : S4x1024x1024.Idx → EReal) (g : S4x1024.Idx → EReal)

theorem left_at (r : Fin 16384) (k : Fin 512) (d : Fin 1024) (hd : k.val = d.val) : val_main_v3 (F := Ideal) a f (ix2 r d) = a (ix2 r k) := by
  unfold val_main_v3
  refine (concatenate_apply_piece (t := S16384x1024) 1 _ _ _ 0 (by show 0 < 2; omega) S16384x512 _ rfl rfl 0 rfl (ix2 r k)
    (fun a ha => by match a with | ⟨0, _⟩ => rfl | ⟨1, _⟩ => exact (ha rfl).elim) (by show 0 + k.val = d.val; omega)).trans ?_
  rfl

theorem right_at (r : Fin 16384) (k : Fin 512) (d : Fin 1024) (hd : 512 + k.val = d.val) : val_main_v3 (F := Ideal) a f (ix2 r d) = f (cell r k) := by
  unfold val_main_v3
  refine (concatenate_apply_piece (t := S16384x1024) 1 _ _ _ 1 (by show 1 < 2; omega) S16384x512 _ rfl rfl 512 rfl (ix2 r k)
    (fun a ha => by match a with | ⟨0, _⟩ => rfl | ⟨1, _⟩ => exact (ha rfl).elim) (by show 512 + k.val = d.val; exact hd)).trans ?_
  rw [val_main_v2_apply]
  have hk := k.isLt
  refine congrArg f (funext fun b => Fin.ext ?_)
  match b with
  | ⟨0, _⟩ => show (r.val * 512 + k.val) / 2048 = r.val / 4; omega
  | ⟨1, _⟩ => show (r.val * 512 + k.val) % 2048 = r.val % 4 * 512 + k.val; omega

theorem weights_at (k c : Fin 1024) : val_main_v5 (F := Ideal) w (ix2 k c) = w (ix3 (1 : Fin 4) k c) := by
  rw [val_main_v5_apply, val_main_v4_apply]
  have hk := k.isLt
  have hc := c.isLt
  refine congrArg w (funext fun b => Fin.ext ?_)
  match b with
  | ⟨0, _⟩ => rfl
  | ⟨1, _⟩ => show (k.val * 1024 + c.val) / 1024 % 1024 = k.val; omega
  | ⟨2, _⟩ => show (k.val * 1024 + c.val) % 1024 = c.val; omega

/-- The residual row. -/
theorem v7_at (r : Fin 16384) (c : Fin 1024) : val_main_v7 (F := Ideal) a f x w (ix2 r c) = mixed a f x w r c := by
  rw [val_main_v7_apply, val_main_v6_apply]
  refine congrArg (x (ix2 r c) + ·) ?_
  refine (Fin.sum_univ_add (a := 512) (b := 512) _).trans (congr (congrArg HAdd.hAdd (Finset.sum_congr rfl fun k _ => ?_)) (Finset.sum_congr rfl fun k _ => ?_))
  · refine congr (congrArg HMul.hMul ((congrArg (val_main_v3 (F := Ideal) a f) ?_).trans (left_at a f r k ⟨k.val, by omega⟩ rfl))) ((congrArg (val_main_v5 (F := Ideal) w) ?_).trans (weights_at w ⟨k.val, by omega⟩ c))
    · exact funext fun b => by match b with | ⟨0, _⟩ => rfl | ⟨1, _⟩ => rfl
    · exact funext fun b => by match b with | ⟨0, _⟩ => rfl | ⟨1, _⟩ => rfl
  · refine congr (congrArg HMul.hMul ((congrArg (val_main_v3 (F := Ideal) a f) ?_).trans (right_at a f r k ⟨512 + k.val, by omega⟩ rfl))) ((congrArg (val_main_v5 (F := Ideal) w) ?_).trans (weights_at w ⟨512 + k.val, by omega⟩ c))
    · exact funext fun b => by match b with | ⟨0, _⟩ => rfl | ⟨1, _⟩ => rfl
    · exact funext fun b => by match b with | ⟨0, _⟩ => rfl | ⟨1, _⟩ => rfl

theorem squares_at (r : Fin 16384) : val_main_v11 (F := Ideal) a f x w (ix1 r) = ∑ j, mixed a f x w r j * mixed a f x w r j := by
  rw [val_main_v11_apply]
  show Ideal.ofBits .f32 0x00000000#32 + _ = _
  rw [zero_lit, zero_add]
  refine Finset.sum_congr rfl fun j _ => ?_
  rw [show idx_main_v11 (ix1 r) j = ix2 r j from funext fun b => by match b with | ⟨0, _⟩ => rfl | ⟨1, _⟩ => rfl, val_main_v10_apply, v7_at]
  rfl

theorem gain_at (r : Fin 16384) (c : Fin 1024) : val_main_v21 (F := Ideal) g (ix2 r c) = g (ix2 (1 : Fin 4) c) := by
  rw [val_main_v21_apply, val_main_v20_apply, val_main_v9_apply, val_main_v8_apply]
  refine congrArg g (funext fun b => Fin.ext ?_)
  match b with
  | ⟨0, _⟩ => rfl
  | ⟨1, _⟩ => show c.val % 1024 = c.val; have := c.isLt; omega

/-- The normed row. -/
theorem v23_at (r : Fin 16384) (c : Fin 1024) :
    val_main_v23 (F := Ideal) a f x w g (ix2 r c)
      = normRow (Ideal.ofBits .f32 0x44800000#32) (Ideal.ofBits .f32 0x358637BD#32) (mixed a f x w r) (fun j => g (ix2 (1 : Fin 4) j)) c := by
  rw [val_main_v23_apply, val_main_v22_apply, gain_at, val_main_v19_apply, v7_at, val_main_v18_apply, val_main_v17_apply, val_main_v16_apply, val_main_v14_apply, val_main_v12_apply,
    val_main_v13_apply, val_main_v15_apply,
    show idx_main_v12 (idx_main_v18 (ix2 r c)) = ix1 r from funext fun b => by match b with | ⟨0, _⟩ => rfl, squares_at]
  rfl

/-- A line of 128 columns of the normed row. -/
theorem v24_at (q : Fin 131072) (l : Fin 128) :
    val_main_v24 (F := Ideal) a f x w g (ix2 q l)
      = normRow (Ideal.ofBits .f32 0x44800000#32) (Ideal.ofBits .f32 0x358637BD#32) (mixed a f x w (⟨q.val / 8, by omega⟩ : Fin 16384)) (fun j => g (ix2 (1 : Fin 4) j)) (⟨q.val % 8 * 128 + l.val, by omega⟩ : Fin 1024) := by
  rw [val_main_v24_apply, ← v23_at]
  have hl := l.isLt
  refine congrArg (val_main_v23 (F := Ideal) a f x w g) (funext fun b => Fin.ext ?_)
  match b with
  | ⟨0, _⟩ => show (q.val * 128 + l.val) / 1024 = q.val / 8; omega
  | ⟨1, _⟩ => show (q.val * 128 + l.val) % 1024 = q.val % 8 * 128 + l.val; omega

end Cert.Reference6Ideal.Read

end
-- ==== Proof.Route.Array.lean ====
module

public import proofs.«01_k».proof.Proof.Route.Value
public import proofs.«01_k».proof.Proof.Route.Ref
public import Idealize.ShloMosaic.Lib.StableHlo.RunRead
public import Idealize.ShloMosaic.Lib.Pipeline.ValueKit.Geometry

@[expose] public section

set_option maxRecDepth 16384

noncomputable section

/-! # The routed output projection's two results, read at an index -/

namespace Cert.Kernel6Ideal.Value

open Cert.Kernel6Ideal Cert.Kernel6Ideal.Gen Idealize.ShloMosaic Idealize.ShloMosaic.TcCoe Idealize.SL.Sem Idealize.ShloMosaic.ValueIdx
open Idealize.ShloMosaic.Pipeline (Dat)
open Cert.Attn (normRow)

variable (m : (ℓ : Loc nD τ sig) → Buf (Elt Ideal) ℓ)

/-! ## The arguments, and the array the host makes -/

abbrev A0 (c : Dev nD) : S16384x512.Idx → EReal := m ((c : Thread nD τ).loc main_arg0)
abbrev A1 (c : Dev nD) : S4096x2048.Idx → EReal := m ((c : Thread nD τ).loc main_arg1)
abbrev A2 (c : Dev nD) : S16384x1024.Idx → EReal := m ((c : Thread nD τ).loc main_arg2)
abbrev A3 (c : Dev nD) : S4x1024x1024.Idx → EReal := m ((c : Thread nD τ).loc main_arg3)
abbrev A4 (c : Dev nD) : S4x1024.Idx → EReal := m ((c : Thread nD τ).loc main_arg4)

theorem V_main_v8 (c : Dev nD) (j : Fin 1024) :
    V m c main_v8 (ix3 (1 : Fin 4) (0 : Fin 1) j) = A4 m c (ix2 (1 : Fin 4) j) := by
  unfold V
  after_reads_simp
  refine shapeCast_apply (s := S4x1024) (α := EReal) (A4 m c) shapeCasts_S4x1024_S4x1x1024 (ix3 (1 : Fin 4) (0 : Fin 1) j) (ix2 (1 : Fin 4) j) ?_
  show ((⟨2, ![4, 1024]⟩ : Shape).rowMajor (ix2 (1 : Fin 4) j)).val = ((⟨3, ![4, 1, 1024]⟩ : Shape).rowMajor (ix3 (1 : Fin 4) (0 : Fin 1) j)).val
  rw [Shape.rowMajor_val_two, Shape.rowMajor_val_three]
  show 1 * 1024 + j.val = (1 * 1 + 0) * 1024 + j.val
  omega

/-! ## The windows' blocks -/

theorem index0 : ∀ t : Fin cfg0.N, win0_0.index t = ![t.val, 0] :=
  (by decide +kernel : ∀ t : Fin grid0.N, win0_0.index t = ![t.val, 0])
theorem index1 : ∀ t : Fin cfg0.N, win0_1.index t = ![t.val, 0] :=
  (by decide +kernel : ∀ t : Fin grid0.N, win0_1.index t = ![t.val, 0])
theorem index2 : ∀ t : Fin cfg0.N, win0_2.index t = ![t.val, 0] :=
  (by decide +kernel : ∀ t : Fin grid0.N, win0_2.index t = ![t.val, 0])
theorem index3 : ∀ t : Fin cfg0.N, win0_3.index t = ![1, 0, 0] :=
  (by decide +kernel : ∀ t : Fin grid0.N, win0_3.index t = ![1, 0, 0])
theorem index4 : ∀ t : Fin cfg0.N, win0_4.index t = ![1, 0, 0] :=
  (by decide +kernel : ∀ t : Fin grid0.N, win0_4.index t = ![1, 0, 0])
theorem index7 : ∀ t : Fin cfg0.N, win0_7.index t = ![t.val, 0] :=
  (by decide +kernel : ∀ t : Fin grid0.N, win0_7.index t = ![t.val, 0])
theorem index8 : ∀ t : Fin cfg0.N, win0_8.index t = ![t.val, 0] :=
  (by decide +kernel : ∀ t : Fin grid0.N, win0_8.index t = ![t.val, 0])

theorem t_lt (t : Fin cfg0.N) : t.val < 16 := t.isLt

/-- Row `r` of point `t`. -/
abbrev rowOf (t : Fin cfg0.N) (r : Fin 1024) : Fin 16384 := ⟨t.val * 1024 + r.val, by have := t_lt t; omega⟩

theorem iblk0_at (c : Dev nD) (t : Fin cfg0.N) (p : Fin 1024) (e : Fin 512) :
    iblk m c 0 t (ix2 p e) = A0 m c (ix2 (⟨t.val * 1024 + p.val, by have := t_lt t; omega⟩ : Fin 16384) e) := by
  refine Eq.trans ?_ (congrFun (V_main_arg0 m c) _)
  refine congrArg (V m c main_arg0) (funext fun a => Fin.ext ((win0_0.rect_emb_val t (ix2 p e) a).trans ?_))
  refine (congrArg (fun f : Fin 2 → ℕ => f a * win0_0.size a + ((ix2 p e : S1024x512.Idx) a).val) (index0 t)).trans ?_
  match a with
  | ⟨0, _⟩ => rfl
  | ⟨1, _⟩ => show 0 * 512 + e.val = e.val; omega

theorem iblk1_at (c : Dev nD) (t : Fin cfg0.N) (p : Fin 256) (e : Fin 2048) :
    iblk m c 1 t (ix2 p e) = A1 m c (ix2 (⟨t.val * 256 + p.val, by have := t_lt t; omega⟩ : Fin 4096) e) := by
  refine Eq.trans ?_ (congrFun (V_main_arg1 m c) _)
  refine congrArg (V m c main_arg1) (funext fun a => Fin.ext ((win0_1.rect_emb_val t (ix2 p e) a).trans ?_))
  refine (congrArg (fun f : Fin 2 → ℕ => f a * win0_1.size a + ((ix2 p e : S256x2048.Idx) a).val) (index1 t)).trans ?_
  match a with
  | ⟨0, _⟩ => rfl
  | ⟨1, _⟩ => show 0 * 2048 + e.val = e.val; omega

theorem iblk2_at (c : Dev nD) (t : Fin cfg0.N) (p : Fin 1024) (e : Fin 1024) :
    iblk m c 2 t (ix2 p e) = A2 m c (ix2 (⟨t.val * 1024 + p.val, by have := t_lt t; omega⟩ : Fin 16384) e) := by
  refine Eq.trans ?_ (congrFun (V_main_arg2 m c) _)
  refine congrArg (V m c main_arg2) (funext fun a => Fin.ext ((win0_2.rect_emb_val t (ix2 p e) a).trans ?_))
  refine (congrArg (fun f : Fin 2 → ℕ => f a * win0_2.size a + ((ix2 p e : S1024x1024.Idx) a).val) (index2 t)).trans ?_
  match a with
  | ⟨0, _⟩ => rfl
  | ⟨1, _⟩ => show 0 * 1024 + e.val = e.val; omega

theorem iblk3_at (c : Dev nD) (t : Fin cfg0.N) (k e : Fin 1024) :
    iblk m c 3 t (ix3 (0 : Fin 1) k e) = A3 m c (ix3 (1 : Fin 4) k e) := by
  refine Eq.trans ?_ (congrFun (V_main_arg3 m c) _)
  refine congrArg (V m c main_arg3) (funext fun a => Fin.ext ((win0_3.rect_emb_val t (ix3 (0 : Fin 1) k e) a).trans ?_))
  refine (congrArg (fun f : Fin 3 → ℕ => f a * win0_3.size a + ((ix3 (0 : Fin 1) k e : S1x1024x1024.Idx) a).val) (index3 t)).trans ?_
  match a with
  | ⟨0, _⟩ => rfl
  | ⟨1, _⟩ => show 0 * 1024 + k.val = k.val; omega
  | ⟨2, _⟩ => show 0 * 1024 + e.val = e.val; omega

theorem iblk4_at (c : Dev nD) (t : Fin cfg0.N) (j : Fin 1024) :
    iblk m c 4 t (ix3 (0 : Fin 1) (0 : Fin 1) j) = A4 m c (ix2 (1 : Fin 4) j) := by
  refine Eq.trans ?_ (V_main_v8 m c j)
  refine congrArg (V m c main_v8) (funext fun a => Fin.ext ((win0_4.rect_emb_val t (ix3 (0 : Fin 1) (0 : Fin 1) j) a).trans ?_))
  refine (congrArg (fun f : Fin 3 → ℕ => f a * win0_4.size a + ((ix3 (0 : Fin 1) (0 : Fin 1) j : S1x1x1024.Idx) a).val) (index4 t)).trans ?_
  match a with
  | ⟨0, _⟩ => rfl
  | ⟨1, _⟩ => rfl
  | ⟨2, _⟩ => show 0 * 1024 + j.val = j.val; omega

/-! ## The scratch carried from point to point -/

/-- The weights of layer 1. -/
abbrev weights (c : Dev nD) : S1024x1024.Idx → EReal := fun y => A3 m c (ix3 (1 : Fin 4) (y 0) (y 1))

theorem flat_iblk3 (c : Dev nD) (t : Fin cfg0.N) : flat (iblk m c 3 t) = weights m c :=
  funext fun y => iblk3_at m c t (y 0) (y 1)

theorem scratch_eq (c : Dev nD) : ∀ (n : ℕ) (hn : n < cfg0.N), (outsAt0 m c n hn).2.2.2.2.2.1 = weights m c := by
  intro n
  induction n with
  | zero =>
    intro hn
    have e : outsAt0 m c 0 hn = _ := outsAt0_A m c ⟨0, hn⟩ (Nat.zero_mod 16) (Nat.zero_mod 16)
    rw [e]
    dsimp only
    rw [sout_A_eq]
    exact flat_iblk3 m c _
  | succ n ih =>
    intro hn
    have h16 : n + 1 < 16 := hn
    have e : outsAt0 m c (n + 1) hn = _ := outsAt0_B m c ⟨n + 1, hn⟩ (by show ¬(n + 1) % 16 = 0; omega) (by show ¬(n + 1) % 16 = 0; omega)
    rw [e]
    dsimp only
    unfold sout0_B_0
    exact ih _

/-! ## What a point leaves -/

/-- The first result from the arguments. -/
def sumOf (c : Dev nD) : S16384x1024.Idx → EReal := fun y =>
  Cert.Reference6Ideal.Read.mixed (A0 m c) (A1 m c) (A2 m c) (A3 m c) (y 0) (y 1)

/-- Row `r` of the norm. -/
abbrev normRowOf (c : Dev nD) (r : Fin 16384) : Fin 1024 → EReal :=
  normRow (Ideal.ofBits .f32 0x44800000#32) (Ideal.ofBits .f32 0x358637BD#32) (Cert.Reference6Ideal.Read.mixed (A0 m c) (A1 m c) (A2 m c) (A3 m c) r) (fun j => A4 m c (ix2 (1 : Fin 4) j))

/-- The second result from the arguments. -/
def normOf (c : Dev nD) : S131072x128.Idx → EReal := fun y =>
  normRowOf m c (⟨(y 0).val / 8, by have h0 : (y 0).val < 131072 := (y 0).isLt; omega⟩ : Fin 16384) (⟨(y 0).val % 8 * 128 + (y 1).val, by have h1 : (y 1).val < 128 := (y 1).isLt; omega⟩ : Fin 1024)

/-- Line `q` of point `t`. -/
abbrev lineOf (t : Fin cfg0.N) (q : Fin 8192) : Fin 131072 := ⟨t.val * 8192 + q.val, by have := t_lt t; omega⟩

theorem normOf_line (c : Dev nD) (t : Fin cfg0.N) (q : Fin 8192) (l : Fin 128) :
    normOf m c (ix2 (lineOf t q) l) = normRowOf m c (rowOf t (⟨q.val / 8, by omega⟩ : Fin 1024)) (⟨q.val % 8 * 128 + l.val, by omega⟩ : Fin 1024) := by
  unfold normOf
  refine congr (congrArg (normRowOf m c) (Fin.ext ?_)) (Fin.ext ?_)
  · show (t.val * 8192 + q.val) / 8 = t.val * 1024 + q.val / 8; omega
  · show (t.val * 8192 + q.val) % 8 * 128 + l.val = q.val % 8 * 128 + l.val; omega

theorem half_iblk1 (c : Dev nD) (t : Fin cfg0.N) (r : Fin 1024) (k : Fin 512) :
    halfAt (iblk m c 1 t) r k = A1 m c (Cert.Reference6Ideal.Read.cell (rowOf t r) k) := by
  refine (iblk1_at m c t _ _).trans (congrArg (A1 m c) (funext fun a => Fin.ext ?_))
  match a with
  | ⟨0, _⟩ => show t.val * 256 + r.val / 4 = (t.val * 1024 + r.val) / 4; omega
  | ⟨1, _⟩ => show r.val % 4 * 512 + k.val = (t.val * 1024 + r.val) % 4 * 512 + k.val; omega

theorem mixed_iblk (c : Dev nD) (t : Fin cfg0.N) (r e : Fin 1024) :
    mixed (iblk m c 0 t) (iblk m c 1 t) (iblk m c 2 t) (weights m c) r e
      = Cert.Reference6Ideal.Read.mixed (A0 m c) (A1 m c) (A2 m c) (A3 m c) (rowOf t r) e := by
  unfold mixed Cert.Reference6Ideal.Read.mixed
  refine congr (congrArg HAdd.hAdd (iblk2_at m c t r e)) (congr (congrArg HAdd.hAdd (Finset.sum_congr rfl fun k _ => ?_)) (Finset.sum_congr rfl fun k _ => ?_))
  · exact congrArg (· * _) (iblk0_at m c t r k)
  · exact congrArg (· * _) (half_iblk1 m c t r k)

theorem gains_iblk (c : Dev nD) (t : Fin cfg0.N) : (fun j => iblk m c 4 t (ix3 (0 : Fin 1) (0 : Fin 1) j)) = fun j => A4 m c (ix2 (1 : Fin 4) j) :=
  funext fun j => iblk4_at m c t j

theorem after7_at (c : Dev nD) (t : Fin cfg0.N) (r e : Fin 1024) :
    ((dats m 0 c).after 7 t : S1024x1024.Idx → EReal) (ix2 r e) = sumOf m c (ix2 (rowOf t r) e) := by
  rw [after0_7]
  refine Eq.trans ?_ (mixed_iblk m c t r e)
  by_cases h0 : t.val % 16 = 0
  · rw [outsAt0_A m c t h0 h0, ← flat_iblk3 m c t]
    dsimp only
    rw [out_A_7_at]
  · rw [outsAt0_B m c t h0 h0, ← scratch_eq m c (t.val - 1) (by have := t_lt t; show t.val - 1 < 16; omega)]
    dsimp only
    rw [out_B_7_at]

theorem after8_at (c : Dev nD) (t : Fin cfg0.N) (q : Fin 8192) (l : Fin 128) :
    ((dats m 0 c).after 8 t : S8192x128.Idx → EReal) (ix2 q l) = normOf m c (ix2 (lineOf t q) l) := by
  rw [after0_8]
  have hn : normOf m c (ix2 (lineOf t q) l) = normRow (Ideal.ofBits .f32 0x44800000#32) (Ideal.ofBits .f32 0x358637BD#32) (mixed (iblk m c 0 t) (iblk m c 1 t) (iblk m c 2 t) (weights m c) (⟨q.val / 8, by omega⟩ : Fin 1024)) (fun j => iblk m c 4 t (ix3 (0 : Fin 1) (0 : Fin 1) j)) (⟨q.val % 8 * 128 + l.val, by omega⟩ : Fin 1024) := by
    rw [normOf_line, gains_iblk, show mixed (iblk m c 0 t) (iblk m c 1 t) (iblk m c 2 t) (weights m c) (⟨q.val / 8, by omega⟩ : Fin 1024) = Cert.Reference6Ideal.Read.mixed (A0 m c) (A1 m c) (A2 m c) (A3 m c) (rowOf t (⟨q.val / 8, by omega⟩ : Fin 1024)) from funext fun j => mixed_iblk m c t _ j]
  rw [hn]
  by_cases h0 : t.val % 16 = 0
  · rw [outsAt0_A m c t h0 h0, ← flat_iblk3 m c t]
    dsimp only
    rw [out_A_8_at]
  · rw [outsAt0_B m c t h0 h0, ← scratch_eq m c (t.val - 1) (by have := t_lt t; show t.val - 1 < 16; omega)]
    dsimp only
    rw [out_B_8_at]

/-! ## The result arrays -/

theorem arr_eq7 (c : Dev nD) : (dats m 0 c).arrAt 7 cfg0.N = sumOf m c := by
  refine (dats m 0 c).arrAt_eq_of_covers 7 _ (by decide +kernel) fun t hf y => ?_
  obtain ⟨r, e, rfl⟩ : ∃ (r e : Fin 1024), y = (ix2 r e : S1024x1024.Idx) := ⟨y 0, y 1, funext fun a => by
    match a with
    | ⟨0, _⟩ => rfl
    | ⟨1, _⟩ => rfl⟩
  have hG : (((cfg0.win 7).blk t).view.emb (ix2 r e : S1024x1024.Idx) : S16384x1024.Idx) = ix2 (rowOf t r) e := by
    refine funext fun a => Fin.ext ((win0_7.rect_emb_val t (ix2 r e) a).trans ?_)
    refine (congrArg (fun f : Fin 2 → ℕ => f a * win0_7.size a + ((ix2 r e : S1024x1024.Idx) a).val) (index7 t)).trans ?_
    match a with
    | ⟨0, _⟩ => rfl
    | ⟨1, _⟩ => show 0 * 1024 + e.val = e.val; omega
  exact (after7_at m c t r e).trans (congrArg (sumOf m c) hG.symm)

theorem arr_eq8 (c : Dev nD) : (dats m 0 c).arrAt 8 cfg0.N = normOf m c := by
  refine (dats m 0 c).arrAt_eq_of_covers 8 _ (by decide +kernel) fun t hf y => ?_
  obtain ⟨q, l, rfl⟩ : ∃ (q : Fin 8192) (l : Fin 128), y = (ix2 q l : S8192x128.Idx) := ⟨y 0, y 1, funext fun a => by
    match a with
    | ⟨0, _⟩ => rfl
    | ⟨1, _⟩ => rfl⟩
  have hG : (((cfg0.win 8).blk t).view.emb (ix2 q l : S8192x128.Idx) : S131072x128.Idx) = ix2 (lineOf t q) l := by
    refine funext fun a => Fin.ext ((win0_8.rect_emb_val t (ix2 q l) a).trans ?_)
    refine (congrArg (fun f : Fin 2 → ℕ => f a * win0_8.size a + ((ix2 q l : S8192x128.Idx) a).val) (index8 t)).trans ?_
    match a with
    | ⟨0, _⟩ => rfl
    | ⟨1, _⟩ => show 0 * 128 + l.val = l.val; omega
  exact (after8_at m c t q l).trans (congrArg (normOf m c) hG.symm)

end Cert.Kernel6Ideal.Value

end
-- ==== Proof.Route.Claims.lean ====
module

public import proofs.«01_k».proof.Proof.Route.Array
public import proofs.«01_k».proof.Proof.Gen.Kernel6.Frame
public import proofs.«01_k».proof.Proof.Gen.Reference6Ideal.Run
public import proofs.«01_k».proof.Defs

@[expose] public section

set_option maxRecDepth 16384

noncomputable section

/-! # The claims about the routed output projection -/

namespace Cert.Route

open Idealize.ShloMosaic Idealize.ShloMosaic.TcCoe Idealize.SL.Sem Idealize.ShloMosaic.ValueIdx

theorem frame : Cert.quiescent_Kernel6 (hKernel6 := Cert.Kernel6.Gen.facts) := fun m g _ => Cert.Kernel6.Gen.frame m g

theorem frameIdeal : Cert.quiescent_Kernel6Ideal (hKernel6Ideal := Cert.Kernel6Ideal.Gen.facts) := fun m g _ => Cert.Kernel6Ideal.Gen.frame m g

theorem frameRef : Cert.quiescent_Reference6Ideal (hReference6Ideal := Cert.Reference6Ideal.Gen.facts) := fun m g _ =>
  (θ_run Cert.Reference6Ideal.defs _ _).mono (fun r h => ⟨fun c => (h c).2.2, sem_eq_zero_of_no_sems (by decide) r.2⟩)
    (Cert.Reference6Ideal.Value.run (F := Ideal) m g)

open Cert.Kernel6Ideal Cert.Kernel6Ideal.Gen in
/-- The run with the results named. -/
theorem run_named (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c : Thread nD τ).loc main_v9_0) = Cert.Kernel6Ideal.Value.sumOf m c
      ∧ r.2.mem ((c : Thread nD τ).loc main_v9_1) = Cert.Kernel6Ideal.Value.normOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h.1 c).1 7).trans (Cert.Kernel6Ideal.Value.arr_eq7 m c), ((h.1 c).1 8).trans (Cert.Kernel6Ideal.Value.arr_eq8 m c), h.2 c⟩)
    (θ_run_and (run_main m g) (unchanged m g))

/-- The first result is the reference's. -/
theorem sumOf_eq (m : (ℓ : Loc Cert.Kernel6Ideal.nD Cert.Kernel6Ideal.τ Cert.Kernel6Ideal.sig) → Buf (Elt Ideal) ℓ) (c : Dev Cert.Kernel6Ideal.nD) :
    Cert.Kernel6Ideal.Value.sumOf m c = Cert.Reference6Ideal.Read.val_main_v7 (F := Ideal) (Cert.Kernel6Ideal.Value.A0 m c) (Cert.Kernel6Ideal.Value.A1 m c) (Cert.Kernel6Ideal.Value.A2 m c) (Cert.Kernel6Ideal.Value.A3 m c) := by
  funext y
  obtain ⟨r, e, rfl⟩ : ∃ (r : Fin 16384) (e : Fin 1024), y = (ix2 r e : Cert.Kernel6Ideal.S16384x1024.Idx) := ⟨y 0, y 1, funext fun a => by
    match a with
    | ⟨0, _⟩ => rfl
    | ⟨1, _⟩ => rfl⟩
  exact (Cert.Reference6Ideal.Read.v7_at _ _ _ _ r e).symm

/-- The second result is the reference's. -/
theorem normOf_eq (m : (ℓ : Loc Cert.Kernel6Ideal.nD Cert.Kernel6Ideal.τ Cert.Kernel6Ideal.sig) → Buf (Elt Ideal) ℓ) (c : Dev Cert.Kernel6Ideal.nD) :
    Cert.Kernel6Ideal.Value.normOf m c = Cert.Reference6Ideal.Read.val_main_v24 (F := Ideal) (Cert.Kernel6Ideal.Value.A0 m c) (Cert.Kernel6Ideal.Value.A1 m c) (Cert.Kernel6Ideal.Value.A2 m c) (Cert.Kernel6Ideal.Value.A3 m c) (Cert.Kernel6Ideal.Value.A4 m c) := by
  funext y
  obtain ⟨q, l, rfl⟩ : ∃ (q : Fin 131072) (l : Fin 128), y = (ix2 q l : Cert.Kernel6Ideal.S131072x128.Idx) := ⟨y 0, y 1, funext fun a => by
    match a with
    | ⟨0, _⟩ => rfl
    | ⟨1, _⟩ => rfl⟩
  exact (Cert.Reference6Ideal.Read.v24_at _ _ _ _ _ q l).symm

theorem values : Cert.algebraic_Kernel6Ideal_Reference6Ideal (hKernel6Ideal := Cert.Kernel6Ideal.Gen.facts) (hReference6Ideal := Cert.Reference6Ideal.Gen.facts) := by
  intro m g m' g' _ hargs
  refine ⟨fun c => Cert.Kernel6Ideal.Value.sumOf m c, fun c => Cert.Kernel6Ideal.Value.normOf m c, run_named m g, ?_⟩
  refine (θ_run Cert.Reference6Ideal.defs _ _).mono (fun r h c => ⟨(h c).1.trans ?_, (h c).2.1.trans ?_, (h c).2.2⟩) (Cert.Reference6Ideal.Value.run (F := Ideal) m' g')
  · obtain ⟨a0, a1, a2, a3, a4, _⟩ := hargs c
    rw [Cert.Reference6Ideal.Read.val_main_v7_eq, a0, a1, a2, a3]
    exact (sumOf_eq m c).symm
  · obtain ⟨a0, a1, a2, a3, a4, _⟩ := hargs c
    rw [Cert.Reference6Ideal.Read.val_main_v24_eq, a0, a1, a2, a3, a4]
    exact (normOf_eq m c).symm

end Cert.Route

end
-- ==== Proof.lean ====
module

public import proofs.«01_k».proof.Proof.KValue
public import proofs.«01_k».proof.Proof.KArray
public import proofs.«01_k».proof.Proof.PreRead
public import proofs.«01_k».proof.Proof.Up.Claims
public import proofs.«01_k».proof.Proof.Down.Claims
public import proofs.«01_k».proof.Proof.Out.Claims
public import proofs.«01_k».proof.Proof.Proj.Claims
public import proofs.«01_k».proof.Proof.Route.Claims
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Bits.KFrame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel2.Skeleton
public import proofs.«01_k».proof.Proof.Gen.Kernel2.Launch
public import proofs.«01_k».proof.Proof.Gen.Kernel2Ideal.Skeleton
public import proofs.«01_k».proof.Proof.Gen.Kernel2Ideal.Launch
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel3.Skeleton
public import proofs.«01_k».proof.Proof.Gen.Kernel3.Launch
public import proofs.«01_k».proof.Proof.Gen.Kernel3Ideal.Skeleton
public import proofs.«01_k».proof.Proof.Gen.Kernel3Ideal.Launch
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import Idealize.ShloMosaic.Adequacy
public import Idealize.ShloMosaic.Init

@[expose] public section

noncomputable section

namespace Cert.Proof

open Idealize.ShloMosaic Idealize.SL.Sem Cert.Kernel

theorem kernel_frame : Cert.quiescent_Kernel (hKernel := Cert.Kernel.Gen.facts) := fun m ρ _ => Cert.Kernel.Gen.frame m ρ

theorem reference_frame : Cert.quiescent_ReferenceIdeal (hReferenceIdeal := Cert.ReferenceIdeal.Gen.facts) := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The two results are equal. -/
theorem values : Cert.algebraic_KernelIdeal_ReferenceIdeal_pre_finite (hKernelIdeal := Cert.KernelIdeal.Gen.facts) (hReferenceIdeal := Cert.ReferenceIdeal.Gen.facts) (hPre_finite := Cert.Pre_finite.facts) := by
  intro m g m' g' hpre hargs
  refine ⟨fun c => (Cert.KernelIdeal.Gen.dats m 0 c).arrAt 5 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run (F := Ideal) m' g')
  obtain ⟨a0, a1, a2, a3, a4⟩ := hargs c
  obtain ⟨h0, h1, h3⟩ := Cert.Pre_finite.read (hf := Cert.Pre_finite.facts) _ _ _ _ _ (hpre c)
  rw [Cert.ReferenceIdeal.Read.val_main_v94_eq, a0, a1, a2, a3, a4]
  refine Eq.symm ((Cert.KernelIdeal.Value.arr_eq m c).trans ?_)
  exact Cert.KernelIdeal.Value.outOf_eq _ _ _ _ _ h0 h1 (fun j => by obtain ⟨r, hr⟩ := h3 j; exact fun e => EReal.coe_ne_top r (hr.symm.trans e))

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts, Cert.Pre_finite.facts, Cert.Pre_up_in_range.facts, Cert.Pre_down_in_range.facts,
  kernel_frame, fun m ρ _ => Cert.KernelIdeal.Gen.frame m ρ, fun m ρ _ => Cert.KernelIdeal.Gen.frame m ρ,
  reference_frame, fun m ρ _ => reference_frame m ρ trivial,
  Cert.Up.frame, Cert.Up.frameIdeal, Cert.Up.frameRef, fun m ρ _ => Cert.Up.frameRef m ρ trivial,
  Cert.Down.frame, Cert.Down.frameIdeal, Cert.Down.frameRef, fun m ρ _ => Cert.Down.frameRef m ρ trivial,
  Cert.Out.frame, Cert.Out.frameIdeal, Cert.Out.frameRef,
  Cert.Proj.frame, Cert.Proj.frameIdeal, Cert.Proj.frameRef,
  Cert.Route.frame, Cert.Route.frameIdeal, Cert.Route.frameRef,
  trivial, values, trivial, Cert.Up.values, trivial, Cert.Down.values, trivial, Cert.Out.values, trivial, Cert.Proj.values, trivial, Cert.Route.values⟩

end Cert.Proof

end
